-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)) (v3 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_v14_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_v20) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v52) = v0 c
          ∧ r.2.mem ((c.tc : Thread Cert.Reference10Ideal.nD Cert.Reference10Ideal.τ).loc Cert.Reference10Ideal.main_v53) = v1 c
          ∧ r.2.mem ((c.tc : Thread Cert.Reference10Ideal.nD Cert.Reference10Ideal.τ).loc Cert.Reference10Ideal.main_v54) = v2 c
          ∧ r.2.mem ((c.tc : Thread Cert.Reference10Ideal.nD Cert.Reference10Ideal.τ).loc Cert.Reference10Ideal.main_v38) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v42) = v1 c
          ∧ r.2.mem ((c.tc : Thread Cert.Reference11Ideal.nD Cert.Reference11Ideal.τ).loc Cert.Reference11Ideal.main_v44) = v2 c
          ∧ r.2.mem ((c.tc : Thread Cert.Reference11Ideal.nD Cert.Reference11Ideal.τ).loc Cert.Reference11Ideal.main_v46) = v3 c
          ∧ r.2.mem ((c.tc : Thread Cert.Reference11Ideal.nD Cert.Reference11Ideal.τ).loc Cert.Reference11Ideal.main_v48) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v17_0)) (v1 : (c : Dev Cert.Kernel14Ideal.nD) → Buf (Elt Ideal) ((c.tc : Thread Cert.Kernel14Ideal.nD Cert.Kernel14Ideal.τ).loc Cert.Kernel14Ideal.main_v17_1)) (v2 : (c : Dev Cert.Kernel14Ideal.nD) → Buf (Elt Ideal) ((c.tc : Thread Cert.Kernel14Ideal.nD Cert.Kernel14Ideal.τ).loc Cert.Kernel14Ideal.main_v17_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v17_0) = v0 c
          ∧ r.2.mem ((c.tc : Thread Cert.Kernel14Ideal.nD Cert.Kernel14Ideal.τ).loc Cert.Kernel14Ideal.main_v17_1) = v1 c
          ∧ r.2.mem ((c.tc : Thread Cert.Kernel14Ideal.nD Cert.Kernel14Ideal.τ).loc Cert.Kernel14Ideal.main_v17_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v90) = v0 c
          ∧ r.2.mem ((c.tc : Thread Cert.Reference14Ideal.nD Cert.Reference14Ideal.τ).loc Cert.Reference14Ideal.main_v92) = v1 c
          ∧ r.2.mem ((c.tc : Thread Cert.Reference14Ideal.nD Cert.Reference14Ideal.τ).loc Cert.Reference14Ideal.main_v94) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v17_0)) (v1 : (c : Dev Cert.Kernel15Ideal.nD) → Buf (Elt Ideal) ((c.tc : Thread Cert.Kernel15Ideal.nD Cert.Kernel15Ideal.τ).loc Cert.Kernel15Ideal.main_v17_1)) (v2 : (c : Dev Cert.Kernel15Ideal.nD) → Buf (Elt Ideal) ((c.tc : Thread Cert.Kernel15Ideal.nD Cert.Kernel15Ideal.τ).loc Cert.Kernel15Ideal.main_v17_2)) (v3 : (c : Dev Cert.Kernel15Ideal.nD) → Buf (Elt Ideal) ((c.tc : Thread Cert.Kernel15Ideal.nD Cert.Kernel15Ideal.τ).loc Cert.Kernel15Ideal.main_v17_3)) (v4 : (c : Dev Cert.Kernel15Ideal.nD) → Buf (Elt Ideal) ((c.tc : Thread Cert.Kernel15Ideal.nD Cert.Kernel15Ideal.τ).loc Cert.Kernel15Ideal.main_v17_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v17_0) = v0 c
          ∧ r.2.mem ((c.tc : Thread Cert.Kernel15Ideal.nD Cert.Kernel15Ideal.τ).loc Cert.Kernel15Ideal.main_v17_1) = v1 c
          ∧ r.2.mem ((c.tc : Thread Cert.Kernel15Ideal.nD Cert.Kernel15Ideal.τ).loc Cert.Kernel15Ideal.main_v17_2) = v2 c
          ∧ r.2.mem ((c.tc : Thread Cert.Kernel15Ideal.nD Cert.Kernel15Ideal.τ).loc Cert.Kernel15Ideal.main_v17_3) = v3 c
          ∧ r.2.mem ((c.tc : Thread Cert.Kernel15Ideal.nD Cert.Kernel15Ideal.τ).loc Cert.Kernel15Ideal.main_v17_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v185) = v0 c
          ∧ r.2.mem ((c.tc : Thread Cert.Reference15Ideal.nD Cert.Reference15Ideal.τ).loc Cert.Reference15Ideal.main_v186) = v1 c
          ∧ r.2.mem ((c.tc : Thread Cert.Reference15Ideal.nD Cert.Reference15Ideal.τ).loc Cert.Reference15Ideal.main_v187) = v2 c
          ∧ r.2.mem ((c.tc : Thread Cert.Reference15Ideal.nD Cert.Reference15Ideal.τ).loc Cert.Reference15Ideal.main_v166) = v3 c
          ∧ r.2.mem ((c.tc : Thread Cert.Reference15Ideal.nD Cert.Reference15Ideal.τ).loc Cert.Reference15Ideal.main_v126) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2x2048x8x192 : Shape := ⟨4, ![2, 2048, 8, 192]⟩
abbrev S2x2048x8x128 : Shape := ⟨4, ![2, 2048, 8, 128]⟩
abbrev S_ : Shape := ⟨0, ![]⟩

class Facts : Prop where
  bcast_S_S2x2048x8x192 : S_.BroadcastsInDim S2x2048x8x192 (![] : Fin 0 → Fin S2x2048x8x192.rank)
  reducesTo_S2x2048x8x192_S_d0_1_2_3 : S2x2048x8x192.ReducesTo [0, 1, 2, 3] S_
  h_S_ : 0 < S_.numel
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_

variable [Facts]

def fn_part1 {F : FTy → Type} [FloatOps F] (main_v13 : IVec S_ 1) (main_v16 : IVec S2x2048x8x128 1) : IVec S_ 1 :=
  let main_c_5 : IVec S_ 1 := constantI S_ 1 1#1
  let main_v17 : IVec S_ 1 := (fun x v => Host.reduce IntOp.andi x v reducesTo_S2x2048x8x128_S_d0_1_2_3 h_S_) main_v16 main_c_5
  let main_v18 : IVec S_ 1 := andi main_v13 main_v17
  main_v18

def fn {F : FTy → Type} [FloatOps F] (main_arg0 : FVec F S2x2048x8x192 .f32) (main_arg1 : FVec F S2x2048x8x192 .f32) (main_arg2 : FVec F S2x2048x8x128 .f32) (main_arg3 : FVec F S2x2048x8x128 .f32) : IVec S_ 1 :=
  let main_v0 : FVec F S2x2048x8x192 .f32 := Host.absf main_arg0
  let main_cst : FVec F S_ .f32 := constant S_ .f32 0x7F800000#32
  let main_v1 : FVec F S2x2048x8x192 .f32 := broadcastInDim S2x2048x8x192 ![] bcast_S_S2x2048x8x192 main_cst
  let main_v2 : IVec S2x2048x8x192 1 := cmpf .olt main_v0 main_v1
  let main_c : IVec S_ 1 := constantI S_ 1 1#1
  let main_v3 : IVec S_ 1 := (fun x v => Host.reduce IntOp.andi x v reducesTo_S2x2048x8x192_S_d0_1_2_3 h_S_) main_v2 main_c
  let main_v4 : FVec F S2x2048x8x192 .f32 := Host.absf main_arg1
  let main_cst_0 : FVec F S_ .f32 := constant S_ .f32 0x7F800000#32
  let main_v5 : FVec F S2x2048x8x192 .f32 := broadcastInDim S2x2048x8x192 ![] bcast_S_S2x2048x8x192 main_cst_0
  let main_v6 : IVec S2x2048x8x192 1 := cmpf .olt main_v4 main_v5
  let main_c_1 : IVec S_ 1 := constantI S_ 1 1#1
  let main_v7 : IVec S_ 1 := (fun x v => Host.reduce IntOp.andi x v reducesTo_S2x2048x8x192_S_d0_1_2_3 h_S_) main_v6 main_c_1
  let main_v8 : IVec S_ 1 := andi main_v3 main_v7
  let main_v9 : FVec F S2x2048x8x128 .f32 := Host.absf main_arg2
  let main_cst_2 : FVec F S_ .f32 := constant S_ .f32 0x7F800000#32
  let main_v10 : FVec F S2x2048x8x128 .f32 := broadcastInDim S2x2048x8x128 ![] bcast_S_S2x2048x8x128 main_cst_2
  let main_v11 : IVec S2x2048x8x128 1 := cmpf .olt main_v9 main_v10
  let main_c_3 : IVec S_ 1 := constantI S_ 1 1#1
  let main_v12 : IVec S_ 1 := (fun x v => Host.reduce IntOp.andi x v reducesTo_S2x2048x8x128_S_d0_1_2_3 h_S_) main_v11 main_c_3
  let main_v13 : IVec S_ 1 := andi main_v8 main_v12
  let main_v14 : FVec F S2x2048x8x128 .f32 := Host.absf main_arg3
  let main_cst_4 : FVec F S_ .f32 := constant S_ .f32 0x7F800000#32
  let main_v15 : FVec F S2x2048x8x128 .f32 := broadcastInDim S2x2048x8x128 ![] bcast_S_S2x2048x8x128 main_cst_4
  let main_v16 : IVec S2x2048x8x128 1 := cmpf .olt main_v14 main_v15
  fn_part1 (F := F) main_v13 main_v16
-- ==== Kernel.lean ====
abbrev S2x2048x8x192 : Shape := ⟨4, ![2, 2048, 8, 192]⟩
abbrev S2x2048x8x128 : Shape := ⟨4, ![2, 2048, 8, 128]⟩
abbrev S_ : Shape := ⟨0, ![]⟩
abbrev S2x2048x8x256 : Shape := ⟨4, ![2, 2048, 8, 256]⟩
abbrev S4096x2048 : Shape := ⟨2, ![4096, 2048]⟩
abbrev S4096x1024 : Shape := ⟨2, ![4096, 1024]⟩
abbrev S2048x256 : Shape := ⟨2, ![2048, 256]⟩
abbrev S2048x128 : Shape := ⟨2, ![2048, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S8x128 : Shape := ⟨2, ![8, 128]⟩
abbrev S512x2048 : Shape := ⟨2, ![512, 2048]⟩

abbrev nBuf : Space → Nat
  | .hbm => 28
  | .vmem => 30
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x128, .f32⟩
  | .hbm, ⟨3, _⟩ => ⟨S2x2048x8x128, .f32⟩
  | .hbm, ⟨4, _⟩ => ⟨S_, .f32⟩
  | .hbm, ⟨5, _⟩ => ⟨S2x2048x8x192, .f32⟩
  | .hbm, ⟨6, _⟩ => ⟨S2x2048x8x192, .f32⟩
  | .hbm, ⟨7, _⟩ => ⟨S_, .i32⟩
  | .hbm, ⟨8, _⟩ => ⟨S_, .f32⟩
  | .hbm, ⟨9, _⟩ => ⟨S2x2048x8x256, .f32⟩
  | .hbm, ⟨10, _⟩ => ⟨S4096x2048, .f32⟩
  | .hbm, ⟨11, _⟩ => ⟨S4096x2048, .bf16⟩
  | .hbm, ⟨12, _⟩ => ⟨S_, .i32⟩
  | .hbm, ⟨13, _⟩ => ⟨S_, .f32⟩
  | .hbm, ⟨14, _⟩ => ⟨S2x2048x8x256, .f32⟩
  | .hbm, ⟨15, _⟩ => ⟨S4096x2048, .f32⟩
  | .hbm, ⟨16, _⟩ => ⟨S4096x2048, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S_, .f32⟩
  | .hbm, ⟨24, _⟩ => ⟨S8x128, .f32⟩
  | .hbm, ⟨25, _⟩ => ⟨S4096x2048, .bf16⟩
  | .hbm, ⟨26, _⟩ => ⟨S4096x2048, .bf16⟩
  | .hbm, ⟨27, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x128, .bf16⟩
  | .local _ .vmem, ⟨27, _⟩ => ⟨S2048x128, .bf16⟩
  | .local _ .vmem, ⟨28, _⟩ => ⟨S2048x256, .f32⟩
  | .local _ .vmem, ⟨29, _⟩ => ⟨S2048x128, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_cst_1 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x2048x8x192 : Shape := ⟨4, ![2, 2048, 8, 192]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x192 : Shape := ⟨4, ![2, 8, 2048, 192]⟩
abbrev S4096x1024 : Shape := ⟨2, ![4096, 1024]⟩
abbrev S2x2048x8x256 : Shape := ⟨4, ![2, 2048, 8, 256]⟩
abbrev S4096x2048 : Shape := ⟨2, ![4096, 2048]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x128, .f32⟩
  | .hbm, ⟨3, _⟩ => ⟨S2x2048x8x128, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .i1⟩
  | .hbm, ⟨35, _⟩ => ⟨S_, .f32⟩
  | .hbm, ⟨36, _⟩ => ⟨S2x8x2048, .f32⟩
  | .hbm, ⟨37, _⟩ => ⟨S2x8x2048, .i1⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S2x8x2048, .f32⟩
  | .hbm, ⟨46, _⟩ => ⟨S2x8x2048x1, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x1, .f32⟩
  | .hbm, ⟨56, _⟩ => ⟨S_, .f32⟩
  | .hbm, ⟨57, _⟩ => ⟨S2x8x2048x1, .f32⟩
  | .hbm, ⟨58, _⟩ => ⟨S2x8x2048x1, .f32⟩
  | .hbm, ⟨59, _⟩ => ⟨S2x8x128x2048, .f32⟩
  | .hbm, ⟨60, _⟩ => ⟨S2x2048x8x128, .f32⟩
  | .hbm, ⟨61, _⟩ => ⟨S2x8x128x2048, .f32⟩
  | .hbm, ⟨62, _⟩ => ⟨S2x8x2048x2048, .f32⟩
  | .hbm, ⟨63, _⟩ => ⟨S2x8x128x2048, .f32⟩
  | .hbm, ⟨64, _⟩ => ⟨S2x2048x8x128, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S_, .f32⟩
  | .hbm, ⟨69, _⟩ => ⟨S2x8x2048, .f32⟩
  | .hbm, ⟨70, _⟩ => ⟨S2x8x2048x1, .f32⟩
  | .hbm, ⟨71, _⟩ => ⟨S2x8x2048x1, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048x2048, .f32⟩
  | .hbm, ⟨81, _⟩ => ⟨S2x8x2048x2048, .f32⟩
  | .hbm, ⟨82, _⟩ => ⟨S_, .f32⟩
  | .hbm, ⟨83, _⟩ => ⟨S2x8x2048x2048, .f32⟩
  | .hbm, ⟨84, _⟩ => ⟨S2x8x2048x2048, .f32⟩
  | .hbm, ⟨85, _⟩ => ⟨S2x8x2048x192, .f32⟩
  | .hbm, ⟨86, _⟩ => ⟨S2x2048x8x192, .f32⟩
  | .hbm, ⟨87, _⟩ => ⟨S2x8x2048x192, .f32⟩
  | .hbm, ⟨88, _⟩ => ⟨S2x2048x8x192, .f32⟩
  | .hbm, ⟨89, _⟩ => ⟨S4096x1024, .f32⟩
  | .hbm, ⟨90, _⟩ => ⟨S4096x1024, .bf16⟩
  | .hbm, ⟨91, _⟩ => ⟨S_, .i32⟩
  | .hbm, ⟨92, _⟩ => ⟨S_, .f32⟩
  | .hbm, ⟨93, _⟩ => ⟨S2x2048x8x256, .f32⟩
  | .hbm, ⟨94, _⟩ => ⟨S4096x2048, .f32⟩
  | .hbm, ⟨95, _⟩ => ⟨S4096x2048, .bf16⟩
  | .hbm, ⟨96, _⟩ => ⟨S_, .i32⟩
  | .hbm, ⟨97, _⟩ => ⟨S_, .f32⟩
  | .hbm, ⟨98, _⟩ => ⟨S2x2048x8x256, .f32⟩
  | .hbm, ⟨99, _⟩ => ⟨S4096x2048, .f32⟩
  | .hbm, ⟨100, _⟩ => ⟨S4096x2048, .bf16⟩
  | .hbm, ⟨101, _⟩ => ⟨S4096x1024, .f32⟩
  | .hbm, ⟨102, _⟩ => ⟨S4096x1024, .bf16⟩
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Kernel2.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S1024x1024 : Shape := ⟨2, ![1024, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S1024x1024 : Shape := ⟨2, ![1024, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .bf16⟩
  | .hbm, ⟨7, _⟩ => ⟨S5632x1024, .f32⟩
  | .hbm, ⟨8, _⟩ => ⟨S1024x5632, .f32⟩
  | .hbm, ⟨9, _⟩ => ⟨S4096x5632, .bf16⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S1024x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel3.lean ====
abbrev S4096x4096 : Shape := ⟨2, ![4096, 4096]⟩
abbrev S4096x448 : Shape := ⟨2, ![4096, 448]⟩
abbrev S4544x1024 : Shape := ⟨2, ![4544, 1024]⟩
abbrev S4096x1024 : Shape := ⟨2, ![4096, 1024]⟩
abbrev S1x1024 : Shape := ⟨2, ![1, 1024]⟩
abbrev S_ : Shape := ⟨0, ![]⟩
abbrev S4096x512 : Shape := ⟨2, ![4096, 512]⟩
abbrev S8x128 : Shape := ⟨2, ![8, 128]⟩
abbrev S512x4096 : Shape := ⟨2, ![512, 4096]⟩
abbrev S512x512 : Shape := ⟨2, ![512, 512]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x448, .bf16⟩
  | .hbm, ⟨2, _⟩ => ⟨S4544x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .i32⟩
  | .hbm, ⟨7, _⟩ => ⟨S_, .bf16⟩
  | .hbm, ⟨8, _⟩ => ⟨S4096x512, .bf16⟩
  | .hbm, ⟨9, _⟩ => ⟨S_, .f32⟩
  | .hbm, ⟨10, _⟩ => ⟨S8x128, .f32⟩
  | .hbm, ⟨11, _⟩ => ⟨S4096x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x512, .bf16⟩
  | .local _ .vmem, ⟨3, _⟩ => ⟨S512x512, .bf16⟩
  | .local _ .vmem, ⟨4, _⟩ => ⟨S4544x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4544x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x4096 : Shape := ⟨2, ![4096, 4096]⟩
abbrev S4096x448 : Shape := ⟨2, ![4096, 448]⟩
abbrev S4544x1024 : Shape := ⟨2, ![4544, 1024]⟩
abbrev S4096x1024 : Shape := ⟨2, ![4096, 1024]⟩
abbrev S1x1024 : Shape := ⟨2, ![1, 1024]⟩
abbrev S1024x4544 : Shape := ⟨2, ![1024, 4544]⟩
abbrev S_ : Shape := ⟨0, ![]⟩
abbrev S4096 : Shape := ⟨1, ![4096]⟩
abbrev S4096x1 : Shape := ⟨2, ![4096, 1]⟩
abbrev S4096x4544 : Shape := ⟨2, ![4096, 4544]⟩
abbrev S4096x2048 : Shape := ⟨2, ![4096, 2048]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x448, .bf16⟩
  | .hbm, ⟨2, _⟩ => ⟨S4544x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4544x1024, .f32⟩
  | .hbm, ⟨7, _⟩ => ⟨S1024x4544, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x4544, .f32⟩
  | .hbm, ⟨31, _⟩ => ⟨S4096x2048, .f32⟩
  | .hbm, ⟨32, _⟩ => ⟨S4096x448, .f32⟩
  | .hbm, ⟨33, _⟩ => ⟨S4096x2048, .f32⟩
  | .hbm, ⟨34, _⟩ => ⟨S4096x4096, .f32⟩
  | .hbm, ⟨35, _⟩ => ⟨S4096x4096, .f32⟩
  | .hbm, ⟨36, _⟩ => ⟨S4096x448, .f32⟩
  | .hbm, ⟨37, _⟩ => ⟨S4096x2048, .f32⟩
  | .hbm, ⟨38, _⟩ => ⟨S4096x2048, .f32⟩
  | .hbm, ⟨39, _⟩ => ⟨S4096x4544, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S4544x1024 : Shape := ⟨2, ![4544, 1024]⟩
abbrev S4096x4096 : Shape := ⟨2, ![4096, 4096]⟩
abbrev S4096x512 : Shape := ⟨2, ![4096, 512]⟩
abbrev S512x1024 : Shape := ⟨2, ![512, 1024]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4544x1024, .bf16⟩
  | .hbm, ⟨3, _⟩ => ⟨S4096x1024, .bf16⟩
  | .hbm, ⟨4, _⟩ => ⟨S4096x4096, .bf16⟩
  | .hbm, ⟨5, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4544x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x512, .f32⟩
  | .local _ .vmem, ⟨9, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4544x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1x1024 : Shape := ⟨2, ![1, 1024]⟩
abbrev S4544x1024 : Shape := ⟨2, ![4544, 1024]⟩
abbrev S_ : Shape := ⟨0, ![]⟩
abbrev S4096 : Shape := ⟨1, ![4096]⟩
abbrev S4096x1 : Shape := ⟨2, ![4096, 1]⟩
abbrev S1024x4544 : Shape := ⟨2, ![1024, 4544]⟩
abbrev S4096x4544 : Shape := ⟨2, ![4096, 4544]⟩
abbrev S4096x2048 : Shape := ⟨2, ![4096, 2048]⟩
abbrev S4096x4096 : Shape := ⟨2, ![4096, 4096]⟩
abbrev S4096x512 : Shape := ⟨2, ![4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4544x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4544x1024, .f32⟩
  | .hbm, ⟨19, _⟩ => ⟨S1024x4544, .f32⟩
  | .hbm, ⟨20, _⟩ => ⟨S4096x4544, .f32⟩
  | .hbm, ⟨21, _⟩ => ⟨S4096x2048, .f32⟩
  | .hbm, ⟨22, _⟩ => ⟨S4096x2048, .f32⟩
  | .hbm, ⟨23, _⟩ => ⟨S4096x4096, .f32⟩
  | .hbm, ⟨24, _⟩ => ⟨S4096x1024, .bf16⟩
  | .hbm, ⟨25, _⟩ => ⟨S4096x4096, .bf16⟩
  | .hbm, ⟨26, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel9.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2816 : Shape := ⟨2, ![4096, 2816]⟩
abbrev S4096x1024 : Shape := ⟨2, ![4096, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S2816x1024, .bf16⟩
  | .hbm, ⟨4, _⟩ => ⟨S4096x1024, .f32⟩
  | .hbm, ⟨5, _⟩ => ⟨S4096x2816, .f32⟩
  | .hbm, ⟨6, _⟩ => ⟨S_, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S8x128, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Kernel11.lean ====
abbrev S4096x1024 : Shape := ⟨2, ![4096, 1024]⟩
abbrev S5632x1024 : Shape := ⟨2, ![5632, 1024]⟩
abbrev S3x5632 : Shape := ⟨2, ![3, 5632]⟩
abbrev S1x5632 : Shape := ⟨2, ![1, 5632]⟩
abbrev S4096x2816 : Shape := ⟨2, ![4096, 2816]⟩
abbrev S2048x1024 : Shape := ⟨2, ![2048, 1024]⟩
abbrev S256x1024 : Shape := ⟨2, ![256, 1024]⟩
abbrev S3x256 : Shape := ⟨2, ![3, 256]⟩
abbrev S1x256 : Shape := ⟨2, ![1, 256]⟩
abbrev S2048x256 : Shape := ⟨2, ![2048, 256]⟩
abbrev S2056x256 : Shape := ⟨2, ![2056, 256]⟩
abbrev S8x256 : Shape := ⟨2, ![8, 256]⟩
abbrev S512x1024 : Shape := ⟨2, ![512, 1024]⟩
abbrev S512x256 : Shape := ⟨2, ![512, 256]⟩

abbrev nBuf : Space → Nat
  | .hbm => 9
  | .vmem => 26
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S3x5632, .f32⟩
  | .hbm, ⟨3, _⟩ => ⟨S1x5632, .f32⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2056x256, .f32⟩
  | .local _ .vmem, ⟨25, _⟩ => ⟨S2056x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference11Ideal.lean ====
abbrev S4096x1024 : Shape := ⟨2, ![4096, 1024]⟩
abbrev S5632x1024 : Shape := ⟨2, ![5632, 1024]⟩
abbrev S3x5632 : Shape := ⟨2, ![3, 5632]⟩
abbrev S1x5632 : Shape := ⟨2, ![1, 5632]⟩
abbrev S2x2048x1024 : Shape := ⟨3, ![2, 2048, 1024]⟩
abbrev S1024x5632 : Shape := ⟨2, ![1024, 5632]⟩
abbrev S2x2048x5632 : Shape := ⟨3, ![2, 2048, 5632]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S4096x2816 : Shape := ⟨2, ![4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S3x5632, .f32⟩
  | .hbm, ⟨3, _⟩ => ⟨S1x5632, .f32⟩
  | .hbm, ⟨4, _⟩ => ⟨S4096x1024, .f32⟩
  | .hbm, ⟨5, _⟩ => ⟨S2x2048x1024, .f32⟩
  | .hbm, ⟨6, _⟩ => ⟨S5632x1024, .f32⟩
  | .hbm, ⟨7, _⟩ => ⟨S1024x5632, .f32⟩
  | .hbm, ⟨8, _⟩ => ⟨S2x2048x5632, .f32⟩
  | .hbm, ⟨9, _⟩ => ⟨S5632, .f32⟩
  | .hbm, ⟨10, _⟩ => ⟨S_, .f32⟩
  | .hbm, ⟨11, _⟩ => ⟨S2x2x5632, .f32⟩
  | .hbm, ⟨12, _⟩ => ⟨S2x2050x5632, .f32⟩
  | .hbm, ⟨13, _⟩ => ⟨S1x5632, .f32⟩
  | .hbm, ⟨14, _⟩ => ⟨S5632, .f32⟩
  | .hbm, ⟨15, _⟩ => ⟨S2x2048x5632, .f32⟩
  | .hbm, ⟨16, _⟩ => ⟨S1x1x5632, .f32⟩
  | .hbm, ⟨17, _⟩ => ⟨S2x2048x5632, .f32⟩
  | .hbm, ⟨18, _⟩ => ⟨S2x2048x5632, .f32⟩
  | .hbm, ⟨19, _⟩ => ⟨S_, .f32⟩
  | .hbm, ⟨20, _⟩ => ⟨S2x2048x5632, .f32⟩
  | .hbm, ⟨21, _⟩ => ⟨S2x2048x5632, .f32⟩
  | .hbm, ⟨22, _⟩ => ⟨S1x5632, .f32⟩
  | .hbm, ⟨23, _⟩ => ⟨S5632, .f32⟩
  | .hbm, ⟨24, _⟩ => ⟨S2x2048x5632, .f32⟩
  | .hbm, ⟨25, _⟩ => ⟨S1x1x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S1x5632, .f32⟩
  | .hbm, ⟨30, _⟩ => ⟨S5632, .f32⟩
  | .hbm, ⟨31, _⟩ => ⟨S2x2048x5632, .f32⟩
  | .hbm, ⟨32, _⟩ => ⟨S1x1x5632, .f32⟩
  | .hbm, ⟨33, _⟩ => ⟨S2x2048x5632, .f32⟩
  | .hbm, ⟨34, _⟩ => ⟨S2x2048x5632, .f32⟩
  | .hbm, ⟨35, _⟩ => ⟨S2x2048x5632, .f32⟩
  | .hbm, ⟨36, _⟩ => ⟨S1x1x5632, .f32⟩
  | .hbm, ⟨37, _⟩ => ⟨S2x2048x5632, .f32⟩
  | .hbm, ⟨38, _⟩ => ⟨S2x2048x5632, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S4096x2816, .f32⟩
  | .hbm, ⟨54, _⟩ => ⟨S4096x2816, .bf16⟩
  | .hbm, ⟨55, _⟩ => ⟨S4096x2816, .f32⟩
  | .hbm, ⟨56, _⟩ => ⟨S4096x2816, .bf16⟩
  | .hbm, ⟨57, _⟩ => ⟨S4096x2816, .f32⟩
  | .hbm, ⟨58, _⟩ => ⟨S4096x2816, .bf16⟩
  | .hbm, ⟨59, _⟩ => ⟨S4096x2816, .f32⟩
  | .hbm, ⟨60, _⟩ => ⟨S4096x2816, .bf16⟩
  | .hbm, ⟨61, _⟩ => ⟨S4096x2816, .f32⟩
  | .hbm, ⟨62, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel12.lean ====
abbrev S4096x1024 : Shape := ⟨2, ![4096, 1024]⟩
abbrev S4096x4096 : Shape := ⟨2, ![4096, 4096]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x1024, .bf16⟩
  | .hbm, ⟨4, _⟩ => ⟨S1024x1024, .bf16⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S4096x4096 : Shape := ⟨2, ![4096, 4096]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .bf16⟩
  | .hbm, ⟨3, _⟩ => ⟨S4096x1024, .bf16⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel13.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x512 : Shape := ⟨2, ![4096, 512]⟩
abbrev S4096x1024 : Shape := ⟨2, ![4096, 1024]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x512 : Shape := ⟨2, ![4096, 512]⟩
abbrev S4096 : Shape := ⟨1, ![4096]⟩
abbrev S1x256 : Shape := ⟨2, ![1, 256]⟩
abbrev S1x128 : Shape := ⟨2, ![1, 128]⟩
abbrev S8x192x256 : Shape := ⟨3, ![8, 192, 256]⟩
abbrev S128x2048 : Shape := ⟨2, ![128, 2048]⟩
abbrev S32 : Shape := ⟨1, ![32]⟩
abbrev S_ : Shape := ⟨0, ![]⟩
abbrev S64 : Shape := ⟨1, ![64]⟩
abbrev S128 : Shape := ⟨1, ![128]⟩
abbrev S8x256x256 : Shape := ⟨3, ![8, 256, 256]⟩
abbrev S2048x256 : Shape := ⟨2, ![2048, 256]⟩
abbrev S4096x1 : Shape := ⟨2, ![4096, 1]⟩
abbrev S4096x2048 : Shape := ⟨2, ![4096, 2048]⟩
abbrev S4096x1024 : Shape := ⟨2, ![4096, 1024]⟩
abbrev S512x512 : Shape := ⟨2, ![512, 512]⟩
abbrev S512x1 : Shape := ⟨2, ![512, 1]⟩
abbrev S512x2048 : Shape := ⟨2, ![512, 2048]⟩
abbrev S512x1024 : Shape := ⟨2, ![512, 1024]⟩
abbrev S512x128 : Shape := ⟨2, ![512, 128]⟩
abbrev S512x256 : Shape := ⟨2, ![512, 256]⟩
abbrev S512 : Shape := ⟨1, ![512]⟩

abbrev nBuf : Space → Nat
  | .hbm => 34
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1x256, .f32⟩
  | .hbm, ⟨3, _⟩ => ⟨S1x128, .f32⟩
  | .hbm, ⟨4, _⟩ => ⟨S8x192x256, .bf16⟩
  | .hbm, ⟨5, _⟩ => ⟨S128x2048, .bf16⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S64, .f32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .bf16⟩
  | .hbm, ⟨28, _⟩ => ⟨S8x256x256, .bf16⟩
  | .hbm, ⟨29, _⟩ => ⟨S2048x256, .bf16⟩
  | .hbm, ⟨30, _⟩ => ⟨S4096x1, .i32⟩
  | .hbm, ⟨31, _⟩ => ⟨S4096x2048, .bf16⟩
  | .hbm, ⟨32, _⟩ => ⟨S4096x2048, .bf16⟩
  | .hbm, ⟨33, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x256, .f32⟩
  | .local _ .vmem, ⟨6, _⟩ => ⟨S1x128, .f32⟩
  | .local _ .vmem, ⟨7, _⟩ => ⟨S2048x256, .bf16⟩
  | .local _ .vmem, ⟨8, _⟩ => ⟨S128x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S4096x512 : Shape := ⟨2, ![4096, 512]⟩
abbrev S4096 : Shape := ⟨1, ![4096]⟩
abbrev S1x256 : Shape := ⟨2, ![1, 256]⟩
abbrev S1x128 : Shape := ⟨2, ![1, 128]⟩
abbrev S8x192x256 : Shape := ⟨3, ![8, 192, 256]⟩
abbrev S128x2048 : Shape := ⟨2, ![128, 2048]⟩
abbrev S4096x256 : Shape := ⟨2, ![4096, 256]⟩
abbrev S4096x128 : Shape := ⟨2, ![4096, 128]⟩
abbrev S4096x64 : Shape := ⟨2, ![4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1536x256 : Shape := ⟨2, ![1536, 256]⟩
abbrev S256x1536 : Shape := ⟨2, ![256, 1536]⟩
abbrev S4096x1536 : Shape := ⟨2, ![4096, 1536]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x2048 : Shape := ⟨2, ![4096, 2048]⟩
abbrev S4096x8x256 : Shape := ⟨3, ![4096, 8, 256]⟩
abbrev S4096x1x64 : Shape := ⟨3, ![4096, 1, 64]⟩
abbrev S4096x1024 : Shape := ⟨2, ![4096, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1x256, .f32⟩
  | .hbm, ⟨3, _⟩ => ⟨S1x128, .f32⟩
  | .hbm, ⟨4, _⟩ => ⟨S8x192x256, .bf16⟩
  | .hbm, ⟨5, _⟩ => ⟨S128x2048, .bf16⟩
  | .hbm, ⟨6, _⟩ => ⟨S4096x256, .f32⟩
  | .hbm, ⟨7, _⟩ => ⟨S4096x128, .f32⟩
  | .hbm, ⟨8, _⟩ => ⟨S4096x64, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x256, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S8x192x256, .f32⟩
  | .hbm, ⟨49, _⟩ => ⟨S1536x256, .f32⟩
  | .hbm, ⟨50, _⟩ => ⟨S256x1536, .f32⟩
  | .hbm, ⟨51, _⟩ => ⟨S4096x1536, .f32⟩
  | .hbm, ⟨52, _⟩ => ⟨S4096x8x192, .f32⟩
  | .hbm, ⟨53, _⟩ => ⟨S4096x8x128, .f32⟩
  | .hbm, ⟨54, _⟩ => ⟨S4096x8x64, .f32⟩
  | .hbm, ⟨55, _⟩ => ⟨S4096x1x32, .f32⟩
  | .hbm, ⟨56, _⟩ => ⟨S4096x1x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x32, .f32⟩
  | .hbm, ⟨61, _⟩ => ⟨S4096x8x32, .f32⟩
  | .hbm, ⟨62, _⟩ => ⟨S4096x8x32, .f32⟩
  | .hbm, ⟨63, _⟩ => ⟨S4096x8x32, .f32⟩
  | .hbm, ⟨64, _⟩ => ⟨S4096x8x32, .f32⟩
  | .hbm, ⟨65, _⟩ => ⟨S4096x8x32, .f32⟩
  | .hbm, ⟨66, _⟩ => ⟨S4096x8x32, .f32⟩
  | .hbm, ⟨67, _⟩ => ⟨S4096x8x32, .f32⟩
  | .hbm, ⟨68, _⟩ => ⟨S4096x8x32, .f32⟩
  | .hbm, ⟨69, _⟩ => ⟨S4096x8x64, .f32⟩
  | .hbm, ⟨70, _⟩ => ⟨S4096x128, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x128, .f32⟩
  | .hbm, ⟨82, _⟩ => ⟨S4096x128, .f32⟩
  | .hbm, ⟨83, _⟩ => ⟨S4096x128, .f32⟩
  | .hbm, ⟨84, _⟩ => ⟨S4096x128, .f32⟩
  | .hbm, ⟨85, _⟩ => ⟨S128x2048, .f32⟩
  | .hbm, ⟨86, _⟩ => ⟨S4096x2048, .f32⟩
  | .hbm, ⟨87, _⟩ => ⟨S4096x8x256, .f32⟩
  | .hbm, ⟨88, _⟩ => ⟨S4096x8x128, .f32⟩
  | .hbm, ⟨89, _⟩ => ⟨S4096x8x128, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S4096x32, .f32⟩
  | .hbm, ⟨97, _⟩ => ⟨S4096x32, .f32⟩
  | .hbm, ⟨98, _⟩ => ⟨S4096x64, .f32⟩
  | .hbm, ⟨99, _⟩ => ⟨S4096x1x64, .f32⟩
  | .hbm, ⟨100, _⟩ => ⟨S4096x8x64, .f32⟩
  | .hbm, ⟨101, _⟩ => ⟨S_, .f32⟩
  | .hbm, ⟨102, _⟩ => ⟨S4096x8x64, .f32⟩
  | .hbm, ⟨103, _⟩ => ⟨S4096x8x256, .f32⟩
  | .hbm, ⟨104, _⟩ => ⟨S_, .f32⟩
  | .hbm, ⟨105, _⟩ => ⟨S4096x8x256, .f32⟩
  | .hbm, ⟨106, _⟩ => ⟨S4096x8x256, .f32⟩
  | .hbm, ⟨107, _⟩ => ⟨S4096x8x256, .f32⟩
  | .hbm, ⟨108, _⟩ => ⟨S4096x2048, .f32⟩
  | .hbm, ⟨109, _⟩ => ⟨S4096x2048, .bf16⟩
  | .hbm, ⟨110, _⟩ => ⟨S4096x2048, .f32⟩
  | .hbm, ⟨111, _⟩ => ⟨S4096x2048, .bf16⟩
  | .hbm, ⟨112, _⟩ => ⟨S4096x1024, .f32⟩
  | .hbm, ⟨113, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩

abbrev nD : Nat := 1
abbrev τ : Topo := Topo.v7x

variable {F : FTy → Type} [FloatOps F]
-- ==== Kernel15.lean ====
abbrev S4096x512 : Shape := ⟨2, ![4096, 512]⟩
abbrev S4096 : Shape := ⟨1, ![4096]⟩
abbrev S1x256 : Shape := ⟨2, ![1, 256]⟩
abbrev S1x128 : Shape := ⟨2, ![1, 128]⟩
abbrev S8x192x256 : Shape := ⟨3, ![8, 192, 256]⟩
abbrev S128x2048 : Shape := ⟨2, ![128, 2048]⟩
abbrev S4096x2048 : Shape := ⟨2, ![4096, 2048]⟩
abbrev S4096x1024 : Shape := ⟨2, ![4096, 1024]⟩
abbrev S32 : Shape := ⟨1, ![32]⟩
abbrev S_ : Shape := ⟨0, ![]⟩
abbrev S64 : Shape := ⟨1, ![64]⟩
abbrev S128 : Shape := ⟨1, ![128]⟩
abbrev S8x256x256 : Shape := ⟨3, ![8, 256, 256]⟩
abbrev S2048x256 : Shape := ⟨2, ![2048, 256]⟩
abbrev S4096x1 : Shape := ⟨2, ![4096, 1]⟩
abbrev S512x512 : Shape := ⟨2, ![512, 512]⟩
abbrev S512x1 : Shape := ⟨2, ![512, 1]⟩
abbrev S512x2048 : Shape := ⟨2, ![512, 2048]⟩
abbrev S512x1024 : Shape := ⟨2, ![512, 1024]⟩
abbrev S512x128 : Shape := ⟨2, ![512, 128]⟩
abbrev S512x256 : Shape := ⟨2, ![512, 256]⟩
abbrev S512 : Shape := ⟨1, ![512]⟩
abbrev S256 : Shape := ⟨1, ![256]⟩

abbrev nBuf : Space → Nat
  | .hbm => 39
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S1x256, .f32⟩
  | .hbm, ⟨3, _⟩ => ⟨S1x128, .f32⟩
  | .hbm, ⟨4, _⟩ => ⟨S8x192x256, .bf16⟩
  | .hbm, ⟨5, _⟩ => ⟨S128x2048, .bf16⟩
  | .hbm, ⟨6, _⟩ => ⟨S4096x2048, .bf16⟩
  | .hbm, ⟨7, _⟩ => ⟨S4096x2048, .bf16⟩
  | .hbm, ⟨8, _⟩ => ⟨S4096x1024, .bf16⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S64, .f32⟩
  | .hbm, ⟨27, _⟩ => ⟨S128, .f32⟩
  | .hbm, ⟨28, _⟩ => ⟨S1x128, .f32⟩
  | .hbm, ⟨29, _⟩ => ⟨S_, .i32⟩
  | .hbm, ⟨30, _⟩ => ⟨S_, .bf16⟩
  | .hbm, ⟨31, _⟩ => ⟨S8x256x256, .bf16⟩
  | .hbm, ⟨32, _⟩ => ⟨S2048x256, .bf16⟩
  | .hbm, ⟨33, _⟩ => ⟨S4096x1, .i32⟩
  | .hbm, ⟨34, _⟩ => ⟨S4096x512, .bf16⟩
  | .hbm, ⟨35, _⟩ => ⟨S2048x256, .bf16⟩
  | .hbm, ⟨36, _⟩ => ⟨S128x2048, .bf16⟩
  | .hbm, ⟨37, _⟩ => ⟨S1x256, .f32⟩
  | .hbm, ⟨38, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x256, .f32⟩
  | .local _ .vmem, ⟨6, _⟩ => ⟨S1x128, .f32⟩
  | .local _ .vmem, ⟨7, _⟩ => ⟨S2048x256, .bf16⟩
  | .local _ .vmem, ⟨8, _⟩ => ⟨S128x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S2048x256, .bf16⟩
  | .local _ .vmem, ⟨18, _⟩ => ⟨S128x2048, .bf16⟩
  | .local _ .vmem, ⟨19, _⟩ => ⟨S1x256, .f32⟩
  | .local _ .vmem, ⟨20, _⟩ => ⟨S1x128, .f32⟩
  | .local _ .vmem, ⟨21, _⟩ => ⟨S512x2048, .bf16⟩
  | .local _ .vmem, ⟨22, _⟩ => ⟨S512x2048, .bf16⟩
  | .local _ .vmem, ⟨23, _⟩ => ⟨S2048x256, .f32⟩
  | .local _ .vmem, ⟨24, _⟩ => ⟨S128x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v300 : BitVec 1 := Scalar.cmpi .eq arg0 c7_i32
  let v301 : BitVec 32 := Scalar.extui v300
  let c0_i32_182 : BitVec 32 := 0#32
  let v302 : BitVec 1 := Scalar.cmpi .ne v301 c0_i32_182
  v302

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference15Ideal.lean ====
abbrev S4096x512 : Shape := ⟨2, ![4096, 512]⟩
abbrev S4096 : Shape := ⟨1, ![4096]⟩
abbrev S1x256 : Shape := ⟨2, ![1, 256]⟩
abbrev S1x128 : Shape := ⟨2, ![1, 128]⟩
abbrev S8x192x256 : Shape := ⟨3, ![8, 192, 256]⟩
abbrev S128x2048 : Shape := ⟨2, ![128, 2048]⟩
abbrev S4096x2048 : Shape := ⟨2, ![4096, 2048]⟩
abbrev S4096x1024 : Shape := ⟨2, ![4096, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x256 : Shape := ⟨2, ![4096, 256]⟩
abbrev S4096x128 : Shape := ⟨2, ![4096, 128]⟩
abbrev S4096x64 : Shape := ⟨2, ![4096, 64]⟩
abbrev S1536x256 : Shape := ⟨2, ![1536, 256]⟩
abbrev S256x1536 : Shape := ⟨2, ![256, 1536]⟩
abbrev S4096x1536 : Shape := ⟨2, ![4096, 1536]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x256 : Shape := ⟨3, ![4096, 8, 256]⟩
abbrev S4096x1x64 : Shape := ⟨3, ![4096, 1, 64]⟩
abbrev S2048x128 : Shape := ⟨2, ![2048, 128]⟩
abbrev S128 : Shape := ⟨1, ![128]⟩
abbrev S256 : Shape := ⟨1, ![256]⟩
abbrev S8x256x256 : Shape := ⟨3, ![8, 256, 256]⟩
abbrev S2048x256 : Shape := ⟨2, ![2048, 256]⟩

abbrev nBuf : Space → Nat
  | .hbm => 225
  | .vmem => 0
  | .smem => 0
  | _ => 0

abbrev hbmTy0_0 (i : Nat) : BufTy := match i % 128 with
  | 0 => ⟨S4096x512, .f32⟩
  | 1 => ⟨S4096, .i32⟩
  | 2 => ⟨S1x256, .f32⟩
  | 3 => ⟨S1x128, .f32⟩
  | 4 => ⟨S8x192x256, .bf16⟩
  | 5 => ⟨S128x2048, .bf16⟩
  | 6 => ⟨S4096x2048, .bf16⟩
  | 7 => ⟨S4096x2048, .bf16⟩
  | 8 => ⟨S4096x1024, .bf16⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S8x192x256, .f32⟩
  | 34 => ⟨S128x2048, .f32⟩
  | 35 => ⟨S4096x256, .f32⟩
  | 36 => ⟨S4096x128, .f32⟩
  | 37 => ⟨S4096x64, .f32⟩
  | 38 => ⟨S4096x256, .f32⟩
  | 39 => ⟨S_, .f32⟩
  | 40 => ⟨S4096x256, .f32⟩
  | 41 => ⟨S4096x256, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x256, .f32⟩
  | 57 => ⟨S4096x256, .f32⟩
  | 58 => ⟨S4096x256, .f32⟩
  | 59 => ⟨S4096x256, .f32⟩
  | 60 => ⟨S1536x256, .f32⟩
  | 61 => ⟨S256x1536, .f32⟩
  | 62 => ⟨S4096x1536, .f32⟩
  | 63 => ⟨S4096x8x192, .f32⟩
  | 64 => ⟨S4096x8x128, .f32⟩
  | 65 => ⟨S4096x8x64, .f32⟩
  | 66 => ⟨S4096x1x32, .f32⟩
  | 67 => ⟨S4096x1x32, .f32⟩
  | 68 => ⟨S4096x8x32, .f32⟩
  | 69 => ⟨S4096x8x32, .f32⟩
  | 70 => ⟨S4096x8x32, .f32⟩
  | 71 => ⟨S4096x8x32, .f32⟩
  | 72 => ⟨S4096x8x32, .f32⟩
  | 73 => ⟨S4096x8x32, .f32⟩
  | 74 => ⟨S4096x8x32, .f32⟩
  | 75 => ⟨S4096x8x32, .f32⟩
  | 76 => ⟨S4096x8x32, .f32⟩
  | 77 => ⟨S4096x8x32, .f32⟩
  | 78 => ⟨S4096x8x32, .f32⟩
  | 79 => ⟨S4096x8x32, .f32⟩
  | 80 => ⟨S4096x8x64, .f32⟩
  | 81 => ⟨S4096x8x192, .f32⟩
  | 82 => ⟨S4096x128, .f32⟩
  | 83 => ⟨S_, .f32⟩
  | 84 => ⟨S4096x128, .f32⟩
  | 85 => ⟨S4096x128, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S_, .f32⟩
  | 93 => ⟨S4096x1, .f32⟩
  | 94 => ⟨S4096x1, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x128, .f32⟩
  | 101 => ⟨S4096x128, .f32⟩
  | 102 => ⟨S4096x128, .f32⟩
  | 103 => ⟨S4096x128, .f32⟩
  | 104 => ⟨S4096x2048, .f32⟩
  | 105 => ⟨S4096x8x256, .f32⟩
  | 106 => ⟨S4096x8x128, .f32⟩
  | 107 => ⟨S4096x8x128, .f32⟩
  | 108 => ⟨S4096x32, .f32⟩
  | 109 => ⟨S4096x32, .f32⟩
  | 110 => ⟨S4096x32, .f32⟩
  | 111 => ⟨S4096x32, .f32⟩
  | 112 => ⟨S4096x32, .f32⟩
  | 113 => ⟨S4096x32, .f32⟩
  | 114 => ⟨S4096x32, .f32⟩
  | 115 => ⟨S4096x32, .f32⟩
  | 116 => ⟨S4096x64, .f32⟩
  | 117 => ⟨S4096x1x64, .f32⟩
  | 118 => ⟨S4096x8x64, .f32⟩
  | 119 => ⟨S4096x8x192, .f32⟩
  | 120 => ⟨S4096x2048, .f32⟩
  | 121 => ⟨S4096x8x256, .f32⟩
  | 122 => ⟨S4096x2048, .f32⟩
  | 123 => ⟨S4096x8x256, .f32⟩
  | 124 => ⟨S4096x1024, .f32⟩
  | 125 => ⟨S4096x8x128, .f32⟩
  | 126 => ⟨S4096x8x192, .f32⟩
  | 127 => ⟨S4096x8x192, .f32⟩
  | _ => ⟨S4096x512, .f32⟩

abbrev hbmTy0_1 (i : Nat) : BufTy := match i % 128 with
  | 0 => ⟨S4096x8x128, .f32⟩
  | 1 => ⟨S4096x8x64, .f32⟩
  | 2 => ⟨S_, .f32⟩
  | 3 => ⟨S4096x64, .f32⟩
  | 4 => ⟨S4096x1x64, .f32⟩
  | 5 => ⟨S_, .f32⟩
  | 6 => ⟨S4096x64, .f32⟩
  | 7 => ⟨S4096x32, .f32⟩
  | 8 => ⟨S4096x32, .f32⟩
  | 9 => ⟨S4096x32, .f32⟩
  | 10 => ⟨S4096x32, .f32⟩
  | 11 => ⟨S4096x32, .f32⟩
  | 12 => ⟨S4096x32, .f32⟩
  | 13 => ⟨S4096x32, .f32⟩
  | 14 => ⟨S4096x32, .f32⟩
  | 15 => ⟨S4096x32, .f32⟩
  | 16 => ⟨S4096x64, .f32⟩
  | 17 => ⟨S4096x8x256, .f32⟩
  | 18 => ⟨S4096x2048, .f32⟩
  | 19 => ⟨S2048x128, .f32⟩
  | 20 => ⟨S128x2048, .f32⟩
  | 21 => ⟨S4096x128, .f32⟩
  | 22 => ⟨S4096x128, .f32⟩
  | 23 => ⟨S_, .f32⟩
  | 24 => ⟨S128, .f32⟩
  | 25 => ⟨S1x128, .f32⟩
  | 26 => ⟨S4096x128, .f32⟩
  | 27 => ⟨S4096x128, .f32⟩
  | 28 => ⟨S4096x128, .f32⟩
  | 29 => ⟨S_, .f32⟩
  | 30 => ⟨S4096, .f32⟩
  | 31 => ⟨S4096x1, .f32⟩
  | 32 => ⟨S4096x128, .f32⟩
  | 33 => ⟨S4096x128, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096, .f32⟩
  | 40 => ⟨S4096x128, .f32⟩
  | 41 => ⟨S4096x128, .f32⟩
  | 42 => ⟨S4096x128, .f32⟩
  | 43 => ⟨S4096x8x128, .f32⟩
  | 44 => ⟨S4096x8x64, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x32, .f32⟩
  | 52 => ⟨S4096x8x32, .f32⟩
  | 53 => ⟨S4096x8x32, .f32⟩
  | 54 => ⟨S4096x8x32, .f32⟩
  | 55 => ⟨S4096x8x32, .f32⟩
  | 56 => ⟨S4096x8x32, .f32⟩
  | 57 => ⟨S4096x8x32, .f32⟩
  | 58 => ⟨S4096x8x64, .f32⟩
  | 59 => ⟨S4096x8x192, .f32⟩
  | 60 => ⟨S4096x1536, .f32⟩
  | 61 => ⟨S1536x256, .f32⟩
  | 62 => ⟨S256x1536, .f32⟩
  | 63 => ⟨S4096x256, .f32⟩
  | 64 => ⟨S1536x256, .f32⟩
  | 65 => ⟨S8x192x256, .f32⟩
  | 66 => ⟨S4096x256, .f32⟩
  | 67 => ⟨S_, .f32⟩
  | 68 => ⟨S256, .f32⟩
  | 69 => ⟨S1x256, .f32⟩
  | 70 => ⟨S4096x256, .f32⟩
  | 71 => ⟨S4096x256, .f32⟩
  | 72 => ⟨S4096x256, .f32⟩
  | 73 => ⟨S_, .f32⟩
  | 74 => ⟨S4096, .f32⟩
  | 75 => ⟨S4096x1, .f32⟩
  | 76 => ⟨S4096x256, .f32⟩
  | 77 => ⟨S4096x256, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x256, .f32⟩
  | 85 => ⟨S4096x256, .f32⟩
  | 86 => ⟨S4096x256, .f32⟩
  | 87 => ⟨S_, .f32⟩
  | 88 => ⟨S4096x64, .f32⟩
  | 89 => ⟨S4096x512, .f32⟩
  | 90 => ⟨S_, .i32⟩
  | 91 => ⟨S_, .f32⟩
  | 92 => ⟨S8x256x256, .f32⟩
  | 93 => ⟨S2048x256, .f32⟩
  | 94 => ⟨S4096x512, .bf16⟩
  | 95 => ⟨S2048x256, .bf16⟩
  | 96 => ⟨S128x2048, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_14 : Ref sig .tc := ⟨.hbm, 130, rfl⟩
abbrev main_v106 : Ref sig .tc := ⟨.hbm, 131, rfl⟩
abbrev main_v107 : Ref sig .tc := ⟨.hbm, 132, rfl⟩
abbrev main_cst_15 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_17 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_cst_19 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_20 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_21 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_cst_22 : Ref sig .tc := ⟨.hbm, 207, rfl⟩
abbrev main_v175 : Ref sig .tc := ⟨.hbm, 208, rfl⟩
abbrev main_v176 : Ref sig .tc := ⟨.hbm, 209, rfl⟩
abbrev main_cst_23 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_cst_24 : Ref sig .tc := ⟨.hbm, 215, rfl⟩
abbrev main_v181 : Ref sig .tc := ⟨.hbm, 216, rfl⟩
abbrev main_v182 : Ref sig .tc := ⟨.hbm, 217, rfl⟩
abbrev main_c : Ref sig .tc := ⟨.hbm, 218, rfl⟩
abbrev main_call0_v0 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩

abbrev nD : Nat := 1
abbrev τ : Topo := Topo.v7x

variable {F : FTy → Type} [FloatOps F]
-- ==== Proof.Causal.lean ====
/-
  Causal softmax attention and its gradient over the real numbers, and the rows of extended reals that compute them.

  `weight`, `mass`, `prob`, `attend`, `dscore` are the mathematics both programs are shown to compute. The `row_…` lemmas
  say what one row of a streamed softmax gives: the row's keys come in two parts, those before the row's own tile and
  those of its tile, whose masked scores are `⊥`; the row's maximum cancels.
-/
module

public import Idealize.ShloMosaic.Lib.Pointwise
public import Idealize.ShloMosaic.PureOps

@[expose] public section

noncomputable section

open Idealize.ShloMosaic

namespace Cert.Causal

/-- Position `k` of the first `m`. -/
abbrev headRow {N m : ℕ} (h : m ≤ N) (k : Fin m) : Fin N := ⟨k.val, Nat.lt_of_lt_of_le k.2 h⟩

/-- Position `k` of the `n` from `m` on. -/
abbrev tileRow {N m n : ℕ} (h : m + n ≤ N) (k : Fin n) : Fin N := ⟨m + k.val, Nat.lt_of_lt_of_le (Nat.add_lt_add_left k.2 m) h⟩

/-! ### Real sums inside the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of extended reals each of which is a real number is the sum of those numbers. -/
theorem sum_of_real {ι : Type} [Fintype ι] {x : ι → EReal} (f : ι → ℝ) (h : ∀ i, x i = f i) : ∑ i, x i = ((∑ i, f i : ℝ) : EReal) := by
  rw [← coe_sum]; exact Finset.sum_congr rfl fun i _ => h i

/-- A sum of products of real numbers. -/
theorem dot_of_real {ι : Type} [Fintype ι] {x y : ι → EReal} (f g : ι → ℝ) (hx : ∀ i, x i = f i) (hy : ∀ i, y i = g i) :
    ∑ i, x i * y i = ((∑ i, f i * g i : ℝ) : EReal) :=
  sum_of_real _ fun i => by rw [hx, hy, EReal.coe_mul]

theorem div_of_real (x y : ℝ) (hy : y ≠ 0) : Ideal.div (x : EReal) (y : EReal) = ((x / y : ℝ) : EReal) := by
  rw [Ideal.div_coe hy, ← EReal.coe_mul, mul_one_div]

theorem log_of_real (x : ℝ) (hx : 0 < x) : Ideal.log (x : EReal) = ((Real.log x : ℝ) : EReal) := by
  rw [Ideal.log_coe, if_neg (not_le.2 hx)]

/-! ### The numbers the programs' constants stand for -/

theorem negInf : Ideal.ofBits .f32 0xFF800000#32 = (⊥ : EReal) := by
  simp [Ideal.ofBits, Ideal.ieee]

theorem posInf : Ideal.ofBits .f32 0x7F800000#32 = (⊤ : EReal) := by
  simp [Ideal.ofBits, Ideal.ieee]

theorem zero_bits : Ideal.ofBits .f32 0x00000000#32 = (0 : EReal) := by simp [Ideal.ofBits, Ideal.ieee]
theorem one_bits : Ideal.ofBits .f32 0x3F800000#32 = ((1 : ℝ) : EReal) := by
  simp [Ideal.ofBits, Ideal.ieee]
  rw [← EReal.coe_mul, ← EReal.coe_one]
  norm_num

theorem two_bits : Ideal.ofBits .f32 0x40000000#32 = ((2 : ℝ) : EReal) := by
  simp [Ideal.ofBits, Ideal.ieee]
  rw [← EReal.coe_mul]
  norm_num

theorem neg_half_bits : Ideal.ofBits .f32 0xBF000000#32 = ((-(1 / 2) : ℝ) : EReal) := by
  simp [Ideal.ofBits, Ideal.ieee]
  rw [← EReal.coe_mul]
  norm_num

theorem width_bits : Ideal.ofBits .f32 0x44800000#32 = ((1024 : ℝ) : EReal) := by
  simp [Ideal.ofBits, Ideal.ieee]
  rw [← EReal.coe_mul]
  norm_num

/-- The number a norm adds to the mean of the squares. -/
def eps : ℝ := 8796093 * 2 ^ (-43 : ℤ)

theorem eps_pos : 0 < eps := by unfold eps; positivity

theorem eps_bits : Ideal.ofBits .f32 0x358637BD#32 = ((eps : ℝ) : EReal) := by
  simp [Ideal.ofBits, Ideal.ieee, eps]

/-- The number by which a score is scaled. -/
def scale : ℝ := (Ideal.ofBits .f32 0x3D93CD3A#32 : EReal).toReal

theorem scale_coe : Ideal.ofBits .f32 0x3D93CD3A#32 = ((scale : ℝ) : EReal) := by
  refine (EReal.coe_toReal ?_ ?_).symm
  · simp [Ideal.ofBits, Ideal.ieee]
    rw [← EReal.coe_mul]; exact EReal.coe_ne_top _
  · simp [Ideal.ofBits, Ideal.ieee]
    try (rw [← EReal.coe_mul]; exact EReal.coe_ne_bot _)

/-- The maximum of a row no entry of which is `⊤`, and some entry of which is a real number, is a real number. -/
theorem fold_max_real {ι : Type} [Fintype ι] (x : ι → EReal) (ht : ∀ i, x i ≠ ⊤) (i₀ : ι) (hb : x i₀ ≠ ⊥) :
    ∃ μ : ℝ, Finset.fold max (Ideal.ofBits .f32 0xFF800000#32) x Finset.univ = (μ : EReal) := by
  rw [negInf]
  have h1 : Finset.fold max ⊥ x Finset.univ ≠ ⊤ :=
    ((Finset.fold_max_lt _).2 ⟨bot_lt_top, fun i _ => lt_top_iff_ne_top.2 (ht i)⟩).ne
  have h2 : Finset.fold max ⊥ x Finset.univ ≠ ⊥ := by
    have : x i₀ ≤ Finset.fold max ⊥ x Finset.univ := (Finset.le_fold_max _).2 (Or.inr ⟨i₀, Finset.mem_univ _, le_rfl⟩)
    intro h; rw [h] at this; exact hb (le_bot_iff.1 this)
  exact ⟨_, (EReal.coe_toReal h1 h2).symm⟩

/-- The same, of two rows, the second of real numbers only. -/
theorem max_fold_real {ι κ : Type} [Fintype ι] [Fintype κ] (x : ι → EReal) (y : κ → EReal) (ht : ∀ i, x i ≠ ⊤) (i₀ : ι) (hb : x i₀ ≠ ⊥)
    (hy : ∀ k, y k ≠ ⊤) :
    ∃ μ : ℝ, max (Finset.fold max (Ideal.ofBits .f32 0xFF800000#32) x Finset.univ)
        (Finset.fold max (Ideal.ofBits .f32 0xFF800000#32) y Finset.univ) = (μ : EReal) := by
  obtain ⟨μ, hμ⟩ := fold_max_real x ht i₀ hb
  rw [hμ]
  have h1 : Finset.fold max (Ideal.ofBits .f32 0xFF800000#32) y Finset.univ ≠ ⊤ := by
    rw [negInf]
    exact ((Finset.fold_max_lt _).2 ⟨bot_lt_top, fun i _ => lt_top_iff_ne_top.2 (hy i)⟩).ne
  generalize Finset.fold max (Ideal.ofBits .f32 0xFF800000#32) y Finset.univ = z at h1
  induction z using EReal.rec with
  | bot => exact ⟨μ, max_eq_left bot_le⟩
  | top => exact absurd rfl h1
  | coe z => exact ⟨max μ z, (EReal.coe_strictMono.monotone.map_max).symm⟩

/-! ### The mathematics -/

variable {N D E : ℕ}

/-- The scores of scaled queries `q` against keys `k`. -/
def score (q k : Fin N → Fin D → ℝ) (i j : Fin N) : ℝ := ∑ d, q i d * k j d

/-- The unnormalised weight row `i` gives key `j`: nothing to a later key. -/
def weight (s : Fin N → Fin N → ℝ) (i j : Fin N) : ℝ := if j ≤ i then Real.exp (s i j) else 0

def mass (s : Fin N → Fin N → ℝ) (i : Fin N) : ℝ := ∑ j, weight s i j

def prob (s : Fin N → Fin N → ℝ) (i j : Fin N) : ℝ := weight s i j / mass s i

/-- Attention: each row's average of the values. -/
def attend (s : Fin N → Fin N → ℝ) (v : Fin N → Fin E → ℝ) (i : Fin N) (e : Fin E) : ℝ := ∑ j, prob s i j * v j e

/-- The gradient of the scores, given the gradient `g` of the attention's output. -/
def dscore (s : Fin N → Fin N → ℝ) (v g : Fin N → Fin E → ℝ) (i j : Fin N) : ℝ :=
  prob s i j * (∑ e, g i e * v j e - ∑ e, g i e * attend s v i e)

theorem weight_nonneg (s : Fin N → Fin N → ℝ) (i j : Fin N) : 0 ≤ weight s i j := by
  unfold weight; split <;> positivity

theorem mass_pos (s : Fin N → Fin N → ℝ) (i : Fin N) : 0 < mass s i :=
  Finset.sum_pos' (fun j _ => weight_nonneg s i j) ⟨i, Finset.mem_univ _, by rw [weight, if_pos le_rfl]; positivity⟩

theorem weight_later (s : Fin N → Fin N → ℝ) {i j : Fin N} (h : i < j) : weight s i j = 0 := if_neg (not_le.2 h)

theorem prob_later (s : Fin N → Fin N → ℝ) {i j : Fin N} (h : i < j) : prob s i j = 0 := by
  rw [prob, weight_later s h, zero_div]

theorem dscore_later (s : Fin N → Fin N → ℝ) (v g : Fin N → Fin E → ℝ) {i j : Fin N} (h : i < j) : dscore s v g i j = 0 := by
  rw [dscore, prob_later s h, zero_mul]

/-- The weights are recovered from the logarithm of the mass. -/
theorem exp_sub_log_mass (s : Fin N → Fin N → ℝ) {i j : Fin N} (h : j ≤ i) : Real.exp (s i j - Real.log (mass s i)) = prob s i j := by
  rw [Real.exp_sub, Real.exp_log (mass_pos s i), prob, weight, if_pos h]

/-! ### Sums over the rows up to a tile's end -/

/-- A sum over all positions of something that vanishes from `m + n` on: the first `m`, then `n` more. -/
theorem sum_prefix_two (m n : ℕ) (h : m + n ≤ N) (f : Fin N → ℝ) (hz : ∀ j : Fin N, m + n ≤ j.val → f j = 0) :
    ∑ j, f j = (∑ k : Fin m, f (headRow ((Nat.le_add_right m n).trans h) k)) + ∑ k : Fin n, f (tileRow h k) := by
  have h1 : ∑ j : Fin N, f j = ∑ j : Fin (m + n), f ⟨j.val, by omega⟩ := by
    rw [Fin.sum_univ_two_halves (m + n) (N - (m + n)) (by omega)]
    rw [show (∑ k : Fin (N - (m + n)), f ⟨m + n + k.val, by omega⟩) = 0 from
      Finset.sum_eq_zero fun k _ => hz _ (Nat.le_add_right _ _), add_zero]
  rw [h1, Fin.sum_univ_two_halves m n rfl]

/-- The same, in one part. -/
theorem sum_prefix (n : ℕ) (h : n ≤ N) (f : Fin N → ℝ) (hz : ∀ j : Fin N, n ≤ j.val → f j = 0) :
    ∑ j, f j = ∑ k : Fin n, f (headRow h k) := by
  rw [sum_prefix_two 0 n (by omega) f (fun j hj => hz j (by omega))]
  simp [headRow, tileRow]

/-- A sum over a prefix whose tail vanishes is the sum over a longer one: `sum_prefix` read for a `Fin n` sum given pointwise. -/
theorem prefix_sum (n : ℕ) (h : n ≤ N) (f : Fin N → ℝ) (g : Fin n → ℝ) (hg : ∀ k : Fin n, g k = f (headRow h k))
    (hz : ∀ j : Fin N, n ≤ j.val → f j = 0) : ∑ k, g k = ∑ j, f j := by
  rw [sum_prefix n h f hz]; exact Finset.sum_congr rfl fun k _ => hg k

/-! ### One row of the streamed softmax -/

variable (s : Fin N → Fin N → ℝ)

/-- A score, masked or not, with the maximum taken off it, exponentiated: the weight times the same factor. -/
theorem exp_masked (i j : Fin N) (μ : ℝ) (x : EReal) (hx : x = if j ≤ i then ((s i j : ℝ) : EReal) else ⊥) :
    Ideal.exp (x - (μ : EReal)) = ((weight s i j * Real.exp (-μ) : ℝ) : EReal) := by
  rw [hx, weight]
  split
  · rw [← EReal.coe_sub, Ideal.exp_coe, sub_eq_add_neg, Real.exp_add]
  · rw [EReal.bot_sub, Ideal.exp_bot]; simp

section Rows

variable (i : Fin N) (m n : ℕ) (hmn : m + n ≤ N) (hi : i.val < m + n) (hm : m ≤ i.val)
  (sd : Fin n → EReal) (sb : Fin m → EReal)
  (hsd : ∀ k : Fin n, sd k = if tileRow hmn k ≤ i then ((s i (tileRow hmn k) : ℝ) : EReal) else ⊥)
  (hsb : ∀ k : Fin m, sb k = ((s i (headRow (hm.trans i.2.le) k) : ℝ) : EReal))

include hsb hm in
theorem before_masked (k : Fin m) : sb k = if headRow (hm.trans i.2.le) k ≤ i then ((s i (headRow (hm.trans i.2.le) k) : ℝ) : EReal) else ⊥ := by
  rw [hsb, if_pos (Fin.le_def.2 (by show k.val ≤ i.val; omega))]

include hsd hi hm in
theorem tile_max_real : ∃ μ : ℝ, Finset.fold max (Ideal.ofBits .f32 0xFF800000#32) sd Finset.univ = (μ : EReal) :=
  fold_max_real sd (fun k => by rw [hsd]; split <;> simp) ⟨i.val - m, by omega⟩ (by
    rw [hsd, if_pos (Fin.le_def.2 (by show m + (i.val - m) ≤ i.val; omega))]; simp)

include hsd hsb hi hm in
theorem row_max_real : ∃ μ : ℝ, max (Finset.fold max (Ideal.ofBits .f32 0xFF800000#32) sd Finset.univ)
    (Finset.fold max (Ideal.ofBits .f32 0xFF800000#32) sb Finset.univ) = (μ : EReal) :=
  max_fold_real sd sb (fun k => by rw [hsd]; split <;> simp) ⟨i.val - m, by omega⟩ (by
    rw [hsd, if_pos (Fin.le_def.2 (by show m + (i.val - m) ≤ i.val; omega))]; simp) (fun k => by rw [hsb]; simp)

include hi hmn hm in
theorem mass_two : mass s i = (∑ k : Fin m, weight s i (headRow (hm.trans i.2.le) k)) + ∑ k : Fin n, weight s i (tileRow hmn k) :=
  sum_prefix_two m n hmn _ fun j hj => weight_later s (Fin.lt_def.2 (by omega))

include hsd hsb hm hmn hi in
theorem row_mass (μ : ℝ) : (∑ x, Ideal.exp (sb x - (μ : EReal))) + ∑ x, Ideal.exp (sd x - (μ : EReal)) =
    ((mass s i * Real.exp (-μ) : ℝ) : EReal) := by
  rw [sum_of_real _ (fun x => exp_masked s i _ μ _ (before_masked s i m hm sb hsb x)),
    sum_of_real _ (fun x => exp_masked s i _ μ _ (hsd x)), ← EReal.coe_add, ← Finset.sum_mul, ← Finset.sum_mul, ← add_mul,
    ← mass_two s i m n hmn hi hm]

include hsd hsb hm hmn hi in
/-- One row of attention, its keys in two parts. -/
theorem row_attend_at (μ : ℝ) (v : Fin N → ℝ) (vb : Fin m → EReal) (vd : Fin n → EReal)
    (hvb : ∀ k : Fin m, vb k = ((v (headRow (hm.trans i.2.le) k) : ℝ) : EReal)) (hvd : ∀ k : Fin n, vd k = ((v (tileRow hmn k) : ℝ) : EReal)) :
    Ideal.div ((∑ x, Ideal.exp (sb x - (μ : EReal)) * vb x) + ∑ x, Ideal.exp (sd x - (μ : EReal)) * vd x)
      ((∑ x, Ideal.exp (sb x - (μ : EReal))) + ∑ x, Ideal.exp (sd x - (μ : EReal))) = ((∑ j, prob s i j * v j : ℝ) : EReal) := by
  rw [row_mass s i m n hmn hi hm sd sb hsd hsb μ,
    dot_of_real _ _ (fun x => exp_masked s i _ μ _ (before_masked s i m hm sb hsb x)) hvb,
    dot_of_real _ _ (fun x => exp_masked s i _ μ _ (hsd x)) hvd, ← EReal.coe_add,
    div_of_real _ _ (mul_pos (mass_pos s i) (Real.exp_pos _)).ne']
  congr 1
  rw [sum_prefix_two m n hmn (fun j => prob s i j * v j) (fun j hj => by
    rw [prob_later s (Fin.lt_def.2 (by omega)), zero_mul])]
  have he := (Real.exp_pos (-μ)).ne'
  have hM := (mass_pos s i).ne'
  rw [div_eq_iff (mul_ne_zero hM he), add_mul, Finset.sum_mul, Finset.sum_mul]
  congr 1 <;> refine Finset.sum_congr rfl fun k _ => ?_ <;> rw [prob] <;> field_simp

include hsd hsb hm hmn hi in
theorem row_attend (v : Fin N → ℝ) (vb : Fin m → EReal) (vd : Fin n → EReal)
    (hvb : ∀ k : Fin m, vb k = ((v (headRow (hm.trans i.2.le) k) : ℝ) : EReal)) (hvd : ∀ k : Fin n, vd k = ((v (tileRow hmn k) : ℝ) : EReal)) :
    Ideal.div ((∑ x, Ideal.exp (sb x - max (Finset.fold max (Ideal.ofBits .f32 0xFF800000#32) sd Finset.univ)
          (Finset.fold max (Ideal.ofBits .f32 0xFF800000#32) sb Finset.univ)) * vb x)
        + ∑ x, Ideal.exp (sd x - max (Finset.fold max (Ideal.ofBits .f32 0xFF800000#32) sd Finset.univ)
          (Finset.fold max (Ideal.ofBits .f32 0xFF800000#32) sb Finset.univ)) * vd x)
      ((∑ x, Ideal.exp (sb x - max (Finset.fold max (Ideal.ofBits .f32 0xFF800000#32) sd Finset.univ)
          (Finset.fold max (Ideal.ofBits .f32 0xFF800000#32) sb Finset.univ)))
        + ∑ x, Ideal.exp (sd x - max (Finset.fold max (Ideal.ofBits .f32 0xFF800000#32) sd Finset.univ)
          (Finset.fold max (Ideal.ofBits .f32 0xFF800000#32) sb Finset.univ))) = ((∑ j, prob s i j * v j : ℝ) : EReal) := by
  obtain ⟨μ, hμ⟩ := row_max_real s i m n hmn hi hm sd sb hsd hsb
  simp only [hμ]
  exact row_attend_at s i m n hmn hi hm sd sb hsd hsb μ v vb vd hvb hvd

include hsd hsb hm hmn hi in
/-- The row's maximum plus the logarithm of its sum: the logarithm of its mass. -/
theorem row_log : max (Finset.fold max (Ideal.ofBits .f32 0xFF800000#32) sd Finset.univ)
          (Finset.fold max (Ideal.ofBits .f32 0xFF800000#32) sb Finset.univ)
      + Ideal.log ((∑ x, Ideal.exp (sb x - max (Finset.fold max (Ideal.ofBits .f32 0xFF800000#32) sd Finset.univ)
          (Finset.fold max (Ideal.ofBits .f32 0xFF800000#32) sb Finset.univ)))
        + ∑ x, Ideal.exp (sd x - max (Finset.fold max (Ideal.ofBits .f32 0xFF800000#32) sd Finset.univ)
          (Finset.fold max (Ideal.ofBits .f32 0xFF800000#32) sb Finset.univ))) = ((Real.log (mass s i) : ℝ) : EReal) := by
  obtain ⟨μ, hμ⟩ := row_max_real s i m n hmn hi hm sd sb hsd hsb
  simp only [hμ]
  rw [row_mass s i m n hmn hi hm sd sb hsd hsb μ, log_of_real _ (mul_pos (mass_pos s i) (Real.exp_pos _)), ← EReal.coe_add,
    Real.log_mul (mass_pos s i).ne' (Real.exp_pos _).ne', Real.log_exp]
  congr 1; ring

end Rows

section FirstRows

variable (i : Fin N) (n : ℕ) (hn : n ≤ N) (hi : i.val < n) (sd : Fin n → EReal)
  (hsd : ∀ k : Fin n, sd k = if headRow hn k ≤ i then ((s i (headRow hn k) : ℝ) : EReal) else ⊥)

include hsd hn in
theorem first_as_tile (k : Fin n) : sd k = if tileRow ((Nat.zero_add n).trans_le hn) k ≤ i then ((s i (tileRow ((Nat.zero_add n).trans_le hn) k) : ℝ) : EReal) else ⊥ := by
  rw [hsd]; simp only [tileRow, headRow, Nat.zero_add]

include hsd hi hn in
/-- One row of the first tile, which has no keys before it. -/
theorem first_attend (v : Fin N → ℝ) (vd : Fin n → EReal) (hvd : ∀ k : Fin n, vd k = ((v (headRow hn k) : ℝ) : EReal)) :
    Ideal.div (∑ x, Ideal.exp (sd x - Finset.fold max (Ideal.ofBits .f32 0xFF800000#32) sd Finset.univ) * vd x)
      (∑ x, Ideal.exp (sd x - Finset.fold max (Ideal.ofBits .f32 0xFF800000#32) sd Finset.univ)) = ((∑ j, prob s i j * v j : ℝ) : EReal) := by
  obtain ⟨μ, hμ⟩ := tile_max_real s i 0 n (by omega) (by omega) (by omega) sd (first_as_tile s i n hn sd hsd)
  have h := row_attend_at s i 0 n (by omega) (by omega) (by omega) sd (fun k => k.elim0) (first_as_tile s i n hn sd hsd) (fun k => k.elim0)
    μ v (fun k => k.elim0) vd (fun k => k.elim0) (fun k => by rw [hvd]; simp only [tileRow, headRow, Nat.zero_add])
  simp only [hμ]
  simpa using h

include hsd hi hn in
theorem first_log : Finset.fold max (Ideal.ofBits .f32 0xFF800000#32) sd Finset.univ
      + Ideal.log (∑ x, Ideal.exp (sd x - Finset.fold max (Ideal.ofBits .f32 0xFF800000#32) sd Finset.univ)) =
    ((Real.log (mass s i) : ℝ) : EReal) := by
  obtain ⟨μ, hμ⟩ := tile_max_real s i 0 n (by omega) (by omega) (by omega) sd (first_as_tile s i n hn sd hsd)
  have h := row_mass s i 0 n (by omega) (by omega) (by omega) sd (fun k => k.elim0) (first_as_tile s i n hn sd hsd) (fun k => k.elim0) μ
  simp only [Finset.univ_eq_empty, Finset.sum_empty, zero_add] at h
  simp only [hμ]
  rw [h, log_of_real _ (mul_pos (mass_pos s i) (Real.exp_pos _)), ← EReal.coe_add,
    Real.log_mul (mass_pos s i).ne' (Real.exp_pos _).ne', Real.log_exp]
  congr 1; ring

end FirstRows

end Cert.Causal

end
-- ==== Proof.Loads.lean ====
/-
  Loads of whole rows of a matrix, the causal comparison of two positions written as words, and accumulators whose first
  rows are rewritten.
-/
module

public import proofs.«01_k».proof.Proof.Causal
public import Idealize.ShloMosaic.Lib.Pipeline.ValueKit
public import Idealize.ShloMosaic.Lib.Pointwise

@[expose] public section

noncomputable section
open Idealize.ShloMosaic Idealize.ShloMosaic.TcCoe Idealize.SL.Sem
namespace Cert.Causal

/-- A load of `n` whole rows from row `o` on. -/
theorem ld_rows {N n w o : ℕ} {e : EltTy} (x : Vec Ideal ⟨2, ![N, w]⟩ e) (inb) (h : o + n ≤ N) (r : Fin n) (d : Fin w) :
    View.ld x (Rect.unit (s := ⟨2, ![N, w]⟩) ![o, 0] ![n, w] inb) (ix2 r d) = x (ix2 ⟨o + r.val, by omega⟩ d) := by
  refine View.ld_unit_apply_of x _ _ inb (ix2 r d) (ix2 ⟨o + r.val, by omega⟩ d) fun a => ?_
  fin_cases a
  · rfl
  · exact (Nat.zero_add _).symm

/-- A load of the first `n` rows. -/
theorem ld_first {N n w : ℕ} {e : EltTy} (x : Vec Ideal ⟨2, ![N, w]⟩ e) (inb) (h : n ≤ N) (r : Fin n) (d : Fin w) :
    View.ld x (Rect.unit (s := ⟨2, ![N, w]⟩) ![0, 0] ![n, w] inb) (ix2 r d) = x (ix2 ⟨r.val, by omega⟩ d) := by
  rw [ld_rows x inb (by omega)]; simp only [Nat.zero_add]

/-- The comparison of a key's position with a row's, of 32-bit words: both are small. -/
theorem causal_select {α : Type} (k i o : ℕ) (hk : k < 2048) (hi : i < 512) (ho : o < 2048) (x y : α) :
    Scalar.select (IntOp.cmpi .sle (BitVec.ofNat 32 k) (IntOp.addi (BitVec.ofNat 32 i) (BitVec.ofNat 32 o))) x y = if k ≤ o + i then x else y := by
  have h : (BitVec.ofNat 32 k).sle (BitVec.ofNat 32 i + BitVec.ofNat 32 o) = decide (k ≤ o + i) := by
    have hs : BitVec.ofNat 32 i + BitVec.ofNat 32 o = BitVec.ofNat 32 (o + i) := by
      rw [← BitVec.ofNat_add, Nat.add_comm]
    rw [hs, BitVec.sle_eq_decide]
    have e1 : (BitVec.ofNat 32 k).toNat = k := by rw [BitVec.toNat_ofNat]; exact Nat.mod_eq_of_lt (by omega)
    have e2 : (BitVec.ofNat 32 (o + i)).toNat = o + i := by rw [BitVec.toNat_ofNat]; exact Nat.mod_eq_of_lt (by omega)
    rw [BitVec.toInt_eq_toNat_of_lt (by omega), BitVec.toInt_eq_toNat_of_lt (by omega), e1, e2]
    simp only [decide_eq_decide]; omega
  by_cases hc : k ≤ o + i <;> simp [Scalar.select, IntOp.cmpi, IntOp.addi, h, hc]

/-! ### An accumulator whose first rows are read, added to and written back -/

section Accumulator

variable {N n w : ℕ} {e : EltTy}

/-- What a store of the first `n` rows leaves: those rows, and the older contents after them. -/
theorem canon_first_rows (inb) (P : (Rect.unit (s := ⟨2, ![N, w]⟩) ![0, 0] ![n, w] inb).shape.Idx → Elt Ideal e)
    (L : List (View.Piece (Elt Ideal) ⟨2, ![N, w]⟩ e)) (i : Fin N) (d : Fin w) :
    View.canon (⟨Rect.unit (s := ⟨2, ![N, w]⟩) ![0, 0] ![n, w] inb, P⟩ :: L) (ix2 i d) =
      if h : i.val < n then P (ix2 (⟨i.val, h⟩ : Fin n) d) else View.canon L (ix2 i d) := by
  by_cases h : i.val < n
  · rw [dif_pos h]
    have := View.canon_cons_emb (Val := Elt Ideal) (Rect.unit (s := ⟨2, ![N, w]⟩) ![0, 0] ![n, w] inb) P L (ix2 (⟨i.val, h⟩ : Fin n) d)
    refine Eq.trans (congrArg _ (funext fun a => Fin.ext ?_)) this
    rw [Rect.emb_apply]
    fin_cases a
    · simp
    · simp
  · rw [dif_neg h]
    refine View.canon_cons_of_not_mem _ _ fun hm => h ?_
    obtain ⟨x, hx⟩ := LoadRect.exists_idx_of_mem _ hm
    have h0 := congrArg (fun y => (y 0).val) hx
    have hlt : (x 0).val < n := (x 0).isLt
    simp at h0
    omega

/-- A load of the first `n` rows of what a list of stores left. -/
theorem readCov_first_rows {σ : RefSig} {κ : Kind} {sp : Space} (v : View σ κ sp ⟨2, ![N, w]⟩ e)
    (L : List (View.Piece (Elt Ideal) ⟨2, ![N, w]⟩ e)) (inb) (h : n ≤ N) (r : Fin n) (d : Fin w) :
    v.readCov L (Rect.unit (s := ⟨2, ![N, w]⟩) ![0, 0] ![n, w] inb).toLoadRect (ix2 r d) = View.canon L (ix2 (headRow h r) d) := by
  rw [View.readCov_eq_canon']
  refine congrArg _ (funext fun a => Fin.ext ?_)
  fin_cases a
  · simp
  · simp

end Accumulator

end Cert.Causal

end
-- ==== Proof.Forward.lean ====
/-
  What one step of the forward call's grid leaves in its two outputs, of blocks of real numbers: causal attention
  (`Cert.Causal.attend`) and the logarithm of each row's mass. The call reads its 2048 rows in four tiles of 512; each
  tile's keys are those before it, unmasked, and its own, masked.
-/
module

public import proofs.«01_k».proof.Proof.Loads
public import proofs.«01_k».proof.Proof.Gen.KernelIdeal.Frame
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.KernelIdeal.Value
open Cert.KernelIdeal Cert.KernelIdeal.Gen Cert.Causal

/-! ### The mask, the scores -/

theorem mask_ideal : Named.named (F := Ideal) (φ := .f32) κ "mask" 0xF149F2CA#32 = (⊥ : EReal) :=
  IdealRules.named_const.ideal_named_scalar _ _ _ _ rfl

theorem masked5 (a b : Vec Ideal S512x256 .bf16) (r k : Fin 512) :
    k0_pay5 (F := Ideal) a b (ix2 r k) = if k.val ≤ r.val then ∑ d, a (ix2 r d) * b (ix2 k d) else ⊥ := by
  pointwise [k0_pay5, k0_pay4]
  exact (causal_select k r 0 (by omega) r.2 (by omega) _ _).trans (by rw [mask_ideal, Nat.zero_add])

theorem masked13 (a b : Vec Ideal S512x256 .bf16) (r k : Fin 512) :
    k0_pay13 (F := Ideal) k0_pay4 a b (ix2 r k) = if k.val ≤ r.val then ∑ d, a (ix2 r d) * b (ix2 k d) else ⊥ := by
  pointwise [k0_pay13, k0_pay4]
  exact (causal_select k r 0 (by omega) r.2 (by omega) _ _).trans (by rw [mask_ideal, Nat.zero_add])

theorem masked22 (a b : Vec Ideal S512x256 .bf16) (r k : Fin 512) :
    k0_pay22 (F := Ideal) k0_pay4 a b (ix2 r k) = if k.val ≤ r.val then ∑ d, a (ix2 r d) * b (ix2 k d) else ⊥ := by
  pointwise [k0_pay22, k0_pay21, k0_pay4]
  exact (causal_select k r 0 (by omega) r.2 (by omega) _ _).trans (by rw [mask_ideal, Nat.zero_add])

theorem masked31 (a b : Vec Ideal S512x256 .bf16) (r k : Fin 512) :
    k0_pay31 (F := Ideal) k0_pay4 a b (ix2 r k) = if k.val ≤ r.val then ∑ d, a (ix2 r d) * b (ix2 k d) else ⊥ := by
  pointwise [k0_pay31, k0_pay30, k0_pay4]
  exact (causal_select k r 0 (by omega) r.2 (by omega) _ _).trans (by rw [mask_ideal, Nat.zero_add])

theorem cast11 (a : Vec Ideal S512x256 .bf16) (r : Fin 512) (d : Fin 256) : k0_pay11 (F := Ideal) a (ix2 r d) = a (ix2 r d) := by
  pointwise [k0_pay11]

theorem cast12 (a : Vec Ideal S512x256 .bf16) (r : Fin 512) (d : Fin 256) : k0_pay12 (F := Ideal) a (ix2 r d) = a (ix2 r d) := by
  pointwise [k0_pay12]

theorem before14 (a b : Vec Ideal S512x256 .bf16) (r k : Fin 512) :
    k0_pay14 (F := Ideal) a b (ix2 r k) = ∑ d, a (ix2 r d) * b (ix2 k d) := by
  pointwise [k0_pay14]

theorem before23 (a : Vec Ideal S512x256 .bf16) (b : Vec Ideal S1024x256 .bf16) (r : Fin 512) (k : Fin 1024) :
    k0_pay23 (F := Ideal) a b (ix2 r k) = ∑ d, a (ix2 r d) * b (ix2 k d) := by
  pointwise [k0_pay23, k0_pay21]

theorem before32 (a : Vec Ideal S512x256 .bf16) (b : Vec Ideal S1536x256 .bf16) (r : Fin 512) (k : Fin 1536) :
    k0_pay32 (F := Ideal) a b (ix2 r k) = ∑ d, a (ix2 r d) * b (ix2 k d) := by
  pointwise [k0_pay32, k0_pay30]

variable (q k : Fin 2048 → Fin 256 → ℝ) (v : Fin 2048 → Fin 128 → ℝ)

/-- A masked score of real numbers. -/
theorem masked_real (o : ℕ) (ho : o + 512 ≤ 2048) (r x : Fin 512) (a b : Fin 256 → EReal)
    (ha : ∀ d, a d = ((q ⟨o + r.val, by omega⟩ d : ℝ) : EReal)) (hb : ∀ d, b d = ((k ⟨o + x.val, by omega⟩ d : ℝ) : EReal)) :
    (if x.val ≤ r.val then ∑ d, a d * b d else ⊥) =
      if (⟨o + x.val, by omega⟩ : Fin 2048) ≤ ⟨o + r.val, by omega⟩ then ((score q k ⟨o + r.val, by omega⟩ ⟨o + x.val, by omega⟩ : ℝ) : EReal) else ⊥ := by
  rw [dot_of_real _ _ ha hb]
  exact if_congr ⟨fun h => Fin.le_def.2 (by show o + x.val ≤ o + r.val; omega), fun h => by
    have := Fin.le_def.1 h; simp only at this; omega⟩ rfl rfl

/-! ### The first tile -/

section
variable (a b : Vec Ideal S512x256 .bf16) (c : Vec Ideal S512x128 .bf16)
  (ha : ∀ (r : Fin 512) d, a (ix2 r d) = ((q ⟨r.val, by omega⟩ d : ℝ) : EReal))
  (hb : ∀ (r : Fin 512) d, b (ix2 r d) = ((k ⟨r.val, by omega⟩ d : ℝ) : EReal))
  (hc : ∀ (r : Fin 512) d, c (ix2 r d) = ((v ⟨r.val, by omega⟩ d : ℝ) : EReal))

include ha hb in
theorem first_scores (r x : Fin 512) : k0_pay5 (F := Ideal) a b (ix2 r x) =
    if (⟨x.val, by omega⟩ : Fin 2048) ≤ ⟨r.val, by omega⟩ then ((score q k ⟨r.val, by omega⟩ ⟨x.val, by omega⟩ : ℝ) : EReal) else ⊥ := by
  rw [masked5]
  have h := masked_real q k 0 (by omega) r x (fun d => a (ix2 r d)) (fun d => b (ix2 x d)) (fun d => by rw [ha]; simp only [Nat.zero_add])
    (fun d => by rw [hb]; simp only [Nat.zero_add])
  simpa only [Nat.zero_add] using h

include ha hb hc in
theorem first_out (r : Fin 512) (e : Fin 128) : k0_pay9 (F := Ideal) a b c (ix2 r e) = ((attend (score q k) v ⟨r.val, by omega⟩ e : ℝ) : EReal) := by
  pointwise [k0_pay9, k0_pay8, k0_pay7, k0_pay6]
  exact first_attend (score q k) ⟨r.val, by omega⟩ 512 (by omega) r.2 _ (first_scores q k a b ha hb r) (fun j => v j e)
    (fun x => c (ix2 x e)) (fun x => hc x e)

include ha hb in
theorem first_lse (r : Fin 512) (e : Fin 128) : k0_pay10 (F := Ideal) a b (ix2 r e) = ((Real.log (mass (score q k) ⟨r.val, by omega⟩) : ℝ) : EReal) := by
  pointwise [k0_pay10, k0_pay8, k0_pay7, k0_pay6]
  exact first_log (score q k) ⟨r.val, by omega⟩ 512 (by omega) r.2 _ (first_scores q k a b ha hb r)
end

/-! ### The second tile -/

section
variable (a b : Vec Ideal S512x256 .bf16) (b₀ : Vec Ideal S512x256 .bf16) (c₀ : Vec Ideal S512x128 .bf16) (c : Vec Ideal S512x128 .bf16)
  (ha : ∀ (r : Fin 512) d, a (ix2 r d) = ((q ⟨512 + r.val, by omega⟩ d : ℝ) : EReal))
  (hb : ∀ (r : Fin 512) d, b (ix2 r d) = ((k ⟨512 + r.val, by omega⟩ d : ℝ) : EReal))
  (hb₀ : ∀ (r : Fin 512) d, b₀ (ix2 r d) = ((k ⟨r.val, by omega⟩ d : ℝ) : EReal))
  (hc₀ : ∀ (r : Fin 512) d, c₀ (ix2 r d) = ((v ⟨r.val, by omega⟩ d : ℝ) : EReal))
  (hc : ∀ (r : Fin 512) d, c (ix2 r d) = ((v ⟨512 + r.val, by omega⟩ d : ℝ) : EReal))

include ha hb in
theorem second_scores (r x : Fin 512) : k0_pay13 (F := Ideal) k0_pay4 a b (ix2 r x) =
    if (⟨512 + x.val, by omega⟩ : Fin 2048) ≤ ⟨512 + r.val, by omega⟩ then
      ((score q k ⟨512 + r.val, by omega⟩ ⟨512 + x.val, by omega⟩ : ℝ) : EReal) else ⊥ := by
  rw [masked13]
  exact masked_real q k 512 (by omega) r x (fun d => a (ix2 r d)) (fun d => b (ix2 x d)) (ha r) (hb x)

include ha hb₀ in
theorem second_before (r : Fin 512) (x : Fin 512) : k0_pay14 (F := Ideal) a b₀ (ix2 r x) =
    ((score q k ⟨512 + r.val, by omega⟩ ⟨x.val, by omega⟩ : ℝ) : EReal) := by
  rw [before14]
  exact dot_of_real _ _ (ha r) (hb₀ x)

include ha hb hb₀ hc₀ hc in
theorem second_out (r : Fin 512) (e : Fin 128) : k0_pay19 (F := Ideal) k0_pay4 a b b₀ c₀ c (ix2 r e) =
    ((attend (score q k) v ⟨512 + r.val, by omega⟩ e : ℝ) : EReal) := by
  pointwise [k0_pay19, k0_pay18, k0_pay17, k0_pay16, k0_pay15]
  exact row_attend (score q k) ⟨512 + r.val, by omega⟩ 512 512 (by omega) (by show 512 + r.val < _; omega) (by show _ ≤ 512 + r.val; omega)
    _ _ (second_scores q k a b ha hb r) (second_before q k a b₀ ha hb₀ r) (fun j => v j e)
    (fun x => c₀ (ix2 x e)) (fun x => c (ix2 x e)) (fun x => hc₀ x e) (fun x => hc x e)

include ha hb hb₀ in
theorem second_lse (r : Fin 512) (e : Fin 128) : k0_pay20 (F := Ideal) k0_pay4 a b b₀ (ix2 r e) =
    ((Real.log (mass (score q k) ⟨512 + r.val, by omega⟩) : ℝ) : EReal) := by
  pointwise [k0_pay20, k0_pay18, k0_pay17, k0_pay16, k0_pay15]
  exact row_log (score q k) ⟨512 + r.val, by omega⟩ 512 512 (by omega) (by show 512 + r.val < _; omega) (by show _ ≤ 512 + r.val; omega)
    _ _ (second_scores q k a b ha hb r) (second_before q k a b₀ ha hb₀ r)
end

/-! ### The third tile -/

section
variable (a b : Vec Ideal S512x256 .bf16) (b₀ : Vec Ideal S1024x256 .bf16) (c₀ : Vec Ideal S1024x128 .bf16) (c : Vec Ideal S512x128 .bf16)
  (ha : ∀ (r : Fin 512) d, a (ix2 r d) = ((q ⟨1024 + r.val, by omega⟩ d : ℝ) : EReal))
  (hb : ∀ (r : Fin 512) d, b (ix2 r d) = ((k ⟨1024 + r.val, by omega⟩ d : ℝ) : EReal))
  (hb₀ : ∀ (r : Fin 1024) d, b₀ (ix2 r d) = ((k ⟨r.val, by omega⟩ d : ℝ) : EReal))
  (hc₀ : ∀ (r : Fin 1024) d, c₀ (ix2 r d) = ((v ⟨r.val, by omega⟩ d : ℝ) : EReal))
  (hc : ∀ (r : Fin 512) d, c (ix2 r d) = ((v ⟨1024 + r.val, by omega⟩ d : ℝ) : EReal))

include ha hb in
theorem third_scores (r x : Fin 512) : k0_pay22 (F := Ideal) k0_pay4 a b (ix2 r x) =
    if (⟨1024 + x.val, by omega⟩ : Fin 2048) ≤ ⟨1024 + r.val, by omega⟩ then
      ((score q k ⟨1024 + r.val, by omega⟩ ⟨1024 + x.val, by omega⟩ : ℝ) : EReal) else ⊥ := by
  rw [masked22]
  exact masked_real q k 1024 (by omega) r x (fun d => a (ix2 r d)) (fun d => b (ix2 x d)) (ha r) (hb x)

include ha hb₀ in
theorem third_before (r : Fin 512) (x : Fin 1024) : k0_pay23 (F := Ideal) a b₀ (ix2 r x) =
    ((score q k ⟨1024 + r.val, by omega⟩ ⟨x.val, by omega⟩ : ℝ) : EReal) := by
  rw [before23]
  exact dot_of_real _ _ (ha r) (hb₀ x)

include ha hb hb₀ hc₀ hc in
theorem third_out (r : Fin 512) (e : Fin 128) : k0_pay28 (F := Ideal) k0_pay4 a b b₀ c₀ c (ix2 r e) =
    ((attend (score q k) v ⟨1024 + r.val, by omega⟩ e : ℝ) : EReal) := by
  pointwise [k0_pay28, k0_pay27, k0_pay26, k0_pay25, k0_pay24]
  exact row_attend (score q k) ⟨1024 + r.val, by omega⟩ 1024 512 (by omega) (by show 1024 + r.val < _; omega) (by show _ ≤ 1024 + r.val; omega)
    _ _ (third_scores q k a b ha hb r) (third_before q k a b₀ ha hb₀ r) (fun j => v j e)
    (fun x => c₀ (ix2 x e)) (fun x => c (ix2 x e)) (fun x => hc₀ x e) (fun x => hc x e)

include ha hb hb₀ in
theorem third_lse (r : Fin 512) (e : Fin 128) : k0_pay29 (F := Ideal) (k0_pay24 k0_pay4 a b b₀) (k0_pay27 k0_pay4 a b b₀) (ix2 r e) =
    ((Real.log (mass (score q k) ⟨1024 + r.val, by omega⟩) : ℝ) : EReal) := by
  pointwise [k0_pay29, k0_pay27, k0_pay26, k0_pay25, k0_pay24]
  exact row_log (score q k) ⟨1024 + r.val, by omega⟩ 1024 512 (by omega) (by show 1024 + r.val < _; omega) (by show _ ≤ 1024 + r.val; omega)
    _ _ (third_scores q k a b ha hb r) (third_before q k a b₀ ha hb₀ r)
end

/-! ### The fourth tile -/

section
variable (a b : Vec Ideal S512x256 .bf16) (b₀ : Vec Ideal S1536x256 .bf16) (c₀ : Vec Ideal S1536x128 .bf16) (c : Vec Ideal S512x128 .bf16)
  (ha : ∀ (r : Fin 512) d, a (ix2 r d) = ((q ⟨1536 + r.val, by omega⟩ d : ℝ) : EReal))
  (hb : ∀ (r : Fin 512) d, b (ix2 r d) = ((k ⟨1536 + r.val, by omega⟩ d : ℝ) : EReal))
  (hb₀ : ∀ (r : Fin 1536) d, b₀ (ix2 r d) = ((k ⟨r.val, by omega⟩ d : ℝ) : EReal))
  (hc₀ : ∀ (r : Fin 1536) d, c₀ (ix2 r d) = ((v ⟨r.val, by omega⟩ d : ℝ) : EReal))
  (hc : ∀ (r : Fin 512) d, c (ix2 r d) = ((v ⟨1536 + r.val, by omega⟩ d : ℝ) : EReal))

include ha hb in
theorem fourth_scores (r x : Fin 512) : k0_pay31 (F := Ideal) k0_pay4 a b (ix2 r x) =
    if (⟨1536 + x.val, by omega⟩ : Fin 2048) ≤ ⟨1536 + r.val, by omega⟩ then
      ((score q k ⟨1536 + r.val, by omega⟩ ⟨1536 + x.val, by omega⟩ : ℝ) : EReal) else ⊥ := by
  rw [masked31]
  exact masked_real q k 1536 (by omega) r x (fun d => a (ix2 r d)) (fun d => b (ix2 x d)) (ha r) (hb x)

include ha hb₀ in
theorem fourth_before (r : Fin 512) (x : Fin 1536) : k0_pay32 (F := Ideal) a b₀ (ix2 r x) =
    ((score q k ⟨1536 + r.val, by omega⟩ ⟨x.val, by omega⟩ : ℝ) : EReal) := by
  rw [before32]
  exact dot_of_real _ _ (ha r) (hb₀ x)

include ha hb hb₀ hc₀ hc in
theorem fourth_out (r : Fin 512) (e : Fin 128) : k0_pay2 (F := Ideal) (k0_pay35 k0_pay4 a b b₀) (k0_pay36 k0_pay4 a b b₀ c₀) (k0_pay38 k0_pay4 a b b₀) (k0_pay39 k0_pay4 a b b₀) (k0_pay40 c) (ix2 r e) =
    ((attend (score q k) v ⟨1536 + r.val, by omega⟩ e : ℝ) : EReal) := by
  pointwise [k0_pay2, k0_pay1, k0_pay40, k0_pay39, k0_pay38, k0_pay37, k0_pay36, k0_pay35, k0_pay34, k0_pay33]
  exact row_attend (score q k) ⟨1536 + r.val, by omega⟩ 1536 512 (by omega) (by show 1536 + r.val < _; omega) (by show _ ≤ 1536 + r.val; omega)
    _ _ (fourth_scores q k a b ha hb r) (fourth_before q k a b₀ ha hb₀ r) (fun j => v j e)
    (fun x => c₀ (ix2 x e)) (fun x => c (ix2 x e)) (fun x => hc₀ x e) (fun x => hc x e)

include ha hb hb₀ in
theorem fourth_lse (r : Fin 512) (e : Fin 128) : k0_pay3 (F := Ideal) (k0_pay33 k0_pay4 a b b₀) (k0_pay35 k0_pay4 a b b₀) (k0_pay38 k0_pay4 a b b₀) (ix2 r e) =
    ((Real.log (mass (score q k) ⟨1536 + r.val, by omega⟩) : ℝ) : EReal) := by
  pointwise [k0_pay3, k0_pay1, k0_pay38, k0_pay37, k0_pay35, k0_pay34, k0_pay33]
  exact row_log (score q k) ⟨1536 + r.val, by omega⟩ 1536 512 (by omega) (by show 1536 + r.val < _; omega) (by show _ ≤ 1536 + r.val; omega)
    _ _ (fourth_scores q k a b ha hb r) (fourth_before q k a b₀ ha hb₀ r)
end

/-! ### The four tiles together -/

section
variable (x0 x1 : Vec Ideal S2048x256 .bf16) (x2 : Vec Ideal S2048x128 .bf16)
  (hq : ∀ i d, x0 (ix2 i d) = ((q i d : ℝ) : EReal)) (hk : ∀ i d, x1 (ix2 i d) = ((k i d : ℝ) : EReal))
  (hv : ∀ i e, x2 (ix2 i e) = ((v i e : ℝ) : EReal))

include hq hk hv in
/-- The forward call's first output: attention. -/
theorem out0_3_real (i : Fin 2048) (e : Fin 128) : out0_3 (F := Ideal) x0 x1 x2 (ix2 i e) = ((attend (score q k) v i e : ℝ) : EReal) := by
  unfold_out out0_3
  canon_tiles x h
  · obtain ⟨r, c, rfl⟩ : ∃ (r : Fin 512) (c : Fin 128), x = ix2 r c := ⟨x 0, x 1, by funext a; fin_cases a <;> rfl⟩
    have hr : 1536 + r.val < 2048 := by have := r.2; clear h0 h1 x0_lt x1_lt; omega
    rw [show i = ⟨1536 + r.val, hr⟩ from Fin.ext h0, show e = c from Fin.ext h1]
    exact fourth_out q k v _ _ _ _ _
      (fun r d => (ld_rows x0 _ (by omega) r d).trans (hq _ d))
      (fun r d => (ld_rows x1 _ (by omega) r d).trans (hk _ d))
      (fun r d => (ld_first x1 _ (by omega) r d).trans (hk _ d))
      (fun r d => (ld_first x2 _ (by omega) r d).trans (hv _ d))
      (fun r d => (ld_rows x2 _ (by omega) r d).trans (hv _ d)) r c
  · obtain ⟨r, c, rfl⟩ : ∃ (r : Fin 512) (c : Fin 128), x = ix2 r c := ⟨x 0, x 1, by funext a; fin_cases a <;> rfl⟩
    have hr : 1024 + r.val < 2048 := by have := r.2; clear h0 h1 x0_lt x1_lt; omega
    rw [show i = ⟨1024 + r.val, hr⟩ from Fin.ext h0, show e = c from Fin.ext h1]
    exact third_out q k v _ _ _ _ _
      (fun r d => (ld_rows x0 _ (by omega) r d).trans (hq _ d))
      (fun r d => (ld_rows x1 _ (by omega) r d).trans (hk _ d))
      (fun r d => (ld_first x1 _ (by omega) r d).trans (hk _ d))
      (fun r d => (ld_first x2 _ (by omega) r d).trans (hv _ d))
      (fun r d => (ld_rows x2 _ (by omega) r d).trans (hv _ d)) r c
  · obtain ⟨r, c, rfl⟩ : ∃ (r : Fin 512) (c : Fin 128), x = ix2 r c := ⟨x 0, x 1, by funext a; fin_cases a <;> rfl⟩
    have hr : 512 + r.val < 2048 := by have := r.2; clear h0 h1 x0_lt x1_lt; omega
    rw [show i = ⟨512 + r.val, hr⟩ from Fin.ext h0, show e = c from Fin.ext h1]
    exact second_out q k v _ _ _ _ _
      (fun r d => (cast11 _ r d).trans <| (ld_rows x0 _ (by omega) r d).trans (hq _ d))
      (fun r d => (cast12 _ r d).trans <| (ld_rows x1 _ (by omega) r d).trans (hk _ d))
      (fun r d => (ld_first x1 _ (by omega) r d).trans (hk _ d))
      (fun r d => (ld_first x2 _ (by omega) r d).trans (hv _ d))
      (fun r d => (ld_rows x2 _ (by omega) r d).trans (hv _ d)) r c
  · obtain ⟨r, c, rfl⟩ : ∃ (r : Fin 512) (c : Fin 128), x = ix2 r c := ⟨x 0, x 1, by funext a; fin_cases a <;> rfl⟩
    have hr : r.val < 2048 := by have := r.2; clear h0 h1 x0_lt x1_lt; omega
    rw [show i = ⟨r.val, hr⟩ from Fin.ext h0, show e = c from Fin.ext h1]
    exact first_out q k v _ _ _
      (fun r d => (ld_first x0 _ (by omega) r d).trans (hq _ d))
      (fun r d => (ld_first x1 _ (by omega) r d).trans (hk _ d))
      (fun r d => (ld_first x2 _ (by omega) r d).trans (hv _ d)) r c

include hq hk in
/-- The forward call's second output: each row's logarithm of its mass, in every column. -/
theorem out0_4_real (i : Fin 2048) (e : Fin 128) : out0_4 (F := Ideal) x0 x1 x2 (ix2 i e) = ((Real.log (mass (score q k) i) : ℝ) : EReal) := by
  unfold_out out0_4
  canon_tiles x h
  · obtain ⟨r, c, rfl⟩ : ∃ (r : Fin 512) (c : Fin 128), x = ix2 r c := ⟨x 0, x 1, by funext a; fin_cases a <;> rfl⟩
    have hr : 1536 + r.val < 2048 := by have := r.2; clear h0 h1 x0_lt x1_lt; omega
    rw [show i = ⟨1536 + r.val, hr⟩ from Fin.ext h0]
    exact fourth_lse q k _ _ _
      (fun r d => (ld_rows x0 _ (by omega) r d).trans (hq _ d))
      (fun r d => (ld_rows x1 _ (by omega) r d).trans (hk _ d))
      (fun r d => (ld_first x1 _ (by omega) r d).trans (hk _ d)) r c
  · obtain ⟨r, c, rfl⟩ : ∃ (r : Fin 512) (c : Fin 128), x = ix2 r c := ⟨x 0, x 1, by funext a; fin_cases a <;> rfl⟩
    have hr : 1024 + r.val < 2048 := by have := r.2; clear h0 h1 x0_lt x1_lt; omega
    rw [show i = ⟨1024 + r.val, hr⟩ from Fin.ext h0]
    exact third_lse q k _ _ _
      (fun r d => (ld_rows x0 _ (by omega) r d).trans (hq _ d))
      (fun r d => (ld_rows x1 _ (by omega) r d).trans (hk _ d))
      (fun r d => (ld_first x1 _ (by omega) r d).trans (hk _ d)) r c
  · obtain ⟨r, c, rfl⟩ : ∃ (r : Fin 512) (c : Fin 128), x = ix2 r c := ⟨x 0, x 1, by funext a; fin_cases a <;> rfl⟩
    have hr : 512 + r.val < 2048 := by have := r.2; clear h0 h1 x0_lt x1_lt; omega
    rw [show i = ⟨512 + r.val, hr⟩ from Fin.ext h0]
    exact second_lse q k _ _ _
      (fun r d => (cast11 _ r d).trans <| (ld_rows x0 _ (by omega) r d).trans (hq _ d))
      (fun r d => (cast12 _ r d).trans <| (ld_rows x1 _ (by omega) r d).trans (hk _ d))
      (fun r d => (ld_first x1 _ (by omega) r d).trans (hk _ d)) r c
  · obtain ⟨r, c, rfl⟩ : ∃ (r : Fin 512) (c : Fin 128), x = ix2 r c := ⟨x 0, x 1, by funext a; fin_cases a <;> rfl⟩
    have hr : r.val < 2048 := by have := r.2; clear h0 h1 x0_lt x1_lt; omega
    rw [show i = ⟨r.val, hr⟩ from Fin.ext h0]
    exact first_lse q k _ _
      (fun r d => (ld_first x0 _ (by omega) r d).trans (hq _ d))
      (fun r d => (ld_first x1 _ (by omega) r d).trans (hk _ d)) r c
end

end Cert.KernelIdeal.Value

end
-- ==== Proof.Spec.lean ====
/-
  The mathematics of the whole call: causal attention over two batch entries and eight heads, and its gradient. The four
  results are stored as matrices whose rows are the positions of both batch entries and whose columns are the heads' columns;
  the gradients of queries and keys have each head's 192 columns padded to 256 with zeros.
-/
module

public import proofs.«01_k».proof.Proof.Causal

@[expose] public section

noncomputable section
open Idealize.ShloMosaic
namespace Cert.Causal

/-- Where a row and a column of a result lie: batch entry, position, head, column of the head. -/
def batch (r : Fin 4096) : Fin 2 := ⟨r.val / 2048, by omega⟩
def pos (r : Fin 4096) : Fin 2048 := ⟨r.val % 2048, by omega⟩
def head (d : Fin 2048) : Fin 8 := ⟨d.val / 256, by omega⟩
def col (d : Fin 2048) : Fin 256 := ⟨d.val % 256, by omega⟩
def vhead (e : Fin 1024) : Fin 8 := ⟨e.val / 128, by omega⟩
def vcol (e : Fin 1024) : Fin 128 := ⟨e.val % 128, by omega⟩

variable (q k : Fin 2 → Fin 2048 → Fin 8 → Fin 192 → ℝ) (v g : Fin 2 → Fin 2048 → Fin 8 → Fin 128 → ℝ)

/-- One head's scaled queries, its columns padded with zeros. -/
def headQ (b : Fin 2) (h : Fin 8) (i : Fin 2048) (d : Fin 256) : ℝ := if hd : d.val < 192 then q b i h ⟨d.val, hd⟩ * scale else 0
/-- One head's keys, its columns padded with zeros. -/
def headK (b : Fin 2) (h : Fin 8) (j : Fin 2048) (d : Fin 256) : ℝ := if hd : d.val < 192 then k b j h ⟨d.val, hd⟩ else 0
/-- One head's values, or the gradients of its results. -/
def headV (b : Fin 2) (h : Fin 8) (j : Fin 2048) (e : Fin 128) : ℝ := v b j h e

/-- One head's scores. -/
def scores (b : Fin 2) (h : Fin 8) : Fin 2048 → Fin 2048 → ℝ := score (headQ q b h) (headK k b h)

def attnAt (b : Fin 2) (h : Fin 8) (i : Fin 2048) (e : Fin 128) : ℝ := attend (scores q k b h) (headV v b h) i e
def dqAt (b : Fin 2) (h : Fin 8) (i : Fin 2048) (d : Fin 256) : ℝ :=
  (∑ j, dscore (scores q k b h) (headV v b h) (headV g b h) i j * headK k b h j d) * scale
def dkAt (b : Fin 2) (h : Fin 8) (j : Fin 2048) (d : Fin 256) : ℝ :=
  ∑ i, dscore (scores q k b h) (headV v b h) (headV g b h) i j * headQ q b h i d
def dvAt (b : Fin 2) (h : Fin 8) (j : Fin 2048) (e : Fin 128) : ℝ := ∑ i, prob (scores q k b h) i j * headV g b h i e

/-- The four results, element by element. -/
def resO (r : Fin 4096) (e : Fin 1024) : EReal := ((attnAt q k v (batch r) (vhead e) (pos r) (vcol e) : ℝ) : EReal)
def resDq (r : Fin 4096) (d : Fin 2048) : EReal := ((dqAt q k v g (batch r) (head d) (pos r) (col d) : ℝ) : EReal)
def resDk (r : Fin 4096) (d : Fin 2048) : EReal := ((dkAt q k v g (batch r) (head d) (pos r) (col d) : ℝ) : EReal)
def resDv (r : Fin 4096) (e : Fin 1024) : EReal := ((dvAt q k g (batch r) (vhead e) (pos r) (vcol e) : ℝ) : EReal)
/-- The logarithm of a row's mass, the same in every column of its head. -/
def resL (r : Fin 4096) (e : Fin 1024) : EReal := ((Real.log (mass (scores q k (batch r) (vhead e)) (pos r)) : ℝ) : EReal)

end Cert.Causal

end
-- ==== Proof.Backward.lean ====
/-
  What one step of the backward call's grid leaves in its three outputs, of blocks of real numbers of which one holds the
  forward pass's attention and one the logarithms of its masses: the gradients of attention (`Cert.Causal.dscore`). The
  call takes its 2048 rows in four tiles of 512; a tile's keys are all those up to its end, masked. The gradients of the
  keys and values are added up in two accumulators, each tile adding to the rows its keys fill.
-/
module

public import proofs.«01_k».proof.Proof.Loads
public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.KernelIdeal.Value
open Cert.KernelIdeal Cert.KernelIdeal.Gen Cert.Causal

/-! ### Real numbers -/

theorem in0 (r : Fin 512) : r.val < 2048 := by omega
theorem in1 (r : Fin 512) : 512 + r.val < 2048 := by omega
theorem in2 (r : Fin 512) : 1024 + r.val < 2048 := by omega
theorem in3 (r : Fin 512) : 1536 + r.val < 2048 := by omega
theorem upto0 (j : Fin 512) : j.val < 2048 := by omega
theorem upto1 (j : Fin 1024) : j.val < 2048 := by omega
theorem upto2 (j : Fin 1536) : j.val < 2048 := by omega

variable (q k : Fin 2048 → Fin 256 → ℝ) (v g : Fin 2048 → Fin 128 → ℝ)

/-- A weight recomputed from the logarithm of its row's mass. -/
theorem prob_real (i j : Fin 2048) (a b : Fin 256 → EReal) (l : EReal) (ha : ∀ d, a d = ((q i d : ℝ) : EReal))
    (hb : ∀ d, b d = ((k j d : ℝ) : EReal)) (hl : l = ((Real.log (mass (score q k) i) : ℝ) : EReal)) :
    (if j.val ≤ i.val then Ideal.exp (∑ d, a d * b d - l) else 0) = ((prob (score q k) i j : ℝ) : EReal) := by
  by_cases h : j ≤ i
  · rw [if_pos (Fin.le_def.1 h), dot_of_real _ _ ha hb, hl, ← EReal.coe_sub, Ideal.exp_coe]
    exact congrArg _ (exp_sub_log_mass (score q k) h)
  · rw [if_neg (fun h' => h (Fin.le_def.2 h')), prob_later _ (not_le.1 h), EReal.coe_zero]

/-- The gradient of a score: its weight times what the row's gradient says of the key's value, less the row's average. -/
theorem dscore_real (i j : Fin 2048) (p : EReal) (x y z : Fin 128 → EReal) (hp : p = ((prob (score q k) i j : ℝ) : EReal))
    (hx : ∀ e, x e = ((g i e : ℝ) : EReal)) (hy : ∀ e, y e = ((v j e : ℝ) : EReal))
    (hz : ∀ e, z e = ((attend (score q k) v i e : ℝ) : EReal)) :
    p * (∑ e, x e * y e - ∑ e, x e * z e) = ((dscore (score q k) v g i j : ℝ) : EReal) := by
  rw [hp, dot_of_real _ _ hx hy, dot_of_real _ _ hx hz, ← EReal.coe_sub, ← EReal.coe_mul, dscore]

/-- A sum over all rows, tile by tile. -/
theorem four_tiles (f : Fin 2048 → ℝ) :
    ∑ i, f i = (∑ r : Fin 512, f ⟨r.val, in0 r⟩) + (∑ r : Fin 512, f ⟨512 + r.val, in1 r⟩)
      + (∑ r : Fin 512, f ⟨1024 + r.val, in2 r⟩) + ∑ r : Fin 512, f ⟨1536 + r.val, in3 r⟩ := by
  rw [Fin.sum_univ_tiles 4 512 rfl, Fin.sum_univ_four]
  simp

/-- An accumulator after one more tile: the tile adds to the rows its keys fill, and nothing to the others. -/
theorem acc_step {n w : ℕ} {σ : RefSig} {κ : Kind} {sp : Space} (u : View σ κ sp ⟨2, ![2048, w]⟩ .f32) (inb) (hn : n ≤ 2048)
    (P : (Rect.unit (s := ⟨2, ![2048, w]⟩) ![0, 0] ![n, w] inb).shape.Idx → Elt Ideal .f32)
    (L : List (View.Piece (Elt Ideal) ⟨2, ![2048, w]⟩ .f32)) (A S : Fin 2048 → Fin w → ℝ)
    (hA : ∀ i d, View.canon L (ix2 i d) = ((A i d : ℝ) : EReal))
    (hP : ∀ (x : Fin n) d, P (ix2 x d) =
      (u.readCov L (Rect.unit (s := ⟨2, ![2048, w]⟩) ![0, 0] ![n, w] inb).toLoadRect (ix2 x d) : EReal) + ((S (headRow hn x) d : ℝ) : EReal))
    (hS : ∀ i d, n ≤ i.val → S i d = 0) (i : Fin 2048) (d : Fin w) :
    View.canon (⟨Rect.unit (s := ⟨2, ![2048, w]⟩) ![0, 0] ![n, w] inb, P⟩ :: L) (ix2 i d) = ((A i d + S i d : ℝ) : EReal) := by
  rw [canon_first_rows]
  by_cases h : i.val < n
  · rw [dif_pos h, hP, readCov_first_rows u L inb hn, hA, EReal.coe_add]
  · rw [dif_neg h, hA, hS i d (by omega), add_zero]

/-! ### The first tile -/

section
variable (a : Vec Ideal S512x256 .bf16) (b : Vec Ideal S512x256 .bf16) (l : Vec Ideal S512x1 .f32) (x y : Vec Ideal S512x128 .bf16)
  (w : Vec Ideal S512x128 .bf16)
  (ha : ∀ (r : Fin 512) d, a (ix2 r d) = ((q ⟨r.val, in0 r⟩ d : ℝ) : EReal))
  (hb : ∀ (j : Fin 512) d, b (ix2 j d) = ((k ⟨j.val, upto0 j⟩ d : ℝ) : EReal))
  (hl : ∀ r : Fin 512, l (ix2 r 0) = ((Real.log (mass (score q k) ⟨r.val, in0 r⟩) : ℝ) : EReal))
  (hx : ∀ (r : Fin 512) e, x (ix2 r e) = ((g ⟨r.val, in0 r⟩ e : ℝ) : EReal))
  (hw : ∀ (j : Fin 512) e, w (ix2 j e) = ((v ⟨j.val, upto0 j⟩ e : ℝ) : EReal))
  (hy : ∀ (r : Fin 512) e, y (ix2 r e) = ((attend (score q k) v ⟨r.val, in0 r⟩ e : ℝ) : EReal))

include ha hb hl in
theorem t0_prob (r : Fin 512) (j : Fin 512) : k1_pay8 (F := Ideal) a b l (ix2 r j) = ((prob (score q k) ⟨r.val, in0 r⟩ ⟨j.val, upto0 j⟩ : ℝ) : EReal) := by
  pointwise [k1_pay8, k1_pay5, k1_pay7]
  refine (causal_select j r 0 (by omega) r.2 (by omega) _ _).trans ?_
  have h := prob_real q k ⟨r.val, in0 r⟩ ⟨j.val, upto0 j⟩ _ _ _ (ha r) (hb j) (hl r)
  simpa only [Nat.zero_add] using h

include ha hb hl hx hw hy in
theorem t0_dscore (r : Fin 512) (j : Fin 512) : k1_pay12 (F := Ideal) (k1_pay8 a b l) (k1_pay9 x w) (k1_pay10 x) (k1_pay11 y) (ix2 r j) =
    ((dscore (score q k) v g ⟨r.val, in0 r⟩ ⟨j.val, upto0 j⟩ : ℝ) : EReal) := by
  pointwise [k1_pay12, k1_pay11, k1_pay10, k1_pay9, k1_pay6]
  exact dscore_real q k v g ⟨r.val, in0 r⟩ ⟨j.val, upto0 j⟩ _ _ _ _ (t0_prob q k a b l ha hb hl r j) (hx r) (hw j) (hy r)

include ha hb hl hx hw hy in
theorem t0_dq (r : Fin 512) (d : Fin 256) : k1_pay13 (F := Ideal) (k1_pay7 b) (k1_pay8 a b l) (k1_pay9 x w) (k1_pay10 x) (k1_pay11 y) (ix2 r d) =
    (((∑ j, dscore (score q k) v g ⟨r.val, in0 r⟩ j * k j d) * scale : ℝ) : EReal) := by
  pointwise [k1_pay13, k1_pay7]
  rw [EReal.coe_mul, ← scale_coe]
  refine congrArg (· * _) ((dot_of_real _ _ (fun j => t0_dscore q k v g a b l x y w ha hb hl hx hw hy r j) (fun j => hb j d)).trans ?_)
  exact congrArg _ (prefix_sum 512 (by omega) (fun j => dscore (score q k) v g ⟨r.val, in0 r⟩ j * k j d) _ (fun j => rfl)
    (fun j hj => by rw [dscore_later _ v g (Fin.lt_def.2 (by show r.val < j.val; omega)), zero_mul]))

include ha hb hl hx hw hy in
theorem t0_dk (A : Vec Ideal S512x256 .f32) (j : Fin 512) (d : Fin 256) : k1_pay14 (F := Ideal) (k1_pay5 a) (k1_pay8 a b l) (k1_pay9 x w) (k1_pay10 x) (k1_pay11 y) A (ix2 j d) =
    (A (ix2 j d) : EReal) + ((∑ r : Fin 512, dscore (score q k) v g ⟨r.val, in0 r⟩ ⟨j.val, upto0 j⟩ * q ⟨r.val, in0 r⟩ d : ℝ) : EReal) := by
  pointwise [k1_pay14, k1_pay5]
  exact congrArg (_ + ·) (dot_of_real _ _ (fun r => t0_dscore q k v g a b l x y w ha hb hl hx hw hy r j) (fun r => ha r d))

include ha hb hl hx in
theorem t0_dv (A : Vec Ideal S512x128 .f32) (j : Fin 512) (e : Fin 128) : k1_pay15 (F := Ideal) (k1_pay6 x) (k1_pay8 a b l) A (ix2 j e) =
    (A (ix2 j e) : EReal) + ((∑ r : Fin 512, prob (score q k) ⟨r.val, in0 r⟩ ⟨j.val, upto0 j⟩ * g ⟨r.val, in0 r⟩ e : ℝ) : EReal) := by
  pointwise [k1_pay15, k1_pay6]
  exact congrArg (_ + ·) (dot_of_real _ _ (fun r => t0_prob q k a b l ha hb hl r j) (fun r => hx r e))

end

/-! ### The second tile -/

section
variable (a : Vec Ideal S512x256 .bf16) (b : Vec Ideal S1024x256 .bf16) (l : Vec Ideal S512x1 .f32) (x y : Vec Ideal S512x128 .bf16)
  (w : Vec Ideal S1024x128 .bf16)
  (ha : ∀ (r : Fin 512) d, a (ix2 r d) = ((q ⟨512 + r.val, in1 r⟩ d : ℝ) : EReal))
  (hb : ∀ (j : Fin 1024) d, b (ix2 j d) = ((k ⟨j.val, upto1 j⟩ d : ℝ) : EReal))
  (hl : ∀ r : Fin 512, l (ix2 r 0) = ((Real.log (mass (score q k) ⟨512 + r.val, in1 r⟩) : ℝ) : EReal))
  (hx : ∀ (r : Fin 512) e, x (ix2 r e) = ((g ⟨512 + r.val, in1 r⟩ e : ℝ) : EReal))
  (hw : ∀ (j : Fin 1024) e, w (ix2 j e) = ((v ⟨j.val, upto1 j⟩ e : ℝ) : EReal))
  (hy : ∀ (r : Fin 512) e, y (ix2 r e) = ((attend (score q k) v ⟨512 + r.val, in1 r⟩ e : ℝ) : EReal))

include ha hb hl in
theorem t1_prob (r : Fin 512) (j : Fin 1024) : k1_pay21 (F := Ideal) (k1_pay19 a b) (iota Kind.tc S512x1024 32 [0] iota_S512x1024_d0_w32) k1_pay20 l (ix2 r j) = ((prob (score q k) ⟨512 + r.val, in1 r⟩ ⟨j.val, upto1 j⟩ : ℝ) : EReal) := by
  pointwise [k1_pay21, k1_pay20, k1_pay19, k1_pay18, k1_pay16]
  refine (causal_select j r 512 (by omega) r.2 (by omega) _ _).trans ?_
  have h := prob_real q k ⟨512 + r.val, in1 r⟩ ⟨j.val, upto1 j⟩ _ _ _ (ha r) (hb j) (hl r)
  exact h

include ha hb hl hx hw hy in
theorem t1_dscore (r : Fin 512) (j : Fin 1024) : k1_pay22 (F := Ideal) (k1_pay17 x) (k1_pay19 a b) (iota Kind.tc S512x1024 32 [0] iota_S512x1024_d0_w32) k1_pay20 l w y (ix2 r j) =
    ((dscore (score q k) v g ⟨512 + r.val, in1 r⟩ ⟨j.val, upto1 j⟩ : ℝ) : EReal) := by
  pointwise [k1_pay22, k1_pay17]
  exact dscore_real q k v g ⟨512 + r.val, in1 r⟩ ⟨j.val, upto1 j⟩ _ _ _ _ (t1_prob q k a b l ha hb hl r j) (hx r) (hw j) (hy r)

include ha hb hl hx hw hy in
theorem t1_dq (r : Fin 512) (d : Fin 256) : k1_pay23 (F := Ideal) (k1_pay17 x) (k1_pay18 b) (k1_pay19 a b) (iota Kind.tc S512x1024 32 [0] iota_S512x1024_d0_w32) k1_pay20 l w y (ix2 r d) =
    (((∑ j, dscore (score q k) v g ⟨512 + r.val, in1 r⟩ j * k j d) * scale : ℝ) : EReal) := by
  pointwise [k1_pay23, k1_pay18]
  rw [EReal.coe_mul, ← scale_coe]
  refine congrArg (· * _) ((dot_of_real _ _ (fun j => t1_dscore q k v g a b l x y w ha hb hl hx hw hy r j) (fun j => hb j d)).trans ?_)
  exact congrArg _ (prefix_sum 1024 (by omega) (fun j => dscore (score q k) v g ⟨512 + r.val, in1 r⟩ j * k j d) _ (fun j => rfl)
    (fun j hj => by rw [dscore_later _ v g (Fin.lt_def.2 (by show 512 + r.val < j.val; omega)), zero_mul]))

include ha hb hl hx hw hy in
theorem t1_dk (A : Vec Ideal S1024x256 .f32) (j : Fin 1024) (d : Fin 256) : k1_pay24 (F := Ideal) (k1_pay16 a) (k1_pay17 x) (k1_pay19 a b) (iota Kind.tc S512x1024 32 [0] iota_S512x1024_d0_w32) k1_pay20 l w y A (ix2 j d) =
    (A (ix2 j d) : EReal) + ((∑ r : Fin 512, dscore (score q k) v g ⟨512 + r.val, in1 r⟩ ⟨j.val, upto1 j⟩ * q ⟨512 + r.val, in1 r⟩ d : ℝ) : EReal) := by
  pointwise [k1_pay24, k1_pay16]
  exact congrArg (_ + ·) (dot_of_real _ _ (fun r => t1_dscore q k v g a b l x y w ha hb hl hx hw hy r j) (fun r => ha r d))

include ha hb hl hx in
theorem t1_dv (A : Vec Ideal S1024x128 .f32) (j : Fin 1024) (e : Fin 128) : k1_pay26 (F := Ideal) (k1_pay17 x) A (k1_pay25 (k1_pay19 a b) (iota Kind.tc S512x1024 32 [0] iota_S512x1024_d0_w32) k1_pay20 l) (constant S1024x128 .f32 0x00000000#32) (ix2 j e) =
    (A (ix2 j e) : EReal) + ((∑ r : Fin 512, prob (score q k) ⟨512 + r.val, in1 r⟩ ⟨j.val, upto1 j⟩ * g ⟨512 + r.val, in1 r⟩ e : ℝ) : EReal) := by
  pointwise [k1_pay26, k1_pay25, k1_pay17]
  exact congrArg (_ + ·) (dot_of_real _ _ (fun r => t1_prob q k a b l ha hb hl r j) (fun r => hx r e))

end

/-! ### The third tile -/

section
variable (a : Vec Ideal S512x256 .bf16) (b : Vec Ideal S1536x256 .bf16) (l : Vec Ideal S512x1 .f32) (x y : Vec Ideal S512x128 .bf16)
  (w : Vec Ideal S1536x128 .bf16)
  (ha : ∀ (r : Fin 512) d, a (ix2 r d) = ((q ⟨1024 + r.val, in2 r⟩ d : ℝ) : EReal))
  (hb : ∀ (j : Fin 1536) d, b (ix2 j d) = ((k ⟨j.val, upto2 j⟩ d : ℝ) : EReal))
  (hl : ∀ r : Fin 512, l (ix2 r 0) = ((Real.log (mass (score q k) ⟨1024 + r.val, in2 r⟩) : ℝ) : EReal))
  (hx : ∀ (r : Fin 512) e, x (ix2 r e) = ((g ⟨1024 + r.val, in2 r⟩ e : ℝ) : EReal))
  (hw : ∀ (j : Fin 1536) e, w (ix2 j e) = ((v ⟨j.val, upto2 j⟩ e : ℝ) : EReal))
  (hy : ∀ (r : Fin 512) e, y (ix2 r e) = ((attend (score q k) v ⟨1024 + r.val, in2 r⟩ e : ℝ) : EReal))

include ha hb hl in
theorem t2_prob (r : Fin 512) (j : Fin 1536) : k1_pay30 (F := Ideal) a b l (ix2 r j) = ((prob (score q k) ⟨1024 + r.val, in2 r⟩ ⟨j.val, upto2 j⟩ : ℝ) : EReal) := by
  pointwise [k1_pay30, k1_pay29, k1_pay27]
  refine (causal_select j r 1024 (by omega) r.2 (by omega) _ _).trans ?_
  have h := prob_real q k ⟨1024 + r.val, in2 r⟩ ⟨j.val, upto2 j⟩ _ _ _ (ha r) (hb j) (hl r)
  exact h

include ha hb hl hx hw hy in
theorem t2_dscore (r : Fin 512) (j : Fin 1536) : k1_pay31 (F := Ideal) a x b l w y (ix2 r j) =
    ((dscore (score q k) v g ⟨1024 + r.val, in2 r⟩ ⟨j.val, upto2 j⟩ : ℝ) : EReal) := by
  pointwise [k1_pay31, k1_pay28]
  exact dscore_real q k v g ⟨1024 + r.val, in2 r⟩ ⟨j.val, upto2 j⟩ _ _ _ _ (t2_prob q k a b l ha hb hl r j) (hx r) (hw j) (hy r)

include ha hb hl hx hw hy in
theorem t2_dq (r : Fin 512) (d : Fin 256) : k1_pay33 (F := Ideal) (k1_pay32 a x b l w y) (ix2 r d) =
    (((∑ j, dscore (score q k) v g ⟨1024 + r.val, in2 r⟩ j * k j d) * scale : ℝ) : EReal) := by
  pointwise [k1_pay33, k1_pay32, k1_pay29]
  rw [EReal.coe_mul, ← scale_coe]
  refine congrArg (· * _) ((dot_of_real _ _ (fun j => t2_dscore q k v g a b l x y w ha hb hl hx hw hy r j) (fun j => hb j d)).trans ?_)
  exact congrArg _ (prefix_sum 1536 (by omega) (fun j => dscore (score q k) v g ⟨1024 + r.val, in2 r⟩ j * k j d) _ (fun j => rfl)
    (fun j hj => by rw [dscore_later _ v g (Fin.lt_def.2 (by show 1024 + r.val < j.val; omega)), zero_mul]))

include ha hb hl hx hw hy in
theorem t2_dk (A : Vec Ideal S1536x256 .f32) (j : Fin 1536) (d : Fin 256) : k1_pay34 (F := Ideal) (k1_pay27 a) (k1_pay31 a x b l w y) A (ix2 j d) =
    (A (ix2 j d) : EReal) + ((∑ r : Fin 512, dscore (score q k) v g ⟨1024 + r.val, in2 r⟩ ⟨j.val, upto2 j⟩ * q ⟨1024 + r.val, in2 r⟩ d : ℝ) : EReal) := by
  pointwise [k1_pay34, k1_pay27]
  exact congrArg (_ + ·) (dot_of_real _ _ (fun r => t2_dscore q k v g a b l x y w ha hb hl hx hw hy r j) (fun r => ha r d))

include ha hb hl hx in
theorem t2_dv (A : Vec Ideal S1536x128 .f32) (j : Fin 1536) (e : Fin 128) : k1_pay35 (F := Ideal) (k1_pay28 x) (k1_pay30 a b l) A (ix2 j e) =
    (A (ix2 j e) : EReal) + ((∑ r : Fin 512, prob (score q k) ⟨1024 + r.val, in2 r⟩ ⟨j.val, upto2 j⟩ * g ⟨1024 + r.val, in2 r⟩ e : ℝ) : EReal) := by
  pointwise [k1_pay35, k1_pay28]
  exact congrArg (_ + ·) (dot_of_real _ _ (fun r => t2_prob q k a b l ha hb hl r j) (fun r => hx r e))

end

/-! ### The fourth tile -/

section
variable (a : Vec Ideal S512x256 .bf16) (b : Vec Ideal S2048x256 .bf16) (l : Vec Ideal S512x1 .f32) (x y : Vec Ideal S512x128 .bf16)
  (w : Vec Ideal S2048x128 .bf16)
  (ha : ∀ (r : Fin 512) d, a (ix2 r d) = ((q ⟨1536 + r.val, in3 r⟩ d : ℝ) : EReal))
  (hb : ∀ (j : Fin 2048) d, b (ix2 j d) = ((k ⟨j.val, j.2⟩ d : ℝ) : EReal))
  (hl : ∀ r : Fin 512, l (ix2 r 0) = ((Real.log (mass (score q k) ⟨1536 + r.val, in3 r⟩) : ℝ) : EReal))
  (hx : ∀ (r : Fin 512) e, x (ix2 r e) = ((g ⟨1536 + r.val, in3 r⟩ e : ℝ) : EReal))
  (hw : ∀ (j : Fin 2048) e, w (ix2 j e) = ((v ⟨j.val, j.2⟩ e : ℝ) : EReal))
  (hy : ∀ (r : Fin 512) e, y (ix2 r e) = ((attend (score q k) v ⟨1536 + r.val, in3 r⟩ e : ℝ) : EReal))

include ha hb hl in
theorem t3_prob (r : Fin 512) (j : Fin 2048) : k1_pay41 (F := Ideal) k1_pay39 (k1_pay40 a b l) (ix2 r j) = ((prob (score q k) ⟨1536 + r.val, in3 r⟩ ⟨j.val, j.2⟩ : ℝ) : EReal) := by
  pointwise [k1_pay41, k1_pay40, k1_pay39, k1_pay38, k1_pay36]
  refine (causal_select j r 1536 (by omega) r.2 (by omega) _ _).trans ?_
  have h := prob_real q k ⟨1536 + r.val, in3 r⟩ ⟨j.val, j.2⟩ _ _ _ (ha r) (hb j) (hl r)
  exact h

include ha hb hl hx hw hy in
theorem t3_dscore (r : Fin 512) (j : Fin 2048) : k1_pay42 (F := Ideal) (k1_pay37 x) k1_pay39 (k1_pay40 a b l) w y (ix2 r j) =
    ((dscore (score q k) v g ⟨1536 + r.val, in3 r⟩ ⟨j.val, j.2⟩ : ℝ) : EReal) := by
  pointwise [k1_pay42, k1_pay37]
  exact dscore_real q k v g ⟨1536 + r.val, in3 r⟩ ⟨j.val, j.2⟩ _ _ _ _ (t3_prob q k a b l ha hb hl r j) (hx r) (hw j) (hy r)

include ha hb hl hx hw hy in
theorem t3_dq (r : Fin 512) (d : Fin 256) : k1_pay43 (F := Ideal) (k1_pay37 x) (k1_pay38 b) k1_pay39 (k1_pay40 a b l) w y (ix2 r d) =
    (((∑ j, dscore (score q k) v g ⟨1536 + r.val, in3 r⟩ j * k j d) * scale : ℝ) : EReal) := by
  pointwise [k1_pay43, k1_pay38]
  rw [EReal.coe_mul, ← scale_coe]
  refine congrArg (· * _) ((dot_of_real _ _ (fun j => t3_dscore q k v g a b l x y w ha hb hl hx hw hy r j) (fun j => hb j d)).trans ?_)
  exact congrArg _ (prefix_sum 2048 (by omega) (fun j => dscore (score q k) v g ⟨1536 + r.val, in3 r⟩ j * k j d) _ (fun j => rfl)
    (fun j hj => by rw [dscore_later _ v g (Fin.lt_def.2 (by show 1536 + r.val < j.val; omega)), zero_mul]))

include ha hb hl hx hw hy in
theorem t3_dk (A : Vec Ideal S2048x256 .f32) (j : Fin 2048) (d : Fin 256) : k1_pay44 (F := Ideal) (k1_pay36 a) (k1_pay37 x) k1_pay39 (k1_pay40 a b l) w y A (ix2 j d) =
    (A (ix2 j d) : EReal) + ((∑ r : Fin 512, dscore (score q k) v g ⟨1536 + r.val, in3 r⟩ ⟨j.val, j.2⟩ * q ⟨1536 + r.val, in3 r⟩ d : ℝ) : EReal) := by
  pointwise [k1_pay44, k1_pay36]
  exact congrArg (_ + ·) (dot_of_real _ _ (fun r => t3_dscore q k v g a b l x y w ha hb hl hx hw hy r j) (fun r => ha r d))

set_option maxHeartbeats 2000000 in
include ha hb hl hx in
theorem t3_dv (A : Vec Ideal S2048x128 .f32) (j : Fin 2048) (e : Fin 128) : k1_pay45 (F := Ideal) (k1_pay37 x) k1_pay39 (k1_pay40 a b l) A (ix2 j e) =
    (A (ix2 j e) : EReal) + ((∑ r : Fin 512, prob (score q k) ⟨1536 + r.val, in3 r⟩ ⟨j.val, j.2⟩ * g ⟨1536 + r.val, in3 r⟩ e : ℝ) : EReal) := by
  pointwise [k1_pay45, k1_pay37]
  exact congrArg (_ + ·) (dot_of_real _ _ (fun r => t3_prob q k a b l ha hb hl r j) (fun r => hx r e))

end

end Cert.KernelIdeal.Value

end
-- ==== Proof.BackwardStep.lean ====
/-
  The three outputs of one step of the backward call's grid, whole: the gradients of the queries, keys and values of one
  batch entry and head.
-/
module

public import proofs.«01_k».proof.Proof.Backward

@[expose] public section

set_option maxRecDepth 16384
noncomputable section
open Idealize.ShloMosaic Idealize.ShloMosaic.TcCoe Idealize.SL.Sem
namespace Cert.KernelIdeal.Value
open Cert.KernelIdeal Cert.KernelIdeal.Gen Cert.Causal

theorem pay1_apply (x : Vec Ideal S2048x256 .f32) (i : Fin 2048) (d : Fin 256) : k1_pay1 (F := Ideal) x (ix2 i d) = x (ix2 i d) := by
  pointwise [k1_pay1]

theorem pay2_apply (x : Vec Ideal S2048x128 .f32) (i : Fin 2048) (d : Fin 128) : k1_pay2 (F := Ideal) x (ix2 i d) = x (ix2 i d) := by
  pointwise [k1_pay2]

theorem pay3_apply (i : Fin 2048) (d : Fin 256) : k1_pay3 (F := Ideal) (ix2 i d) = (0 : EReal) := by
  pointwise [k1_pay3]

theorem pay4_apply (i : Fin 2048) (d : Fin 128) : k1_pay4 (F := Ideal) (ix2 i d) = (0 : EReal) := by
  pointwise [k1_pay4]

/-- The part of each of the four tiles in a sum over all rows. -/
def part0 (f : Fin 2048 → ℝ) : ℝ := ∑ r : Fin 512, f ⟨r.val, in0 r⟩
def part1 (f : Fin 2048 → ℝ) : ℝ := ∑ r : Fin 512, f ⟨512 + r.val, in1 r⟩
def part2 (f : Fin 2048 → ℝ) : ℝ := ∑ r : Fin 512, f ⟨1024 + r.val, in2 r⟩
def part3 (f : Fin 2048 → ℝ) : ℝ := ∑ r : Fin 512, f ⟨1536 + r.val, in3 r⟩

variable (V : (c : Dev nD) → (b : Ref sig .tc) → Buf (Elt Ideal) ((c : Thread nD τ).loc b))
variable (q k : Fin 2048 → Fin 256 → ℝ) (v g : Fin 2048 → Fin 128 → ℝ) (c : Dev nD) (t : Fin cfg1.N)
  (hq : ∀ (i : Fin 2048) (d : Fin 256), iblk1 V c 0 t (ix2 i d) = ((q i d : ℝ) : EReal))
  (hk : ∀ (i : Fin 2048) (d : Fin 256), iblk1 V c 1 t (ix2 i d) = ((k i d : ℝ) : EReal))
  (hv : ∀ (i : Fin 2048) (e : Fin 128), iblk1 V c 2 t (ix2 i e) = ((v i e : ℝ) : EReal))
  (ho : ∀ (i : Fin 2048) (e : Fin 128), iblk1 V c 3 t (ix2 i e) = ((attend (score q k) v i e : ℝ) : EReal))
  (hg : ∀ (i : Fin 2048) (e : Fin 128), iblk1 V c 4 t (ix2 i e) = ((g i e : ℝ) : EReal))
  (hl : ∀ (i : Fin 2048) (e : Fin 128), iblk1 V c 5 t (ix2 i e) = ((Real.log (mass (score q k) i) : ℝ) : EReal))

/-- An accumulator read whole, and a last tile added to it. -/
theorem acc_last {w : ℕ} {σ : RefSig} {κ : Kind} {sp : Space} (u : View σ κ sp ⟨2, ![2048, w]⟩ .f32) (inb)
    (L : List (View.Piece (Elt Ideal) ⟨2, ![2048, w]⟩ .f32)) (A B : Fin 2048 → Fin w → ℝ)
    (hA : ∀ i d, View.canon L (ix2 i d) = ((A i d : ℝ) : EReal)) (i : Fin 2048) (d : Fin w) :
    (u.readCov L (Rect.unit (s := ⟨2, ![2048, w]⟩) ![0, 0] ![2048, w] inb).toLoadRect (ix2 i d) : EReal) + ((B i d : ℝ) : EReal) =
      ((A i d + B i d : ℝ) : EReal) := by
  rw [readCov_first_rows u L inb le_rfl, EReal.coe_add]
  exact congrArg (· + _) (hA i d)

theorem ld_col (x : Vec Ideal S2048x128 .f32) {o : ℕ} (inb) (h : ∀ r : Fin 512, o + r.val < 2048) (r : Fin 512) :
    View.ld x (Rect.unit (s := S2048x128) ![o, 0] ![512, 1] inb) (ix2 r 0) = x (ix2 ⟨o + r.val, h r⟩ 0) := by
  refine View.ld_unit_apply_of x _ _ inb (ix2 r 0) (ix2 ⟨o + r.val, h r⟩ 0) fun a => ?_
  fin_cases a
  · rfl
  · rfl

theorem ld_col₀ (x : Vec Ideal S2048x128 .f32) (inb) (r : Fin 512) :
    View.ld x (Rect.unit (s := S2048x128) ![0, 0] ![512, 1] inb) (ix2 r 0) = x (ix2 ⟨r.val, in0 r⟩ 0) := by
  rw [ld_col x inb (fun r => by omega)]; simp only [Nat.zero_add]

include hq hk hv ho hg hl in
/-- The gradient of the scaled queries, scaled. -/
theorem after_dq (i : Fin 2048) (d : Fin 256) : (dat1 V c).after 6 t (ix2 i d) =
    (((∑ j, dscore (score q k) v g i j * k j d) * scale : ℝ) : EReal) := by
  rw [after1_6]
  unfold outsAt1
  frame_out
  canon_tiles x h
  · obtain ⟨r, c', rfl⟩ : ∃ (r : Fin 512) (c : Fin 256), x = ix2 r c := ⟨x 0, x 1, by funext a; fin_cases a <;> rfl⟩
    rw [show i = ⟨1536 + r.val, in3 r⟩ from Fin.ext h0, show d = c' from Fin.ext h1]
    exact t3_dq q k v g _ _ _ _ _ _
        (fun r d => (ld_rows (iblk1 V c 0 t) _ (by omega) r d).trans (hq _ d))
        (fun r d => hk r d)
        (fun r => (ld_col (iblk1 V c 5 t) _ in3 r).trans (hl _ _))
        (fun r d => (ld_rows (iblk1 V c 4 t) _ (by omega) r d).trans (hg _ d))
        (fun r d => hv r d)
        (fun r d => (ld_rows (iblk1 V c 3 t) _ (by omega) r d).trans (ho _ d)) r c'
  · obtain ⟨r, c', rfl⟩ : ∃ (r : Fin 512) (c : Fin 256), x = ix2 r c := ⟨x 0, x 1, by funext a; fin_cases a <;> rfl⟩
    rw [show i = ⟨1024 + r.val, in2 r⟩ from Fin.ext h0, show d = c' from Fin.ext h1]
    exact t2_dq q k v g _ _ _ _ _ _
        (fun r d => (ld_rows (iblk1 V c 0 t) _ (by omega) r d).trans (hq _ d))
        (fun r d => (ld_first (iblk1 V c 1 t) _ (by omega) r d).trans (hk _ d))
        (fun r => (ld_col (iblk1 V c 5 t) _ in2 r).trans (hl _ _))
        (fun r d => (ld_rows (iblk1 V c 4 t) _ (by omega) r d).trans (hg _ d))
        (fun r d => (ld_first (iblk1 V c 2 t) _ (by omega) r d).trans (hv _ d))
        (fun r d => (ld_rows (iblk1 V c 3 t) _ (by omega) r d).trans (ho _ d)) r c'
  · obtain ⟨r, c', rfl⟩ : ∃ (r : Fin 512) (c : Fin 256), x = ix2 r c := ⟨x 0, x 1, by funext a; fin_cases a <;> rfl⟩
    rw [show i = ⟨512 + r.val, in1 r⟩ from Fin.ext h0, show d = c' from Fin.ext h1]
    exact t1_dq q k v g _ _ _ _ _ _
        (fun r d => (ld_rows (iblk1 V c 0 t) _ (by omega) r d).trans (hq _ d))
        (fun r d => (ld_first (iblk1 V c 1 t) _ (by omega) r d).trans (hk _ d))
        (fun r => (ld_col (iblk1 V c 5 t) _ in1 r).trans (hl _ _))
        (fun r d => (ld_rows (iblk1 V c 4 t) _ (by omega) r d).trans (hg _ d))
        (fun r d => (ld_first (iblk1 V c 2 t) _ (by omega) r d).trans (hv _ d))
        (fun r d => (ld_rows (iblk1 V c 3 t) _ (by omega) r d).trans (ho _ d)) r c'
  · obtain ⟨r, c', rfl⟩ : ∃ (r : Fin 512) (c : Fin 256), x = ix2 r c := ⟨x 0, x 1, by funext a; fin_cases a <;> rfl⟩
    rw [show i = ⟨r.val, in0 r⟩ from Fin.ext h0, show d = c' from Fin.ext h1]
    exact t0_dq q k v g _ _ _ _ _ _
        (fun r d => (ld_first (iblk1 V c 0 t) _ (by omega) r d).trans (hq _ d))
        (fun r d => (ld_first (iblk1 V c 1 t) _ (by omega) r d).trans (hk _ d))
        (fun r => (ld_col₀ (iblk1 V c 5 t) _ r).trans (hl _ _))
        (fun r d => (ld_first (iblk1 V c 4 t) _ (by omega) r d).trans (hg _ d))
        (fun r d => (ld_first (iblk1 V c 2 t) _ (by omega) r d).trans (hv _ d))
        (fun r d => (ld_first (iblk1 V c 3 t) _ (by omega) r d).trans (ho _ d)) r c'

/-- What row `i` gives the gradient of key `j`. -/
def dkTerm (j : Fin 2048) (d : Fin 256) (i : Fin 2048) : ℝ := dscore (score q k) v g i j * q i d

theorem dkTerm_later {i j : Fin 2048} (h : i < j) (d : Fin 256) : dkTerm q k v g j d i = 0 := by
  rw [dkTerm, dscore_later _ v g h, zero_mul]

include hq hk hv ho hg hl in
/-- The gradient of the keys: every row's part, tile by tile. -/
theorem after_dk (j : Fin 2048) (d : Fin 256) : (dat1 V c).after 7 t (ix2 j d) =
    ((∑ i, dscore (score q k) v g i j * q i d : ℝ) : EReal) := by
  rw [after1_7]
  unfold outsAt1
  frame_out
  refine Eq.trans (pay1_apply _ j d) ?_
  refine Eq.trans (t3_dk q k v g _ _ _ _ _ _
    (fun r d => (ld_rows (iblk1 V c 0 t) _ (by omega) r d).trans (hq _ d))
        (fun r d => hk r d)
        (fun r => (ld_col (iblk1 V c 5 t) _ in3 r).trans (hl _ _))
        (fun r d => (ld_rows (iblk1 V c 4 t) _ (by omega) r d).trans (hg _ d))
        (fun r d => hv r d)
        (fun r d => (ld_rows (iblk1 V c 3 t) _ (by omega) r d).trans (ho _ d)) _ j d) ?_
  refine Eq.trans (acc_last _ _ _ (fun j d => 0 + part0 (dkTerm q k v g j d) + part1 (dkTerm q k v g j d) + part2 (dkTerm q k v g j d)) (fun j d => part3 (dkTerm q k v g j d)) ?_ j d)
    (congrArg _ ((congrArg (· + _ + _ + _) (zero_add _)).trans (four_tiles (dkTerm q k v g j d)).symm))
  intro j d
  refine acc_step _ _ (by omega) _ _ (fun j d => 0 + part0 (dkTerm q k v g j d) + part1 (dkTerm q k v g j d)) (fun j d => part2 (dkTerm q k v g j d)) ?_
    (fun x d => t2_dk q k v g _ _ _ _ _ _
        (fun r d => (ld_rows (iblk1 V c 0 t) _ (by omega) r d).trans (hq _ d))
        (fun r d => (ld_first (iblk1 V c 1 t) _ (by omega) r d).trans (hk _ d))
        (fun r => (ld_col (iblk1 V c 5 t) _ in2 r).trans (hl _ _))
        (fun r d => (ld_rows (iblk1 V c 4 t) _ (by omega) r d).trans (hg _ d))
        (fun r d => (ld_first (iblk1 V c 2 t) _ (by omega) r d).trans (hv _ d))
        (fun r d => (ld_rows (iblk1 V c 3 t) _ (by omega) r d).trans (ho _ d)) _ x d)
    (fun j d hj => Finset.sum_eq_zero fun r _ => dkTerm_later q k v g (Fin.lt_def.2 (by show 1024 + r.val < j.val; omega)) d) j d
  intro j d
  refine acc_step _ _ (by omega) _ _ (fun j d => 0 + part0 (dkTerm q k v g j d)) (fun j d => part1 (dkTerm q k v g j d)) ?_
    (fun x d => t1_dk q k v g _ _ _ _ _ _
        (fun r d => (ld_rows (iblk1 V c 0 t) _ (by omega) r d).trans (hq _ d))
        (fun r d => (ld_first (iblk1 V c 1 t) _ (by omega) r d).trans (hk _ d))
        (fun r => (ld_col (iblk1 V c 5 t) _ in1 r).trans (hl _ _))
        (fun r d => (ld_rows (iblk1 V c 4 t) _ (by omega) r d).trans (hg _ d))
        (fun r d => (ld_first (iblk1 V c 2 t) _ (by omega) r d).trans (hv _ d))
        (fun r d => (ld_rows (iblk1 V c 3 t) _ (by omega) r d).trans (ho _ d)) _ x d)
    (fun j d hj => Finset.sum_eq_zero fun r _ => dkTerm_later q k v g (Fin.lt_def.2 (by show 512 + r.val < j.val; omega)) d) j d
  intro j d
  refine acc_step _ _ (by omega) _ _ (fun j d => 0) (fun j d => part0 (dkTerm q k v g j d)) ?_
    (fun x d => t0_dk q k v g _ _ _ _ _ _
        (fun r d => (ld_first (iblk1 V c 0 t) _ (by omega) r d).trans (hq _ d))
        (fun r d => (ld_first (iblk1 V c 1 t) _ (by omega) r d).trans (hk _ d))
        (fun r => (ld_col₀ (iblk1 V c 5 t) _ r).trans (hl _ _))
        (fun r d => (ld_first (iblk1 V c 4 t) _ (by omega) r d).trans (hg _ d))
        (fun r d => (ld_first (iblk1 V c 2 t) _ (by omega) r d).trans (hv _ d))
        (fun r d => (ld_first (iblk1 V c 3 t) _ (by omega) r d).trans (ho _ d)) _ x d)
    (fun j d hj => Finset.sum_eq_zero fun r _ => dkTerm_later q k v g (Fin.lt_def.2 (by show r.val < j.val; omega)) d) j d
  intro j d
  refine Eq.trans (canon_first_rows _ _ _ j d) ?_
  rw [dif_pos j.2]
  exact (pay3_apply _ _).trans EReal.coe_zero.symm

/-- What row `i` gives the gradient of value `j`. -/
def dvTerm (j : Fin 2048) (d : Fin 128) (i : Fin 2048) : ℝ := prob (score q k) i j * g i d

theorem dvTerm_later {i j : Fin 2048} (h : i < j) (d : Fin 128) : dvTerm q k g j d i = 0 := by
  rw [dvTerm, prob_later _ h, zero_mul]

include hq hk hg hl in
/-- The gradient of the values: every row's part, tile by tile. -/
theorem after_dv (j : Fin 2048) (d : Fin 128) : (dat1 V c).after 8 t (ix2 j d) =
    ((∑ i, prob (score q k) i j * g i d : ℝ) : EReal) := by
  rw [after1_8]
  unfold outsAt1
  frame_out
  refine Eq.trans (pay2_apply _ j d) ?_
  refine Eq.trans (t3_dv q k g _ _ _ _
    (fun r d => (ld_rows (iblk1 V c 0 t) _ (by omega) r d).trans (hq _ d))
        (fun r d => hk r d)
        (fun r => (ld_col (iblk1 V c 5 t) _ in3 r).trans (hl _ _))
        (fun r d => (ld_rows (iblk1 V c 4 t) _ (by omega) r d).trans (hg _ d)) _ j d) ?_
  refine Eq.trans (acc_last _ _ _ (fun j d => 0 + part0 (dvTerm q k g j d) + part1 (dvTerm q k g j d) + part2 (dvTerm q k g j d)) (fun j d => part3 (dvTerm q k g j d)) ?_ j d)
    (congrArg _ ((congrArg (· + _ + _ + _) (zero_add _)).trans (four_tiles (dvTerm q k g j d)).symm))
  intro j d
  refine acc_step _ _ (by omega) _ _ (fun j d => 0 + part0 (dvTerm q k g j d) + part1 (dvTerm q k g j d)) (fun j d => part2 (dvTerm q k g j d)) ?_
    (fun x d => t2_dv q k g _ _ _ _
        (fun r d => (ld_rows (iblk1 V c 0 t) _ (by omega) r d).trans (hq _ d))
        (fun r d => (ld_first (iblk1 V c 1 t) _ (by omega) r d).trans (hk _ d))
        (fun r => (ld_col (iblk1 V c 5 t) _ in2 r).trans (hl _ _))
        (fun r d => (ld_rows (iblk1 V c 4 t) _ (by omega) r d).trans (hg _ d)) _ x d)
    (fun j d hj => Finset.sum_eq_zero fun r _ => dvTerm_later q k g (Fin.lt_def.2 (by show 1024 + r.val < j.val; omega)) d) j d
  intro j d
  refine acc_step _ _ (by omega) _ _ (fun j d => 0 + part0 (dvTerm q k g j d)) (fun j d => part1 (dvTerm q k g j d)) ?_
    (fun x d => t1_dv q k g _ _ _ _
        (fun r d => (ld_rows (iblk1 V c 0 t) _ (by omega) r d).trans (hq _ d))
        (fun r d => (ld_first (iblk1 V c 1 t) _ (by omega) r d).trans (hk _ d))
        (fun r => (ld_col (iblk1 V c 5 t) _ in1 r).trans (hl _ _))
        (fun r d => (ld_rows (iblk1 V c 4 t) _ (by omega) r d).trans (hg _ d)) _ x d)
    (fun j d hj => Finset.sum_eq_zero fun r _ => dvTerm_later q k g (Fin.lt_def.2 (by show 512 + r.val < j.val; omega)) d) j d
  intro j d
  refine acc_step _ _ (by omega) _ _ (fun j d => 0) (fun j d => part0 (dvTerm q k g j d)) ?_
    (fun x d => t0_dv q k g _ _ _ _
        (fun r d => (ld_first (iblk1 V c 0 t) _ (by omega) r d).trans (hq _ d))
        (fun r d => (ld_first (iblk1 V c 1 t) _ (by omega) r d).trans (hk _ d))
        (fun r => (ld_col₀ (iblk1 V c 5 t) _ r).trans (hl _ _))
        (fun r d => (ld_first (iblk1 V c 4 t) _ (by omega) r d).trans (hg _ d)) _ x d)
    (fun j d hj => Finset.sum_eq_zero fun r _ => dvTerm_later q k g (Fin.lt_def.2 (by show r.val < j.val; omega)) d) j d
  intro j d
  refine Eq.trans (canon_first_rows _ _ _ j d) ?_
  rw [dif_pos j.2]
  exact (pay4_apply _ _).trans EReal.coe_zero.symm

end Cert.KernelIdeal.Value

end
-- ==== Proof.KernelArrays.lean ====
/-
  The kernel's arrays: what its host operations hand the two calls, block by block, and what the calls leave.
-/
module

public import proofs.«01_k».proof.Proof.Forward
public import proofs.«01_k».proof.Proof.BackwardStep
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Causal

theorem idx0 : ∀ t : Fin cfg0.N, win0_0.index t = ![t.val / 8, t.val % 8] ∧ win0_1.index t = ![t.val / 8, t.val % 8] ∧ win0_2.index t = ![t.val / 8, t.val % 8]
    ∧ win0_3.index t = ![t.val / 8, t.val % 8] ∧ win0_4.index t = ![t.val / 8, t.val % 8] ∧ t.val < 16 :=
  (by decide +kernel : ∀ t : Fin grid0.N, _)

theorem idx1 : ∀ t : Fin cfg1.N, win1_0.index t = ![t.val / 8, t.val % 8] ∧ win1_1.index t = ![t.val / 8, t.val % 8] ∧ win1_2.index t = ![t.val / 8, t.val % 8]
    ∧ win1_3.index t = ![t.val / 8, t.val % 8] ∧ win1_4.index t = ![t.val / 8, t.val % 8] ∧ win1_5.index t = ![t.val / 8, t.val % 8]
    ∧ win1_6.index t = ![t.val / 8, t.val % 8] ∧ win1_7.index t = ![t.val / 8, t.val % 8] ∧ win1_8.index t = ![t.val / 8, t.val % 8] ∧ t.val < 16 :=
  (by decide +kernel : ∀ t : Fin grid1.N, _)

/-- The batch entry and the head a step of a grid is for. -/
def tb (t : ℕ) (h : t < 16) : Fin 2 := ⟨t / 8, Nat.div_lt_of_lt_mul h⟩
def th (t : ℕ) : Fin 8 := ⟨t % 8, Nat.mod_lt _ (Nat.succ_pos 7)⟩
/-- The array's row and column of a block's row and column. -/
theorem row_lt {t : ℕ} (h : t < 16) (i : Fin 2048) : t / 8 * 2048 + i.val < 4096 := by omega
theorem col_lt (t : ℕ) (d : Fin 256) : t % 8 * 256 + d.val < 2048 := by omega
theorem vcol_lt (t : ℕ) (d : Fin 128) : t % 8 * 128 + d.val < 1024 := by omega
def arow (t : ℕ) (h : t < 16) (i : Fin 2048) : Fin 4096 := ⟨t / 8 * 2048 + i.val, row_lt h i⟩
def acol (t : ℕ) (d : Fin 256) : Fin 2048 := ⟨t % 8 * 256 + d.val, col_lt t d⟩
def avcol (t : ℕ) (d : Fin 128) : Fin 1024 := ⟨t % 8 * 128 + d.val, vcol_lt t d⟩

theorem batch_arow (t : ℕ) (h : t < 16) (i : Fin 2048) : batch (arow t h i) = tb t h := Fin.ext (by show (t / 8 * 2048 + i.val) / 2048 = t / 8; omega)
theorem pos_arow (t : ℕ) (h : t < 16) (i : Fin 2048) : pos (arow t h i) = i := Fin.ext (by show (t / 8 * 2048 + i.val) % 2048 = i.val; omega)
theorem head_acol (t : ℕ) (d : Fin 256) : head (acol t d) = th t := Fin.ext (by show (t % 8 * 256 + d.val) / 256 = t % 8; omega)
theorem col_acol (t : ℕ) (d : Fin 256) : col (acol t d) = d := Fin.ext (by show (t % 8 * 256 + d.val) % 256 = d.val; omega)
theorem vhead_avcol (t : ℕ) (d : Fin 128) : vhead (avcol t d) = th t := Fin.ext (by show (t % 8 * 128 + d.val) / 128 = t % 8; omega)
theorem vcol_avcol (t : ℕ) (d : Fin 128) : vcol (avcol t d) = d := Fin.ext (by show (t % 8 * 128 + d.val) % 128 = d.val; omega)

section Blocks
variable (V : (c : Dev nD) → (b : Ref sig .tc) → Buf (Elt Ideal) ((c : Thread nD τ).loc b)) (c : Dev nD)

theorem lt0 (t : Fin cfg0.N) : t.val < 16 := (idx0 t).2.2.2.2.2
theorem lt1 (t : Fin cfg1.N) : t.val < 16 := (idx1 t).2.2.2.2.2.2.2.2.2

theorem blk0_0 (t : Fin cfg0.N) (i : Fin 2048) (d : Fin 256) : iblk0 V c 0 t (ix2 i d) = V c main_v4 (ix2 (arow t.val (lt0 t) i) (acol t.val d)) := by
  blk_ext [iblk0, idx0 t, arow, acol]
theorem blk0_1 (t : Fin cfg0.N) (i : Fin 2048) (d : Fin 256) : iblk0 V c 1 t (ix2 i d) = V c main_v7 (ix2 (arow t.val (lt0 t) i) (acol t.val d)) := by
  blk_ext [iblk0, idx0 t, arow, acol]
theorem blk0_2 (t : Fin cfg0.N) (i : Fin 2048) (d : Fin 128) : iblk0 V c 2 t (ix2 i d) = V c main_v9 (ix2 (arow t.val (lt0 t) i) (avcol t.val d)) := by
  blk_ext [iblk0, idx0 t, arow, avcol]
theorem blk1_0 (t : Fin cfg1.N) (i : Fin 2048) (d : Fin 256) : iblk1 V c 0 t (ix2 i d) = V c main_v4 (ix2 (arow t.val (lt1 t) i) (acol t.val d)) := by
  blk_ext [iblk1, idx1 t, arow, acol]
theorem blk1_1 (t : Fin cfg1.N) (i : Fin 2048) (d : Fin 256) : iblk1 V c 1 t (ix2 i d) = V c main_v7 (ix2 (arow t.val (lt1 t) i) (acol t.val d)) := by
  blk_ext [iblk1, idx1 t, arow, acol]
theorem blk1_2 (t : Fin cfg1.N) (i : Fin 2048) (d : Fin 128) : iblk1 V c 2 t (ix2 i d) = V c main_v9 (ix2 (arow t.val (lt1 t) i) (avcol t.val d)) := by
  blk_ext [iblk1, idx1 t, arow, avcol]
theorem blk1_3 (t : Fin cfg1.N) (i : Fin 2048) (d : Fin 128) : iblk1 V c 3 t (ix2 i d) = V c main_v12_0 (ix2 (arow t.val (lt1 t) i) (avcol t.val d)) := by
  blk_ext [iblk1, idx1 t, arow, avcol]
theorem blk1_4 (t : Fin cfg1.N) (i : Fin 2048) (d : Fin 128) : iblk1 V c 4 t (ix2 i d) = V c main_v11 (ix2 (arow t.val (lt1 t) i) (avcol t.val d)) := by
  blk_ext [iblk1, idx1 t, arow, avcol]
theorem blk1_5 (t : Fin cfg1.N) (i : Fin 2048) (d : Fin 128) : iblk1 V c 5 t (ix2 i d) = V c main_v12_1 (ix2 (arow t.val (lt1 t) i) (avcol t.val d)) := by
  blk_ext [iblk1, idx1 t, arow, avcol]

end Blocks

section Host
variable (m : (ℓ : Loc nD τ sig) → Buf (Elt Ideal) ℓ) (ρ : Dev nD → PrngReg)
variable (q k : Fin 2 → Fin 2048 → Fin 8 → Fin 192 → ℝ) (v g : Fin 2 → Fin 2048 → Fin 8 → Fin 128 → ℝ) (c : Dev nD)
  (hq : ∀ b i h d, m ((c : Thread nD τ).loc main_arg0) (ix4 b i h d) = ((q b i h d : ℝ) : EReal))
  (hk : ∀ b i h d, m ((c : Thread nD τ).loc main_arg1) (ix4 b i h d) = ((k b i h d : ℝ) : EReal))
  (hv : ∀ b i h d, m ((c : Thread nD τ).loc main_arg2) (ix4 b i h d) = ((v b i h d : ℝ) : EReal))
  (hg : ∀ b i h d, m ((c : Thread nD τ).loc main_arg3) (ix4 b i h d) = ((g b i h d : ℝ) : EReal))

theorem headQ_lt (b h i) (d : Fin 256) (hd : d.val < 192) : headQ q b h i d = q b i h ⟨d.val, hd⟩ * scale := dif_pos hd
theorem headQ_ge (b h i) (d : Fin 256) (hd : ¬ d.val < 192) : headQ q b h i d = 0 := dif_neg hd
theorem headK_lt (b h i) (d : Fin 256) (hd : d.val < 192) : headK k b h i d = k b i h ⟨d.val, hd⟩ := dif_pos hd
theorem headK_ge (b h i) (d : Fin 256) (hd : ¬ d.val < 192) : headK k b h i d = 0 := dif_neg hd

theorem sitofp_zero : (FloatOps.sitofp (F := Ideal) .f32 (0#32) : EReal) = 0 := by
  show (((((0#32 : BitVec 32)).toInt : ℤ) : ℝ) : EReal) = 0
  simp

include hv in
theorem v9_at (r : Fin 4096) (e : Fin 1024) : V5 m ρ c main_v9 (ix2 r e) = ((headV v (batch r) (vhead e) (pos r) (vcol e) : ℝ) : EReal) := by
  unfold_abbrev_sides
  after_results
  pointwise
  exact hv _ _ _ _

include hg in
theorem v11_at (r : Fin 4096) (e : Fin 1024) : V5 m ρ c main_v11 (ix2 r e) = ((headV g (batch r) (vhead e) (pos r) (vcol e) : ℝ) : EReal) := by
  unfold_abbrev_sides
  after_results
  pointwise
  exact hg _ _ _ _

include hq in
theorem v4_at (r : Fin 4096) (d : Fin 2048) : V5 m ρ c main_v4 (ix2 r d) = ((headQ q (batch r) (head d) (pos r) (col d) : ℝ) : EReal) := by
  unfold_abbrev_sides
  after_results
  pointwise
  simp only [StableHlo.TRef.toBuf, StableHlo.TRef.ofBuf, cast_eq]
  pointwise
  split
  · rename_i h
    refine Eq.trans ?_ (congrArg (fun z : ℝ => (z : EReal)) (headQ_lt q (batch r) (head d) (pos r) (col d) h.2.2.2).symm)
    refine Eq.trans ?_ (EReal.coe_mul _ _).symm
    refine Eq.trans (congrArg (fun z : EReal => z * Ideal.ofBits .f32 0x3D93CD3A#32) (hq (batch r) (pos r) (head d) ⟨d.val % 256, h.2.2.2⟩)) (congrArg (fun z : EReal => _ * z) scale_coe)
  · rename_i h
    refine Eq.trans ?_ (congrArg (fun z : ℝ => (z : EReal)) (headQ_ge q (batch r) (head d) (pos r) (col d)
      (fun h' => h ⟨by omega, by omega, by omega, h'⟩)).symm)
    exact sitofp_zero.trans EReal.coe_zero.symm

include hk in
theorem v7_at (r : Fin 4096) (d : Fin 2048) : V5 m ρ c main_v7 (ix2 r d) = ((headK k (batch r) (head d) (pos r) (col d) : ℝ) : EReal) := by
  unfold_abbrev_sides
  after_results
  pointwise
  simp only [StableHlo.TRef.toBuf, StableHlo.TRef.ofBuf, cast_eq]
  pointwise
  split
  · rename_i h
    refine Eq.trans ?_ (congrArg (fun z : ℝ => (z : EReal)) (headK_lt k (batch r) (head d) (pos r) (col d) h.2.2.2).symm)
    skip
    exact hk (batch r) (pos r) (head d) ⟨d.val % 256, h.2.2.2⟩
  · rename_i h
    refine Eq.trans ?_ (congrArg (fun z : ℝ => (z : EReal)) (headK_ge k (batch r) (head d) (pos r) (col d)
      (fun h' => h ⟨by omega, by omega, by omega, h'⟩)).symm)
    exact sitofp_zero.trans EReal.coe_zero.symm

/-! ### The forward call -/

include hq hk hv in
/-- One step's attention, and the logarithms of its masses. -/
theorem after0_o (t : Fin cfg0.N) (i : Fin 2048) (e : Fin 128) :
    (dat0 (V5 m ρ) c).after 3 t (ix2 i e) = ((attnAt q k v (tb t.val (lt0 t)) (th t.val) i e : ℝ) : EReal) := by
  rw [after0_3]
  exact out0_3_real (headQ q (tb t.val (lt0 t)) (th t.val)) (headK k (tb t.val (lt0 t)) (th t.val)) (headV v (tb t.val (lt0 t)) (th t.val)) _ _ _
    (fun i d => by rw [blk0_0, v4_at m ρ q c hq, batch_arow, pos_arow, head_acol, col_acol])
    (fun i d => by rw [blk0_1, v7_at m ρ k c hk, batch_arow, pos_arow, head_acol, col_acol])
    (fun i d => by rw [blk0_2, v9_at m ρ v c hv, batch_arow, pos_arow, vhead_avcol, vcol_avcol]) i e

include hq hk in
theorem after0_l (t : Fin cfg0.N) (i : Fin 2048) (e : Fin 128) :
    (dat0 (V5 m ρ) c).after 4 t (ix2 i e) = ((Real.log (mass (scores q k (tb t.val (lt0 t)) (th t.val)) i) : ℝ) : EReal) := by
  rw [after0_4]
  exact out0_4_real (headQ q (tb t.val (lt0 t)) (th t.val)) (headK k (tb t.val (lt0 t)) (th t.val)) _ _ _
    (fun i d => by rw [blk0_0, v4_at m ρ q c hq, batch_arow, pos_arow, head_acol, col_acol])
    (fun i d => by rw [blk0_1, v7_at m ρ k c hk, batch_arow, pos_arow, head_acol, col_acol]) i e

/-- Where a block's element lies in its array. -/
theorem emb0_3 (t : Fin cfg0.N) (i : Fin 2048) (d : Fin 128) : ((cfg0.win 3).blk t).view.emb (ix2 i d) = ix2 (arow t.val (lt0 t) i) (avcol t.val d) := by
  blk_ext [idx0 t, arow, avcol]

include hq hk hv in
theorem arr_o : (dat0 (V5 m ρ) c).arrAt 3 cfg0.N = fun j : S4096x1024.Idx => resO q k v (j 0) (j 1) := by
  refine (dat0 (V5 m ρ) c).arrAt_eq_of_covers 3 _ (by decide +kernel) fun t hf y => ?_
  blk_simp
  idx_vars y
  have e0 : ((View.whole main_v12_0).slice (win0_3.rect t)).emb (ix2 y0 y1) = ix2 (arow t.val (lt0 t) y0) (avcol t.val y1) := emb0_3 t y0 y1
  rw [e0]
  refine (after0_o m ρ q k v c hq hk hv t y0 y1).trans ?_
  show _ = resO q k v (arow t.val (lt0 t) y0) (avcol t.val y1)
  rw [resO, batch_arow, pos_arow, vhead_avcol, vcol_avcol]

end Host

end Cert.KernelIdeal.Value

end
-- ==== Proof.KernelRun.lean ====
/-
  The kernel's run: the four results after both calls.
-/
module

public import proofs.«01_k».proof.Proof.KernelArrays

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Causal

variable (m : (ℓ : Loc nD τ sig) → Buf (Elt Ideal) ℓ) (ρ : Dev nD → PrngReg)
variable (q k : Fin 2 → Fin 2048 → Fin 8 → Fin 192 → ℝ) (v g : Fin 2 → Fin 2048 → Fin 8 → Fin 128 → ℝ) (c : Dev nD)
  (hq : ∀ b i h d, m ((c : Thread nD τ).loc main_arg0) (ix4 b i h d) = ((q b i h d : ℝ) : EReal))
  (hk : ∀ b i h d, m ((c : Thread nD τ).loc main_arg1) (ix4 b i h d) = ((k b i h d : ℝ) : EReal))
  (hv : ∀ b i h d, m ((c : Thread nD τ).loc main_arg2) (ix4 b i h d) = ((v b i h d : ℝ) : EReal))
  (hg : ∀ b i h d, m ((c : Thread nD τ).loc main_arg3) (ix4 b i h d) = ((g b i h d : ℝ) : EReal))

theorem emb0_4 (t : Fin cfg0.N) (i : Fin 2048) (d : Fin 128) : ((cfg0.win 4).blk t).view.emb (ix2 i d) = ix2 (arow t.val (lt0 t) i) (avcol t.val d) := by
  blk_ext [idx0 t, arow, avcol]

include hq hk in
theorem arr_l : (dat0 (V5 m ρ) c).arrAt 4 cfg0.N = fun j : S4096x1024.Idx => resL q k (j 0) (j 1) := by
  refine (dat0 (V5 m ρ) c).arrAt_eq_of_covers 4 _ (by decide +kernel) fun t hf y => ?_
  blk_simp
  idx_vars y
  have e0 : ((View.whole main_v12_1).slice (win0_4.rect t)).emb (ix2 y0 y1) = ix2 (arow t.val (lt0 t) y0) (avcol t.val y1) := emb0_4 t y0 y1
  rw [e0]
  refine (after0_l m ρ q k c hq hk t y0 y1).trans ?_
  show _ = resL q k (arow t.val (lt0 t) y0) (avcol t.val y1)
  rw [resL, batch_arow, pos_arow, vhead_avcol]

/-! ### What the backward call is handed -/

theorem V7_kept (r : Ref sig .tc) (h1 : r ∉ hostOps1_W) (h0 : ∀ w : Fin cfg0.W, Pipeline.arrRef spec0 w = r → (cfg0.win w).isOut = false) :
    V7 m ρ c r = V5 m ρ c r :=
  (W7_of m ρ c r h1).trans (W6_of m ρ c r h0)

theorem V7_v4 : V7 m ρ c main_v4 = V5 m ρ c main_v4 := V7_kept m ρ c main_v4 (by decide) (by decide +kernel)
theorem V7_v7 : V7 m ρ c main_v7 = V5 m ρ c main_v7 := V7_kept m ρ c main_v7 (by decide) (by decide +kernel)
theorem V7_v9 : V7 m ρ c main_v9 = V5 m ρ c main_v9 := V7_kept m ρ c main_v9 (by decide) (by decide +kernel)
theorem V7_v11 : V7 m ρ c main_v11 = V5 m ρ c main_v11 := V7_kept m ρ c main_v11 (by decide) (by decide +kernel)

include hq hk hv in
theorem V7_o : V7 m ρ c main_v12_0 = fun j : S4096x1024.Idx => resO q k v (j 0) (j 1) :=
  (W7_of m ρ c main_v12_0 (by decide)).trans ((W6_arr m ρ c 3).trans (arr_o m ρ q k v c hq hk hv))

include hq hk in
theorem V7_l : V7 m ρ c main_v12_1 = fun j : S4096x1024.Idx => resL q k (j 0) (j 1) :=
  (W7_of m ρ c main_v12_1 (by decide)).trans ((W6_arr m ρ c 4).trans (arr_l m ρ q k c hq hk))

/-! ### The backward call's blocks -/

variable (t : Fin cfg1.N)

include hq in
theorem b_q (i : Fin 2048) (d : Fin 256) : iblk1 (V7 m ρ) c 0 t (ix2 i d) = ((headQ q (tb t.val (lt1 t)) (th t.val) i d : ℝ) : EReal) := by
  rw [blk1_0, V7_v4, v4_at m ρ q c hq, batch_arow, pos_arow, head_acol, col_acol]
include hk in
theorem b_k (i : Fin 2048) (d : Fin 256) : iblk1 (V7 m ρ) c 1 t (ix2 i d) = ((headK k (tb t.val (lt1 t)) (th t.val) i d : ℝ) : EReal) := by
  rw [blk1_1, V7_v7, v7_at m ρ k c hk, batch_arow, pos_arow, head_acol, col_acol]
include hv in
theorem b_v (i : Fin 2048) (d : Fin 128) : iblk1 (V7 m ρ) c 2 t (ix2 i d) = ((headV v (tb t.val (lt1 t)) (th t.val) i d : ℝ) : EReal) := by
  rw [blk1_2, V7_v9, v9_at m ρ v c hv, batch_arow, pos_arow, vhead_avcol, vcol_avcol]
include hg in
theorem b_g (i : Fin 2048) (d : Fin 128) : iblk1 (V7 m ρ) c 4 t (ix2 i d) = ((headV g (tb t.val (lt1 t)) (th t.val) i d : ℝ) : EReal) := by
  rw [blk1_4, V7_v11, v11_at m ρ g c hg, batch_arow, pos_arow, vhead_avcol, vcol_avcol]
include hq hk hv in
theorem b_o (i : Fin 2048) (d : Fin 128) : iblk1 (V7 m ρ) c 3 t (ix2 i d) = ((attnAt q k v (tb t.val (lt1 t)) (th t.val) i d : ℝ) : EReal) := by
  rw [blk1_3, V7_o m ρ q k v c hq hk hv]
  show resO q k v (arow t.val (lt1 t) i) (avcol t.val d) = _
  rw [resO, batch_arow, pos_arow, vhead_avcol, vcol_avcol]
include hq hk in
theorem b_l (i : Fin 2048) (d : Fin 128) : iblk1 (V7 m ρ) c 5 t (ix2 i d) = ((Real.log (mass (scores q k (tb t.val (lt1 t)) (th t.val)) i) : ℝ) : EReal) := by
  rw [blk1_5, V7_l m ρ q k c hq hk]
  show resL q k (arow t.val (lt1 t) i) (avcol t.val d) = _
  rw [resL, batch_arow, pos_arow, vhead_avcol]

/-! ### What the backward call leaves -/

theorem emb1_6 (t : Fin cfg1.N) (i : Fin 2048) (d : Fin 256) : ((cfg1.win 6).blk t).view.emb (ix2 i d) = ix2 (arow t.val (lt1 t) i) (acol t.val d) := by
  blk_ext [idx1 t, arow, acol]

include hq hk hv hg in
theorem arr_dq : (dat1 (V7 m ρ) c).arrAt 6 cfg1.N = fun j : S4096x2048.Idx => resDq q k v g (j 0) (j 1) := by
  refine (dat1 (V7 m ρ) c).arrAt_eq_of_covers 6 _ (by decide +kernel) fun t hf y => ?_
  blk_simp
  idx_vars y
  have e0 : ((View.whole main_v14_0).slice (win1_6.rect t)).emb (ix2 y0 y1) = ix2 (arow t.val (lt1 t) y0) (acol t.val y1) := emb1_6 t y0 y1
  rw [e0]
  refine (after_dq (V7 m ρ) (headQ q (tb t.val (lt1 t)) (th t.val)) (headK k (tb t.val (lt1 t)) (th t.val)) (headV v (tb t.val (lt1 t)) (th t.val)) (headV g (tb t.val (lt1 t)) (th t.val)) c t (b_q m ρ q c hq t) (b_k m ρ k c hk t) (b_v m ρ v c hv t) (b_o m ρ q k v c hq hk hv t) (b_g m ρ g c hg t) (b_l m ρ q k c hq hk t) y0 y1).trans ?_
  show _ = resDq q k v g (arow t.val (lt1 t) y0) (acol t.val y1)
  rw [resDq, batch_arow, pos_arow, head_acol, col_acol]
  rfl

theorem emb1_7 (t : Fin cfg1.N) (i : Fin 2048) (d : Fin 256) : ((cfg1.win 7).blk t).view.emb (ix2 i d) = ix2 (arow t.val (lt1 t) i) (acol t.val d) := by
  blk_ext [idx1 t, arow, acol]

include hq hk hv hg in
theorem arr_dk : (dat1 (V7 m ρ) c).arrAt 7 cfg1.N = fun j : S4096x2048.Idx => resDk q k v g (j 0) (j 1) := by
  refine (dat1 (V7 m ρ) c).arrAt_eq_of_covers 7 _ (by decide +kernel) fun t hf y => ?_
  blk_simp
  idx_vars y
  have e0 : ((View.whole main_v14_1).slice (win1_7.rect t)).emb (ix2 y0 y1) = ix2 (arow t.val (lt1 t) y0) (acol t.val y1) := emb1_7 t y0 y1
  rw [e0]
  refine (after_dk (V7 m ρ) (headQ q (tb t.val (lt1 t)) (th t.val)) (headK k (tb t.val (lt1 t)) (th t.val)) (headV v (tb t.val (lt1 t)) (th t.val)) (headV g (tb t.val (lt1 t)) (th t.val)) c t (b_q m ρ q c hq t) (b_k m ρ k c hk t) (b_v m ρ v c hv t) (b_o m ρ q k v c hq hk hv t) (b_g m ρ g c hg t) (b_l m ρ q k c hq hk t) y0 y1).trans ?_
  show _ = resDk q k v g (arow t.val (lt1 t) y0) (acol t.val y1)
  rw [resDk, batch_arow, pos_arow, head_acol, col_acol]
  rfl

theorem emb1_8 (t : Fin cfg1.N) (i : Fin 2048) (d : Fin 128) : ((cfg1.win 8).blk t).view.emb (ix2 i d) = ix2 (arow t.val (lt1 t) i) (avcol t.val d) := by
  blk_ext [idx1 t, arow, avcol]

include hq hk hg in
theorem arr_dv : (dat1 (V7 m ρ) c).arrAt 8 cfg1.N = fun j : S4096x1024.Idx => resDv q k g (j 0) (j 1) := by
  refine (dat1 (V7 m ρ) c).arrAt_eq_of_covers 8 _ (by decide +kernel) fun t hf y => ?_
  blk_simp
  idx_vars y
  have e0 : ((View.whole main_v14_2).slice (win1_8.rect t)).emb (ix2 y0 y1) = ix2 (arow t.val (lt1 t) y0) (avcol t.val y1) := emb1_8 t y0 y1
  rw [e0]
  refine (after_dv (V7 m ρ) (headQ q (tb t.val (lt1 t)) (th t.val)) (headK k (tb t.val (lt1 t)) (th t.val)) (headV g (tb t.val (lt1 t)) (th t.val)) c t (b_q m ρ q c hq t) (b_k m ρ k c hk t) (b_g m ρ g c hg t) (b_l m ρ q k c hq hk t) y0 y1).trans ?_
  show _ = resDv q k g (arow t.val (lt1 t) y0) (avcol t.val y1)
  rw [resDv, batch_arow, pos_arow, vhead_avcol, vcol_avcol]
  rfl

/-! ### The results -/

include hq hk hv in
theorem end_o : W8 m ρ c (Proc.devRef .tc main_v12_0) = fun j : S4096x1024.Idx => resO q k v (j 0) (j 1) :=
  (W8_of m ρ c main_v12_0 (by decide +kernel)).trans (V7_o m ρ q k v c hq hk hv)

include hq hk hv hg in
theorem end_dq : W8 m ρ c (Proc.devRef .tc main_v14_0) = fun j : S4096x2048.Idx => resDq q k v g (j 0) (j 1) :=
  (W8_arr m ρ c 6).trans (arr_dq m ρ q k v g c hq hk hv hg)

include hq hk hv hg in
theorem end_dk : W8 m ρ c (Proc.devRef .tc main_v14_1) = fun j : S4096x2048.Idx => resDk q k v g (j 0) (j 1) :=
  (W8_arr m ρ c 7).trans (arr_dk m ρ q k v g c hq hk hv hg)

include hq hk hg in
theorem end_dv : W8 m ρ c (Proc.devRef .tc main_v14_2) = fun j : S4096x1024.Idx => resDv q k g (j 0) (j 1) :=
  (W8_arr m ρ c 8).trans (arr_dv m ρ q k g c hq hk hg)

end Cert.KernelIdeal.Value

end
-- ==== Proof.KernelEnd.lean ====
/-
  The whole kernel run: at the end of every execution the four results hold what the last segment leaves in them, and the
  arguments are as launched.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the results as the last segment leaves them. -/
theorem run_ends : θ_run defs (onTc (τ := τ) (main (F := F))) ⟨m, fun _ => 0, ρ⟩ (fun r => ∀ c : Dev nD,
      r.2.mem ((c.tc : Thread nD τ).loc main_v12_0) = W8 m ρ c (Proc.devRef .tc main_v12_0)
      ∧ r.2.mem ((c.tc : Thread nD τ).loc main_v14_0) = W8 m ρ c (Proc.devRef .tc main_v14_0)
      ∧ r.2.mem ((c.tc : Thread nD τ).loc main_v14_1) = W8 m ρ c (Proc.devRef .tc main_v14_1)
      ∧ r.2.mem ((c.tc : Thread nD τ).loc main_v14_2) = W8 m ρ c (Proc.devRef .tc main_v14_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v12_0 (by decide)), h c _ (mem_uc main_v14_0 (by decide)), h c _ (mem_uc main_v14_1 (by decide)),
       h c _ (mem_uc main_v14_2 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.Gen

end
-- ==== Proof.Reference.lean ====
/-
  What the reference computes: the masked softmax and its gradient, read element by element, are the attention of `Spec` and
  its three gradients whenever the arguments are real numbers.
-/
module

public import proofs.«01_k».proof.Proof.Spec
public import proofs.«01_k».proof.Proof.Gen.ReferenceIdeal.Read
public import Idealize.ShloMosaic.Lib.Pipeline.ValueKit

@[expose] public section

set_option maxRecDepth 16384

noncomputable section
open Idealize.ShloMosaic Idealize.ShloMosaic.TcCoe Idealize.SL.Sem
namespace Cert.ReferenceIdeal.Read
open Cert.ReferenceIdeal Cert.ReferenceIdeal.Gen Cert.Causal

variable (x0 x1 : (⟨S2x2048x8x192, .f32⟩ : BufTy).Contents (Elt Ideal)) (x2 x3 : (⟨S2x2048x8x128, .f32⟩ : BufTy).Contents (Elt Ideal))
  (q k : Fin 2 → Fin 2048 → Fin 8 → Fin 192 → ℝ) (v g : Fin 2 → Fin 2048 → Fin 8 → Fin 128 → ℝ)
  (hq : ∀ b i h d, x0 (ix4 b i h d) = ((q b i h d : ℝ) : EReal))
  (hk : ∀ b i h d, x1 (ix4 b i h d) = ((k b i h d : ℝ) : EReal))
  (hv : ∀ b i h d, x2 (ix4 b i h d) = ((v b i h d : ℝ) : EReal))
  (hg : ∀ b i h d, x3 (ix4 b i h d) = ((g b i h d : ℝ) : EReal))

/-- A sum over a head's padded columns is the sum over its own. -/
theorem sum_cols (f : Fin 256 → ℝ) (hz : ∀ d : Fin 256, 192 ≤ d.val → f d = 0) :
    ∑ d, f d = ∑ d : Fin 192, f (headRow (by decide) d) := sum_prefix 192 (by decide) f hz

theorem scores_eq (b : Fin 2) (h : Fin 8) (i j : Fin 2048) :
    scores q k b h i j = (∑ d : Fin 192, q b i h d * k b j h d) * scale := by
  unfold scores score
  rw [sum_cols _ (fun d hd => by rw [headK, dif_neg (not_lt.2 hd), mul_zero]), Finset.sum_mul]
  refine Finset.sum_congr rfl fun d _ => ?_
  have h1 : (headRow (by decide : 192 ≤ 256) d).val < 192 := d.2
  rw [headQ, headK, dif_pos h1, dif_pos h1]
  show q b i h d * scale * k b j h d = q b i h d * k b j h d * scale
  ring

include hq hk in
theorem score_at (b : Fin 2) (h : Fin 8) (i j : Fin 2048) : val_main_v2 (F := Ideal) x0 x1 (ix4 b h i j) = ((scores q k b h i j : ℝ) : EReal) := by
  have e1 : val_main_v0 (F := Ideal) x0 x1 (ix4 b h i j) = ((∑ d : Fin 192, q b i h d * k b j h d : ℝ) : EReal) := by
    rw [val_main_v0_apply]
    refine dot_of_real _ _ (fun d => Eq.trans (congrArg x0 ?_) (hq b i h d)) (fun d => Eq.trans (congrArg x1 ?_) (hk b j h d)) <;>
      exact funext fun a => by fin_cases a <;> rfl
  have e2 : val_main_v1 (F := Ideal) (ix4 b h i j) = ((scale : ℝ) : EReal) := by
    rw [← scale_coe]; pointwise [val_main_v1_apply, val_main_cst_apply]
  rw [scores_eq, EReal.coe_mul, ← e1, ← e2]
  rfl

/-- The mask lets through the keys not later than the row. -/
theorem mask_select {α : Type} (i j : Fin 2048) (x y : α) :
    Scalar.select (IntOp.cmpi .sle (BitVec.ofNat 32 j.val) (BitVec.ofNat 32 i.val)) x y = if j ≤ i then x else y := by
  have h : (BitVec.ofNat 32 j.val).sle (BitVec.ofNat 32 i.val) = decide (j ≤ i) := by
    have e1 : (BitVec.ofNat 32 j.val).toNat = j.val := by rw [BitVec.toNat_ofNat]; exact Nat.mod_eq_of_lt (by omega)
    have e2 : (BitVec.ofNat 32 i.val).toNat = i.val := by rw [BitVec.toNat_ofNat]; exact Nat.mod_eq_of_lt (by omega)
    rw [BitVec.sle_eq_decide, BitVec.toInt_eq_toNat_of_lt (by omega), BitVec.toInt_eq_toNat_of_lt (by omega), e1, e2]
    simp only [decide_eq_decide, Fin.le_def]; omega
  by_cases hc : j ≤ i <;> simp [Scalar.select, IntOp.cmpi, h, hc]

theorem mask_at {α : Type} (b : Fin 2) (h : Fin 8) (i j : Fin 2048) (x y : α) :
    Scalar.select (val_main_v9_1 (F := Ideal) (ix4 b h i j)) x y = if j ≤ i then x else y := by
  rw [← mask_select]
  refine congrArg (fun z => Scalar.select z x y) ?_
  pointwise [val_main_v9_1_apply, val_main_v8_apply, val_main_v6_apply, val_main_v7_apply, val_main_v5_apply, val_main_v4_apply, val_main_v3_apply]

include hq hk in
theorem masked_at (b : Fin 2) (h : Fin 8) (i j : Fin 2048) :
    val_main_v9_0 (F := Ideal) x0 x1 (ix4 b h i j) = if j ≤ i then ((scores q k b h i j : ℝ) : EReal) else ⊥ := by
  have e : val_main_call0_v2 (F := Ideal) (ix4 b h i j) = (⊥ : EReal) := by
    rw [← negInf]; pointwise [val_main_call0_v2_apply, val_main_call0_v0_apply, val_main_cst_0_apply]
  rw [val_main_v9_0_apply, mask_at, score_at x0 x1 q k hq hk, e]

/-- The maximum that is subtracted from a row is a real number. -/
theorem row_shift (y : (⟨S2x8x2048x2048, .f32⟩ : BufTy).Contents (Elt Ideal)) (b : Fin 2) (h : Fin 8) (i : Fin 2048) :
    Host.reduce FloatOps.maximumf y (val_main_cst_1 (F := Ideal)) reducesTo_S2x8x2048x2048_S2x8x2048_d3 h_S_ (ix3 b h i)
      = Finset.fold max (Ideal.ofBits .f32 0xFF800000#32) (fun j : Fin 2048 => y (ix4 b h i j)) Finset.univ := by
  pointwise [val_main_cst_1]

include hq hk in
theorem shift_at (b : Fin 2) (h : Fin 8) (i : Fin 2048) :
    ∃ μ : ℝ, ∀ j, val_main_v28 (F := Ideal) x0 x1 (ix4 b h i j) = (μ : EReal) := by
  obtain ⟨μ, hμ⟩ := fold_max_real (fun j => val_main_v9_0 (F := Ideal) x0 x1 (ix4 b h i j))
    (fun j => by rw [masked_at x0 x1 q k hq hk]; split <;> simp) i (by rw [masked_at x0 x1 q k hq hk, if_pos le_rfl]; simp)
  refine ⟨μ, fun j => ?_⟩
  have ei : idx_main_v27 (idx_main_v28 (ix4 b h i j)) = ix3 b h i := funext fun a => by fin_cases a <;> rfl
  rw [val_main_v28_apply, val_main_v27_apply, ei, val_main_v17_apply, val_main_v16_apply, val_main_cst_3_apply, val_main_v10, row_shift, hμ]
  refine Eq.trans (congrArg (fun z : EReal => max z (μ : EReal)) negInf) (max_eq_right bot_le)

include hq hk in
/-- A row's unnormalised weights, all scaled by the same number. -/
theorem weight_at (b : Fin 2) (h : Fin 8) (i : Fin 2048) :
    ∃ μ : ℝ, ∀ j, val_main_v30 (F := Ideal) x0 x1 (ix4 b h i j) = ((weight (scores q k b h) i j * Real.exp (-μ) : ℝ) : EReal) := by
  obtain ⟨μ, hμ⟩ := shift_at x0 x1 q k hq hk b h i
  refine ⟨μ, fun j => Eq.trans ?_ (exp_masked (scores q k b h) i j μ _ (masked_at x0 x1 q k hq hk b h i j))⟩
  rw [val_main_v30_apply, val_main_v29_apply, hμ]
  rfl

/-- A row's mass, scaled the same way. -/
theorem mass_at (b : Fin 2) (h : Fin 8) (i : Fin 2048) (μ : ℝ)
    (hw : ∀ j, val_main_v30 (F := Ideal) x0 x1 (ix4 b h i j) = ((weight (scores q k b h) i j * Real.exp (-μ) : ℝ) : EReal)) (z : Fin 1) :
    val_main_v32 (F := Ideal) x0 x1 (ix4 b h i z) = ((mass (scores q k b h) i * Real.exp (-μ) : ℝ) : EReal) := by
  have e : val_main_v31 (F := Ideal) x0 x1 (ix3 b h i) = ((mass (scores q k b h) i * Real.exp (-μ) : ℝ) : EReal) := by
    have ei (j : Fin 2048) : idx_main_v31 (ix3 b h i) j = ix4 b h i j := funext fun a => by fin_cases a <;> rfl
    rw [val_main_v31_apply, mass, Finset.sum_mul, ← sum_of_real _ hw, val_main_cst_9_apply]
    simp only [ei]
    exact Eq.trans (congrArg (fun z : EReal => z + ∑ j, val_main_v30 (F := Ideal) x0 x1 (ix4 b h i j)) zero_bits) (zero_add _)
  have ei : idx_main_v32 (ix4 b h i z) = ix3 b h i := funext fun a => by fin_cases a <;> rfl
  rw [val_main_v32_apply, ei, e]

include hq hk in
theorem prob_at (b : Fin 2) (h : Fin 8) (i j : Fin 2048) :
    val_main_v34 (F := Ideal) x0 x1 (ix4 b h i j) = ((prob (scores q k b h) i j : ℝ) : EReal) := by
  obtain ⟨μ, hw⟩ := weight_at x0 x1 q k hq hk b h i
  have ei : idx_main_v33 (ix4 b h i j) = ix4 b h i 0 := funext fun a => by fin_cases a <;> rfl
  rw [val_main_v34_apply, val_main_v33_apply, ei, hw, mass_at x0 x1 q k b h i μ hw]
  have hm := (mass_pos (scores q k b h) i).ne'
  refine Eq.trans (div_of_real _ _ (mul_ne_zero hm (Real.exp_ne_zero _))) ?_
  rw [mul_div_mul_right _ _ (Real.exp_ne_zero _)]; rfl

include hv hg in
/-- The gradient of the softmax's weights. -/
theorem dprob_at (b : Fin 2) (h : Fin 8) (i j : Fin 2048) :
    val_main_v41 (F := Ideal) x2 x3 (ix4 b h i j) = ((∑ e, headV g b h i e * headV v b h j e : ℝ) : EReal) := by
  rw [val_main_v41_apply]
  refine dot_of_real _ _ (fun e => ?_) (fun e => Eq.trans (congrArg x2 ?_) (hv b j h e))
  · rw [val_main_v40_apply]
    exact Eq.trans (congrArg x3 (funext fun a => by fin_cases a <;> rfl)) (hg b i h e)
  · exact funext fun a => by fin_cases a <;> rfl

/-- The softmax's own gradient, taken through the division by the mass, is the gradient of the scores. -/
theorem dscore_eq {N E : ℕ} (s : Fin N → Fin N → ℝ) (v g : Fin N → Fin E → ℝ) (i j : Fin N) (x : ℝ) (hx : x ≠ 0) :
    ((∑ e, g i e * v j e) / (mass s i * x)
        + -(∑ j', (∑ e, g i e * v j' e) * (1 / ((mass s i * x) * (mass s i * x))) * (weight s i j' * x))) * (weight s i j * x)
      = dscore s v g i j := by
  have hm := (mass_pos s i).ne'
  have h1 : (∑ j', (∑ e, g i e * v j' e) * (1 / ((mass s i * x) * (mass s i * x))) * (weight s i j' * x))
      = (∑ e, g i e * attend s v i e) / (mass s i * x) := by
    have h2 : ∑ e, g i e * attend s v i e = ∑ j', (∑ e, g i e * v j' e) * prob s i j' := by
      simp only [attend, Finset.mul_sum, Finset.sum_mul]
      rw [Finset.sum_comm]
      exact Finset.sum_congr rfl fun a _ => Finset.sum_congr rfl fun e _ => by ring
    rw [h2, Finset.sum_div]
    refine Finset.sum_congr rfl fun a _ => ?_
    rw [prob]; field_simp
  rw [h1, dscore, prob]
  field_simp
  ring

include hq hk hv hg in
theorem dscore_at (b : Fin 2) (h : Fin 8) (i j : Fin 2048) :
    val_main_v58 (F := Ideal) x0 x1 x2 x3 (ix4 b h i j)
      = ((dscore (scores q k b h) (headV v b h) (headV g b h) i j * scale : ℝ) : EReal) := by
  obtain ⟨μ, hw⟩ := weight_at x0 x1 q k hq hk b h i
  have hl := mass_at x0 x1 q k b h i μ hw
  have hd := dprob_at x2 x3 v g hv hg b h i
  have hm := (mass_pos (scores q k b h) i).ne'
  have hx : Real.exp (-μ) ≠ 0 := Real.exp_ne_zero _
  rw [← dscore_eq (scores q k b h) (headV v b h) (headV g b h) i j (Real.exp (-μ)) hx]
  generalize hp : (fun j => ∑ e, headV g b h i e * headV v b h j e) = dp at *
  have hp' (j) : ∑ e, headV g b h i e * headV v b h j e = dp j := congrFun hp j
  simp only [hp'] at hd ⊢
  generalize hM : mass (scores q k b h) i * Real.exp (-μ) = M at *
  have hM0 : M ≠ 0 := hM ▸ mul_ne_zero hm hx
  have e37 : val_main_v37 (F := Ideal) x0 x1 (ix4 b h i 0) = ((1 / (M * M) : ℝ) : EReal) := by
    rw [val_main_v37_apply, val_main_v36_apply, val_main_v35_apply, hl, val_main_cst_10_apply]
    refine Eq.trans ?_ (div_of_real 1 (M * M) (mul_ne_zero hM0 hM0))
    rw [← one_bits, EReal.coe_mul]; rfl
  have e46 (j) : val_main_v46 (F := Ideal) x0 x1 x2 x3 (ix4 b h i j)
      = ((dp j * (1 / (M * M)) * (weight (scores q k b h) i j * Real.exp (-μ)) : ℝ) : EReal) := by
    have ei : idx_main_v44 (ix4 b h i j) = ix4 b h i 0 := funext fun a => by fin_cases a <;> rfl
    rw [val_main_v46_apply, val_main_v45_apply, hd, val_main_v44_apply, ei, e37, hw, EReal.coe_mul (dp j * _), EReal.coe_mul (dp j)]
    rfl
  generalize hS : (∑ j', dp j' * (1 / (M * M)) * (weight (scores q k b h) i j' * Real.exp (-μ))) = S at *
  have e47 : val_main_v47 (F := Ideal) x0 x1 x2 x3 (ix3 b h i) = ((S : ℝ) : EReal) := by
    have ei (j : Fin 2048) : idx_main_v47 (ix3 b h i) j = ix4 b h i j := funext fun a => by fin_cases a <;> rfl
    rw [val_main_v47_apply, ← hS, ← sum_of_real _ e46, val_main_cst_11_apply]
    simp only [ei]
    exact Eq.trans (congrArg (fun z : EReal => z + ∑ j, val_main_v46 (F := Ideal) x0 x1 x2 x3 (ix4 b h i j)) zero_bits) (zero_add _)
  have e49 (z : Fin 1) : val_main_v49 (F := Ideal) x0 x1 x2 x3 (ix4 b h i z) = ((-S : ℝ) : EReal) := by
    have ei : idx_main_v48 (ix4 b h i z) = ix3 b h i := funext fun a => by
      have h0 := b.2; have h1 := h.2; have h2 := i.2; have h3 := z.2
      fin_cases a
      · exact Fin.ext (by show (((b.val * 8 + h.val) * 2048 + i.val) * 1 + z.val) / 16384 = b.val; omega)
      · exact Fin.ext (by show (((b.val * 8 + h.val) * 2048 + i.val) * 1 + z.val) / 2048 % 8 = h.val; omega)
      · exact Fin.ext (by show (((b.val * 8 + h.val) * 2048 + i.val) * 1 + z.val) % 2048 = i.val; omega)
    rw [val_main_v49_apply, val_main_v48_apply, ei, e47, EReal.coe_neg]
    rfl
  have e52 : val_main_v52 (F := Ideal) x0 x1 x2 x3 (ix3 b h i) = ((-S : ℝ) : EReal) := by
    have ei : idx_main_v52 (ix3 b h i) 0 = ix4 b h i 0 := funext fun a => by fin_cases a <;> rfl
    rw [val_main_v52_apply, val_main_cst_12_apply, Fin.sum_univ_one, ei, e49]
    exact Eq.trans (congrArg (fun z : EReal => z + ((-S : ℝ) : EReal)) zero_bits) (zero_add _)
  have e55 : val_main_v55 (F := Ideal) x0 x1 x2 x3 (ix4 b h i j)
      = (((dp j / M + -S) * (weight (scores q k b h) i j * Real.exp (-μ)) : ℝ) : EReal) := by
    have ei : idx_main_v50 (ix4 b h i j) = ix4 b h i 0 := funext fun a => by fin_cases a <;> rfl
    have ej : idx_main_v53 (ix4 b h i j) = ix3 b h i := funext fun a => by fin_cases a <;> rfl
    rw [val_main_v55_apply, val_main_v54_apply, val_main_v53_apply, ej, e52, val_main_v51_apply, val_main_v50_apply, ei, hl, hd, hw,
      EReal.coe_mul (dp j / M + -S), EReal.coe_add, ← div_of_real _ _ hM0]
    rfl
  have e57 : val_main_v57 (F := Ideal) (ix4 b h i j) = ((scale : ℝ) : EReal) := by
    rw [val_main_v57_apply, val_main_cst_13_apply]; exact scale_coe
  have ec : val_main_call1_v0 (F := Ideal) (ix4 b h i j) = (0 : EReal) := by
    rw [val_main_call1_v0_apply, val_main_call1_cst_apply]; exact zero_bits
  rw [val_main_v58_apply, e57, val_main_v56_apply, mask_at, e55, ec, EReal.coe_mul _ scale]
  refine congrArg (fun z : EReal => z * ((scale : ℝ) : EReal)) ?_
  split
  · rfl
  · rename_i hlt
    rw [weight_later _ (not_le.1 hlt), zero_mul, mul_zero]; rfl

include hq hk hv in
theorem attend_at (b : Fin 2) (i : Fin 2048) (h : Fin 8) (e : Fin 128) :
    val_main_v39 (F := Ideal) x0 x1 x2 (ix4 b i h e) = ((attnAt q k v b h i e : ℝ) : EReal) := by
  have ei : idx_main_v39 (ix4 b i h e) = ix4 b h e i := funext fun a => by fin_cases a <;> rfl
  have ha : attnAt q k v b h i e = ∑ j, v b j h e * prob (scores q k b h) i j := by
    unfold attnAt attend
    exact Finset.sum_congr rfl fun j _ => mul_comm (prob (scores q k b h) i j) (v b j h e)
  rw [val_main_v39_apply, ei, val_main_v38_apply, ha]
  refine dot_of_real _ _ (fun j => Eq.trans (congrArg x2 ?_) (hv b j h e))
    (fun j => Eq.trans (congrArg (val_main_v34 (F := Ideal) x0 x1) ?_) (prob_at x0 x1 q k hq hk b h i j)) <;>
    exact funext fun a => by fin_cases a <;> rfl

include hq hk hg in
theorem dv_at (b : Fin 2) (j : Fin 2048) (h : Fin 8) (e : Fin 128) :
    val_main_v43 (F := Ideal) x0 x1 x3 (ix4 b j h e) = ((dvAt q k g b h j e : ℝ) : EReal) := by
  have ei : idx_main_v43 (ix4 b j h e) = ix4 b h e j := funext fun a => by fin_cases a <;> rfl
  have ha : dvAt q k g b h j e = ∑ i, g b i h e * prob (scores q k b h) i j := Finset.sum_congr rfl fun i _ => mul_comm (prob (scores q k b h) i j) (g b i h e)
  rw [val_main_v43_apply, ei, val_main_v42_apply, ha]
  refine dot_of_real _ _ (fun i => ?_)
    (fun i => Eq.trans (congrArg (val_main_v34 (F := Ideal) x0 x1) ?_) (prob_at x0 x1 q k hq hk b h i j))
  · rw [val_main_v40_apply]
    exact Eq.trans (congrArg x3 (funext fun a => by fin_cases a <;> rfl)) (hg b i h e)
  · exact funext fun a => by fin_cases a <;> rfl

include hq hk hv hg in
theorem dk_at (b : Fin 2) (j : Fin 2048) (h : Fin 8) (d : Fin 192) :
    val_main_v60 (F := Ideal) x0 x1 x2 x3 (ix4 b j h d) = ((dkAt q k v g b h j (headRow (by decide) d) : ℝ) : EReal) := by
  have ei : idx_main_v60 (ix4 b j h d) = ix4 b h j d := funext fun a => by fin_cases a <;> rfl
  have hd : (headRow (by decide : 192 ≤ 256) d).val < 192 := d.2
  have ha : dkAt q k v g b h j (headRow (by decide) d)
      = ∑ i, dscore (scores q k b h) (headV v b h) (headV g b h) i j * scale * q b i h d := Finset.sum_congr rfl fun i _ => by
    rw [headQ, dif_pos hd, mul_assoc, mul_comm scale]
  rw [val_main_v60_apply, ei, val_main_v59_apply, ha]
  refine dot_of_real _ _ (fun i => Eq.trans (congrArg (val_main_v58 (F := Ideal) x0 x1 x2 x3) ?_)
      (dscore_at x0 x1 x2 x3 q k v g hq hk hv hg b h i j)) (fun i => Eq.trans (congrArg x0 ?_) (hq b i h d)) <;>
    exact funext fun a => by fin_cases a <;> rfl

include hq hk hv hg in
theorem dq_at (b : Fin 2) (i : Fin 2048) (h : Fin 8) (d : Fin 192) :
    val_main_v62 (F := Ideal) x0 x1 x2 x3 (ix4 b i h d) = ((dqAt q k v g b h i (headRow (by decide) d) : ℝ) : EReal) := by
  have ei : idx_main_v62 (ix4 b i h d) = ix4 b h i d := funext fun a => by fin_cases a <;> rfl
  have hd : (headRow (by decide : 192 ≤ 256) d).val < 192 := d.2
  have ha : dqAt q k v g b h i (headRow (by decide) d)
      = ∑ j, dscore (scores q k b h) (headV v b h) (headV g b h) i j * scale * k b j h d := by
    rw [dqAt, Finset.sum_mul]
    exact Finset.sum_congr rfl fun j _ => by rw [headK, dif_pos hd, mul_right_comm]
  rw [val_main_v62_apply, ei, val_main_v61_apply, ha]
  refine dot_of_real _ _ (fun j => Eq.trans (congrArg (val_main_v58 (F := Ideal) x0 x1 x2 x3) ?_)
      (dscore_at x0 x1 x2 x3 q k v g hq hk hv hg b h i j)) (fun j => Eq.trans (congrArg x1 ?_) (hk b j h d)) <;>
    exact funext fun a => by fin_cases a <;> rfl

/-! ### The four results, stored as matrices -/

theorem idx63 (r : Fin 4096) (e : Fin 1024) : idx_main_v63 (ix2 r e) = ix4 (batch r) (pos r) (vhead e) (vcol e) := funext fun a => by
  have h0 := r.2; have h1 := e.2
  fin_cases a <;> refine Fin.ext ?_
  · show (r.val * 1024 + e.val) / 2097152 = r.val / 2048; omega
  · show (r.val * 1024 + e.val) / 1024 % 2048 = r.val % 2048; omega
  · show (r.val * 1024 + e.val) / 128 % 8 = e.val / 128; omega
  · show (r.val * 1024 + e.val) % 128 = e.val % 128; omega

theorem idx66 (r : Fin 4096) (d : Fin 2048) : idx_main_v66 (ix2 r d) = ix4 (batch r) (pos r) (head d) (col d) := funext fun a => by
  have h0 := r.2; have h1 := d.2
  fin_cases a <;> refine Fin.ext ?_
  · show (r.val * 2048 + d.val) / 4194304 = r.val / 2048; omega
  · show (r.val * 2048 + d.val) / 2048 % 2048 = r.val % 2048; omega
  · show (r.val * 2048 + d.val) / 256 % 8 = d.val / 256; omega
  · show (r.val * 2048 + d.val) % 256 = d.val % 256; omega

/-- Columns past a head's own hold the padding. -/
theorem padded_at (y : (⟨S2x2048x8x192, .f32⟩ : BufTy).Contents (Elt Ideal)) (z : (⟨S_, .f32⟩ : BufTy).Contents (Elt Ideal))
    (b : Fin 2) (i : Fin 2048) (h : Fin 8) (d : Fin 256) :
    pad S2x2048x8x256 ![0, 0, 0, 0] ![0, 0, 0, 64] ![0, 0, 0, 0] y z pads_S2x2048x8x192_S2x2048x8x256_000_000_000_0640 h_S_ (ix4 b i h d)
      = if hd : d.val < 192 then y (ix4 b i h ⟨d.val, hd⟩) else z (Shape.Idx.first h_S_) := by
  pointwise []

theorem pad_zero : (FloatOps.sitofp (F := Ideal) .f32 (0#32) : EReal) = 0 := by
  show ((((0#32 : BitVec 32).toInt : ℝ)) : EReal) = 0
  simp

include hq hk hv in
theorem out_o : val_main_v64 (F := Ideal) x0 x1 x2 = fun j : S4096x1024.Idx => resO q k v (j 0) (j 1) := by
  funext j
  idx_vars j
  rw [val_main_v64_apply, val_main_v63_apply, idx63, attend_at x0 x1 x2 q k v hq hk hv]
  rfl

include hq hk hg in
theorem out_dv : val_main_v72 (F := Ideal) x0 x1 x3 = fun j : S4096x1024.Idx => resDv q k g (j 0) (j 1) := by
  funext j
  idx_vars j
  rw [val_main_v72_apply, val_main_v71_apply, show idx_main_v71 (ix2 j0 j1) = _ from idx63 j0 j1, dv_at x0 x1 x3 q k g hq hk hg]
  rfl

include hq hk hv hg in
theorem out_dq : val_main_v67 (F := Ideal) x0 x1 x2 x3 = fun j : S4096x2048.Idx => resDq q k v g (j 0) (j 1) := by
  funext j
  idx_vars j
  rw [val_main_v67_apply, val_main_v66_apply, idx66, val_main_v65, padded_at]
  split
  · rw [dq_at x0 x1 x2 x3 q k v g hq hk hv hg]; rfl
  · rename_i hd
    have hz : dqAt q k v g (batch j0) (head j1) (pos j0) (col j1) = 0 := by
      rw [dqAt, Finset.sum_eq_zero (fun j _ => by rw [headK, dif_neg hd, mul_zero]), zero_mul]
    refine Eq.trans ?_ (congrArg (fun z : ℝ => (z : EReal)) hz).symm
    exact pad_zero

include hq hk hv hg in
theorem out_dk : val_main_v70 (F := Ideal) x0 x1 x2 x3 = fun j : S4096x2048.Idx => resDk q k v g (j 0) (j 1) := by
  funext j
  idx_vars j
  rw [val_main_v70_apply, val_main_v69_apply, show idx_main_v69 (ix2 j0 j1) = _ from idx66 j0 j1, val_main_v68, padded_at]
  split
  · rw [dk_at x0 x1 x2 x3 q k v g hq hk hv hg]; rfl
  · rename_i hd
    have hz : dkAt q k v g (batch j0) (head j1) (pos j0) (col j1) = 0 := by
      rw [dkAt, Finset.sum_eq_zero (fun j _ => by rw [headQ, dif_neg hd, mul_zero])]
    refine Eq.trans ?_ (congrArg (fun z : ℝ => (z : EReal)) hz).symm
    exact pad_zero

end Cert.ReferenceIdeal.Read

end
-- ==== Proof.Pre.lean ====
/-
  The precondition read back: when every entry of the four arguments has an absolute value below infinity, the arguments are
  arrays of real numbers.
-/
module

public import proofs.«01_k».proof.Pre_finite
public import proofs.«01_k».proof.Proof.Causal
public import Idealize.ShloMosaic.Lib.ReduceAll
public import Idealize.ShloMosaic.Lib.Pointwise

@[expose] public section

set_option maxRecDepth 16384

noncomputable section
open Idealize.ShloMosaic Idealize.ShloMosaic.TcCoe
namespace Cert.Pre_finite

/-- A number whose absolute value is below infinity is real. -/
theorem real_of_lt (x y : EReal) (hy : y = ⊤) (h : FloatOps.cmpf (F := Ideal) (φ := .f32) .olt (FloatOps.hostAbsf (F := Ideal) (φ := .f32) x) y = 1#1) :
    x = ((x.toReal : ℝ) : EReal) := by
  subst hy
  refine (EReal.coe_toReal ?_ ?_).symm <;> rintro rfl <;> revert h
  · show (if max (⊤ : EReal) (-⊤) < ⊤ then 1#1 else 0#1) = 1#1 → False
    simp
  · show (if max (⊥ : EReal) (-⊥) < ⊤ then 1#1 else 0#1) = 1#1 → False
    simp

instance : Subsingleton S_.Idx := ⟨fun a b => funext fun i => i.elim0⟩

variable [Facts]
open Facts

theorem real_args (x0 x1 : FVec Ideal S2x2048x8x192 .f32) (x2 x3 : FVec Ideal S2x2048x8x128 .f32)
    (h : fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have h0 := congrFun h (Shape.Idx.first h_S_)
  simp only [fn, fn_part1] at h0
  obtain ⟨h1, h4⟩ := IntOp.andi_eq_one.1 h0
  obtain ⟨h1, h3⟩ := IntOp.andi_eq_one.1 h1
  obtain ⟨h1, h2⟩ := IntOp.andi_eq_one.1 h1
  refine ⟨fun i => real_of_lt _ _ ?_ (Host.reduce_andi_all _ _ _ _ _ h1 i), fun i => real_of_lt _ _ ?_ (Host.reduce_andi_all _ _ _ _ _ h2 i),
    fun i => real_of_lt _ _ ?_ (Host.reduce_andi_all _ _ _ _ _ h3 i), fun i => real_of_lt _ _ ?_ (Host.reduce_andi_all _ _ _ _ _ h4 i)⟩ <;>
  · rw [← Cert.Causal.posInf]; rfl

end Cert.Pre_finite

end
-- ==== Proof.Norm.lean ====
/-
  The gradient of a row's root-mean-square norm over the extended reals: the form with the row's mean taken once, and the
  form the chain rule gives, agree for every row. Where an entry of the row is infinite the mean of the squares is too, the
  row's factor is zero, and both forms pass on the incoming gradient alone.
-/
module

public import proofs.«01_k».proof.Proof.Causal

@[expose] public section

noncomputable section

open Idealize.ShloMosaic

namespace Cert.Norm

open Cert.Causal

/-- The mean of a row's squares, with the small number added. -/
def meanSq {n : ℕ} (x : Fin n → EReal) : EReal :=
  Ideal.div (∑ k, x k * x k) (Ideal.ofBits .f32 0x44800000#32) + Ideal.ofBits .f32 0x358637BD#32

/-- The factor by which the norm scales a row. -/
def factor {n : ℕ} (x : Fin n → EReal) : EReal := Ideal.rsqrt (meanSq x)

theorem sq_nonneg (a : EReal) : 0 ≤ a * a := by
  induction a with
  | bot => simp
  | top => simp
  | coe a => rw [← EReal.coe_mul]; exact EReal.coe_nonneg.2 (mul_self_nonneg a)

theorem sum_mul_real {ι : Type} (s : Finset ι) (f : ι → EReal) (r : ℝ) (h : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (EReal.coe_nonneg.2 h) (EReal.coe_ne_top r)]

theorem mean_top : Ideal.div ⊤ (Ideal.ofBits .f32 0x44800000#32) = ⊤ := by
  rw [width_bits, Ideal.div_coe (by norm_num)]
  exact EReal.top_mul_coe_of_pos (by norm_num)

/-- A row with an infinite entry is scaled by zero. -/
theorem meanSq_top {n : ℕ} (x : Fin n → EReal) (k : Fin n) (h : x k * x k = ⊤) : meanSq x = ⊤ := by
  have e : ∑ k, x k * x k = ⊤ := top_le_iff.1 (h ▸ Finset.single_le_sum (f := fun k => x k * x k) (fun i _ => sq_nonneg (x i)) (Finset.mem_univ k))
  rw [meanSq, e, mean_top, eps_bits]
  exact EReal.top_add_coe _

theorem real_row {n : ℕ} (x : Fin n → EReal) : (∃ k, x k * x k = ⊤) ∨ ∃ f : Fin n → ℝ, ∀ k, x k = f k := by
  by_cases h : ∃ k, x k * x k = ⊤
  · exact .inl h
  · refine .inr ⟨fun k => (x k).toReal, fun k => (EReal.coe_toReal ?_ ?_).symm⟩
    · exact fun e => h ⟨k, by rw [e]; rfl⟩
    · exact fun e => h ⟨k, by rw [e]; rfl⟩

theorem meanSq_real {n : ℕ} (x : Fin n → EReal) (f : Fin n → ℝ) (h : ∀ k, x k = f k) : ∃ e : ℝ, 0 < e ∧ meanSq x = (e : EReal) := by
  refine ⟨(∑ k, f k * f k) / 1024 + eps, add_pos_of_nonneg_of_pos (div_nonneg (Finset.sum_nonneg fun k _ => mul_self_nonneg _) (by norm_num)) eps_pos, ?_⟩
  rw [meanSq, dot_of_real f f h h, width_bits, eps_bits, div_of_real _ _ (by norm_num), EReal.coe_add]

theorem rsqrt_real (e : ℝ) (h : 0 < e) : Ideal.rsqrt (e : EReal) = (((Real.sqrt e)⁻¹ : ℝ) : EReal) := by
  show (if e < 0 then (⊥ : EReal) else if e = 0 then ⊤ else (((Real.sqrt e)⁻¹ : ℝ) : EReal)) = _
  rw [if_neg (not_lt.2 h.le), if_neg h.ne']

/-- The two forms of the gradient's entry `j`: `d` the gradient of the scaled row, `b` what is added to it. -/
theorem grad {n : ℕ} (x d : Fin n → EReal) (b : EReal) (j : Fin n) :
    b + factor x * (d j - x j * factor x * Ideal.div (∑ k, d k * (x k * factor x)) (Ideal.ofBits .f32 0x44800000#32))
      = b + d j * factor x
        + Ideal.div ((∑ k, x k * d k) * (Ideal.ofBits .f32 0xBF000000#32 * Ideal.div (factor x) (meanSq x))) (Ideal.ofBits .f32 0x44800000#32)
          * (Ideal.ofBits .f32 0x40000000#32 * x j) := by
  rcases real_row x with ⟨k, hk⟩ | ⟨f, hf⟩
  · have z : factor x = 0 := by rw [factor, meanSq_top x k hk]; rfl
    have q : Ideal.div 0 (⊤ : EReal) = 0 := by simp [Ideal.div]
    have q' : Ideal.div 0 (Ideal.ofBits .f32 0x44800000#32) = 0 := by rw [width_bits, Ideal.div_coe (by norm_num), zero_mul]
    rw [z, meanSq_top x k hk, q]
    simp [q']
  · obtain ⟨e, he, hm⟩ := meanSq_real x f hf
    have hr : factor x = (((Real.sqrt e)⁻¹ : ℝ) : EReal) := by rw [factor, hm, rsqrt_real e he]
    have hq : (Real.sqrt e)⁻¹ * (Real.sqrt e)⁻¹ = 1 / e := by
      rw [← mul_inv, Real.mul_self_sqrt he.le, one_div]
    generalize hR : (Real.sqrt e)⁻¹ = R at hr hq
    have hR0 : 0 ≤ R := by rw [← hR]; positivity
    have s1 : ∑ k, d k * (x k * factor x) = (∑ k, x k * d k) * (R : EReal) := by
      rw [← sum_mul_real _ _ R hR0]
      exact Finset.sum_congr rfl fun k _ => by rw [hr, ← mul_assoc, mul_comm (d k)]
    rw [s1, hr, hm, div_of_real _ _ he.ne', width_bits, neg_half_bits, two_bits, Ideal.div_coe (by norm_num), Ideal.div_coe (by norm_num), hf j]
    generalize ∑ k, x k * d k = N
    rw [sub_eq_add_neg, EReal.left_distrib_of_nonneg_of_ne_top (EReal.coe_nonneg.2 hR0) (EReal.coe_ne_top R), add_assoc, mul_comm (R : EReal) (d j)]
    congr 2
    rw [show (f j : EReal) * (R : EReal) * (N * (R : EReal) * ((1 / 1024 : ℝ) : EReal)) = N * ((f j : EReal) * (R : EReal) * (R : EReal) * ((1 / 1024 : ℝ) : EReal)) from by ac_rfl,
      ← mul_neg, mul_left_comm,
      show N * (((-(1 / 2) : ℝ) : EReal) * ((R / e : ℝ) : EReal)) * ((1 / 1024 : ℝ) : EReal) * (((2 : ℝ) : EReal) * (f j : EReal))
        = N * (((-(1 / 2) : ℝ) : EReal) * ((R / e : ℝ) : EReal) * ((1 / 1024 : ℝ) : EReal) * (((2 : ℝ) : EReal) * (f j : EReal))) from by ac_rfl]
    congr 1
    simp only [← EReal.coe_mul, ← EReal.coe_neg]
    congr 1
    rw [show R / e = R * (R * R) from by rw [hq]; ring]
    ring

end Cert.Norm

end
-- ==== Proof.Slices.lean ====
/-
  Loads of a rectangle of a matrix, read entry by entry.
-/
module

public import Idealize.ShloMosaic.Lib.Pipeline.ValueKit
public import Idealize.ShloMosaic.Lib.Pointwise

@[expose] public section

noncomputable section
open Idealize.ShloMosaic Idealize.ShloMosaic.TcCoe Idealize.SL.Sem
namespace Cert.Slices

/-- A load of `n` rows and `w` columns, from row `o` and column `p` on. -/
theorem ld_slice {N W n w o p : ℕ} {e : EltTy} (x : Vec Ideal ⟨2, ![N, W]⟩ e) (inb) (hn : o + n ≤ N) (hw : p + w ≤ W) (r : Fin n) (d : Fin w) :
    View.ld x (Rect.unit (s := ⟨2, ![N, W]⟩) ![o, p] ![n, w] inb) (ix2 r d) = x (ix2 ⟨o + r.val, by omega⟩ ⟨p + d.val, by omega⟩) :=
  View.ld_unit_apply_of x _ _ inb (ix2 r d) (ix2 ⟨o + r.val, by omega⟩ ⟨p + d.val, by omega⟩) fun a => by fin_cases a <;> rfl

end Cert.Slices

end
-- ==== Proof.UpBwd.lean ====
/-
  The gradient through the second norm and the up-projection.
-/
module

public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import proofs.«01_k».proof.Proof.Gen.Reference2Ideal.Read
public import proofs.«01_k».proof.Proof.Norm
public import proofs.«01_k».proof.Proof.Slices

@[expose] public section

set_option maxRecDepth 16384
noncomputable section
open Idealize.ShloMosaic Idealize.ShloMosaic.TcCoe Idealize.SL.Sem
open Idealize.ShloMosaic.Pipeline (Dat)
namespace Cert.Kernel2Ideal.Grad
open Cert.Kernel2Ideal Cert.Kernel2Ideal.Gen

variable (m : (ℓ : Loc nD τ sig) → Buf (Elt Ideal) ℓ)

theorem dy_eq (p q u v) (a : Fin 256) (b : Fin 1024) : k0_pay4 (F := Ideal) p q u v (ix2 a b)
    = ∑ k : Fin 2816, p (ix2 a k) * q (ix2 k b) + ∑ k : Fin 2816, u (ix2 a k) * v (ix2 k b) := by
  pointwise [k0_pay4]

theorem fill (a : Fin 1) (b : Fin 1024) : k0_pay3 (F := Ideal) (ix2 a b) = 0 := by pointwise [k0_pay3]

theorem factor_eq (x) (a : Fin 256) (b : Fin 1) : k0_pay5 (F := Ideal) x (ix2 a b) = Norm.factor fun k : Fin 1024 => x (ix2 a k) := by
  pointwise [k0_pay5, Norm.factor, Norm.meanSq]

theorem scaled_eq (x) (a : Fin 256) (b : Fin 1024) : k0_pay6 (F := Ideal) x (ix2 a b) = x (ix2 a b) * Norm.factor fun k : Fin 1024 => x (ix2 a k) := by
  pointwise [k0_pay6]
  rw [factor_eq]

theorem dx_eq (p q u v x w o) (a : Fin 256) (b : Fin 1024) : k0_pay1 (F := Ideal) (k0_pay5 x) (k0_pay6 x) (k0_pay8 p q u v w) o (ix2 a b)
    = o (ix2 a b) + Norm.factor (fun k : Fin 1024 => x (ix2 a k)) * (k0_pay4 p q u v (ix2 a b) * w (ix2 0 b) - x (ix2 a b) * Norm.factor (fun k : Fin 1024 => x (ix2 a k))
      * Ideal.div (∑ k : Fin 1024, k0_pay4 p q u v (ix2 a k) * w (ix2 0 k) * (x (ix2 a k) * Norm.factor (fun k : Fin 1024 => x (ix2 a k)))) (Ideal.ofBits .f32 0x44800000#32)) := by
  pointwise [k0_pay1, k0_pay8]
  simp only [factor_eq, scaled_eq]

theorem dg_eq (p q u v x o) (a : Fin 1) (b : Fin 1024) : k0_pay7 (F := Ideal) p q u v x o (ix2 a b)
    = o (ix2 a b) + ∑ i : Fin 256, k0_pay4 p q u v (ix2 i b) * (x (ix2 i b) * Norm.factor fun k : Fin 1024 => x (ix2 i k)) := by
  pointwise [k0_pay7]
  simp only [scaled_eq]

theorem dm_eq (p q u v o) (a : Fin 256) (b : Fin 1024) : k0_pay2 (F := Ideal) p q u v o (ix2 a b) = ∑ x : Fin 1024, k0_pay1 p q u v (ix2 a x) * o (ix2 b x) := by
  pointwise [k0_pay2]

open Cert.Reference2Ideal.Read in
theorem ref_dx (x0 x1 x2 x3 x4 x5) (a : Fin 4096) (b : Fin 1024) : val_main_v40 (F := Ideal) x0 x1 x2 x3 x4 x5 (ix2 a b)
    = x5 (ix2 a b) + val_main_v22 x0 x1 x2 (ix2 a b) * x4 (ix2 0 b) * Norm.factor (fun k : Fin 1024 => x3 (ix2 a k))
      + Ideal.div ((∑ k : Fin 1024, x3 (ix2 a k) * (val_main_v22 x0 x1 x2 (ix2 a k) * x4 (ix2 0 k)))
        * (Ideal.ofBits .f32 0xBF000000#32 * Ideal.div (Norm.factor fun k : Fin 1024 => x3 (ix2 a k)) (Norm.meanSq fun k : Fin 1024 => x3 (ix2 a k)))) (Ideal.ofBits .f32 0x44800000#32)
          * (Ideal.ofBits .f32 0x40000000#32 * x3 (ix2 a b)) := by
  pointwise [val_main_v40, val_main_v39, val_main_v38, val_main_v37, val_main_v36, val_main_v35, val_main_v34, val_main_v33, val_main_v32, val_main_v31, val_main_v30, val_main_v29, val_main_v28, val_main_v27, val_main_v26, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_5, val_main_cst_6, val_main_cst_7, Norm.factor, Norm.meanSq]
  rw [Fin.sum_univ_one]

open Cert.Reference2Ideal.Read in
theorem ref_dg (x0 x1 x2 x3 j) : val_main_v25 (F := Ideal) x0 x1 x2 x3 j
    = ∑ i : Fin 4096, val_main_v22 x0 x1 x2 (ix2 i (j 1)) * (x3 (ix2 i (j 1)) * Norm.factor fun k : Fin 1024 => x3 (ix2 i k)) := by
  pointwise [val_main_v25, val_main_v24, val_main_v23, val_main_v18, val_main_v17, val_main_v13, val_main_v12, val_main_v11, val_main_v10, val_main_v9, val_main_v8, val_main_v7, val_main_v4, val_main_cst_0, val_main_cst_1, val_main_cst_2, val_main_cst_4, Norm.factor, Norm.meanSq]
  exact Finset.sum_congr rfl fun i _ => mul_comm _ _

open Cert.Reference2Ideal.Read in
theorem ref_dm (x0 x1 x2 x3 x4 x5 x6 j) : val_main_v45 (F := Ideal) x0 x1 x2 x3 x4 x5 x6 j
    = ∑ k : Fin 1024, val_main_v40 x0 x1 x2 x3 x4 x5 (ix2 (j 0) k) * x6 (ix2 (j 1) k) := by
  pointwise [val_main_v45, val_main_v44, val_main_v42]

open Cert.Reference2Ideal.Read in
theorem ref_dy (x0 x1 x2) (a : Fin 4096) (b : Fin 1024) : val_main_v22 (F := Ideal) x0 x1 x2 (ix2 a b)
    = ∑ k : Fin 2816, x0 (ix2 a k) * x2 (ix2 ⟨k.val, by omega⟩ b) + ∑ k : Fin 2816, x1 (ix2 a k) * x2 (ix2 ⟨2816 + k.val, by omega⟩ b) := by
  pointwise [val_main_v22, val_main_v3, val_main_v2, val_main_v1, val_main_v0]

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![0, 0] ∧ win0_7.index t = ![t.val, 0] ∧ win0_8.index t = ![0, 0]
    ∧ win0_9.index t = ![t.val, 0] ∧ t.val < 16 :=
  (by decide +kernel : ∀ t : Fin grid0.N, _)

/-- Row `a` of point `t`'s block of rows. -/
abbrev row (t : Fin cfg0.N) (a : Fin 256) : Fin 4096 := ⟨256 * t.val + a.val, by have := (idx t).2.2.2.2.2.2.2.2.2.2; omega⟩

variable (c : Dev nD)

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)

theorem block3 (t) (a : Fin 256) (b : Fin 1024) : iblk m c 3 t (ix2 a b) = arg3 m c (ix2 (row t a) b) := by blk_point [iblk, V, idx t]
theorem block4 (t y) : iblk m c 4 t y = arg4 m c y := by blk_point [iblk, V, idx t]
theorem block5 (t) (a : Fin 256) (b : Fin 1024) : iblk m c 5 t (ix2 a b) = arg5 m c (ix2 (row t a) b) := by blk_point [iblk, V, idx t]
theorem block6 (t y) : iblk m c 6 t y = arg6 m c y := by blk_point [iblk, V, idx t]

/-- The gradient of the up-projection's input at point `t`. -/
abbrev dyAt (t : Fin cfg0.N) : FVec Ideal S256x1024 .f32 :=
  k0_pay4 (iblk m c 0 t) (View.ld (iblk m c 2 t) (Rect.unit ![0, 0] ![2816, 1024] inb_S5632x1024_S2816x1024_0_0))
    (iblk m c 1 t) (View.ld (iblk m c 2 t) (Rect.unit ![2816, 0] ![2816, 1024] inb_S5632x1024_S2816x1024_2816_0))

open Cert.Reference2Ideal.Read in
theorem dy_point (t) (a : Fin 256) (b : Fin 1024) : dyAt m c t (ix2 a b) = val_main_v22 (F := Ideal) (arg0 m c) (arg1 m c) (arg2 m c) (ix2 (row t a) b) := by
  rw [dyAt, dy_eq, ref_dy]
  congr 1 <;> refine Finset.sum_congr rfl fun k _ => ?_
  · rw [Slices.ld_slice _ _ (by omega) (by omega)]
    blk_point [iblk, V, idx t]
  · rw [Slices.ld_slice _ _ (by omega) (by omega)]
    blk_point [iblk, V, idx t]

/-- What the points leave in the first output. -/
abbrev dxAt (t : Fin cfg0.N) : FVec Ideal S256x1024 .f32 :=
  k0_pay1 (k0_pay5 (iblk m c 3 t)) (k0_pay6 (iblk m c 3 t))
    (k0_pay8 (iblk m c 0 t) (View.ld (iblk m c 2 t) (Rect.unit ![0, 0] ![2816, 1024] inb_S5632x1024_S2816x1024_0_0))
      (iblk m c 1 t) (View.ld (iblk m c 2 t) (Rect.unit ![2816, 0] ![2816, 1024] inb_S5632x1024_S2816x1024_2816_0)) (iblk m c 4 t))
    (iblk m c 5 t)

open Cert.Reference2Ideal.Read in
theorem dx_point (t) (a : Fin 256) (b : Fin 1024) : dxAt m c t (ix2 a b)
    = val_main_v40 (F := Ideal) (arg0 m c) (arg1 m c) (arg2 m c) (arg3 m c) (arg4 m c) (arg5 m c) (ix2 (row t a) b) := by
  have e : ∀ (a : Fin 256) (b : Fin 1024), k0_pay4 (F := Ideal) (iblk m c 0 t) (View.ld (iblk m c 2 t) (Rect.unit ![0, 0] ![2816, 1024] inb_S5632x1024_S2816x1024_0_0))
    (iblk m c 1 t) (View.ld (iblk m c 2 t) (Rect.unit ![2816, 0] ![2816, 1024] inb_S5632x1024_S2816x1024_2816_0)) (ix2 a b) = _ := dy_point m c t
  rw [dxAt, dx_eq, ref_dx]
  simp only [e, block3, block4, block5]
  exact Norm.grad (fun k : Fin 1024 => arg3 m c (ix2 (row t a) k))
    (fun k : Fin 1024 => val_main_v22 (F := Ideal) (arg0 m c) (arg1 m c) (arg2 m c) (ix2 (row t a) k) * arg4 m c (ix2 0 k)) _ b

/-- What point `t` adds to the gradient of the norm's gain. -/
def dgAt (t : Fin cfg0.N) (b : Fin 1024) : EReal :=
  let x : Vec Ideal S256x1024 .f32 := iblk m c 3 t
  ∑ i : Fin 256, dyAt m c t (ix2 i b) * (x (ix2 i b) * Norm.factor fun k : Fin 1024 => x (ix2 i k))

theorem out7 (t : Fin cfg0.N) (y) : (outsAt0 m c t.val t.isLt).1 y = dxAt m c t (ix2 (y 0) (y 1)) := by
  idx_vars y
  by_cases h : t.val % 16 = 0
  · rw [outsAt0_A m c t h]; frame_out; rfl
  · rw [outsAt0_B m c t h]; frame_out; rfl

theorem out9 (t : Fin cfg0.N) (y) : (outsAt0 m c t.val t.isLt).2.2 y = ∑ x : Fin 1024, dxAt m c t (ix2 (y 0) x) * iblk m c 6 t (ix2 (y 1) x) := by
  idx_vars y
  by_cases h : t.val % 16 = 0
  · rw [outsAt0_A m c t h]; frame_out; rw [dm_eq]; rfl
  · rw [outsAt0_B m c t h]; frame_out; rw [dm_eq]; rfl

theorem final7 : (dats m 0 c).arrAt 7 (cfgs 0).N
    = Cert.Reference2Ideal.Read.val_main_v40 (arg0 m c) (arg1 m c) (arg2 m c) (arg3 m c) (arg4 m c) (arg5 m c) := by
  refine (dats m 0 c).arrAt_eq_of_covers 7 _ (by decide +kernel) fun t hf y => ?_
  blk_simp
  rw [after0_7]
  refine (out7 m c t _).trans ((dx_point m c t _ _).trans ?_)
  blk_point [iblk, V, idx t]

theorem final9 : (dats m 0 c).arrAt 9 (cfgs 0).N
    = Cert.Reference2Ideal.Read.val_main_v45 (arg0 m c) (arg1 m c) (arg2 m c) (arg3 m c) (arg4 m c) (arg5 m c) (arg6 m c) := by
  refine (dats m 0 c).arrAt_eq_of_covers 9 _ (by decide +kernel) fun t hf y => ?_
  blk_simp
  rw [after0_9]
  refine (out9 m c t _).trans ?_
  rw [ref_dm]
  refine Finset.sum_congr rfl fun k _ => ?_
  refine congrArg₂ (· * ·) ((dx_point m c t (y 0) k).trans ?_) ?_
  all_goals blk_point [iblk, V, idx t]

theorem final8 : (dats m 0 c).arrAt 8 (cfgs 0).N
    = Cert.Reference2Ideal.Read.val_main_v25 (arg0 m c) (arg1 m c) (arg2 m c) (arg3 m c) := by
  refine (dats m 0 c).arrAt_eq_of_covers 8 _ (by decide +kernel) fun t hf y => ?_
  blk_simp
  have hm : t.val % 16 = 15 := (flush0_8 t).mp hf
  rw [after0_8]
  rw [Pipeline.eq_sum_fin_of_reset_step_apply_of_flush (fun n h => (outsAt0 m c n h).2.1) 16 (fun _ => 0)
      (fun t j => dgAt m c t (j 1))
    (fun t h j => by idx_vars j; rw [outsAt0_A m c t h]; frame_out; rw [dg_eq, fill]; rfl)
    (fun t h j => by idx_vars j; rw [outsAt0_B m c t h]; frame_out; rw [dg_eq]; rfl)
    t hm _, zero_add, ref_dg]
  simp only [dgAt]
  refine Fin.sum_mul_add_congr fun s i hl => ?_
  have e := dy_point m c ⟨_, Pipeline.run_point_lt_of_flush t hm s⟩ i (y 1)
  refine congrArg₂ (· * ·) (e.trans ?_) (congrArg₂ (· * ·) ?_ (congrArg Norm.factor (funext fun k => ?_)))
  all_goals try rw [block3]
  all_goals blk_point [iblk, V, idx t, idx ⟨_, Pipeline.run_point_lt_of_flush t hm s⟩]

/-- Kernel and reference end with the same three gradients. -/
theorem agree : Cert.algebraic_Kernel2Ideal_Reference2Ideal (hKernel2Ideal := Gen.facts) (hReference2Ideal := Cert.Reference2Ideal.Gen.facts) := by
  intro m ρ m' ρ' _ hargs
  refine ⟨fun c => Cert.Reference2Ideal.Read.val_main_v40 (arg0 m c) (arg1 m c) (arg2 m c) (arg3 m c) (arg4 m c) (arg5 m c),
    fun c => Cert.Reference2Ideal.Read.val_main_v25 (arg0 m c) (arg1 m c) (arg2 m c) (arg3 m c),
    fun c => Cert.Reference2Ideal.Read.val_main_v45 (arg0 m c) (arg1 m c) (arg2 m c) (arg3 m c) (arg4 m c) (arg5 m c) (arg6 m c), ?_, ?_⟩
  · exact (θ_run defs _ _).mono (fun r h c =>
      ⟨(h c).1.trans (final7 m c), (h c).2.1.trans (final8 m c), (h c).2.2.1.trans (final9 m c), (h c).2.2.2⟩)
      (Value.run_blocks (F := Ideal) m ρ)
  · refine (θ_run Cert.Reference2Ideal.defs _ _).mono (fun r h c =>
      ⟨(h c).1.trans ?_, (h c).2.1.trans ?_, (h c).2.2.1.trans ?_, (h c).2.2.2⟩) (Cert.Reference2Ideal.Value.run (F := Ideal) m' ρ')
    all_goals obtain ⟨a0, a1, a2, a3, a4, a5, a6⟩ := hargs c
    · refine (Cert.Reference2Ideal.Read.val_main_v40_eq _ _ _ _ _ _).trans ?_
      rw [a0, a1, a2, a3, a4, a5]
    · refine (Cert.Reference2Ideal.Read.val_main_v25_eq _ _ _ _).trans ?_
      rw [a0, a1, a2, a3]
    · refine (Cert.Reference2Ideal.Read.val_main_v45_eq _ _ _ _ _ _ _).trans ?_
      rw [a0, a1, a2, a3, a4, a5, a6]

/-- The reference's frame: it declares no semaphore. -/
theorem reference_frame : Cert.quiescent_Reference2Ideal (hReference2Ideal := Cert.Reference2Ideal.Gen.facts) := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

end Cert.Kernel2Ideal.Grad

end
-- ==== Proof.InBwd.lean ====
/-
  The gradient through the first norm and the projections in front of the attention.
-/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import proofs.«01_k».proof.Proof.Gen.Reference3Ideal.Read
public import proofs.«01_k».proof.Proof.Norm
public import proofs.«01_k».proof.Proof.Slices

@[expose] public section

set_option maxRecDepth 16384
noncomputable section
open Idealize.ShloMosaic Idealize.ShloMosaic.TcCoe Idealize.SL.Sem
open Idealize.ShloMosaic.Pipeline (Dat)
namespace Cert.Kernel3Ideal.Grad
open Cert.Kernel3Ideal Cert.Kernel3Ideal.Gen

variable (m : (ℓ : Loc nD τ sig) → Buf (Elt Ideal) ℓ)

theorem fill (a : Fin 1) (b : Fin 1024) : k0_pay5 (F := Ideal) (ix2 a b) = 0 := by pointwise [k0_pay5]

/-- The four blocks of columns of the large gradient and the padded small one, each times its rows of the weight. -/
theorem dy_eq (p0 q0 p1 q1 p2 q2 p3 q3 p4 q4) (a : Fin 512) (b : Fin 1024) : k0_pay6 (F := Ideal) p0 q0 p1 q1 p2 q2 p3 q3 p4 q4 (ix2 a b)
    = ∑ k : Fin 1024, p0 (ix2 a k) * q0 (ix2 k b) + ∑ k : Fin 1024, p1 (ix2 a k) * q1 (ix2 k b) + ∑ k : Fin 1024, p2 (ix2 a k) * q2 (ix2 k b)
      + ∑ k : Fin 1024, p3 (ix2 a k) * q3 (ix2 k b) + ∑ k : Fin 512, p4 (ix2 a k) * q4 (ix2 k b) := by
  pointwise [k0_pay6]

theorem factor_eq (x) (a : Fin 512) (b : Fin 1) : k0_pay1 (F := Ideal) (k0_pay7 x) (Ideal.ofBits .f32 0x44800000#32) (ix2 a b) = Norm.factor fun k : Fin 1024 => x (ix2 a k) := by
  pointwise [k0_pay1, k0_pay7, Norm.factor, Norm.meanSq]

theorem scaled_eq (x) (a : Fin 512) (b : Fin 1024) : k0_pay2 (F := Ideal) x (k0_pay7 x) (Ideal.ofBits .f32 0x44800000#32) (ix2 a b)
    = x (ix2 a b) * Norm.factor fun k : Fin 1024 => x (ix2 a k) := by
  pointwise [k0_pay2]
  rw [factor_eq]

theorem dx_eq (d x w o) (a : Fin 512) (b : Fin 1024) : k0_pay4 (F := Ideal) d x (k0_pay7 x) (Ideal.ofBits .f32 0x44800000#32) w o (ix2 a b)
    = o (ix2 a b) + Norm.factor (fun k : Fin 1024 => x (ix2 a k)) * (d (ix2 a b) * w (ix2 0 b) - x (ix2 a b) * Norm.factor (fun k : Fin 1024 => x (ix2 a k))
      * Ideal.div (∑ k : Fin 1024, d (ix2 a k) * w (ix2 0 k) * (x (ix2 a k) * Norm.factor (fun k : Fin 1024 => x (ix2 a k)))) (Ideal.ofBits .f32 0x44800000#32)) := by
  pointwise [k0_pay4]
  simp only [factor_eq, scaled_eq]

theorem dg_eq (d x o) (a : Fin 1) (b : Fin 1024) : k0_pay3 (F := Ideal) d x (k0_pay7 x) (Ideal.ofBits .f32 0x44800000#32) o (ix2 a b)
    = o (ix2 a b) + ∑ i : Fin 512, d (ix2 i b) * (x (ix2 i b) * Norm.factor fun k : Fin 1024 => x (ix2 i k)) := by
  pointwise [k0_pay3]
  simp only [scaled_eq]

open Cert.Reference3Ideal.Read in
theorem ref_dx (x0 x1 x2 x3 x4 x5) (a : Fin 4096) (b : Fin 1024) : val_main_v47 (F := Ideal) x0 x1 x2 x3 x4 x5 (ix2 a b)
    = x5 (ix2 a b) + val_main_v29 x0 x1 x2 (ix2 a b) * x4 (ix2 0 b) * Norm.factor (fun k : Fin 1024 => x3 (ix2 a k))
      + Ideal.div ((∑ k : Fin 1024, x3 (ix2 a k) * (val_main_v29 x0 x1 x2 (ix2 a k) * x4 (ix2 0 k)))
        * (Ideal.ofBits .f32 0xBF000000#32 * Ideal.div (Norm.factor fun k : Fin 1024 => x3 (ix2 a k)) (Norm.meanSq fun k : Fin 1024 => x3 (ix2 a k)))) (Ideal.ofBits .f32 0x44800000#32)
          * (Ideal.ofBits .f32 0x40000000#32 * x3 (ix2 a b)) := by
  pointwise [val_main_v47, val_main_v46, val_main_v45, val_main_v44, val_main_v43, val_main_v42, val_main_v41, val_main_v40, val_main_v39, val_main_v38, val_main_v37, val_main_v36, val_main_v35, val_main_v34, val_main_v33, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_5, val_main_cst_6, val_main_cst_7, Norm.factor, Norm.meanSq]
  rw [Fin.sum_univ_one]

open Cert.Reference3Ideal.Read in
theorem ref_dg (x0 x1 x2 x3 j) : val_main_v32 (F := Ideal) x0 x1 x2 x3 j
    = ∑ i : Fin 4096, val_main_v29 x0 x1 x2 (ix2 i (j 1)) * (x3 (ix2 i (j 1)) * Norm.factor fun k : Fin 1024 => x3 (ix2 i k)) := by
  pointwise [val_main_v32, val_main_v31, val_main_v30, val_main_v16, val_main_v15, val_main_v11, val_main_v10, val_main_v9, val_main_v8, val_main_v7, val_main_v6, val_main_v5, val_main_v2, val_main_cst_0, val_main_cst_1, val_main_cst_2, val_main_cst_4, Norm.factor, Norm.meanSq]
  exact Finset.sum_congr rfl fun i _ => mul_comm _ _

/-- A sum over the projection's rows in the three parts the gradients come in. -/
theorem sum_parts (f : Fin 4544 → EReal) : ∑ k, f k = ∑ k : Fin 2048, f ⟨k.val, by omega⟩ + ∑ k : Fin 448, f ⟨2048 + k.val, by omega⟩
    + ∑ k : Fin 2048, f ⟨2496 + k.val, by omega⟩ := by
  refine (Fin.sum_univ_add (a := 2496) (b := 2048) f).trans (congrArg₂ (· + ·) ?_ rfl)
  exact Fin.sum_univ_add (a := 2048) (b := 448) _

open Cert.Reference3Ideal.Read in
theorem ref_dy (x0 x1 x2) (a : Fin 4096) (b : Fin 1024) : val_main_v29 (F := Ideal) x0 x1 x2 (ix2 a b)
    = ∑ k : Fin 2048, x0 (ix2 a ⟨k.val, by omega⟩) * x2 (ix2 ⟨k.val, by omega⟩ b) + ∑ k : Fin 448, x1 (ix2 a k) * x2 (ix2 ⟨2048 + k.val, by omega⟩ b)
      + ∑ k : Fin 2048, x0 (ix2 a ⟨2048 + k.val, by omega⟩) * x2 (ix2 ⟨2496 + k.val, by omega⟩ b) := by
  pointwise [val_main_v29, val_main_v28, val_main_v27, val_main_v26, val_main_v25, val_main_v24, val_main_v1, val_main_v0]
  refine (sum_parts _).trans (congrArg₂ (· + ·) (congrArg₂ (· + ·) ?_ ?_) ?_)
  all_goals refine Finset.sum_congr rfl fun k _ => ?_
  · simp only [k.isLt, dif_pos]
  · have h : ¬ 2048 + k.val < 2048 := by omega
    simp only [h, dif_neg, not_false_eq_true, Nat.add_sub_cancel_left, k.isLt, dif_pos]
  · have h : ¬ 2496 + k.val < 2048 := by omega
    have h' : ¬ 2496 + k.val - 2048 < 448 := by omega
    have e : 2048 + (2496 + k.val - 2048 - 448) = 2048 + k.val := by omega
    simp only [h, h', dif_neg, not_false_eq_true, e]

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] ∧ t.val < 8 :=
  (by decide +kernel : ∀ t : Fin grid0.N, _)

/-- Row `a` of point `t`'s block of rows. -/
abbrev row (t : Fin cfg0.N) (a : Fin 512) : Fin 4096 := ⟨512 * t.val + a.val, by have := (idx t).2.2.2.2.2.2.2.2; omega⟩

variable (c : Dev nD)

abbrev arg0 : Vec Ideal S4096x4096 .bf16 := m ((c : Thread nD τ).loc main_arg0)
abbrev arg1 : Vec Ideal S4096x448 .bf16 := m ((c : Thread nD τ).loc main_arg1)
abbrev arg2 : Vec Ideal S4544x1024 .bf16 := m ((c : Thread nD τ).loc main_arg2)
abbrev arg3 : Vec Ideal S4096x1024 .f32 := m ((c : Thread nD τ).loc main_arg3)
abbrev arg4 : Vec Ideal S1x1024 .f32 := m ((c : Thread nD τ).loc main_arg4)
abbrev arg5 : Vec Ideal S4096x1024 .f32 := m ((c : Thread nD τ).loc main_arg5)

theorem block0 (t) (a : Fin 512) (b : Fin 4096) : iblk m c 0 t (ix2 a b) = arg0 m c (ix2 (row t a) b) := by blk_point [iblk, V_main_arg0, idx t]
theorem block2 (t y) : iblk m c 2 t y = arg2 m c y := by blk_point [iblk, V_main_arg2, idx t]
theorem block3 (t) (a : Fin 512) (b : Fin 1024) : iblk m c 3 t (ix2 a b) = arg3 m c (ix2 (row t a) b) := by blk_point [iblk, V_main_arg3, idx t]
theorem block4 (t y) : iblk m c 4 t y = arg4 m c y := by blk_point [iblk, V_main_arg4, idx t]
theorem block5 (t) (a : Fin 512) (b : Fin 1024) : iblk m c 5 t (ix2 a b) = arg5 m c (ix2 (row t a) b) := by blk_point [iblk, V_main_arg5, idx t]

theorem entry1 : V m c main_v0 = pad S4096x512 ![0, 0] ![0, 64] ![0, 0] (arg1 m c) (sitofp (F := Ideal) .bf16 (constantI S_ 32 0#32)) pads_S4096x448_S4096x512_000_0640 h_S_ := by
  simp only [V, List.flatten_cons, List.flatten_nil, List.append_nil, List.cons_append, List.nil_append]
  after_results_simp
  rfl

/-- The padded small gradient: its own columns, then zeros. -/
theorem pad_at (x : Vec Ideal S4096x448 .bf16) (a : Fin 4096) (b : Fin 512) :
    pad S4096x512 ![0, 0] ![0, 64] ![0, 0] x (sitofp (F := Ideal) .bf16 (constantI S_ 32 0#32)) pads_S4096x448_S4096x512_000_0640 h_S_ (ix2 a b)
      = if h : b.val < 448 then x (ix2 a ⟨b.val, h⟩) else (0 : EReal) := by
  pointwise
  all_goals simp [FloatOps.sitofp]

theorem block1 (t) (a b : Fin 512) : iblk m c 1 t (ix2 a b) = if h : b.val < 448 then arg1 m c (ix2 (row t a) ⟨b.val, h⟩) else (0 : EReal) := by
  refine Eq.trans ?_ (pad_at (arg1 m c) (row t a) b)
  rw [← entry1]
  blk_simp [iblk]
  blk_ext [idx t]

/-- The kernel's five sums are the three of the whole contraction. -/
theorem regroup (f h : Fin 2048 → EReal) (g : Fin 448 → EReal) :
    ∑ k : Fin 1024, f ⟨k.val, by omega⟩ + ∑ k : Fin 1024, f ⟨1024 + k.val, by omega⟩ + ∑ k : Fin 1024, h ⟨k.val, by omega⟩ + ∑ k : Fin 1024, h ⟨1024 + k.val, by omega⟩
      + ∑ k : Fin 512, (if hk : k.val < 448 then g ⟨k.val, hk⟩ else 0) = ∑ k, f k + ∑ k, g k + ∑ k, h k := by
  have two (f : Fin 2048 → EReal) : ∑ k, f k = ∑ k : Fin 1024, f ⟨k.val, by omega⟩ + ∑ k : Fin 1024, f ⟨1024 + k.val, by omega⟩ :=
    Fin.sum_univ_add (a := 1024) (b := 1024) f
  have cut : ∑ k : Fin 512, (if hk : k.val < 448 then g ⟨k.val, hk⟩ else 0) = ∑ k, g k := by
    refine (Fin.sum_univ_add (a := 448) (b := 64) _).trans ?_
    have z : ∑ k : Fin 64, (if hk : (Fin.natAdd 448 k).val < 448 then g ⟨(Fin.natAdd 448 k).val, hk⟩ else 0) = 0 :=
      Finset.sum_eq_zero fun k _ => dif_neg (by simp only [Fin.natAdd]; omega)
    rw [z, add_zero]
    exact Finset.sum_congr rfl fun k _ => dif_pos k.isLt
  rw [two f, two h, cut]
  ac_rfl

/-- The gradient of the projections' input at point `t`. -/
abbrev dyAt (t : Fin cfg0.N) : FVec Ideal S512x1024 .f32 :=
  k0_pay6 (View.ld (iblk m c 0 t) (Rect.unit ![0, 0] ![512, 1024] inb_S512x4096_S512x1024_0_0))
    (View.ld (iblk m c 2 t) (Rect.unit ![0, 0] ![1024, 1024] inb_S4544x1024_S1024x1024_0_0))
    (View.ld (iblk m c 0 t) (Rect.unit ![0, 1024] ![512, 1024] inb_S512x4096_S512x1024_0_1024))
    (View.ld (iblk m c 2 t) (Rect.unit ![1024, 0] ![1024, 1024] inb_S4544x1024_S1024x1024_1024_0))
    (View.ld (iblk m c 0 t) (Rect.unit ![0, 2048] ![512, 1024] inb_S512x4096_S512x1024_0_2048))
    (View.ld (iblk m c 2 t) (Rect.unit ![2496, 0] ![1024, 1024] inb_S4544x1024_S1024x1024_2496_0))
    (View.ld (iblk m c 0 t) (Rect.unit ![0, 3072] ![512, 1024] inb_S512x4096_S512x1024_0_3072))
    (View.ld (iblk m c 2 t) (Rect.unit ![3520, 0] ![1024, 1024] inb_S4544x1024_S1024x1024_3520_0))
    (iblk m c 1 t)
    (View.ld (iblk m c 2 t) (Rect.unit ![2048, 0] ![512, 1024] inb_S4544x1024_S512x1024_2048_0))

open Cert.Reference3Ideal.Read in
theorem dy_point (t) (a : Fin 512) (b : Fin 1024) : dyAt m c t (ix2 a b) = val_main_v29 (F := Ideal) (arg0 m c) (arg1 m c) (arg2 m c) (ix2 (row t a) b) := by
  rw [dyAt, dy_eq, ref_dy]
  refine Eq.trans ?_ (regroup (fun k => arg0 m c (ix2 (row t a) ⟨k.val, by omega⟩) * arg2 m c (ix2 ⟨k.val, by omega⟩ b))
    (fun k => arg0 m c (ix2 (row t a) ⟨2048 + k.val, by omega⟩) * arg2 m c (ix2 ⟨2496 + k.val, by omega⟩ b))
    (fun k => arg1 m c (ix2 (row t a) k) * arg2 m c (ix2 ⟨2048 + k.val, by omega⟩ b)))
  refine congrArg₂ (· + ·) (congrArg₂ (· + ·) (congrArg₂ (· + ·) (congrArg₂ (· + ·) ?_ ?_) ?_) ?_) ?_
  all_goals refine Finset.sum_congr rfl fun k _ => ?_
  on_goal 5 =>
    rw [Slices.ld_slice _ _ (by omega) (by omega), block1, block2]
    by_cases h : k.val < 448
    · rw [dif_pos h, dif_pos h]
      refine congrArg₂ (· * ·) rfl (congrArg (arg2 m c) ?_)
      blk_ext
    · rw [dif_neg h, dif_neg h, zero_mul]
  all_goals
    rw [Slices.ld_slice _ _ (by omega) (by omega), Slices.ld_slice _ _ (by omega) (by omega), block0, block2]
    refine congrArg₂ (· * ·) (congrArg (arg0 m c) ?_) (congrArg (arg2 m c) ?_)
    all_goals blk_ext

/-- What the points leave in the first output. -/
abbrev dxAt (t : Fin cfg0.N) : FVec Ideal S512x1024 .f32 :=
  k0_pay4 (dyAt m c t) (iblk m c 3 t) (k0_pay7 (iblk m c 3 t)) (Scalar.ofBits .f32 0x44800000#32) (iblk m c 4 t) (iblk m c 5 t)

open Cert.Reference3Ideal.Read in
theorem dx_point (t) (a : Fin 512) (b : Fin 1024) : dxAt m c t (ix2 a b)
    = val_main_v47 (F := Ideal) (arg0 m c) (arg1 m c) (arg2 m c) (arg3 m c) (arg4 m c) (arg5 m c) (ix2 (row t a) b) := by
  refine (dx_eq (dyAt m c t) _ _ _ a b).trans ?_
  rw [ref_dx]
  simp only [dy_point, block3, block4, block5]
  exact Norm.grad (fun k : Fin 1024 => arg3 m c (ix2 (row t a) k))
    (fun k : Fin 1024 => val_main_v29 (F := Ideal) (arg0 m c) (arg1 m c) (arg2 m c) (ix2 (row t a) k) * arg4 m c (ix2 0 k)) _ b

/-- What point `t` adds to the gradient of the norm's gain. -/
def dgAt (t : Fin cfg0.N) (b : Fin 1024) : EReal :=
  let x : Vec Ideal S512x1024 .f32 := iblk m c 3 t
  ∑ i : Fin 512, dyAt m c t (ix2 i b) * (x (ix2 i b) * Norm.factor fun k : Fin 1024 => x (ix2 i k))

theorem out6 (t : Fin cfg0.N) (y) : (outsAt0 m c t.val t.isLt).1 y = dxAt m c t (ix2 (y 0) (y 1)) := by
  idx_vars y
  by_cases h : t.val % 8 = 0
  · rw [outsAt0_A m c t h]; frame_out; rfl
  · rw [outsAt0_B m c t h]; frame_out; rfl

theorem final6 : (dats m 0 c).arrAt 6 (cfgs 0).N
    = Cert.Reference3Ideal.Read.val_main_v47 (arg0 m c) (arg1 m c) (arg2 m c) (arg3 m c) (arg4 m c) (arg5 m c) := by
  refine (dats m 0 c).arrAt_eq_of_covers 6 _ (by decide +kernel) fun t hf y => ?_
  blk_simp
  rw [after0_6]
  refine (out6 m c t _).trans ((dx_point m c t _ _).trans ?_)
  blk_point [iblk, idx t]

theorem final7 : (dats m 0 c).arrAt 7 (cfgs 0).N
    = Cert.Reference3Ideal.Read.val_main_v32 (arg0 m c) (arg1 m c) (arg2 m c) (arg3 m c) := by
  refine (dats m 0 c).arrAt_eq_of_covers 7 _ (by decide +kernel) fun t hf y => ?_
  blk_simp
  have hm : t.val % 8 = 7 := (flush0_7 t).mp hf
  rw [after0_7]
  rw [Pipeline.eq_sum_fin_of_reset_step_apply_of_flush (fun n h => (outsAt0 m c n h).2) 8 (fun _ => 0)
      (fun t j => dgAt m c t (j 1))
    (fun t h j => by idx_vars j; rw [outsAt0_A m c t h]; frame_out; refine (dg_eq _ _ _ _ _).trans ?_; rw [fill]; rfl)
    (fun t h j => by idx_vars j; rw [outsAt0_B m c t h]; frame_out; exact dg_eq _ _ _ _ _)
    t hm _, zero_add, ref_dg]
  simp only [dgAt]
  refine Fin.sum_mul_add_congr fun s i hl => ?_
  have e := dy_point m c ⟨_, Pipeline.run_point_lt_of_flush t hm s⟩ i (y 1)
  refine congrArg₂ (· * ·) (e.trans ?_) (congrArg₂ (· * ·) ?_ (congrArg Norm.factor (funext fun k => ?_)))
  all_goals try rw [block3]
  all_goals blk_point [iblk, V_main_arg3, idx t, idx ⟨_, Pipeline.run_point_lt_of_flush t hm s⟩]

/-- Kernel and reference end with the same two gradients. -/
theorem agree : Cert.algebraic_Kernel3Ideal_Reference3Ideal (hKernel3Ideal := Gen.facts) (hReference3Ideal := Cert.Reference3Ideal.Gen.facts) := by
  intro m ρ m' ρ' _ hargs
  refine ⟨fun c => Cert.Reference3Ideal.Read.val_main_v47 (arg0 m c) (arg1 m c) (arg2 m c) (arg3 m c) (arg4 m c) (arg5 m c),
    fun c => Cert.Reference3Ideal.Read.val_main_v32 (arg0 m c) (arg1 m c) (arg2 m c) (arg3 m c), ?_, ?_⟩
  · exact (θ_run defs _ _).mono (fun r h c => ⟨(h c).1.trans (final6 m c), (h c).2.1.trans (final7 m c), (h c).2.2⟩)
      (Value.run_blocks (F := Ideal) m ρ)
  · refine (θ_run Cert.Reference3Ideal.defs _ _).mono (fun r h c => ⟨(h c).1.trans ?_, (h c).2.1.trans ?_, (h c).2.2⟩)
      (Cert.Reference3Ideal.Value.run (F := Ideal) m' ρ')
    all_goals obtain ⟨a0, a1, a2, a3, a4, a5⟩ := hargs c
    · refine (Cert.Reference3Ideal.Read.val_main_v47_eq _ _).trans ?_
      rw [a0, a1, a2, a3, a4, a5]
    · refine (Cert.Reference3Ideal.Read.val_main_v32_eq _ _ _ _).trans ?_
      rw [a0, a1, a2, a3]

/-- The reference's frame: it declares no semaphore. -/
theorem reference_frame : Cert.quiescent_Reference3Ideal (hReference3Ideal := Cert.Reference3Ideal.Gen.facts) := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

end Cert.Kernel3Ideal.Grad

end
-- ==== Proof.DwDown.lean ====
/-
  The gradient of the down-projection's weight: what the kernel's two points of each block add up to.
-/
module

public import proofs.«01_k».proof.Defs
public import proofs.«01_k».proof.Proof.Gen.Kernel4
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import proofs.«01_k».proof.Proof.Gen.Reference4Ideal.Read

@[expose] public section

set_option maxRecDepth 16384
noncomputable section
open Idealize.ShloMosaic Idealize.ShloMosaic.TcCoe Idealize.SL.Sem
open Idealize.ShloMosaic.Pipeline (Dat)
namespace Cert.Kernel4Ideal.Grad
open Cert.Kernel4Ideal Cert.Kernel4Ideal.Gen

variable (m : (ℓ : Loc nD τ sig) → Buf (Elt Ideal) ℓ)

theorem fill (j) : k0_pay1 (F := Ideal) j = 0 := by pointwise [k0_pay1]

theorem add (acc x0 x1 j) : k0_pay2 (F := Ideal) acc x0 x1 j = acc j + ∑ k : Fin 2048, x0 (ix2 k (j 0)) * x1 (ix2 k (j 1)) := by
  pointwise [k0_pay2]

theorem idx : ∀ t : Fin cfg0.N, win0_0.index t = ![t.val % 2, t.val / 2] ∧ win0_1.index t = ![t.val % 2, 0] ∧ win0_2.index t = ![t.val / 2, 0] ∧ t.val / 2 < 2 :=
  (by decide +kernel : ∀ t : Fin grid0.N, _)

theorem final (c : Dev nD) : (dats m 0 c).arrAt 2 (cfgs 0).N
    = Cert.Reference4Ideal.Read.val_main_v6 (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  have e : (outsAt0 m c t.val t.isLt).1 y = (outsAt0 m c t.val t.isLt).2 y := by
    rw [outsAt0_B m c t (by omega) hm]
    frame_out
    pointwise [k0_pay3]
  rw [after0_2]
  refine e.trans ?_
  rw [Pipeline.eq_sum_fin_of_reset_step_apply_of_flush (fun n h => (outsAt0 m c n h).2) 2 (fun _ => 0) _
    (fun t h j => by rw [outsAt0_A m c t h (by omega)]; frame_out; rw [add, fill])
    (fun t h j => by rw [outsAt0_B m c t h (by omega)]; frame_out; rw [add, read_unread_whole])
    t hm _, zero_add]
  pointwise [Cert.Reference4Ideal.Read.val_main_v6, Cert.Reference4Ideal.Read.val_main_v5, Cert.Reference4Ideal.Read.val_main_v4, Cert.Reference4Ideal.Read.val_main_v1, Cert.Reference4Ideal.Read.val_main_v0]
  refine Fin.sum_mul_add_congr fun s k hl => ?_
  rw [mul_comm]
  blk_point [iblk, V, idx t, idx ⟨_, Pipeline.run_point_lt_of_flush t hm s⟩]

/-- Kernel and reference end with the same gradient. -/
theorem agree : Cert.algebraic_Kernel4Ideal_Reference4Ideal (hKernel4Ideal := Gen.facts) (hReference4Ideal := Cert.Reference4Ideal.Gen.facts) := by
  intro m ρ m' ρ' _ hargs
  refine ⟨fun c => Cert.Reference4Ideal.Read.val_main_v6 (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m ρ)
  · refine (θ_run Cert.Reference4Ideal.defs _ _).mono (fun r h c => ⟨(h c).1.trans ?_, (h c).2⟩) (Cert.Reference4Ideal.Value.run (F := Ideal) m' ρ')
    obtain ⟨a0, a1⟩ := hargs c
    rw [Cert.Reference4Ideal.Read.val_main_v6_eq, a0, a1]

/-- The reference's frame: it declares no semaphore. -/
theorem reference_frame : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

end Cert.Kernel4Ideal.Grad

end
-- ==== Proof.DwUpGate.lean ====
/-
  The first half of the up-projection's weight gradient: what the kernel's two points of each block add up to, and the rows
  of the larger array that it writes and the program keeps.
-/
module

public import proofs.«01_k».proof.Defs
public import proofs.«01_k».proof.Proof.Gen.Kernel5
public import proofs.«01_k».proof.Proof.Gen.Kernel5Ideal.Frame
public import proofs.«01_k».proof.Proof.Gen.Kernel5Ideal.Frame
public import proofs.«01_k».proof.Proof.Gen.Reference5Ideal.Run
public import Idealize.ShloMosaic.Lib.Pipeline.ValueKit
public import Idealize.ShloMosaic.Lib.Pipeline.ReadBack
public import proofs.«01_k».proof.Proof.Gen.Reference5Ideal.Read

@[expose] public section

set_option maxRecDepth 16384
noncomputable section
open Idealize.ShloMosaic Idealize.ShloMosaic.TcCoe Idealize.SL.Sem
open Idealize.ShloMosaic.Pipeline (Dat)
namespace Cert.Kernel5Ideal.Grad
open Cert.Kernel5Ideal Cert.Kernel5Ideal.Gen

variable (m : (ℓ : Loc nD τ sig) → Buf (Elt Ideal) ℓ)

variable (c : Dev nD)

abbrev arg0 : Vec Ideal S4096x2816 .bf16 := m ((c : Thread nD τ).loc main_arg0)
abbrev arg1 : Vec Ideal S4096x1024 .bf16 := m ((c : Thread nD τ).loc main_arg1)

theorem fill (j) : k0_pay1 (F := Ideal) j = 0 := by pointwise [k0_pay1]

theorem add (acc x0 x1 j) : k0_pay2 (F := Ideal) acc x0 x1 j = acc j + ∑ k : Fin 2048, x0 (ix2 k (j 0)) * x1 (ix2 k (j 1)) := by
  pointwise [k0_pay2]

theorem idx : ∀ t : Fin cfg0.N, win0_0.index t = ![t.val % 2, t.val / 2] ∧ win0_1.index t = ![t.val % 2, 0] ∧ win0_2.index t = ![t.val / 2, 0] ∧ t.val / 2 < 2 :=
  (by decide +kernel : ∀ t : Fin grid0.N, _)

open Cert.Reference5Ideal.Read in
theorem ref (x0 x1) (a : Fin 2816) (b : Fin 1024) : val_main_v7 (F := Ideal) x0 x1 (ix2 a b) = ∑ k : Fin 4096, x0 (ix2 k a) * x1 (ix2 k b) := by
  pointwise [val_main_v7, val_main_v6, val_main_v5, val_main_v4, val_main_v3, val_main_v2, val_main_cst, val_main_v1, val_main_v0]

theorem block0 (t) (a : Fin 2048) (b : Fin 1408) : iblk m c 0 t (ix2 a b) = arg0 m c (ix2 ⟨t.val % 2 * 2048 + a.val, by omega⟩ ⟨t.val / 2 * 1408 + b.val, by have := (idx t).2.2.2; omega⟩) := by
  blk_point [iblk, V, idx t]

theorem block1 (t) (a : Fin 2048) (b : Fin 1024) : iblk m c 1 t (ix2 a b) = arg1 m c (ix2 ⟨t.val % 2 * 2048 + a.val, by omega⟩ b) := by
  blk_point [iblk, V, idx t]

theorem covered (t : Fin cfg0.N) (hm : t.val % 2 = 1) (y : S1408x1024.Idx) : (outsAt0 m c t.val t.isLt).1 y
    = ∑ k : Fin 4096, arg0 m c (ix2 k ⟨t.val / 2 * 1408 + (y 0).val, by have := (idx t).2.2.2; have := (y 0).isLt; simp at this; omega⟩) * arg1 m c (ix2 k (y 1)) := by
  have e : (outsAt0 m c t.val t.isLt).1 y = (outsAt0 m c t.val t.isLt).2 y := by
    rw [outsAt0_B m c t (by omega) hm]
    frame_out
    pointwise [k0_pay3]
  refine e.trans ?_
  rw [Pipeline.eq_sum_fin_of_reset_step_apply_of_flush (fun n h => (outsAt0 m c n h).2) 2 (fun _ => 0) _
    (fun t h j => by rw [outsAt0_A m c t h (by omega)]; frame_out; rw [add, fill])
    (fun t h j => by rw [outsAt0_B m c t h (by omega)]; frame_out; rw [add, read_unread_whole])
    t hm _, zero_add]
  refine Fin.sum_mul_add_congr fun s k hl => ?_
  idx_vars y
  refine (congrArg₂ (fun x y : EReal => x * y) (block0 m c ⟨_, Pipeline.run_point_lt_of_flush t hm s⟩ k y0) (block1 m c ⟨_, Pipeline.run_point_lt_of_flush t hm s⟩ k y1)).trans ?_
  refine congrArg₂ (fun x y : EReal => x * y) (congrArg (arg0 m c) ?_) (congrArg (arg1 m c) ?_)
  all_goals blk_ext

/-- The gradient at a row of the array, counted within the half. -/
def half (i : S5632x1024.Idx) : EReal := ∑ k : Fin 4096, arg0 m c (ix2 k ⟨(i 0).val % 2816, Nat.mod_lt _ (by decide)⟩) * arg1 m c (ix2 k (i 1))

theorem half_eq (i : S5632x1024.Idx) (a : Fin 2816) (b : Fin 1024) (h : (i 0).val = a.val) (h' : i 1 = b) :
    ∑ k : Fin 4096, arg0 m c (ix2 k a) * arg1 m c (ix2 k b) = half m c i := by
  unfold half
  refine Finset.sum_congr rfl fun k _ => congrArg₂ (· * ·) (congrArg (fun z => arg0 m c (ix2 k z)) (Fin.ext ?_)) (by rw [h'])
  show a.val = (i 0).val % 2816
  rw [h, Nat.mod_eq_of_lt a.isLt]

/-- The first half of the array is what the points write. -/
theorem final (a : Fin 2816) (b : Fin 1024) : (dats m 0 c).arrAt 2 (cfgs 0).N (ix2 ⟨a.val, by omega⟩ b) = ∑ k : Fin 4096, arg0 m c (ix2 k a) * arg1 m c (ix2 k b) := by
  have e : (dats m 0 c).arrAt 2 (cfgs 0).N = fun i : S5632x1024.Idx => if (i 0).val < 2 * 1408 then half m c i else V m c main_v0 i := by
    refine (dats m 0 c).arrAt_eq_of_coversWhere 2 _ (fun β => β 0 < 2) (by decide +kernel) (fun t hf y => ?_)
      (fun j => by blk_simp [Pipeline.Window.cell_apply]; omega)
    blk_simp
    rw [after0_2, covered m c t ((flush0_2 t).mp hf)]
    idx_vars y
    refine half_eq m c _ _ _ ?_ ?_
    all_goals blk_simp [idx t]
    all_goals try (apply Fin.ext; blk_simp [idx t])
    all_goals omega
  rw [e]
  refine (if_pos (show a.val < 2 * 1408 by omega)).trans ?_
  exact (half_eq m c _ a b rfl rfl).symm

/-- The rows kept of the array the points write into. -/
abbrev kept (x : Vec Ideal S5632x1024 .bf16) : Vec Ideal S2816x1024 .bf16 := extractStridedSlice S2816x1024 ![0, 0] x slices_S5632x1024_S2816x1024_0_0

theorem kept_at (x) (a : Fin 2816) (b : Fin 1024) : kept x (ix2 a b) = x (ix2 ⟨a.val, by omega⟩ b) := by
  pointwise [kept]

/-- Every execution ends with the rows that the points write in the result, and the arguments as launched. -/
theorem run_ends (ρ : Dev nD → PrngReg) : θ_run defs (onTc (τ := τ) (main (F := Ideal))) ⟨m, fun _ => 0, ρ⟩ (fun r => ∀ c : Dev nD,
      r.2.mem ((c.tc : Thread nD τ).loc main_v1) = kept ((dats m 0 c).arrAt 2 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, h.1 c⟩) (θ_run_and (unchanged m ρ) (run_main m ρ))
  refine ((h.2 c).2 main_v1 (by decide +kernel)).trans ?_
  unfold Pipeline.afterTail₀
  after_results
  refine congrArg kept ?_
  have w := Pipeline.withArrays_arr spec0 launch0.win.arr_inj c (V0 m c) (fun w => (dats m 0 c).arrAt w (cfgs 0).N) 2
  unfold Pipeline.withArrays at w
  rw [dif_pos ⟨2, rfl⟩] at w
  exact w

/-- Kernel and reference end with the same gradient. -/
theorem agree : Cert.algebraic_Kernel5Ideal_Reference5Ideal (hKernel5Ideal := Gen.facts) (hReference5Ideal := Cert.Reference5Ideal.Gen.facts) := by
  intro m ρ m' ρ' _ hargs
  refine ⟨fun c => Cert.Reference5Ideal.Read.val_main_v7 (arg0 m c) (arg1 m c), ?_, ?_⟩
  · refine (θ_run defs _ _).mono (fun r h c => ⟨(h c).1.trans ?_, (h c).2⟩) (run_ends m ρ)
    funext i
    idx_vars i
    rw [ref]
    exact (kept_at _ i0 i1).trans (final m c i0 i1)
  · refine (θ_run Cert.Reference5Ideal.defs _ _).mono (fun r h c => ⟨(h c).1.trans ?_, (h c).2⟩) (Cert.Reference5Ideal.Value.run (F := Ideal) m' ρ')
    obtain ⟨a0, a1⟩ := hargs c
    refine (Cert.Reference5Ideal.Read.val_main_v7_eq _ _).trans ?_
    rw [a0, a1]

/-- The reference's frame: it declares no semaphore. -/
theorem reference_frame : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

end Cert.Kernel5Ideal.Grad

end
-- ==== Proof.DwIn.lean ====
/-
  The gradient of the main rows of the input projection's weight: what the kernel's two points of each block add up to.
-/
module

public import proofs.«01_k».proof.Defs
public import proofs.«01_k».proof.Proof.Gen.Kernel6
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import proofs.«01_k».proof.Proof.Gen.Reference6Ideal.Read

@[expose] public section

set_option maxRecDepth 16384
noncomputable section
open Idealize.ShloMosaic Idealize.ShloMosaic.TcCoe Idealize.SL.Sem
open Idealize.ShloMosaic.Pipeline (Dat)
namespace Cert.Kernel6Ideal.Grad
open Cert.Kernel6Ideal Cert.Kernel6Ideal.Gen

variable (m : (ℓ : Loc nD τ sig) → Buf (Elt Ideal) ℓ)

theorem fill (j) : k0_pay1 (F := Ideal) j = 0 := by pointwise [k0_pay1]

theorem add (acc x0 x1 j) : k0_pay2 (F := Ideal) acc x0 x1 j = acc j + ∑ k : Fin 2048, x0 (ix2 k (j 0)) * x1 (ix2 k (j 1)) := by
  pointwise [k0_pay2]

theorem idx : ∀ t : Fin cfg0.N, win0_0.index t = ![t.val % 2, t.val / 2] ∧ win0_1.index t = ![t.val % 2, 0] ∧ win0_2.index t = ![t.val / 2, 0] ∧ t.val / 2 < 4 :=
  (by decide +kernel : ∀ t : Fin grid0.N, _)

theorem final (c : Dev nD) : (dats m 0 c).arrAt 2 (cfgs 0).N
    = Cert.Reference6Ideal.Read.val_main_v7 (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  have e : (outsAt0 m c t.val t.isLt).1 y = (outsAt0 m c t.val t.isLt).2 y := by
    rw [outsAt0_B m c t (by omega) hm]
    frame_out
    pointwise [k0_pay3]
  rw [after0_2]
  refine e.trans ?_
  rw [Pipeline.eq_sum_fin_of_reset_step_apply_of_flush (fun n h => (outsAt0 m c n h).2) 2 (fun _ => 0) _
    (fun t h j => by rw [outsAt0_A m c t h (by omega)]; frame_out; rw [add, fill])
    (fun t h j => by rw [outsAt0_B m c t h (by omega)]; frame_out; rw [add, read_unread_whole])
    t hm _, zero_add]
  pointwise [Cert.Reference6Ideal.Read.val_main_v7, Cert.Reference6Ideal.Read.val_main_v6, Cert.Reference6Ideal.Read.val_main_v5, Cert.Reference6Ideal.Read.val_main_v4, Cert.Reference6Ideal.Read.val_main_v1, Cert.Reference6Ideal.Read.val_main_v0]
  refine Fin.sum_mul_add_congr fun s k hl => ?_
  blk_point [iblk, V, idx t, idx ⟨_, Pipeline.run_point_lt_of_flush t hm s⟩]

/-- Kernel and reference end with the same gradient. -/
theorem agree : Cert.algebraic_Kernel6Ideal_Reference6Ideal (hKernel6Ideal := Gen.facts) (hReference6Ideal := Cert.Reference6Ideal.Gen.facts) := by
  intro m ρ m' ρ' _ hargs
  refine ⟨fun c => Cert.Reference6Ideal.Read.val_main_v7 (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m ρ)
  · refine (θ_run Cert.Reference6Ideal.defs _ _).mono (fun r h c => ⟨(h c).1.trans ?_, (h c).2⟩) (Cert.Reference6Ideal.Value.run (F := Ideal) m' ρ')
    obtain ⟨a0, a1⟩ := hargs c
    rw [Cert.Reference6Ideal.Read.val_main_v7_eq, a0, a1]

/-- The reference's frame: it declares no semaphore. -/
theorem reference_frame : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

end Cert.Kernel6Ideal.Grad

end
-- ==== Proof.DwOut.lean ====
/-
  The gradient of the output projection's weight: what the kernel's two points of each block add up to.
-/
module

public import proofs.«01_k».proof.Defs
public import proofs.«01_k».proof.Proof.Gen.Kernel7
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import proofs.«01_k».proof.Proof.Gen.Reference7Ideal.Read

@[expose] public section

set_option maxRecDepth 16384
noncomputable section
open Idealize.ShloMosaic Idealize.ShloMosaic.TcCoe Idealize.SL.Sem
open Idealize.ShloMosaic.Pipeline (Dat)
namespace Cert.Kernel7Ideal.Grad
open Cert.Kernel7Ideal Cert.Kernel7Ideal.Gen

variable (m : (ℓ : Loc nD τ sig) → Buf (Elt Ideal) ℓ)

theorem fill (j) : k0_pay1 (F := Ideal) j = 0 := by pointwise [k0_pay1]

theorem add (acc x0 x1 j) : k0_pay2 (F := Ideal) acc x0 x1 j = acc j + ∑ k : Fin 2048, x0 (ix2 k (j 0)) * x1 (ix2 k (j 1)) := by
  pointwise [k0_pay2]

theorem idx : ∀ t : Fin cfg0.N, win0_0.index t = ![t.val % 2, t.val / 2] ∧ win0_1.index t = ![t.val % 2, 0] ∧ win0_2.index t = ![t.val / 2, 0] ∧ t.val / 2 < 2 :=
  (by decide +kernel : ∀ t : Fin grid0.N, _)

theorem final (c : Dev nD) : (dats m 0 c).arrAt 2 (cfgs 0).N
    = Cert.Reference7Ideal.Read.val_main_v5 (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  have e : (outsAt0 m c t.val t.isLt).1 y = (outsAt0 m c t.val t.isLt).2 y := by
    rw [outsAt0_B m c t (by omega) hm]
    frame_out
    pointwise [k0_pay3]
  rw [after0_2]
  refine e.trans ?_
  rw [Pipeline.eq_sum_fin_of_reset_step_apply_of_flush (fun n h => (outsAt0 m c n h).2) 2 (fun _ => 0) _
    (fun t h j => by rw [outsAt0_A m c t h (by omega)]; frame_out; rw [add, fill])
    (fun t h j => by rw [outsAt0_B m c t h (by omega)]; frame_out; rw [add, read_unread_whole])
    t hm _, zero_add]
  pointwise [Cert.Reference7Ideal.Read.val_main_v5, Cert.Reference7Ideal.Read.val_main_v4, Cert.Reference7Ideal.Read.val_main_v3, Cert.Reference7Ideal.Read.val_main_v0]
  refine Fin.sum_mul_add_congr fun s k hl => ?_
  rw [mul_comm]
  blk_point [iblk, V, idx t, idx ⟨_, Pipeline.run_point_lt_of_flush t hm s⟩]

/-- Kernel and reference end with the same gradient. -/
theorem agree : Cert.algebraic_Kernel7Ideal_Reference7Ideal (hKernel7Ideal := Gen.facts) (hReference7Ideal := Cert.Reference7Ideal.Gen.facts) := by
  intro m ρ m' ρ' _ hargs
  refine ⟨fun c => Cert.Reference7Ideal.Read.val_main_v5 (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m ρ)
  · refine (θ_run Cert.Reference7Ideal.defs _ _).mono (fun r h c => ⟨(h c).1.trans ?_, (h c).2⟩) (Cert.Reference7Ideal.Value.run (F := Ideal) m' ρ')
    obtain ⟨a0, a1⟩ := hargs c
    rw [Cert.Reference7Ideal.Read.val_main_v5_eq, a0, a1]

/-- The reference's frame: it declares no semaphore. -/
theorem reference_frame : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

end Cert.Kernel7Ideal.Grad

end
-- ==== Proof.InFwd.lean ====
/-
  The first norm and the projections in front of the attention.
-/
module

public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import proofs.«01_k».proof.Proof.Gen.Reference8Ideal.Read
public import proofs.«01_k».proof.Proof.Norm
public import proofs.«01_k».proof.Proof.Slices

@[expose] public section

set_option maxRecDepth 16384
noncomputable section
open Idealize.ShloMosaic Idealize.ShloMosaic.TcCoe Idealize.SL.Sem
open Idealize.ShloMosaic.Pipeline (Dat)
namespace Cert.Kernel8Ideal.Project
open Cert.Kernel8Ideal Cert.Kernel8Ideal.Gen

variable (m : (ℓ : Loc nD τ sig) → Buf (Elt Ideal) ℓ)

theorem h_eq (x g) (a : Fin 512) (b : Fin 1024) : k0_pay3 (F := Ideal) x g (ix2 a b) = x (ix2 a b) * Norm.factor (fun k : Fin 1024 => x (ix2 a k)) * g (ix2 0 b) := by
  pointwise [k0_pay3, Norm.factor, Norm.meanSq]

theorem z4_eq (x g w) (a : Fin 512) (b : Fin 1024) : k0_pay4 (F := Ideal) x g w (ix2 a b) = ∑ k : Fin 1024, k0_pay3 x g (ix2 a k) * w (ix2 b k) := by pointwise [k0_pay4]
theorem z5_eq (x g w) (a : Fin 512) (b : Fin 1024) : k0_pay5 (F := Ideal) x g w (ix2 a b) = ∑ k : Fin 1024, k0_pay3 x g (ix2 a k) * w (ix2 b k) := by pointwise [k0_pay5]
theorem z6_eq (x g w) (a : Fin 512) (b : Fin 1024) : k0_pay6 (F := Ideal) x g w (ix2 a b) = ∑ k : Fin 1024, k0_pay3 x g (ix2 a k) * w (ix2 b k) := by pointwise [k0_pay6]
theorem z1_eq (h w) (a : Fin 512) (b : Fin 1024) : k0_pay1 (F := Ideal) h w (ix2 a b) = ∑ k : Fin 1024, h (ix2 a k) * w (ix2 b k) := by pointwise [k0_pay1]
theorem z2_eq (h w) (a : Fin 512) (b : Fin 512) : k0_pay2 (F := Ideal) h w (ix2 a b) = ∑ k : Fin 1024, h (ix2 a k) * w (ix2 b k) := by pointwise [k0_pay2]

open Cert.Reference8Ideal.Read in
theorem ref_h (x0 x1 j) : val_main_v11 (F := Ideal) x0 x1 j = x0 j * Norm.factor (fun k : Fin 1024 => x0 (ix2 (j 0) k)) * x1 (ix2 0 (j 1)) := by
  idx_vars j
  pointwise [val_main_v11, val_main_v10, val_main_v9, val_main_v8, val_main_v7, val_main_v6, val_main_v5, val_main_v4, val_main_v3, val_main_v2, val_main_v1, val_main_v0, val_main_cst, val_main_cst_0, val_main_cst_1, Norm.factor, Norm.meanSq]

open Cert.Reference8Ideal.Read in
theorem ref_z (x0 x1 x2) (a : Fin 4096) (b : Fin 4544) : val_main_v14 (F := Ideal) x0 x1 x2 (ix2 a b) = ∑ k : Fin 1024, val_main_v11 x0 x1 (ix2 a k) * x2 (ix2 b k) := by
  pointwise [val_main_v14, val_main_v13, val_main_v12]

open Cert.Reference8Ideal.Read in
theorem ref_main (x0 x1 x2 j) : val_main_v19 (F := Ideal) x0 x1 x2 j
    = if h : (j 1).val < 2048 then val_main_v14 x0 x1 x2 (ix2 (j 0) ⟨(j 1).val, by omega⟩)
      else val_main_v14 x0 x1 x2 (ix2 (j 0) ⟨2496 + ((j 1).val - 2048), by have := (j 1).isLt; simp at this; omega⟩) := by
  idx_vars j
  pointwise [val_main_v19, val_main_v17, val_main_v16, val_main_v15]

open Cert.Reference8Ideal.Read in
theorem ref_small (x0 x1 x2 j) : val_main_v20 (F := Ideal) x0 x1 x2 j = val_main_v14 x0 x1 x2 (ix2 (j 0) ⟨2048 + (j 1).val, by have := (j 1).isLt; simp at this; omega⟩) := by
  idx_vars j
  pointwise [val_main_v20]

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ t.val < 8 :=
  (by decide +kernel : ∀ t : Fin grid0.N, _)

/-- Row `a` of point `t`'s block of rows. -/
abbrev row (t : Fin cfg0.N) (a : Fin 512) : Fin 4096 := ⟨512 * t.val + a.val, by have := (idx t).2.2.2.2.2.2; omega⟩

variable (c : Dev nD)

abbrev arg0 : Vec Ideal S4096x1024 .f32 := m ((c : Thread nD τ).loc main_arg0)
abbrev arg1 : Vec Ideal S1x1024 .f32 := m ((c : Thread nD τ).loc main_arg1)
abbrev arg2 : Vec Ideal S4544x1024 .bf16 := m ((c : Thread nD τ).loc main_arg2)

theorem block0 (t) (a : Fin 512) (b : Fin 1024) : iblk m c 0 t (ix2 a b) = arg0 m c (ix2 (row t a) b) := by blk_point [iblk, V, idx t]
theorem block1 (t y) : iblk m c 1 t y = arg1 m c y := by blk_point [iblk, V, idx t]
theorem block2 (t y) : iblk m c 2 t y = arg2 m c y := by blk_point [iblk, V, idx t]

theorem h_point (t) (a : Fin 512) (b : Fin 1024) : k0_pay3 (F := Ideal) (iblk m c 0 t) (iblk m c 1 t) (ix2 a b)
    = Cert.Reference8Ideal.Read.val_main_v11 (arg0 m c) (arg1 m c) (ix2 (row t a) b) := by
  rw [h_eq, ref_h]
  simp only [block0, block1]
  rfl

theorem ld0 (t) (a : Fin 512) (b : Fin 1024) : View.ld (iblk m c 0 t) r0_0 (ix2 a b) = arg0 m c (ix2 (row t a) b) := by
  rw [Slices.ld_slice _ _ (by omega) (by omega)]
  blk_point [iblk, V, idx t]

theorem ld1 (t) (b : Fin 1024) : View.ld (iblk m c 1 t) r0_1 (ix2 0 b) = arg1 m c (ix2 0 b) := by
  rw [Slices.ld_slice _ _ (by omega) (by omega)]
  blk_point [iblk, V, idx t]

/-- A column of the projections at point `t`: row `e` of the weight against the rows of the normed block. -/
theorem z_point (t) (a : Fin 512) (e : Fin 4544) (w : Fin 1024 → EReal) (hw : ∀ k, w k = arg2 m c (ix2 e k)) :
    ∑ k : Fin 1024, k0_pay3 (F := Ideal) (View.ld (iblk m c 0 t) r0_0) (View.ld (iblk m c 1 t) r0_1) (ix2 a k) * w k
      = Cert.Reference8Ideal.Read.val_main_v14 (F := Ideal) (arg0 m c) (arg1 m c) (arg2 m c) (ix2 (row t a) e) := by
  rw [ref_z]
  refine Finset.sum_congr rfl fun k _ => ?_
  rw [hw, h_eq, ref_h]
  simp only [ld0, ld1]
  rfl

theorem final4 : (dats m 0 c).arrAt 4 (cfgs 0).N = Cert.Reference8Ideal.Read.val_main_v19 (arg0 m c) (arg1 m c) (arg2 m c) := by
  refine (dats m 0 c).arrAt_eq_of_covers 4 _ (by decide +kernel) fun t _ y => ?_
  blk_simp
  rw [after0_4]
  unfold_out out0_4
  rw [ref_main]
  canon_tiles x h
  all_goals idx_vars x
  on_goal 4 =>
    refine (z4_eq _ _ _ _ _).trans ?_
    refine (z_point m c t _ ⟨x1.val, by omega⟩ (fun k => View.ld (iblk m c 2 t) r0_2 (ix2 x1 k)) fun k => ?_).trans ?_
    · rw [Slices.ld_slice _ _ (by omega) (by omega), block2]
      blk_ext
    · rw [dif_pos (by blk_simp [idx t]; omega)]
      blk_ext [idx t]
  on_goal 3 =>
    refine (z5_eq _ _ _ _ _).trans ?_
    refine (z_point m c t _ ⟨1024 + x1.val, by omega⟩ (fun k => View.ld (iblk m c 2 t) r0_4 (ix2 x1 k)) fun k => ?_).trans ?_
    · rw [Slices.ld_slice _ _ (by omega) (by omega), block2]
      blk_ext
    · rw [dif_pos (by blk_simp [idx t]; omega)]
      blk_ext [idx t]
  on_goal 2 =>
    refine (z6_eq _ _ _ _ _).trans ?_
    refine (z_point m c t _ ⟨2496 + x1.val, by omega⟩ (fun k => View.ld (iblk m c 2 t) r0_6 (ix2 x1 k)) fun k => ?_).trans ?_
    · rw [Slices.ld_slice _ _ (by omega) (by omega), block2]
      blk_ext
    · rw [dif_neg (by blk_simp [idx t]; omega)]
      blk_ext [idx t]
  on_goal 1 =>
    refine (z1_eq _ _ _ _).trans ?_
    refine (z_point m c t _ ⟨3520 + x1.val, by omega⟩ (fun k => View.ld (iblk m c 2 t) r0_8 (ix2 x1 k)) fun k => ?_).trans ?_
    · rw [Slices.ld_slice _ _ (by omega) (by omega), block2]
      blk_ext
    · rw [dif_neg (by blk_simp [idx t]; omega)]
      blk_ext [idx t]

theorem final5 : (dats m 0 c).arrAt 5 (cfgs 0).N = Cert.Reference8Ideal.Read.val_main_v20 (arg0 m c) (arg1 m c) (arg2 m c) := by
  refine (dats m 0 c).arrAt_eq_of_covers 5 _ (by decide +kernel) fun t _ y => ?_
  blk_simp
  rw [after0_5]
  unfold_out out0_5
  rw [ref_small]
  canon_tiles x h
  idx_vars x
  refine (z2_eq _ _ _ _).trans ?_
  refine (z_point m c t _ ⟨2048 + x1.val, by omega⟩ (fun k => View.ld (iblk m c 2 t) r0_10 (ix2 x1 k)) fun k => ?_).trans ?_
  · rw [Slices.ld_slice _ _ (by omega) (by omega), block2]
    blk_ext
  · blk_ext [idx t]

theorem final3 : (dats m 0 c).arrAt 3 (cfgs 0).N = Cert.Reference8Ideal.Read.val_main_v18 (arg0 m c) (arg1 m c) := by
  refine (dats m 0 c).arrAt_eq_of_covers 3 _ (by decide +kernel) fun t _ y => ?_
  blk_simp
  rw [after0_3]
  unfold_out out0_3
  canon_tiles x h
  idx_vars x
  refine (h_eq _ _ _ _).trans ?_
  refine Eq.trans ?_ (ref_h (arg0 m c) (arg1 m c) _).symm
  simp only [ld0, ld1]
  blk_point [idx t]

/-- Kernel and reference end with the same three arrays. -/
theorem agree : Cert.algebraic_Kernel8Ideal_Reference8Ideal (hKernel8Ideal := Gen.facts) (hReference8Ideal := Cert.Reference8Ideal.Gen.facts) := by
  intro m ρ m' ρ' _ hargs
  refine ⟨fun c => Cert.Reference8Ideal.Read.val_main_v18 (arg0 m c) (arg1 m c), fun c => Cert.Reference8Ideal.Read.val_main_v19 (arg0 m c) (arg1 m c) (arg2 m c),
    fun c => Cert.Reference8Ideal.Read.val_main_v20 (arg0 m c) (arg1 m c) (arg2 m c), ?_, ?_⟩
  · exact (θ_run defs _ _).mono (fun r h c =>
      ⟨(h c).1.trans (final3 m c), (h c).2.1.trans (final4 m c), (h c).2.2.1.trans (final5 m c), (h c).2.2.2⟩)
      (Value.run_blocks (F := Ideal) m ρ)
  · refine (θ_run Cert.Reference8Ideal.defs _ _).mono (fun r h c =>
      ⟨(h c).1.trans ?_, (h c).2.1.trans ?_, (h c).2.2.1.trans ?_, (h c).2.2.2⟩) (Cert.Reference8Ideal.Value.run (F := Ideal) m' ρ')
    all_goals obtain ⟨a0, a1, a2⟩ := hargs c
    · refine (Cert.Reference8Ideal.Read.val_main_v18_eq _ _).trans ?_
      rw [a0, a1]
    · refine (Cert.Reference8Ideal.Read.val_main_v19_eq _ _ _).trans ?_
      rw [a0, a1, a2]
    · refine (Cert.Reference8Ideal.Read.val_main_v20_eq _ _ _).trans ?_
      rw [a0, a1, a2]

/-- The reference's frame: it declares no semaphore. -/
theorem reference_frame : Cert.quiescent_Reference8Ideal (hReference8Ideal := Cert.Reference8Ideal.Gen.facts) := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

end Cert.Kernel8Ideal.Project

end
-- ==== Proof.DwUpVal.lean ====
/-
  The second half of the up-projection's weight gradient, written into an array whose first half it leaves alone: what the
  kernel's two points of each block add up to, and which rows are written.
-/
module

public import proofs.«01_k».proof.Defs
public import proofs.«01_k».proof.Proof.Gen.Kernel9
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import proofs.«01_k».proof.Proof.Gen.Reference9Ideal.Read

@[expose] public section

set_option maxRecDepth 16384
noncomputable section
open Idealize.ShloMosaic Idealize.ShloMosaic.TcCoe Idealize.SL.Sem
open Idealize.ShloMosaic.Pipeline (Dat)
namespace Cert.Kernel9Ideal.Grad
open Cert.Kernel9Ideal Cert.Kernel9Ideal.Gen

variable (m : (ℓ : Loc nD τ sig) → Buf (Elt Ideal) ℓ)

variable (c : Dev nD)

abbrev arg0 : Vec Ideal S4096x2816 .bf16 := m ((c : Thread nD τ).loc main_arg0)
abbrev arg1 : Vec Ideal S4096x1024 .bf16 := m ((c : Thread nD τ).loc main_arg1)
abbrev arg2 : Vec Ideal S5632x1024 .bf16 := m ((c : Thread nD τ).loc main_arg2)

theorem fill (j) : k0_pay1 (F := Ideal) j = 0 := by pointwise [k0_pay1]

theorem add (acc x0 x1 j) : k0_pay2 (F := Ideal) acc x0 x1 j = acc j + ∑ k : Fin 2048, x0 (ix2 k (j 0)) * x1 (ix2 k (j 1)) := by
  pointwise [k0_pay2]

theorem idx : ∀ t : Fin cfg0.N, win0_0.index t = ![t.val % 2, t.val / 2] ∧ win0_1.index t = ![t.val % 2, 0] ∧ win0_2.index t = ![t.val / 2 + 2, 0] ∧ t.val / 2 < 2 :=
  (by decide +kernel : ∀ t : Fin grid0.N, _)

theorem entry_result : V m c main_v0 = arg2 m c := by
  unfold V
  after_results
  try rfl

theorem entry0 : V m c main_arg0 = arg0 m c := by
  unfold V
  after_results
  try rfl

theorem entry1 : V m c main_arg1 = arg1 m c := by
  unfold V
  after_results
  try rfl

open Cert.Reference9Ideal.Read in
theorem ref (x0 x1 x2) (a : Fin 5632) (b : Fin 1024) : val_main_v9 (F := Ideal) x0 x1 x2 (ix2 a b)
    = if h : a.val < 2816 then x2 (ix2 a b) else ∑ k : Fin 4096, x0 (ix2 k ⟨a.val - 2816, by omega⟩) * x1 (ix2 k b) := by
  pointwise [val_main_v9, val_main_v8, val_main_v7, val_main_v6, val_main_v5, val_main_v2, val_main_v1, val_main_v0]

theorem block0 (t) (a : Fin 2048) (b : Fin 1408) : iblk m c 0 t (ix2 a b) = arg0 m c (ix2 ⟨t.val % 2 * 2048 + a.val, by omega⟩ ⟨t.val / 2 * 1408 + b.val, by have := (idx t).2.2.2; omega⟩) := by
  show V m c main_arg0 _ = _
  rw [entry0]
  blk_ext [idx t]

theorem block1 (t) (a : Fin 2048) (b : Fin 1024) : iblk m c 1 t (ix2 a b) = arg1 m c (ix2 ⟨t.val % 2 * 2048 + a.val, by omega⟩ b) := by
  show V m c main_arg1 _ = _
  rw [entry1]
  blk_ext [idx t]

theorem covered (t : Fin cfg0.N) (hm : t.val % 2 = 1) (y : S1408x1024.Idx) : (outsAt0 m c t.val t.isLt).1 y
    = ∑ k : Fin 4096, arg0 m c (ix2 k ⟨t.val / 2 * 1408 + (y 0).val, by have := (idx t).2.2.2; have := (y 0).isLt; simp at this; omega⟩) * arg1 m c (ix2 k (y 1)) := by
  have e : (outsAt0 m c t.val t.isLt).1 y = (outsAt0 m c t.val t.isLt).2 y := by
    rw [outsAt0_B m c t (by omega) hm]
    frame_out
    pointwise [k0_pay3]
  refine e.trans ?_
  rw [Pipeline.eq_sum_fin_of_reset_step_apply_of_flush (fun n h => (outsAt0 m c n h).2) 2 (fun _ => 0) _
    (fun t h j => by rw [outsAt0_A m c t h (by omega)]; frame_out; rw [add, fill])
    (fun t h j => by rw [outsAt0_B m c t h (by omega)]; frame_out; rw [add, read_unread_whole])
    t hm _, zero_add]
  refine Fin.sum_mul_add_congr fun s k hl => ?_
  idx_vars y
  refine (congrArg₂ (fun x y : EReal => x * y) (block0 m c ⟨_, Pipeline.run_point_lt_of_flush t hm s⟩ k y0) (block1 m c ⟨_, Pipeline.run_point_lt_of_flush t hm s⟩ k y1)).trans ?_
  refine congrArg₂ (fun x y : EReal => x * y) (congrArg (arg0 m c) ?_) (congrArg (arg1 m c) ?_)
  all_goals blk_ext

theorem final : (dats m 0 c).arrAt 2 (cfgs 0).N = Cert.Reference9Ideal.Read.val_main_v9 (arg0 m c) (arg1 m c) (arg2 m c) := by
  have e : (dats m 0 c).arrAt 2 (cfgs 0).N = fun i : S5632x1024.Idx => if 2 * 1408 ≤ (i 0).val then Cert.Reference9Ideal.Read.val_main_v9 (arg0 m c) (arg1 m c) (arg2 m c) i else V m c main_v0 i := by
    refine (dats m 0 c).arrAt_eq_of_coversWhere 2 _ (fun β => 2 ≤ β 0) (by decide +kernel) (fun t hf y => ?_)
      (fun j => by blk_simp [Pipeline.Window.cell_apply]; omega)
    blk_simp
    rw [after0_2, covered m c t ((flush0_2 t).mp hf)]
    idx_vars y
    refine Eq.trans ?_ (ref (arg0 m c) (arg1 m c) (arg2 m c) ⟨1408 * (t.val / 2 + 2) + y0.val, by have := (idx t).2.2.2; omega⟩ y1).symm |>.trans ?_
    · rw [dif_neg (by simp; omega)]
      refine Finset.sum_congr rfl fun k _ => congrArg₂ (· * ·) (congrArg (arg0 m c) ?_) rfl
      blk_ext [idx t]
    · blk_ext [idx t]
  rw [e]
  funext i
  idx_vars i
  rw [ref, entry_result]
  by_cases h : i0.val < 2816
  · rw [dif_pos h]
    exact if_neg (show ¬ 2 * 1408 ≤ i0.val by omega)
  · rw [dif_neg h]
    exact if_pos (show 2 * 1408 ≤ i0.val by omega)

/-- Kernel and reference end with the same gradient. -/
theorem agree : Cert.algebraic_Kernel9Ideal_Reference9Ideal (hKernel9Ideal := Gen.facts) (hReference9Ideal := Cert.Reference9Ideal.Gen.facts) := by
  intro m ρ m' ρ' _ hargs
  refine ⟨fun c => Cert.Reference9Ideal.Read.val_main_v9 (arg0 m c) (arg1 m c) (arg2 m c), ?_, ?_⟩
  · exact (θ_run defs _ _).mono (fun r h c => ⟨(h c).1.trans (final m c), (h c).2⟩) (Value.run_blocks (F := Ideal) m ρ)
  · refine (θ_run Cert.Reference9Ideal.defs _ _).mono (fun r h c => ⟨(h c).1.trans ?_, (h c).2⟩) (Cert.Reference9Ideal.Value.run (F := Ideal) m' ρ')
    obtain ⟨a0, a1, a2⟩ := hargs c
    refine (Cert.Reference9Ideal.Read.val_main_v9_eq _ _ _).trans ?_
    rw [a0, a1, a2]

/-- The reference's frame: it declares no semaphore. -/
theorem reference_frame : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

end Cert.Kernel9Ideal.Grad

end
-- ==== Proof.DownLoss.lean ====
/-
  The down-projection, the final norm, the loss, and the gradient of both back to the down-projection's result.
-/
module

public import proofs.«01_k».proof.Defs
public import proofs.«01_k».proof.Proof.Gen.Kernel10
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import proofs.«01_k».proof.Proof.Gen.Reference10Ideal.Read
public import proofs.«01_k».proof.Proof.Norm

@[expose] public section

set_option maxRecDepth 16384
noncomputable section
open Idealize.ShloMosaic Idealize.ShloMosaic.TcCoe Idealize.SL.Sem
open Idealize.ShloMosaic.Pipeline (Dat)
namespace Cert.Kernel10Ideal.Loss
open Cert.Kernel10Ideal Cert.Kernel10Ideal.Gen

variable (m : (ℓ : Loc nD τ sig) → Buf (Elt Ideal) ℓ)

/-- One over the width, as the kernel writes it. -/
abbrev inv : EReal := Ideal.ofBits .f32 0x3A800000#32

theorem inv_bits : inv = ((1 / 1024 : ℝ) : EReal) := by
  simp [Ideal.ofBits, Ideal.ieee]
  rw [← EReal.coe_mul]
  norm_num

theorem half_bits : Ideal.ofBits .f32 0x3F000000#32 = ((1 / 2 : ℝ) : EReal) := by
  simp [Ideal.ofBits, Ideal.ieee]
  rw [← EReal.coe_mul]
  norm_num

theorem fill_loss (a : Fin 8) (b : Fin 128) : k0_pay6 (F := Ideal) (ix2 a b) = 0 := by pointwise [k0_pay6]
theorem fill_gain (a : Fin 1) (b : Fin 1024) : k0_pay7 (F := Ideal) (ix2 a b) = 0 := by pointwise [k0_pay7]

theorem x2_eq (x a w) (i : Fin 512) (j : Fin 1024) : k0_pay8 (F := Ideal) x a w (ix2 i j) = x (ix2 i j) + ∑ k : Fin 2816, a (ix2 i k) * w (ix2 k j) := by
  pointwise [k0_pay8]

theorem factor_eq (x a w) (i : Fin 512) (j : Fin 1) : k0_pay9 (F := Ideal) x a w (ix2 i j) = Norm.factor fun k : Fin 1024 => k0_pay8 (F := Ideal) x a w (ix2 i k) := by
  pointwise [k0_pay9, Norm.factor, Norm.meanSq]

theorem scaled_eq (x a w) (i : Fin 512) (j : Fin 1024) : k0_pay10 (F := Ideal) x a w (ix2 i j)
    = k0_pay8 (F := Ideal) x a w (ix2 i j) * Norm.factor fun k : Fin 1024 => k0_pay8 (F := Ideal) x a w (ix2 i k) := by
  pointwise [k0_pay10]
  rw [factor_eq]

theorem diff_eq (x a w g t) (i : Fin 512) (j : Fin 1024) : k0_pay11 (F := Ideal) x a w g t (ix2 i j) = k0_pay10 (F := Ideal) x a w (ix2 i j) * g (ix2 0 j) - t (ix2 i j) := by
  pointwise [k0_pay11]

theorem dx_eq (r h g d) (i : Fin 512) (j : Fin 1024) : k0_pay4 (F := Ideal) r h g d (ix2 i j)
    = r (ix2 i 0) * (d (ix2 i j) * inv * g (ix2 0 j) - h (ix2 i j)
      * Ideal.div (∑ k : Fin 1024, d (ix2 i k) * inv * g (ix2 0 k) * h (ix2 i k)) (Ideal.ofBits .f32 0x44800000#32)) := by
  pointwise [k0_pay4, k0_pay2]

theorem kept_eq (r h g d) (i : Fin 512) (j : Fin 1024) : k0_pay5 (F := Ideal) r h g d (ix2 i j) = k0_pay4 (F := Ideal) r h g d (ix2 i j) := by
  pointwise [k0_pay5]

theorem dg_eq (h d o) (a : Fin 1) (b : Fin 1024) : k0_pay3 (F := Ideal) h d o (ix2 a b) = o (ix2 a b) + ∑ i : Fin 512, d (ix2 i b) * inv * h (ix2 i b) := by
  pointwise [k0_pay3, k0_pay2]

theorem loss_eq (x a w g t o) (p : Fin 8) (q : Fin 128) : k0_pay1 (F := Ideal) (k0_pay12 o) (k0_pay13 x a w g t) (ix2 p q)
    = o (ix2 p q) + Ideal.ofBits .f32 0x3F000000#32 * ∑ i : Fin 512,
      Ideal.div (∑ k : Fin 1024, k0_pay11 (F := Ideal) x a w g t (ix2 i k) * k0_pay11 (F := Ideal) x a w g t (ix2 i k)) (Ideal.ofBits .f32 0x44800000#32) := by
  pointwise [k0_pay1, k0_pay12, k0_pay13]
  simp only [Finset.univ_unique, Finset.sum_const, Finset.card_singleton, one_smul]

open Cert.Reference10Ideal.Read in
theorem ref_x2 (x0 x1 x2) (a : Fin 4096) (b : Fin 1024) : val_main_v3 (F := Ideal) x0 x1 x2 (ix2 a b)
    = x2 (ix2 a b) + ∑ k : Fin 2816, x0 (ix2 a k) * x1 (ix2 k b) := by
  pointwise [val_main_v3, val_main_v2, val_main_v1, val_main_v0]

open Cert.Reference10Ideal.Read in
theorem ref_factor (x0 x1 x2) (a : Fin 4096) (b : Fin 1) : val_main_v13 (F := Ideal) x0 x1 x2 (ix2 a b)
    = Norm.factor fun k : Fin 1024 => val_main_v3 (F := Ideal) x0 x1 x2 (ix2 a k) := by
  pointwise [val_main_v13, val_main_v12, val_main_v11, val_main_v10, val_main_v9, val_main_v8, val_main_v7, val_main_v6, val_main_v4, val_main_v5, val_main_cst, val_main_cst_0, val_main_cst_1, val_main_cst_2, Norm.factor, Norm.meanSq]

open Cert.Reference10Ideal.Read in
theorem ref_scaled (x0 x1 x2) (a : Fin 4096) (b : Fin 1024) : val_main_v18 (F := Ideal) x0 x1 x2 (ix2 a b)
    = val_main_v3 (F := Ideal) x0 x1 x2 (ix2 a b) * Norm.factor fun k : Fin 1024 => val_main_v3 (F := Ideal) x0 x1 x2 (ix2 a k) := by
  pointwise [val_main_v18, val_main_v17]
  rw [ref_factor]

open Cert.Reference10Ideal.Read in
theorem ref_diff (x0 x1 x2 x3 x4) (a : Fin 4096) (b : Fin 1024) : val_main_v21 (F := Ideal) x0 x1 x2 x3 x4 (ix2 a b)
    = val_main_v18 (F := Ideal) x0 x1 x2 (ix2 a b) * x4 (ix2 0 b) - x3 (ix2 a b) := by
  pointwise [val_main_v21, val_main_v20, val_main_v19]

open Cert.Reference10Ideal.Read in
theorem ref_dy (x0 x1 x2 x3 x4) (a : Fin 4096) (b : Fin 1024) : val_main_v35 (F := Ideal) x0 x1 x2 x3 x4 (ix2 a b)
    = val_main_v21 (F := Ideal) x0 x1 x2 x3 x4 (ix2 a b) * inv := by
  have e : val_main_v35 (F := Ideal) x0 x1 x2 x3 x4 (ix2 a b)
      = Ideal.div (Ideal.ofBits .f32 0x3F000000#32 * Ideal.ofBits .f32 0x3F800000#32) (Ideal.ofBits .f32 0x44800000#32)
        * (Ideal.ofBits .f32 0x40000000#32 * val_main_v21 (F := Ideal) x0 x1 x2 x3 x4 (ix2 a b)) := by
    pointwise [val_main_v24, val_main_v23, val_main_v22, val_main_v35, val_main_v34, val_main_v33, val_main_v32, val_main_v31, val_main_v30, val_main_cst_4, val_main_cst_5, val_main_cst_6, val_main_cst_7, val_main_cst_8, val_main_cst_9, val_main_cst_10, val_main_cst_11]
  rw [e, inv_bits, half_bits, Causal.one_bits, Causal.width_bits, Causal.two_bits, Ideal.div_coe (by norm_num), ← mul_assoc, mul_comm]
  simp only [← EReal.coe_mul, ← EReal.coe_one]
  norm_num

open Cert.Reference10Ideal.Read in
theorem ref_dx (x0 x1 x2 x3 x4) (a : Fin 4096) (b : Fin 1024) : val_main_v52 (F := Ideal) x0 x1 x2 x3 x4 (ix2 a b)
    = val_main_v35 (F := Ideal) x0 x1 x2 x3 x4 (ix2 a b) * x4 (ix2 0 b) * Norm.factor (fun k : Fin 1024 => val_main_v3 (F := Ideal) x0 x1 x2 (ix2 a k))
      + Ideal.div ((∑ k : Fin 1024, val_main_v3 (F := Ideal) x0 x1 x2 (ix2 a k) * (val_main_v35 (F := Ideal) x0 x1 x2 x3 x4 (ix2 a k) * x4 (ix2 0 k)))
        * (Ideal.ofBits .f32 0xBF000000#32 * Ideal.div (Norm.factor fun k : Fin 1024 => val_main_v3 (F := Ideal) x0 x1 x2 (ix2 a k))
          (Norm.meanSq fun k : Fin 1024 => val_main_v3 (F := Ideal) x0 x1 x2 (ix2 a k)))) (Ideal.ofBits .f32 0x44800000#32)
          * (Ideal.ofBits .f32 0x40000000#32 * val_main_v3 (F := Ideal) x0 x1 x2 (ix2 a b)) := by
  pointwise [val_main_v52, val_main_v51, val_main_v50, val_main_v49, val_main_v48, val_main_v47, val_main_v46, val_main_v45, val_main_v44, val_main_v43, val_main_v42, val_main_v41, val_main_v40, val_main_v39, val_main_cst, val_main_cst_1, val_main_cst_2, val_main_cst_3, val_main_cst_0, val_main_cst_13, val_main_cst_14, val_main_cst_15, val_main_v16, val_main_v15, val_main_v14, val_main_v13, val_main_v12, val_main_v11, val_main_v10, val_main_v9, val_main_v8, val_main_v7, val_main_v6, val_main_v5, val_main_v4, Norm.factor, Norm.meanSq]
  rw [Fin.sum_univ_one]

open Cert.Reference10Ideal.Read in
theorem ref_kept (x0 x1 x2 x3 x4 j) : val_main_v53 (F := Ideal) x0 x1 x2 x3 x4 j = val_main_v52 (F := Ideal) x0 x1 x2 x3 x4 j := by
  pointwise [val_main_v53]

open Cert.Reference10Ideal.Read in
theorem ref_dg (x0 x1 x2 x3 x4 j) : val_main_v38 (F := Ideal) x0 x1 x2 x3 x4 j
    = ∑ i : Fin 4096, val_main_v35 (F := Ideal) x0 x1 x2 x3 x4 (ix2 i (j 1)) * val_main_v18 (F := Ideal) x0 x1 x2 (ix2 i (j 1)) := by
  pointwise [val_main_v38, val_main_v37, val_main_v36, val_main_cst_12]
  exact Finset.sum_congr rfl fun i _ => mul_comm _ _

open Cert.Reference10Ideal.Read in
theorem ref_loss (x0 x1 x2 x3 x4 j) : val_main_v54 (F := Ideal) x0 x1 x2 x3 x4 j
    = Ideal.ofBits .f32 0x3F000000#32 * ∑ i : Fin 4096, Ideal.div (∑ k : Fin 1024,
      val_main_v21 (F := Ideal) x0 x1 x2 x3 x4 (ix2 i k) * val_main_v21 (F := Ideal) x0 x1 x2 x3 x4 (ix2 i k)) (Ideal.ofBits .f32 0x44800000#32) := by
  pointwise [val_main_v29, val_main_v28, val_main_v27, val_main_v26, val_main_v25, val_main_cst_5, val_main_cst_6, val_main_cst_7, val_main_cst_8, val_main_v54, val_main_v22]

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] ∧ win0_8.index t = ![0, 0] ∧ t.val < 8 :=
  (by decide +kernel : ∀ t : Fin grid0.N, _)

/-- Row `a` of point `t`'s block of rows. -/
abbrev row (t : Fin cfg0.N) (a : Fin 512) : Fin 4096 := ⟨512 * t.val + a.val, by have := (idx t).2.2.2.2.2.2.2.2.2; omega⟩

variable (c : Dev nD)

abbrev arg0 : Vec Ideal S4096x2816 .bf16 := m ((c : Thread nD τ).loc main_arg0)
abbrev arg1 : Vec Ideal S2816x1024 .bf16 := m ((c : Thread nD τ).loc main_arg1)
abbrev arg2 : Vec Ideal S4096x1024 .f32 := m ((c : Thread nD τ).loc main_arg2)
abbrev arg3 : Vec Ideal S4096x1024 .f32 := m ((c : Thread nD τ).loc main_arg3)
abbrev arg4 : Vec Ideal S1x1024 .f32 := m ((c : Thread nD τ).loc main_arg4)

theorem block0 (t) (a : Fin 512) (b : Fin 2816) : iblk m c 0 t (ix2 a b) = arg0 m c (ix2 (row t a) b) := by blk_point [iblk, V, idx t]
theorem block1 (t y) : iblk m c 1 t y = arg1 m c y := by blk_point [iblk, V, idx t]
theorem block2 (t) (a : Fin 512) (b : Fin 1024) : iblk m c 2 t (ix2 a b) = arg2 m c (ix2 (row t a) b) := by blk_point [iblk, V, idx t]
theorem block3 (t) (a : Fin 512) (b : Fin 1024) : iblk m c 3 t (ix2 a b) = arg3 m c (ix2 (row t a) b) := by blk_point [iblk, V, idx t]
theorem block4 (t y) : iblk m c 4 t y = arg4 m c y := by blk_point [iblk, V, idx t]

/-- The row that enters the final norm, its scaled form and its distance from the target, at point `t`. -/
abbrev xAt (t : Fin cfg0.N) : FVec Ideal S512x1024 .f32 := k0_pay8 (iblk m c 2 t) (iblk m c 0 t) (iblk m c 1 t)
abbrev hAt (t : Fin cfg0.N) : FVec Ideal S512x1024 .f32 := k0_pay10 (iblk m c 2 t) (iblk m c 0 t) (iblk m c 1 t)
abbrev dAt (t : Fin cfg0.N) : FVec Ideal S512x1024 .f32 := k0_pay11 (iblk m c 2 t) (iblk m c 0 t) (iblk m c 1 t) (iblk m c 4 t) (iblk m c 3 t)

open Cert.Reference10Ideal.Read in
theorem x_point (t) (a : Fin 512) (b : Fin 1024) : xAt m c t (ix2 a b) = val_main_v3 (F := Ideal) (arg0 m c) (arg1 m c) (arg2 m c) (ix2 (row t a) b) := by
  rw [xAt, x2_eq, ref_x2]
  simp only [block0, block1, block2]

open Cert.Reference10Ideal.Read in
theorem h_point (t) (a : Fin 512) (b : Fin 1024) : hAt m c t (ix2 a b) = val_main_v18 (F := Ideal) (arg0 m c) (arg1 m c) (arg2 m c) (ix2 (row t a) b) := by
  rw [hAt, scaled_eq, ref_scaled]
  simp only [x_point]

open Cert.Reference10Ideal.Read in
theorem d_point (t) (a : Fin 512) (b : Fin 1024) : dAt m c t (ix2 a b)
    = val_main_v21 (F := Ideal) (arg0 m c) (arg1 m c) (arg2 m c) (arg3 m c) (arg4 m c) (ix2 (row t a) b) := by
  rw [dAt, diff_eq, ref_diff]
  simp only [h_point, block3, block4]

/-- The gradient each point leaves for its rows. -/
abbrev dxAt (t : Fin cfg0.N) : FVec Ideal S512x1024 .f32 :=
  k0_pay4 (k0_pay9 (iblk m c 2 t) (iblk m c 0 t) (iblk m c 1 t)) (hAt m c t) (iblk m c 4 t) (dAt m c t)

open Cert.Reference10Ideal.Read in
theorem dx_point (t) (a : Fin 512) (b : Fin 1024) : dxAt m c t (ix2 a b)
    = val_main_v52 (F := Ideal) (arg0 m c) (arg1 m c) (arg2 m c) (arg3 m c) (arg4 m c) (ix2 (row t a) b) := by
  rw [dxAt, dx_eq, ref_dx, factor_eq]
  simp only [x_point, h_point, d_point, block4, ref_dy, ref_scaled]
  have e := Norm.grad (fun k : Fin 1024 => val_main_v3 (F := Ideal) (arg0 m c) (arg1 m c) (arg2 m c) (ix2 (row t a) k))
    (fun k : Fin 1024 => val_main_v21 (F := Ideal) (arg0 m c) (arg1 m c) (arg2 m c) (arg3 m c) (arg4 m c) (ix2 (row t a) k) * inv * arg4 m c (ix2 0 k)) 0 b
  rw [zero_add, zero_add] at e
  exact e

/-- What point `t` adds to the gradient of the norm's gain. -/
def dgAt (t : Fin cfg0.N) (b : Fin 1024) : EReal := ∑ i : Fin 512, dAt m c t (ix2 i b) * inv * hAt m c t (ix2 i b)

/-- What point `t` adds to the loss, before the half. -/
def lossAt (t : Fin cfg0.N) : EReal :=
  ∑ i : Fin 512, Ideal.div (∑ k : Fin 1024, dAt m c t (ix2 i k) * dAt m c t (ix2 i k)) (Ideal.ofBits .f32 0x44800000#32)

theorem out5 (t : Fin cfg0.N) (y) : (outsAt0 m c t.val t.isLt).1 y = dxAt m c t (ix2 (y 0) (y 1)) := by
  idx_vars y
  by_cases h : t.val % 8 = 0
  · rw [outsAt0_A m c t h]; frame_out
  · rw [outsAt0_B m c t h]; frame_out

theorem out6 (t : Fin cfg0.N) (y) : (outsAt0 m c t.val t.isLt).2.1 y = dxAt m c t (ix2 (y 0) (y 1)) := by
  idx_vars y
  by_cases h : t.val % 8 = 0
  · rw [outsAt0_A m c t h]; frame_out; exact kept_eq _ _ _ _ _ _
  · rw [outsAt0_B m c t h]; frame_out; exact kept_eq _ _ _ _ _ _

theorem final5 : (dats m 0 c).arrAt 5 (cfgs 0).N
    = Cert.Reference10Ideal.Read.val_main_v52 (arg0 m c) (arg1 m c) (arg2 m c) (arg3 m c) (arg4 m c) := by
  refine (dats m 0 c).arrAt_eq_of_covers 5 _ (by decide +kernel) fun t hf y => ?_
  blk_simp
  rw [after0_5]
  refine (out5 m c t _).trans ((dx_point m c t _ _).trans ?_)
  blk_point [idx t]

theorem final6 : (dats m 0 c).arrAt 6 (cfgs 0).N
    = Cert.Reference10Ideal.Read.val_main_v53 (arg0 m c) (arg1 m c) (arg2 m c) (arg3 m c) (arg4 m c) := by
  refine (dats m 0 c).arrAt_eq_of_covers 6 _ (by decide +kernel) fun t hf y => ?_
  blk_simp
  rw [after0_6]
  refine (out6 m c t _).trans ((dx_point m c t _ _).trans ((ref_kept _ _ _ _ _ _).symm.trans ?_))
  blk_point [idx t]

theorem final7 : (dats m 0 c).arrAt 7 (cfgs 0).N
    = Cert.Reference10Ideal.Read.val_main_v54 (arg0 m c) (arg1 m c) (arg2 m c) (arg3 m c) (arg4 m c) := by
  refine (dats m 0 c).arrAt_eq_of_covers 7 _ (by decide +kernel) fun t hf y => ?_
  blk_simp
  have hm : t.val % 8 = 7 := (flush0_7 t).mp hf
  rw [after0_7]
  rw [Pipeline.eq_sum_fin_of_reset_step_apply_of_flush (fun n h => (outsAt0 m c n h).2.2.1) 8 (fun _ => 0)
      (fun t j => Ideal.ofBits .f32 0x3F000000#32 * lossAt m c t)
    (fun t h j => by idx_vars j; rw [outsAt0_A m c t h]; frame_out; refine (loss_eq _ _ _ _ _ _ _ _).trans ?_; rw [fill_loss]; rfl)
    (fun t h j => by idx_vars j; rw [outsAt0_B m c t h]; frame_out; exact loss_eq _ _ _ _ _ _ _ _)
    t hm _, zero_add, ref_loss, half_bits]
  simp only [mul_comm ((1 / 2 : ℝ) : EReal)]
  rw [Norm.sum_mul_real _ _ _ (by norm_num)]
  refine congrArg₂ (fun x y : EReal => x * y) ?_ rfl
  simp only [lossAt]
  refine Fin.sum_mul_add_congr fun s i hl => ?_
  simp only [d_point]
  refine congrArg₂ Ideal.div (Finset.sum_congr rfl fun k _ => ?_) rfl
  blk_point [idx t, idx ⟨_, Pipeline.run_point_lt_of_flush t hm s⟩]

theorem final8 : (dats m 0 c).arrAt 8 (cfgs 0).N
    = Cert.Reference10Ideal.Read.val_main_v38 (arg0 m c) (arg1 m c) (arg2 m c) (arg3 m c) (arg4 m c) := by
  refine (dats m 0 c).arrAt_eq_of_covers 8 _ (by decide +kernel) fun t hf y => ?_
  blk_simp
  have hm : t.val % 8 = 7 := (flush0_8 t).mp hf
  rw [after0_8]
  rw [Pipeline.eq_sum_fin_of_reset_step_apply_of_flush (fun n h => (outsAt0 m c n h).2.2.2) 8 (fun _ => 0)
      (fun t j => dgAt m c t (j 1))
    (fun t h j => by idx_vars j; rw [outsAt0_A m c t h]; frame_out; refine (dg_eq _ _ _ _ _).trans ?_; rw [fill_gain]; rfl)
    (fun t h j => by idx_vars j; rw [outsAt0_B m c t h]; frame_out; exact dg_eq _ _ _ _ _)
    t hm _, zero_add, ref_dg]
  simp only [dgAt]
  refine Fin.sum_mul_add_congr fun s i hl => ?_
  refine (congrArg₂ (fun x y : EReal => x * inv * y) (d_point m c ⟨_, Pipeline.run_point_lt_of_flush t hm s⟩ i (y 1))
    (h_point m c ⟨_, Pipeline.run_point_lt_of_flush t hm s⟩ i (y 1))).trans ?_
  refine (congrArg₂ (fun x y : EReal => x * y) (ref_dy _ _ _ _ _ (row ⟨_, Pipeline.run_point_lt_of_flush t hm s⟩ i) (y 1)).symm rfl).trans ?_
  refine congrArg₂ (fun x y : EReal => x * y) ?_ ?_
  all_goals blk_point [idx t, idx ⟨_, Pipeline.run_point_lt_of_flush t hm s⟩]

/-- Kernel and reference end with the same gradients and the same loss. -/
theorem agree : Cert.algebraic_Kernel10Ideal_Reference10Ideal (hKernel10Ideal := Gen.facts) (hReference10Ideal := Cert.Reference10Ideal.Gen.facts) := by
  intro m ρ m' ρ' _ hargs
  refine ⟨fun c => Cert.Reference10Ideal.Read.val_main_v52 (arg0 m c) (arg1 m c) (arg2 m c) (arg3 m c) (arg4 m c), fun c => Cert.Reference10Ideal.Read.val_main_v53 (arg0 m c) (arg1 m c) (arg2 m c) (arg3 m c) (arg4 m c),
    fun c => Cert.Reference10Ideal.Read.val_main_v54 (arg0 m c) (arg1 m c) (arg2 m c) (arg3 m c) (arg4 m c), fun c => Cert.Reference10Ideal.Read.val_main_v38 (arg0 m c) (arg1 m c) (arg2 m c) (arg3 m c) (arg4 m c), ?_, ?_⟩
  · exact (θ_run defs _ _).mono (fun r h c => ⟨(h c).1.trans (final5 m c), (h c).2.1.trans (final6 m c), (h c).2.2.1.trans (final7 m c),
      (h c).2.2.2.1.trans (final8 m c), (h c).2.2.2.2⟩) (Value.run_blocks (F := Ideal) m ρ)
  · refine (θ_run Cert.Reference10Ideal.defs _ _).mono (fun r h c => ⟨(h c).1.trans ?_, (h c).2.1.trans ?_, (h c).2.2.1.trans ?_,
      (h c).2.2.2.1.trans ?_, (h c).2.2.2.2⟩) (Cert.Reference10Ideal.Value.run (F := Ideal) m' ρ')
    all_goals obtain ⟨a0, a1, a2, a3, a4⟩ := hargs c
    · refine (Cert.Reference10Ideal.Read.val_main_v52_eq _ _).trans ?_
      rw [a0, a1, a2, a3, a4]
    · refine (Cert.Reference10Ideal.Read.val_main_v53_eq _ _).trans ?_
      rw [a0, a1, a2, a3, a4]
    · refine (Cert.Reference10Ideal.Read.val_main_v54_eq _ _ _ _ _).trans ?_
      rw [a0, a1, a2, a3, a4]
    · refine (Cert.Reference10Ideal.Read.val_main_v38_eq _ _ _ _ _).trans ?_
      rw [a0, a1, a2, a3, a4]

/-- The reference's frame: it declares no semaphore. -/
theorem reference_frame : Cert.quiescent_Reference10Ideal (hReference10Ideal := Cert.Reference10Ideal.Gen.facts) := fun m ρ _ =>
  (θ_run Cert.Reference10Ideal.defs _ _).mono
    (fun r h => ⟨fun c => (h c).2.2.2.2, Idealize.ShloMosaic.sem_eq_zero_of_no_sems (by decide) r.2⟩)
    (Cert.Reference10Ideal.Value.run (F := Ideal) m ρ)

end Cert.Kernel10Ideal.Loss

end
-- ==== Proof.UpAct.lean ====
/-
  The up-projection, the causal depthwise convolution and the gated activation.
-/
module

public import proofs.«01_k».proof.Defs
public import proofs.«01_k».proof.Proof.Gen.Kernel11
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import proofs.«01_k».proof.Proof.Gen.Reference11Ideal.Read
public import proofs.«01_k».proof.Proof.Causal
public import proofs.«01_k».proof.Proof.Slices

@[expose] public section

set_option maxRecDepth 16384
noncomputable section
open Idealize.ShloMosaic Idealize.ShloMosaic.TcCoe Idealize.SL.Sem
open Idealize.ShloMosaic.Pipeline (Dat)
namespace Cert.Kernel11Ideal.Activate
open Cert.Kernel11Ideal Cert.Kernel11Ideal.Gen

variable (m : (ℓ : Loc nD τ sig) → Buf (Elt Ideal) ℓ) (c : Dev nD)

/-! ## The scratch: eight rows of zeros and the projected rows behind them -/

/-- The rows `u` behind eight rows of zeros. -/
def padded (u : Fin 2048 → Fin 256 → EReal) : Vec Ideal S2056x256 .f32 := fun i =>
  if h : 8 ≤ (i 0).val then u ⟨(i 0).val - 8, by have : (i 0).val < 2056 := (i 0).isLt; omega⟩ (i 1) else 0

/-- The rows projected. -/
def lin (h : Vec Ideal S2048x1024 .bf16) (w : Vec Ideal S256x1024 .bf16) (a : Fin 2048) (b : Fin 256) : EReal := ∑ k : Fin 1024, h (ix2 a k) * w (ix2 b k)

/-- Where every piece stored is a piece of `G` and the pieces cover the first `n` rows, a load from these rows reads `G`. -/
theorem load_of_pieces (v : View sig .tc .vmem S2056x256 .f32) (G : Vec Ideal S2056x256 .f32) (L : List (View.Piece (Elt Ideal) S2056x256 .f32)) (n o : ℕ)
    (hL : View.PiecesOf G L) (hc : ∀ y : S2056x256.Idx, (y 0).val < n → ∃ p ∈ L, y ∈ p.1.set) (inb) (ho : o + 512 ≤ n) :
    v.readCov L (Rect.unit (s := S2056x256) ![o, 0] ![512, 256] inb).toLoadRect = View.ld G (Rect.unit ![o, 0] ![512, 256] inb) := by
  rw [View.readCov_eq_canon']
  funext j
  have e := View.canon_append_of_piecesOf G [] L hL ((Rect.unit (s := S2056x256) ![o, 0] ![512, 256] inb).toLoadRect.idx j) (hc _ ?_)
  · rw [List.append_nil] at e
    exact e
  · idx_vars j
    show o + 1 * j0.val < n
    omega

theorem lin_eq (h : Vec Ideal S512x1024 .bf16) (w : Vec Ideal S256x1024 .bf16) (a : Fin 512) (b : Fin 256) : k0_pay9 (F := Ideal) h w (ix2 a b) = ∑ k : Fin 1024, h (ix2 a k) * w (ix2 b k) := by
  pointwise [k0_pay9, k0_pay7]

theorem kept_eq (h : Vec Ideal S512x1024 .bf16) (w : Vec Ideal S256x1024 .bf16) (a : Fin 512) (b : Fin 256) : k0_pay8 (F := Ideal) h w (ix2 a b) = ∑ k : Fin 1024, h (ix2 a k) * w (ix2 b k) := by
  pointwise [k0_pay8, k0_pay7]

theorem kept_at (h : Vec Ideal S2048x1024 .bf16) (w : Vec Ideal S256x1024 .bf16) (o : ℕ) (ho : o + 512 ≤ 2048) (inb) (a : Fin 512) (b : Fin 256) :
    k0_pay8 (F := Ideal) (View.ld h (Rect.unit (s := S2048x1024) ![o, 0] ![512, 1024] inb)) w (ix2 a b) = lin h w ⟨o + a.val, by omega⟩ b := by
  refine (kept_eq _ _ _ _).trans (Finset.sum_congr rfl fun k _ => ?_)
  rw [Slices.ld_slice _ _ (by omega) (by omega)]
  refine congrArg₂ (fun x y : EReal => x * y) (congrArg h ?_) rfl
  blk_ext

theorem zero_piece (u inb) (x : S8x256.Idx) : k0_pay5 (F := Ideal) x = padded u ((Rect.unit (s := S2056x256) ![0, 0] ![8, 256] inb).emb x) := by
  idx_vars x
  refine Eq.trans (b := 0) (by pointwise [k0_pay5]) ?_
  unfold padded
  rw [dif_neg]
  show ¬ 8 ≤ 0 + 1 * x0.val
  omega

theorem row_piece (h : Vec Ideal S2048x1024 .bf16) (w : Vec Ideal S256x1024 .bf16) (o p : ℕ) (ho : o + 512 ≤ 2048) (hp : p = 8 + o) (inb inb') (x : S512x256.Idx) :
    k0_pay9 (F := Ideal) (View.ld h (Rect.unit (s := S2048x1024) ![o, 0] ![512, 1024] inb)) w x = padded (lin h w) ((Rect.unit (s := S2056x256) ![p, 0] ![512, 256] inb').emb x) := by
  subst hp
  idx_vars x
  refine (lin_eq _ _ _ _).trans (Eq.trans ?_ (dif_pos ?_).symm)
  · refine Finset.sum_congr rfl fun k _ => ?_
    rw [Slices.ld_slice _ _ (by omega) (by omega)]
    refine congrArg₂ (fun x y : EReal => x * y) (congrArg h ?_) (congrArg w ?_)
    all_goals blk_ext
  · show 8 ≤ 8 + o + 1 * x0.val
    omega

/-- The pieces stored after each step, the last one first. -/
abbrev pieces0 (h : Vec Ideal S2048x1024 .bf16) (w : Vec Ideal S256x1024 .bf16) : List (View.Piece (Elt Ideal) S2056x256 .f32) :=
  [⟨Rect.unit (s := S2056x256) ![0, 0] ![8, 256] inb_S2056x256_S8x256_0_0, k0_pay5 (F := Ideal)⟩]
abbrev pieces1 (h : Vec Ideal S2048x1024 .bf16) (w : Vec Ideal S256x1024 .bf16) : List (View.Piece (Elt Ideal) S2056x256 .f32) :=
  ⟨(Rect.unit (s := S2056x256) ![8, 0] ![512, 256] inb_S2056x256_S512x256_8_0), k0_pay9 (F := Ideal) (View.ld h (Rect.unit (s := S2048x1024) ![0, 0] ![512, 1024] inb_S2048x1024_S512x1024_0_0)) w⟩ :: pieces0 h w
abbrev pieces2 (h : Vec Ideal S2048x1024 .bf16) (w : Vec Ideal S256x1024 .bf16) : List (View.Piece (Elt Ideal) S2056x256 .f32) :=
  ⟨(Rect.unit (s := S2056x256) ![520, 0] ![512, 256] inb_S2056x256_S512x256_520_0), k0_pay9 (F := Ideal) (View.ld h (Rect.unit (s := S2048x1024) ![512, 0] ![512, 1024] inb_S2048x1024_S512x1024_512_0)) w⟩ :: pieces1 h w
abbrev pieces3 (h : Vec Ideal S2048x1024 .bf16) (w : Vec Ideal S256x1024 .bf16) : List (View.Piece (Elt Ideal) S2056x256 .f32) :=
  ⟨(Rect.unit (s := S2056x256) ![1032, 0] ![512, 256] inb_S2056x256_S512x256_1032_0), k0_pay9 (F := Ideal) (View.ld h (Rect.unit (s := S2048x1024) ![1024, 0] ![512, 1024] inb_S2048x1024_S512x1024_1024_0)) w⟩ :: pieces2 h w
abbrev pieces4 (h : Vec Ideal S2048x1024 .bf16) (w : Vec Ideal S256x1024 .bf16) : List (View.Piece (Elt Ideal) S2056x256 .f32) :=
  ⟨(Rect.unit (s := S2056x256) ![1544, 0] ![512, 256] inb_S2056x256_S512x256_1544_0), k0_pay9 (F := Ideal) (View.ld h (Rect.unit (s := S2048x1024) ![1536, 0] ![512, 1024] inb_S2048x1024_S512x1024_1536_0)) w⟩ :: pieces3 h w

theorem of0 (h w) : View.PiecesOf (padded (lin h w)) (pieces0 h w) := ⟨zero_piece _ inb_S2056x256_S8x256_0_0, trivial⟩
theorem of1 (h w) : View.PiecesOf (padded (lin h w)) (pieces1 h w) := ⟨row_piece h w 0 8 (by omega) rfl inb_S2048x1024_S512x1024_0_0 inb_S2056x256_S512x256_8_0, of0 h w⟩
theorem of2 (h w) : View.PiecesOf (padded (lin h w)) (pieces2 h w) := ⟨row_piece h w 512 520 (by omega) rfl inb_S2048x1024_S512x1024_512_0 inb_S2056x256_S512x256_520_0, of1 h w⟩
theorem of3 (h w) : View.PiecesOf (padded (lin h w)) (pieces3 h w) := ⟨row_piece h w 1024 1032 (by omega) rfl inb_S2048x1024_S512x1024_1024_0 inb_S2056x256_S512x256_1032_0, of2 h w⟩
theorem of4 (h w) : View.PiecesOf (padded (lin h w)) (pieces4 h w) := ⟨row_piece h w 1536 1544 (by omega) rfl inb_S2048x1024_S512x1024_1536_0 inb_S2056x256_S512x256_1544_0, of3 h w⟩

theorem in_rows (o n : ℕ) (inb) (y : S2056x256.Idx) (h : o ≤ (y 0).val) (h' : (y 0).val < o + n) : y ∈ (Rect.unit (s := S2056x256) ![o, 0] ![n, 256] inb).set := by
  refine Rect.mem_set_unit.mpr fun a => ?_
  have : (y 1).val < 256 := (y 1).isLt
  fin_cases a
  · exact ⟨h, h'⟩
  · exact ⟨Nat.zero_le _, by show (y 1).val < 0 + 256; omega⟩

theorem covers0 (h w) (y : S2056x256.Idx) (hy : (y 0).val < 8) : ∃ p ∈ pieces0 h w, y ∈ p.1.set :=
  ⟨_, List.mem_cons_self, in_rows 0 8 inb_S2056x256_S8x256_0_0 y (by omega) (by omega)⟩
theorem covers1 (h w) (y : S2056x256.Idx) (hy : (y 0).val < 520) : ∃ p ∈ pieces1 h w, y ∈ p.1.set := by
  by_cases hl : (y 0).val < 8
  · obtain ⟨p, hp, e⟩ := covers0 h w y hl
    exact ⟨p, List.mem_cons_of_mem _ hp, e⟩
  · exact ⟨_, List.mem_cons_self, in_rows 8 512 inb_S2056x256_S512x256_8_0 y (by omega) (by omega)⟩
theorem covers2 (h w) (y : S2056x256.Idx) (hy : (y 0).val < 1032) : ∃ p ∈ pieces2 h w, y ∈ p.1.set := by
  by_cases hl : (y 0).val < 520
  · obtain ⟨p, hp, e⟩ := covers1 h w y hl
    exact ⟨p, List.mem_cons_of_mem _ hp, e⟩
  · exact ⟨_, List.mem_cons_self, in_rows 520 512 inb_S2056x256_S512x256_520_0 y (by omega) (by omega)⟩
theorem covers3 (h w) (y : S2056x256.Idx) (hy : (y 0).val < 1544) : ∃ p ∈ pieces3 h w, y ∈ p.1.set := by
  by_cases hl : (y 0).val < 1032
  · obtain ⟨p, hp, e⟩ := covers2 h w y hl
    exact ⟨p, List.mem_cons_of_mem _ hp, e⟩
  · exact ⟨_, List.mem_cons_self, in_rows 1032 512 inb_S2056x256_S512x256_1032_0 y (by omega) (by omega)⟩
theorem covers4 (h w) (y : S2056x256.Idx) (hy : (y 0).val < 2056) : ∃ p ∈ pieces4 h w, y ∈ p.1.set := by
  by_cases hl : (y 0).val < 1544
  · obtain ⟨p, hp, e⟩ := covers3 h w y hl
    exact ⟨p, List.mem_cons_of_mem _ hp, e⟩
  · exact ⟨_, List.mem_cons_self, in_rows 1544 512 inb_S2056x256_S512x256_1544_0 y (by omega) (by omega)⟩
theorem load1_2 (v : View sig .tc .vmem S2056x256 .f32) (h w) : v.readCov (pieces1 h w) (Rect.unit (s := S2056x256) ![8, 0] ![512, 256] inb_S2056x256_S512x256_8_0).toLoadRect
    = View.ld (padded (lin h w)) (Rect.unit ![8, 0] ![512, 256] inb_S2056x256_S512x256_8_0) :=
  load_of_pieces v _ _ 520 8 (of1 h w) (covers1 h w) _ (by omega)
theorem load1_1 (v : View sig .tc .vmem S2056x256 .f32) (h w) : v.readCov (pieces1 h w) (Rect.unit (s := S2056x256) ![7, 0] ![512, 256] inb_S2056x256_S512x256_7_0).toLoadRect
    = View.ld (padded (lin h w)) (Rect.unit ![7, 0] ![512, 256] inb_S2056x256_S512x256_7_0) :=
  load_of_pieces v _ _ 520 7 (of1 h w) (covers1 h w) _ (by omega)
theorem load1_0 (v : View sig .tc .vmem S2056x256 .f32) (h w) : v.readCov (pieces1 h w) (Rect.unit (s := S2056x256) ![6, 0] ![512, 256] inb_S2056x256_S512x256_6_0).toLoadRect
    = View.ld (padded (lin h w)) (Rect.unit ![6, 0] ![512, 256] inb_S2056x256_S512x256_6_0) :=
  load_of_pieces v _ _ 520 6 (of1 h w) (covers1 h w) _ (by omega)
theorem load2_2 (v : View sig .tc .vmem S2056x256 .f32) (h w) : v.readCov (pieces2 h w) (Rect.unit (s := S2056x256) ![520, 0] ![512, 256] inb_S2056x256_S512x256_520_0).toLoadRect
    = View.ld (padded (lin h w)) (Rect.unit ![520, 0] ![512, 256] inb_S2056x256_S512x256_520_0) :=
  load_of_pieces v _ _ 1032 520 (of2 h w) (covers2 h w) _ (by omega)
theorem load2_1 (v : View sig .tc .vmem S2056x256 .f32) (h w) : v.readCov (pieces2 h w) (Rect.unit (s := S2056x256) ![519, 0] ![512, 256] inb_S2056x256_S512x256_519_0).toLoadRect
    = View.ld (padded (lin h w)) (Rect.unit ![519, 0] ![512, 256] inb_S2056x256_S512x256_519_0) :=
  load_of_pieces v _ _ 1032 519 (of2 h w) (covers2 h w) _ (by omega)
theorem load2_0 (v : View sig .tc .vmem S2056x256 .f32) (h w) : v.readCov (pieces2 h w) (Rect.unit (s := S2056x256) ![518, 0] ![512, 256] inb_S2056x256_S512x256_518_0).toLoadRect
    = View.ld (padded (lin h w)) (Rect.unit ![518, 0] ![512, 256] inb_S2056x256_S512x256_518_0) :=
  load_of_pieces v _ _ 1032 518 (of2 h w) (covers2 h w) _ (by omega)
theorem load3_2 (v : View sig .tc .vmem S2056x256 .f32) (h w) : v.readCov (pieces3 h w) (Rect.unit (s := S2056x256) ![1032, 0] ![512, 256] inb_S2056x256_S512x256_1032_0).toLoadRect
    = View.ld (padded (lin h w)) (Rect.unit ![1032, 0] ![512, 256] inb_S2056x256_S512x256_1032_0) :=
  load_of_pieces v _ _ 1544 1032 (of3 h w) (covers3 h w) _ (by omega)
theorem load3_1 (v : View sig .tc .vmem S2056x256 .f32) (h w) : v.readCov (pieces3 h w) (Rect.unit (s := S2056x256) ![1031, 0] ![512, 256] inb_S2056x256_S512x256_1031_0).toLoadRect
    = View.ld (padded (lin h w)) (Rect.unit ![1031, 0] ![512, 256] inb_S2056x256_S512x256_1031_0) :=
  load_of_pieces v _ _ 1544 1031 (of3 h w) (covers3 h w) _ (by omega)
theorem load3_0 (v : View sig .tc .vmem S2056x256 .f32) (h w) : v.readCov (pieces3 h w) (Rect.unit (s := S2056x256) ![1030, 0] ![512, 256] inb_S2056x256_S512x256_1030_0).toLoadRect
    = View.ld (padded (lin h w)) (Rect.unit ![1030, 0] ![512, 256] inb_S2056x256_S512x256_1030_0) :=
  load_of_pieces v _ _ 1544 1030 (of3 h w) (covers3 h w) _ (by omega)
theorem load4_2 (v : View sig .tc .vmem S2056x256 .f32) (h w) : v.readCov (pieces4 h w) (Rect.unit (s := S2056x256) ![1544, 0] ![512, 256] inb_S2056x256_S512x256_1544_0).toLoadRect
    = View.ld (padded (lin h w)) (Rect.unit ![1544, 0] ![512, 256] inb_S2056x256_S512x256_1544_0) :=
  load_of_pieces v _ _ 2056 1544 (of4 h w) (covers4 h w) _ (by omega)
theorem load4_1 (v : View sig .tc .vmem S2056x256 .f32) (h w) : v.readCov (pieces4 h w) (Rect.unit (s := S2056x256) ![1543, 0] ![512, 256] inb_S2056x256_S512x256_1543_0).toLoadRect
    = View.ld (padded (lin h w)) (Rect.unit ![1543, 0] ![512, 256] inb_S2056x256_S512x256_1543_0) :=
  load_of_pieces v _ _ 2056 1543 (of4 h w) (covers4 h w) _ (by omega)
theorem load4_0 (v : View sig .tc .vmem S2056x256 .f32) (h w) : v.readCov (pieces4 h w) (Rect.unit (s := S2056x256) ![1542, 0] ![512, 256] inb_S2056x256_S512x256_1542_0).toLoadRect
    = View.ld (padded (lin h w)) (Rect.unit ![1542, 0] ![512, 256] inb_S2056x256_S512x256_1542_0) :=
  load_of_pieces v _ _ 2056 1542 (of4 h w) (covers4 h w) _ (by omega)

/-! ## The steps compute alike -/

theorem e20 : k0_pay20 (F := Ideal) = k0_pay9 := rfl
theorem e31 : k0_pay31 (F := Ideal) = k0_pay9 := rfl
theorem e43 : k0_pay43 (F := Ideal) = k0_pay9 := rfl
theorem e12 : k0_pay12 (F := Ideal) = k0_pay9 := rfl
theorem e23 : k0_pay23 (F := Ideal) = k0_pay9 := rfl
theorem e34 : k0_pay34 (F := Ideal) = k0_pay9 := rfl
theorem e46 (a : Vec Ideal S512x1024 .bf16) (b : Vec Ideal S256x1024 .bf16) : k0_pay46 (F := Ideal) (k0_pay44 a b) = k0_pay9 a b := rfl
theorem e6 : k0_pay6 (F := Ideal) = k0_pay5 := rfl
theorem e19 : k0_pay19 (F := Ideal) = k0_pay8 := rfl
theorem e30 : k0_pay30 (F := Ideal) = k0_pay8 := rfl
theorem e42 : k0_pay42 (F := Ideal) = k0_pay8 := rfl
theorem e11 : k0_pay11 (F := Ideal) = k0_pay8 := rfl
theorem e22 : k0_pay22 (F := Ideal) = k0_pay8 := rfl
theorem e33 : k0_pay33 (F := Ideal) = k0_pay8 := rfl
theorem e45 : k0_pay45 (F := Ideal) = k0_pay8 := rfl
theorem e14 : k0_pay14 (F := Ideal) = k0_pay13 := rfl
theorem e24 : k0_pay24 (F := Ideal) = k0_pay13 := rfl
theorem e25 : k0_pay25 (F := Ideal) = k0_pay13 := rfl
theorem e35 : k0_pay35 (F := Ideal) = k0_pay13 := rfl
theorem e47 : k0_pay47 (F := Ideal) = k0_pay13 := rfl
theorem e38 : k0_pay38 (F := Ideal) = k0_pay16 := rfl
theorem e2 : k0_pay2 (F := Ideal) = k0_pay16 := rfl
theorem e27 : k0_pay27 (F := Ideal) = k0_pay16 := rfl
theorem e28 : k0_pay28 (F := Ideal) = k0_pay17 := rfl
theorem e15 (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) : k0_pay15 (F := Ideal) b w2 x2 w1 x1 w0 x0 = k0_pay16 (k0_pay13 b w2 x2 w1 x1 w0 x0) := rfl
theorem e26 (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) : k0_pay26 (F := Ideal) b w2 x2 w1 x1 w0 x0 = k0_pay16 (k0_pay13 b w2 x2 w1 x1 w0 x0) := rfl
theorem e39 (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) : k0_pay39 (F := Ideal) (k0_pay36 b w2 x2 w1 x1) w0 x0 = k0_pay16 (k0_pay13 b w2 x2 w1 x1 w0 x0) := rfl
theorem e3 (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) : k0_pay3 (F := Ideal) (k0_pay48 b w2 x2 w1 x1) w0 x0 = k0_pay16 (k0_pay13 b w2 x2 w1 x1 w0 x0) := rfl
theorem e40 (g : Vec Ideal S512x256 .f32) (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) : k0_pay40 (F := Ideal) g (k0_pay36 b w2 x2 w1 x1) w0 x0 = k0_pay17 g (k0_pay13 b w2 x2 w1 x1 w0 x0) := rfl
theorem e4 (g : Vec Ideal S512x256 .f32) (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) : k0_pay4 (F := Ideal) g (k0_pay48 b w2 x2 w1 x1) w0 x0 = k0_pay17 g (k0_pay13 b w2 x2 w1 x1 w0 x0) := rfl

theorem cast_eq (x : Vec Ideal S512x256 .f32) (i : S512x256.Idx) : k0_pay16 (F := Ideal) x i = x i := by pointwise [k0_pay16]

theorem conv_eq (b : Vec Ideal S1x256 .f32) (w2 : Vec Ideal S1x256 .f32) (x2 : Vec Ideal S512x256 .f32) (w1 : Vec Ideal S1x256 .f32) (x1 : Vec Ideal S512x256 .f32) (w0 : Vec Ideal S1x256 .f32) (x0 : Vec Ideal S512x256 .f32) (a : Fin 512) (j : Fin 256) : k0_pay13 (F := Ideal) b w2 x2 w1 x1 w0 x0 (ix2 a j)
    = b (ix2 0 j) + w2 (ix2 0 j) * x2 (ix2 a j) + w1 (ix2 0 j) * x1 (ix2 a j) + w0 (ix2 0 j) * x0 (ix2 a j) := by
  pointwise [k0_pay13]

/-- The gate times its sigmoid. -/
def silu (x : EReal) : EReal := x * Ideal.div (Ideal.ofBits .f32 0x3F800000#32) (Ideal.ofBits .f32 0x3F800000#32 + Ideal.exp (-x))

theorem act_eq (g v : Vec Ideal S512x256 .f32) (a : Fin 512) (j : Fin 256) : k0_pay17 (F := Ideal) g v (ix2 a j) = silu (g (ix2 a j)) * v (ix2 a j) := by
  pointwise [k0_pay17, silu]
  rw [zero_sub]

/-- The convolution at a row, over the rows behind eight rows of zeros. -/
def conv (P : Vec Ideal S2056x256 .f32) (w : Vec Ideal S3x256 .f32) (b : Vec Ideal S1x256 .f32) (r : Fin 2048) (j : Fin 256) : EReal :=
  b (ix2 0 j) + w (ix2 2 j) * P (ix2 ⟨6 + (2 + r.val), by omega⟩ j) + w (ix2 1 j) * P (ix2 ⟨6 + (1 + r.val), by omega⟩ j) + w (ix2 0 j) * P (ix2 ⟨6 + r.val, by omega⟩ j)

theorem conv_at (P : Vec Ideal S2056x256 .f32) (w : Vec Ideal S3x256 .f32) (b : Vec Ideal S1x256 .f32) (o o2 o1 o0 : ℕ) (ho : o + 512 ≤ 2048) (h2 : o2 = 8 + o) (h1 : o1 = 7 + o) (h0 : o0 = 6 + o)
    (i2 i1 i0 k2 k1 k0) (a : Fin 512) (j : Fin 256) :
    k0_pay13 (F := Ideal) b (View.ld w (Rect.unit (s := S3x256) ![2, 0] ![1, 256] i2)) (View.ld P (Rect.unit (s := S2056x256) ![o2, 0] ![512, 256] k2))
      (View.ld w (Rect.unit (s := S3x256) ![1, 0] ![1, 256] i1)) (View.ld P (Rect.unit (s := S2056x256) ![o1, 0] ![512, 256] k1))
      (View.ld w (Rect.unit (s := S3x256) ![0, 0] ![1, 256] i0)) (View.ld P (Rect.unit (s := S2056x256) ![o0, 0] ![512, 256] k0)) (ix2 a j)
      = conv P w b ⟨o + a.val, by omega⟩ j := by
  subst h2 h1 h0
  rw [conv_eq]
  unfold conv
  refine congrArg₂ (fun x y : EReal => x + y) (congrArg₂ (fun x y : EReal => x + y) (congrArg₂ (fun x y : EReal => x + y) rfl ?_) ?_) ?_
  all_goals
    rw [Slices.ld_slice _ _ (by omega) (by omega), Slices.ld_slice _ _ (by omega) (by omega)]
    refine congrArg₂ (fun x y : EReal => x * y) (congrArg w ?_) (congrArg P ?_)
    all_goals blk_ext

abbrev arg0 : Vec Ideal S4096x1024 .bf16 := m ((c : Thread nD τ).loc main_arg0)
abbrev arg1 : Vec Ideal S5632x1024 .bf16 := m ((c : Thread nD τ).loc main_arg1)
abbrev arg2 : Vec Ideal S3x5632 .f32 := m ((c : Thread nD τ).loc main_arg2)
abbrev arg3 : Vec Ideal S1x5632 .f32 := m ((c : Thread nD τ).loc main_arg3)

theorem idx : ∀ t : Fin cfg0.N, win0_0.index t = ![t.val / 11, 0] ∧ win0_1.index t = ![t.val % 11, 0] ∧ win0_2.index t = ![t.val % 11 + 11, 0]
    ∧ win0_3.index t = ![0, t.val % 11] ∧ win0_4.index t = ![0, t.val % 11 + 11] ∧ win0_5.index t = ![0, t.val % 11] ∧ win0_6.index t = ![0, t.val % 11 + 11]
    ∧ win0_7.index t = ![t.val / 11, t.val % 11] ∧ win0_8.index t = ![t.val / 11, t.val % 11] ∧ win0_9.index t = ![t.val / 11, t.val % 11]
    ∧ win0_10.index t = ![t.val / 11, t.val % 11] ∧ win0_11.index t = ![t.val / 11, t.val % 11] ∧ t.val / 11 < 2 :=
  (by decide +kernel : ∀ t : Fin grid0.N, _)

/-! ## The reference at an entry -/

section Reference
open Cert.Reference11Ideal.Read
variable (x0 : Vec Ideal S4096x1024 .bf16) (x1 : Vec Ideal S5632x1024 .bf16) (x2 : Vec Ideal S3x5632 .f32) (x3 : Vec Ideal S1x5632 .f32)

theorem ref_up (z : Fin 2) (r : Fin 2048) (j : Fin 5632) : val_main_v4 (F := Ideal) x0 x1 (ix3 z r j) = ∑ k : Fin 1024, x0 (ix2 ⟨z.val * 2048 + r.val, by omega⟩ k) * x1 (ix2 j k) := by
  pointwise [val_main_v4, val_main_v3, val_main_v2, val_main_v1, val_main_v0]

theorem ref_tap (z : Fin 2) (n : Fin 2050) (j : Fin 5632) : val_main_v7 (F := Ideal) x0 x1 (ix3 z n j)
    = if h : n.val < 2 then 0 else val_main_v4 (F := Ideal) x0 x1 (ix3 z ⟨n.val - 2, by omega⟩ j) := by
  pointwise [val_main_v7, val_main_v6, val_main_cst]

theorem reorder (a p q s : EReal) : a + (p + q + s) = a + s + q + p := by ac_rfl

theorem ref_conv (z : Fin 2) (r : Fin 2048) (j : Fin 5632) : val_main_v32 (F := Ideal) x0 x1 x2 x3 (ix3 z r j)
    = x3 (ix2 0 j) + x2 (ix2 2 j) * val_main_v7 (F := Ideal) x0 x1 (ix3 z ⟨2 + r.val, by omega⟩ j) + x2 (ix2 1 j) * val_main_v7 (F := Ideal) x0 x1 (ix3 z ⟨1 + r.val, by omega⟩ j)
      + x2 (ix2 0 j) * val_main_v7 (F := Ideal) x0 x1 (ix3 z ⟨r.val, by omega⟩ j) := by
  pointwise [val_main_v32, val_main_v31, val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11, val_main_v10, val_main_v9, val_main_v8, val_main_v5, val_main_cst_0]
  exact reorder _ _ _ _

/-- Row `r` of batch element `z`. -/
abbrev flat (z : Fin 2) (r : Fin 2048) : Fin 4096 := ⟨z.val * 2048 + r.val, by omega⟩

theorem div_flat (z : Fin 2) (r : Fin 2048) : (z.val * 2048 + r.val) / 2048 = z.val := by omega
theorem mod_flat (z : Fin 2) (r : Fin 2048) : (z.val * 2048 + r.val) % 2048 = r.val := by omega

theorem ref_up_gate (z : Fin 2) (r : Fin 2048) (j : Fin 2816) : val_main_v40 (F := Ideal) x0 x1 (ix2 (flat z r) j) = val_main_v4 (F := Ideal) x0 x1 (ix3 z r ⟨j.val, by omega⟩) := by
  pointwise [val_main_v40, val_main_v39, val_main_v37]
  simp only [div_flat, mod_flat]

theorem ref_up_val (z : Fin 2) (r : Fin 2048) (j : Fin 2816) : val_main_v42 (F := Ideal) x0 x1 (ix2 (flat z r) j) = val_main_v4 (F := Ideal) x0 x1 (ix3 z r ⟨2816 + j.val, by omega⟩) := by
  pointwise [val_main_v42, val_main_v41, val_main_v38]
  simp only [div_flat, mod_flat]

theorem ref_gate (z : Fin 2) (r : Fin 2048) (j : Fin 2816) : val_main_v44 (F := Ideal) x0 x1 x2 x3 (ix2 (flat z r) j) = val_main_v32 (F := Ideal) x0 x1 x2 x3 (ix3 z r ⟨j.val, by omega⟩) := by
  pointwise [val_main_v44, val_main_v43, val_main_v33]
  simp only [div_flat, mod_flat]

theorem ref_val (z : Fin 2) (r : Fin 2048) (j : Fin 2816) : val_main_v46 (F := Ideal) x0 x1 x2 x3 (ix2 (flat z r) j) = val_main_v32 (F := Ideal) x0 x1 x2 x3 (ix3 z r ⟨2816 + j.val, by omega⟩) := by
  pointwise [val_main_v46, val_main_v45, val_main_v34]
  simp only [div_flat, mod_flat]

theorem ref_act (z : Fin 2) (r : Fin 2048) (j : Fin 2816) : val_main_v48 (F := Ideal) x0 x1 x2 x3 (ix2 (flat z r) j)
    = silu (val_main_v32 (F := Ideal) x0 x1 x2 x3 (ix3 z r ⟨j.val, by omega⟩)) * val_main_v32 (F := Ideal) x0 x1 x2 x3 (ix3 z r ⟨2816 + j.val, by omega⟩) := by
  pointwise [val_main_v48, val_main_v47, val_main_v36, val_main_v35, val_main_v34, val_main_v33, val_main_call0_v5, val_main_call0_v4, val_main_call0_v3, val_main_call0_v2, val_main_call0_v1, val_main_call0_v0,
    val_main_call0_cst, val_main_call0_cst_0, silu]
  simp only [div_flat, mod_flat]

end Reference

/-! ## The blocks -/

/-- The batch element of a point of the grid. -/
abbrev elt (t : Fin cfg0.N) : Fin 2 := ⟨t.val / 11, (idx t).2.2.2.2.2.2.2.2.2.2.2.2⟩

/-- The columns of a point: of the gate's half, of the value's half, and of either. -/
abbrev colG (t : Fin cfg0.N) (j : Fin 256) : Fin 5632 := ⟨256 * (t.val % 11) + j.val, by omega⟩
abbrev colV (t : Fin cfg0.N) (j : Fin 256) : Fin 5632 := ⟨2816 + (256 * (t.val % 11) + j.val), by omega⟩
abbrev col (t : Fin cfg0.N) (j : Fin 256) : Fin 2816 := ⟨256 * (t.val % 11) + j.val, by omega⟩

theorem block0 (t) (a : Fin 2048) (b : Fin 1024) : iblk m c 0 t (ix2 a b) = arg0 m c (ix2 (flat (elt t) a) b) := by blk_point [iblk, V, idx t]
theorem block1 (t) (a : Fin 256) (b : Fin 1024) : iblk m c 1 t (ix2 a b) = arg1 m c (ix2 (colG t a) b) := by blk_point [iblk, V, idx t]
theorem block2 (t) (a : Fin 256) (b : Fin 1024) : iblk m c 2 t (ix2 a b) = arg1 m c (ix2 (colV t a) b) := by blk_point [iblk, V, idx t]
theorem block3 (t) (a : Fin 3) (b : Fin 256) : iblk m c 3 t (ix2 a b) = arg2 m c (ix2 a (colG t b)) := by blk_point [iblk, V, idx t]
theorem block4 (t) (a : Fin 3) (b : Fin 256) : iblk m c 4 t (ix2 a b) = arg2 m c (ix2 a (colV t b)) := by blk_point [iblk, V, idx t]
theorem block5 (t) (a : Fin 1) (b : Fin 256) : iblk m c 5 t (ix2 a b) = arg3 m c (ix2 a (colG t b)) := by blk_point [iblk, V, idx t]
theorem block6 (t) (a : Fin 1) (b : Fin 256) : iblk m c 6 t (ix2 a b) = arg3 m c (ix2 a (colV t b)) := by blk_point [iblk, V, idx t]

open Cert.Reference11Ideal.Read in
theorem up_gate (t) (r : Fin 2048) (j : Fin 256) : lin (iblk m c 0 t) (iblk m c 1 t) r j = val_main_v4 (F := Ideal) (arg0 m c) (arg1 m c) (ix3 (elt t) r (colG t j)) := by
  rw [ref_up]
  unfold lin
  simp only [block0, block1]

open Cert.Reference11Ideal.Read in
theorem up_val (t) (r : Fin 2048) (j : Fin 256) : lin (iblk m c 0 t) (iblk m c 2 t) r j = val_main_v4 (F := Ideal) (arg0 m c) (arg1 m c) (ix3 (elt t) r (colV t j)) := by
  rw [ref_up]
  unfold lin
  simp only [block0, block2]

open Cert.Reference11Ideal.Read in
/-- A row of the scratch is the reference's row two further up, zeros in front on both sides. -/
theorem tap (u : Fin 2048 → Fin 256 → EReal) (x0 x1) (z : Fin 2) (j : Fin 256) (k : Fin 5632) (hu : ∀ r, u r j = val_main_v4 (F := Ideal) x0 x1 (ix3 z r k)) (n : ℕ) (hn : n < 2050) :
    padded u (ix2 ⟨6 + n, by omega⟩ j) = val_main_v7 (F := Ideal) x0 x1 (ix3 z ⟨n, hn⟩ k) := by
  rw [ref_tap]
  unfold padded
  by_cases h : 2 ≤ n
  · rw [dif_pos (show 8 ≤ ((ix2 (⟨6 + n, by omega⟩ : Fin 2056) j : S2056x256.Idx) 0).val by show 8 ≤ 6 + n; omega), dif_neg (show ¬ n < 2 by omega)]
    refine (hu _).trans (congrArg (fun r : Fin 2048 => val_main_v4 (F := Ideal) x0 x1 (ix3 z r k)) (Fin.ext ?_))
    show 6 + n - 8 = n - 2
    omega
  · rw [dif_neg (show ¬ 8 ≤ ((ix2 (⟨6 + n, by omega⟩ : Fin 2056) j : S2056x256.Idx) 0).val by show ¬ 8 ≤ 6 + n; omega), dif_pos (show n < 2 by omega)]

open Cert.Reference11Ideal.Read in
theorem gate_point (t) (r : Fin 2048) (j : Fin 256) : conv (padded (lin (iblk m c 0 t) (iblk m c 1 t))) (iblk m c 3 t) (iblk m c 5 t) r j
    = val_main_v32 (F := Ideal) (arg0 m c) (arg1 m c) (arg2 m c) (arg3 m c) (ix3 (elt t) r (colG t j)) := by
  unfold conv
  rw [ref_conv, tap _ _ _ (elt t) j (colG t j) (fun r => up_gate m c t r j) (2 + r.val) (by omega), tap _ _ _ (elt t) j (colG t j) (fun r => up_gate m c t r j) (1 + r.val) (by omega),
    tap _ _ _ (elt t) j (colG t j) (fun r => up_gate m c t r j) r.val (by omega)]
  simp only [block3, block5]

open Cert.Reference11Ideal.Read in
theorem val_point (t) (r : Fin 2048) (j : Fin 256) : conv (padded (lin (iblk m c 0 t) (iblk m c 2 t))) (iblk m c 4 t) (iblk m c 6 t) r j
    = val_main_v32 (F := Ideal) (arg0 m c) (arg1 m c) (arg2 m c) (arg3 m c) (ix3 (elt t) r (colV t j)) := by
  unfold conv
  rw [ref_conv, tap _ _ _ (elt t) j (colV t j) (fun r => up_val m c t r j) (2 + r.val) (by omega), tap _ _ _ (elt t) j (colV t j) (fun r => up_val m c t r j) (1 + r.val) (by omega),
    tap _ _ _ (elt t) j (colV t j) (fun r => up_val m c t r j) r.val (by omega)]
  simp only [block4, block6]

theorem final7 : (dats m 0 c).arrAt 7 (cfgs 0).N = Cert.Reference11Ideal.Read.val_main_v40 (arg0 m c) (arg1 m c) := by
  refine (dats m 0 c).arrAt_eq_of_covers 7 _ (by decide +kernel) fun t _ y => ?_
  blk_simp
  rw [after0_7]
  unfold outsAt0
  frame_out
  simp only [e20, e31, e43, e12, e23, e34, e46, e6, e19, e30, e42, e11, e22, e33, e45, e14, e24, e25, e35, e47, e38, e2, e27, e28, e15, e26, e39, e3, e40, e4, load1_2, load1_1, load1_0, load2_2, load2_1, load2_0, load3_2, load3_1, load3_0, load4_2, load4_1, load4_0]
  canon_tiles x h
  all_goals idx_vars x
  · refine (kept_at _ _ 1536 (by omega) _ x0 x1).trans ((up_gate m c t _ x1).trans ?_)
    refine (ref_up_gate _ _ (elt t) _ (col t x1)).symm.trans ?_
    blk_point [idx t]
  · refine (kept_at _ _ 1024 (by omega) _ x0 x1).trans ((up_gate m c t _ x1).trans ?_)
    refine (ref_up_gate _ _ (elt t) _ (col t x1)).symm.trans ?_
    blk_point [idx t]
  · refine (kept_at _ _ 512 (by omega) _ x0 x1).trans ((up_gate m c t _ x1).trans ?_)
    refine (ref_up_gate _ _ (elt t) _ (col t x1)).symm.trans ?_
    blk_point [idx t]
  · refine (kept_at _ _ 0 (by omega) _ x0 x1).trans ((up_gate m c t _ x1).trans ?_)
    refine (ref_up_gate _ _ (elt t) _ (col t x1)).symm.trans ?_
    blk_point [idx t]

theorem final8 : (dats m 0 c).arrAt 8 (cfgs 0).N = Cert.Reference11Ideal.Read.val_main_v42 (arg0 m c) (arg1 m c) := by
  refine (dats m 0 c).arrAt_eq_of_covers 8 _ (by decide +kernel) fun t _ y => ?_
  blk_simp
  rw [after0_8]
  frame_open
  frame_out
  simp only [e20, e31, e43, e12, e23, e34, e46, e6, e19, e30, e42, e11, e22, e33, e45, e14, e24, e25, e35, e47, e38, e2, e27, e28, e15, e26, e39, e3, e40, e4, load1_2, load1_1, load1_0, load2_2, load2_1, load2_0, load3_2, load3_1, load3_0, load4_2, load4_1, load4_0]
  canon_tiles x h
  all_goals idx_vars x
  · refine (kept_at _ _ 1536 (by omega) _ x0 x1).trans ((up_val m c t _ x1).trans ?_)
    refine (ref_up_val _ _ (elt t) _ (col t x1)).symm.trans ?_
    blk_point [idx t]
  · refine (kept_at _ _ 1024 (by omega) _ x0 x1).trans ((up_val m c t _ x1).trans ?_)
    refine (ref_up_val _ _ (elt t) _ (col t x1)).symm.trans ?_
    blk_point [idx t]
  · refine (kept_at _ _ 512 (by omega) _ x0 x1).trans ((up_val m c t _ x1).trans ?_)
    refine (ref_up_val _ _ (elt t) _ (col t x1)).symm.trans ?_
    blk_point [idx t]
  · refine (kept_at _ _ 0 (by omega) _ x0 x1).trans ((up_val m c t _ x1).trans ?_)
    refine (ref_up_val _ _ (elt t) _ (col t x1)).symm.trans ?_
    blk_point [idx t]

theorem final9 : (dats m 0 c).arrAt 9 (cfgs 0).N = Cert.Reference11Ideal.Read.val_main_v44 (arg0 m c) (arg1 m c) (arg2 m c) (arg3 m c) := by
  refine (dats m 0 c).arrAt_eq_of_covers 9 _ (by decide +kernel) fun t _ y => ?_
  blk_simp
  rw [after0_9]
  frame_open
  frame_out
  simp only [e20, e31, e43, e12, e23, e34, e46, e6, e19, e30, e42, e11, e22, e33, e45, e14, e24, e25, e35, e47, e38, e2, e27, e28, e15, e26, e39, e3, e40, e4, load1_2, load1_1, load1_0, load2_2, load2_1, load2_0, load3_2, load3_1, load3_0, load4_2, load4_1, load4_0]
  canon_tiles x h
  all_goals
    idx_vars x
    refine (cast_eq _ _).trans ?_
  · refine (conv_at _ _ _ 1536 _ _ _ (by omega) rfl rfl rfl _ _ _ _ _ _ x0 x1).trans ((gate_point m c t _ x1).trans ?_)
    refine (ref_gate _ _ _ _ (elt t) _ (col t x1)).symm.trans ?_
    blk_point [idx t]
  · refine (conv_at _ _ _ 1024 _ _ _ (by omega) rfl rfl rfl _ _ _ _ _ _ x0 x1).trans ((gate_point m c t _ x1).trans ?_)
    refine (ref_gate _ _ _ _ (elt t) _ (col t x1)).symm.trans ?_
    blk_point [idx t]
  · refine (conv_at _ _ _ 512 _ _ _ (by omega) rfl rfl rfl _ _ _ _ _ _ x0 x1).trans ((gate_point m c t _ x1).trans ?_)
    refine (ref_gate _ _ _ _ (elt t) _ (col t x1)).symm.trans ?_
    blk_point [idx t]
  · refine (conv_at _ _ _ 0 _ _ _ (by omega) rfl rfl rfl _ _ _ _ _ _ x0 x1).trans ((gate_point m c t _ x1).trans ?_)
    refine (ref_gate _ _ _ _ (elt t) _ (col t x1)).symm.trans ?_
    blk_point [idx t]

theorem final10 : (dats m 0 c).arrAt 10 (cfgs 0).N = Cert.Reference11Ideal.Read.val_main_v46 (arg0 m c) (arg1 m c) (arg2 m c) (arg3 m c) := by
  refine (dats m 0 c).arrAt_eq_of_covers 10 _ (by decide +kernel) fun t _ y => ?_
  blk_simp
  rw [after0_10]
  frame_open
  frame_out
  simp only [e20, e31, e43, e12, e23, e34, e46, e6, e19, e30, e42, e11, e22, e33, e45, e14, e24, e25, e35, e47, e38, e2, e27, e28, e15, e26, e39, e3, e40, e4, load1_2, load1_1, load1_0, load2_2, load2_1, load2_0, load3_2, load3_1, load3_0, load4_2, load4_1, load4_0]
  canon_tiles x h
  all_goals
    idx_vars x
    refine (cast_eq _ _).trans ?_
  · refine (conv_at _ _ _ 1536 _ _ _ (by omega) rfl rfl rfl _ _ _ _ _ _ x0 x1).trans ((val_point m c t _ x1).trans ?_)
    refine (ref_val _ _ _ _ (elt t) _ (col t x1)).symm.trans ?_
    blk_point [idx t]
  · refine (conv_at _ _ _ 1024 _ _ _ (by omega) rfl rfl rfl _ _ _ _ _ _ x0 x1).trans ((val_point m c t _ x1).trans ?_)
    refine (ref_val _ _ _ _ (elt t) _ (col t x1)).symm.trans ?_
    blk_point [idx t]
  · refine (conv_at _ _ _ 512 _ _ _ (by omega) rfl rfl rfl _ _ _ _ _ _ x0 x1).trans ((val_point m c t _ x1).trans ?_)
    refine (ref_val _ _ _ _ (elt t) _ (col t x1)).symm.trans ?_
    blk_point [idx t]
  · refine (conv_at _ _ _ 0 _ _ _ (by omega) rfl rfl rfl _ _ _ _ _ _ x0 x1).trans ((val_point m c t _ x1).trans ?_)
    refine (ref_val _ _ _ _ (elt t) _ (col t x1)).symm.trans ?_
    blk_point [idx t]

theorem final11 : (dats m 0 c).arrAt 11 (cfgs 0).N = Cert.Reference11Ideal.Read.val_main_v48 (arg0 m c) (arg1 m c) (arg2 m c) (arg3 m c) := by
  refine (dats m 0 c).arrAt_eq_of_covers 11 _ (by decide +kernel) fun t _ y => ?_
  blk_simp
  rw [after0_11]
  frame_open
  frame_out
  simp only [e20, e31, e43, e12, e23, e34, e46, e6, e19, e30, e42, e11, e22, e33, e45, e14, e24, e25, e35, e47, e38, e2, e27, e28, e15, e26, e39, e3, e40, e4, load1_2, load1_1, load1_0, load2_2, load2_1, load2_0, load3_2, load3_1, load3_0, load4_2, load4_1, load4_0]
  canon_tiles x h
  all_goals
    idx_vars x
    refine (act_eq _ _ _ _).trans ?_
  · refine congrArg₂ (fun a b : EReal => silu a * b) ((conv_at _ _ _ 1536 _ _ _ (by omega) rfl rfl rfl _ _ _ _ _ _ x0 x1).trans (gate_point m c t _ x1)) ((conv_at _ _ _ 1536 _ _ _ (by omega) rfl rfl rfl _ _ _ _ _ _ x0 x1).trans (val_point m c t _ x1)) |>.trans ?_
    refine (ref_act _ _ _ _ (elt t) _ (col t x1)).symm.trans ?_
    blk_point [idx t]
  · refine congrArg₂ (fun a b : EReal => silu a * b) ((conv_at _ _ _ 1024 _ _ _ (by omega) rfl rfl rfl _ _ _ _ _ _ x0 x1).trans (gate_point m c t _ x1)) ((conv_at _ _ _ 1024 _ _ _ (by omega) rfl rfl rfl _ _ _ _ _ _ x0 x1).trans (val_point m c t _ x1)) |>.trans ?_
    refine (ref_act _ _ _ _ (elt t) _ (col t x1)).symm.trans ?_
    blk_point [idx t]
  · refine congrArg₂ (fun a b : EReal => silu a * b) ((conv_at _ _ _ 512 _ _ _ (by omega) rfl rfl rfl _ _ _ _ _ _ x0 x1).trans (gate_point m c t _ x1)) ((conv_at _ _ _ 512 _ _ _ (by omega) rfl rfl rfl _ _ _ _ _ _ x0 x1).trans (val_point m c t _ x1)) |>.trans ?_
    refine (ref_act _ _ _ _ (elt t) _ (col t x1)).symm.trans ?_
    blk_point [idx t]
  · refine congrArg₂ (fun a b : EReal => silu a * b) ((conv_at _ _ _ 0 _ _ _ (by omega) rfl rfl rfl _ _ _ _ _ _ x0 x1).trans (gate_point m c t _ x1)) ((conv_at _ _ _ 0 _ _ _ (by omega) rfl rfl rfl _ _ _ _ _ _ x0 x1).trans (val_point m c t _ x1)) |>.trans ?_
    refine (ref_act _ _ _ _ (elt t) _ (col t x1)).symm.trans ?_
    blk_point [idx t]

/-- Kernel and reference end with the same five arrays. -/
theorem agree : Cert.algebraic_Kernel11Ideal_Reference11Ideal (hKernel11Ideal := Gen.facts) (hReference11Ideal := Cert.Reference11Ideal.Gen.facts) := by
  intro m ρ m' ρ' _ hargs
  refine ⟨fun c => Cert.Reference11Ideal.Read.val_main_v40 (arg0 m c) (arg1 m c), fun c => Cert.Reference11Ideal.Read.val_main_v42 (arg0 m c) (arg1 m c), fun c => Cert.Reference11Ideal.Read.val_main_v44 (arg0 m c) (arg1 m c) (arg2 m c) (arg3 m c), fun c => Cert.Reference11Ideal.Read.val_main_v46 (arg0 m c) (arg1 m c) (arg2 m c) (arg3 m c), fun c => Cert.Reference11Ideal.Read.val_main_v48 (arg0 m c) (arg1 m c) (arg2 m c) (arg3 m c), ?_, ?_⟩
  · exact (θ_run defs _ _).mono (fun r h c =>
      ⟨(h c).1.trans (final7 m c), (h c).2.1.trans (final8 m c), (h c).2.2.1.trans (final9 m c), (h c).2.2.2.1.trans (final10 m c), (h c).2.2.2.2.1.trans (final11 m c), (h c).2.2.2.2.2⟩)
      (Value.run_blocks (F := Ideal) m ρ)
  · refine (θ_run Cert.Reference11Ideal.defs _ _).mono (fun r h c =>
      ⟨(h c).1.trans ?_, (h c).2.1.trans ?_, (h c).2.2.1.trans ?_, (h c).2.2.2.1.trans ?_, (h c).2.2.2.2.1.trans ?_, (h c).2.2.2.2.2⟩) (Cert.Reference11Ideal.Value.run (F := Ideal) m' ρ')
    all_goals obtain ⟨a0, a1, a2, a3⟩ := hargs c
    · refine (Cert.Reference11Ideal.Read.val_main_v40_eq _ _).trans ?_
      rw [a0, a1]
    · refine (Cert.Reference11Ideal.Read.val_main_v42_eq _ _).trans ?_
      rw [a0, a1]
    · refine (Cert.Reference11Ideal.Read.val_main_v44_eq _ _ _ _).trans ?_
      rw [a0, a1, a2, a3]
    · refine (Cert.Reference11Ideal.Read.val_main_v46_eq _ _ _ _).trans ?_
      rw [a0, a1, a2, a3]
    · refine (Cert.Reference11Ideal.Read.val_main_v48_eq m' c).trans ?_
      rw [a0, a1, a2, a3]

/-- The reference's frame: it declares no semaphore. -/
theorem reference_frame : Cert.quiescent_Reference11Ideal (hReference11Ideal := Cert.Reference11Ideal.Gen.facts) := fun m ρ _ =>
  (θ_run Cert.Reference11Ideal.defs _ _).mono
    (fun r h => ⟨fun c => (h c).2.2.2.2.2, Idealize.ShloMosaic.sem_eq_zero_of_no_sems (by decide) r.2⟩)
    (Cert.Reference11Ideal.Value.run (F := Ideal) m ρ)

end Cert.Kernel11Ideal.Activate

end
-- ==== Proof.MergeFwd.lean ====
/-
  The merge of the two mixers, the output projection, the residual and the feed-forward block's norm.
-/
module

public import proofs.«01_k».proof.Defs
public import proofs.«01_k».proof.Proof.Gen.Kernel12
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import proofs.«01_k».proof.Proof.Gen.Reference12Ideal.Read
public import proofs.«01_k».proof.Proof.Norm

@[expose] public section

set_option maxRecDepth 16384
noncomputable section
open Idealize.ShloMosaic Idealize.ShloMosaic.TcCoe Idealize.SL.Sem
open Idealize.ShloMosaic.Pipeline (Dat)
namespace Cert.Kernel12Ideal.Merge
open Cert.Kernel12Ideal Cert.Kernel12Ideal.Gen

variable (m : (ℓ : Loc nD τ sig) → Buf (Elt Ideal) ℓ)

/-- The gate's value. -/
def sigm (x : EReal) : EReal := Ideal.div (Ideal.ofBits .f32 0x3F800000#32) (Ideal.ofBits .f32 0x3F800000#32 + Ideal.exp (-x))

theorem merged_eq (p g o) (a : Fin 512) (b : Fin 1024) : k0_pay2 (F := Ideal) p g o (ix2 a b) = p (ix2 a b) + sigm (g (ix2 a b)) * o (ix2 a b) := by
  pointwise [k0_pay2, sigm]
  rw [zero_sub]

theorem x1_eq (p g o x w) (a : Fin 512) (b : Fin 1024) : k0_pay3 (F := Ideal) p g o x w (ix2 a b)
    = x (ix2 a b) + ∑ k : Fin 1024, k0_pay2 (F := Ideal) p g o (ix2 a k) * w (ix2 k b) := by
  pointwise [k0_pay3]

theorem h_eq (p g o x w n) (a : Fin 512) (b : Fin 1024) : k0_pay1 (F := Ideal) (k0_pay4 p g o x w) (k0_pay5 n) (ix2 a b)
    = k0_pay3 (F := Ideal) p g o x w (ix2 a b) * Norm.factor (fun k : Fin 1024 => k0_pay3 (F := Ideal) p g o x w (ix2 a k)) * n (ix2 0 b) := by
  pointwise [k0_pay1, k0_pay4, k0_pay5, Norm.factor, Norm.meanSq]

open Cert.Reference12Ideal.Read in
theorem ref_merged (x1 x2 x3) (a : Fin 4096) (b : Fin 1024) : val_main_v11 (F := Ideal) x1 x2 x3 (ix2 a b)
    = x1 (ix2 a b) + sigm (x2 (ix2 a ⟨3072 + b.val, by omega⟩)) * x3 (ix2 a b) := by
  pointwise [val_main_v11, val_main_v10, val_main_v9, val_main_v8, val_main_v7, val_main_v6, val_main_v5, val_main_v4, val_main_v3, val_main_v2, val_main_v1, val_main_v0, val_main_cst, val_main_cst_0, sigm]

open Cert.Reference12Ideal.Read in
theorem ref_kept (x1 x2 x3 j) : val_main_v15 (F := Ideal) x1 x2 x3 j = val_main_v11 (F := Ideal) x1 x2 x3 j := by
  pointwise [val_main_v15]

open Cert.Reference12Ideal.Read in
theorem ref_x1 (x0 x1 x2 x3 x4) (a : Fin 4096) (b : Fin 1024) : val_main_v14 (F := Ideal) x0 x1 x2 x3 x4 (ix2 a b)
    = x0 (ix2 a b) + ∑ k : Fin 1024, val_main_v11 (F := Ideal) x1 x2 x3 (ix2 a k) * x4 (ix2 k b) := by
  pointwise [val_main_v14, val_main_v13, val_main_v12]

open Cert.Reference12Ideal.Read in
theorem ref_h (x0 x1 x2 x3 x4 x5) (a : Fin 4096) (b : Fin 1024) : val_main_v28 (F := Ideal) x0 x1 x2 x3 x4 x5 (ix2 a b)
    = val_main_v14 (F := Ideal) x0 x1 x2 x3 x4 (ix2 a b) * Norm.factor (fun k : Fin 1024 => val_main_v14 (F := Ideal) x0 x1 x2 x3 x4 (ix2 a k)) * x5 (ix2 0 b) := by
  pointwise [val_main_v28, val_main_v27, val_main_v26, val_main_v25, val_main_v24, val_main_v23, val_main_v22, val_main_v21, val_main_v20, val_main_v19, val_main_v18, val_main_v17, val_main_v16, val_main_cst_1, val_main_cst_2, val_main_cst_3, Norm.factor, Norm.meanSq]

theorem idx : ∀ t : Fin cfg0.N, win0_0.index t = ![t.val, 0] ∧ win0_1.index t = ![t.val, 0] ∧ win0_2.index t = ![t.val, 3] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] ∧ t.val < 8 :=
  (by decide +kernel : ∀ t : Fin grid0.N, _)

/-- Row `a` of point `t`'s block of rows. -/
abbrev row (t : Fin cfg0.N) (a : Fin 512) : Fin 4096 := ⟨512 * t.val + a.val, by have := (idx t).2.2.2.2.2.2.2.2.2; omega⟩

variable (c : Dev nD)

abbrev arg0 : Vec Ideal S4096x1024 .f32 := m ((c : Thread nD τ).loc main_arg0)
abbrev arg1 : Vec Ideal S4096x1024 .bf16 := m ((c : Thread nD τ).loc main_arg1)
abbrev arg2 : Vec Ideal S4096x4096 .bf16 := m ((c : Thread nD τ).loc main_arg2)
abbrev arg3 : Vec Ideal S4096x1024 .bf16 := m ((c : Thread nD τ).loc main_arg3)
abbrev arg4 : Vec Ideal S1024x1024 .bf16 := m ((c : Thread nD τ).loc main_arg4)
abbrev arg5 : Vec Ideal S1x1024 .f32 := m ((c : Thread nD τ).loc main_arg5)

theorem block0 (t) (a : Fin 512) (b : Fin 1024) : iblk m c 0 t (ix2 a b) = arg0 m c (ix2 (row t a) b) := by blk_point [iblk, V, idx t]
theorem block1 (t) (a : Fin 512) (b : Fin 1024) : iblk m c 1 t (ix2 a b) = arg1 m c (ix2 (row t a) b) := by blk_point [iblk, V, idx t]
theorem block2 (t) (a : Fin 512) (b : Fin 1024) : iblk m c 2 t (ix2 a b) = arg2 m c (ix2 (row t a) ⟨3072 + b.val, by omega⟩) := by blk_point [iblk, V, idx t]
theorem block3 (t) (a : Fin 512) (b : Fin 1024) : iblk m c 3 t (ix2 a b) = arg3 m c (ix2 (row t a) b) := by blk_point [iblk, V, idx t]
theorem block4 (t y) : iblk m c 4 t y = arg4 m c y := by blk_point [iblk, V, idx t]
theorem block5 (t y) : iblk m c 5 t y = arg5 m c y := by blk_point [iblk, V, idx t]

open Cert.Reference12Ideal.Read in
theorem merged_point (t) (a : Fin 512) (b : Fin 1024) : k0_pay2 (F := Ideal) (iblk m c 1 t) (iblk m c 2 t) (iblk m c 3 t) (ix2 a b)
    = val_main_v11 (F := Ideal) (arg1 m c) (arg2 m c) (arg3 m c) (ix2 (row t a) b) := by
  rw [merged_eq, ref_merged]
  simp only [block1, block2, block3]

open Cert.Reference12Ideal.Read in
theorem x1_point (t) (a : Fin 512) (b : Fin 1024) : k0_pay3 (F := Ideal) (iblk m c 1 t) (iblk m c 2 t) (iblk m c 3 t) (iblk m c 0 t) (iblk m c 4 t) (ix2 a b)
    = val_main_v14 (F := Ideal) (arg0 m c) (arg1 m c) (arg2 m c) (arg3 m c) (arg4 m c) (ix2 (row t a) b) := by
  rw [x1_eq, ref_x1]
  simp only [merged_point, block0, block4]

open Cert.Reference12Ideal.Read in
theorem h_point (t) (a : Fin 512) (b : Fin 1024) :
    k0_pay1 (F := Ideal) (k0_pay4 (iblk m c 1 t) (iblk m c 2 t) (iblk m c 3 t) (iblk m c 0 t) (iblk m c 4 t)) (k0_pay5 (iblk m c 5 t)) (ix2 a b)
      = val_main_v28 (F := Ideal) (arg0 m c) (arg1 m c) (arg2 m c) (arg3 m c) (arg4 m c) (arg5 m c) (ix2 (row t a) b) := by
  rw [h_eq, ref_h]
  simp only [x1_point, block5]

theorem final6 : (dats m 0 c).arrAt 6 (cfgs 0).N = Cert.Reference12Ideal.Read.val_main_v15 (arg1 m c) (arg2 m c) (arg3 m c) := by
  refine (dats m 0 c).arrAt_eq_of_covers 6 _ (by decide +kernel) fun t _ y => ?_
  blk_simp
  rw [after0_6]
  frame_out
  idx_vars y
  refine (merged_point m c t y0 y1).trans ((ref_kept _ _ _ _).symm.trans ?_)
  blk_point [idx t]

theorem final7 : (dats m 0 c).arrAt 7 (cfgs 0).N = Cert.Reference12Ideal.Read.val_main_v14 (arg0 m c) (arg1 m c) (arg2 m c) (arg3 m c) (arg4 m c) := by
  refine (dats m 0 c).arrAt_eq_of_covers 7 _ (by decide +kernel) fun t _ y => ?_
  blk_simp
  rw [after0_7]
  frame_out
  idx_vars y
  refine (x1_point m c t y0 y1).trans ?_
  blk_point [idx t]

theorem final8 : (dats m 0 c).arrAt 8 (cfgs 0).N = Cert.Reference12Ideal.Read.val_main_v28 (arg0 m c) (arg1 m c) (arg2 m c) (arg3 m c) (arg4 m c) (arg5 m c) := by
  refine (dats m 0 c).arrAt_eq_of_covers 8 _ (by decide +kernel) fun t _ y => ?_
  blk_simp
  rw [after0_8]
  frame_out
  idx_vars y
  refine (h_point m c t y0 y1).trans ?_
  blk_point [idx t]

/-- Kernel and reference end with the same three arrays. -/
theorem agree : Cert.algebraic_Kernel12Ideal_Reference12Ideal (hKernel12Ideal := Gen.facts) (hReference12Ideal := Cert.Reference12Ideal.Gen.facts) := by
  intro m ρ m' ρ' _ hargs
  refine ⟨fun c => Cert.Reference12Ideal.Read.val_main_v15 (arg1 m c) (arg2 m c) (arg3 m c), fun c => Cert.Reference12Ideal.Read.val_main_v14 (arg0 m c) (arg1 m c) (arg2 m c) (arg3 m c) (arg4 m c),
    fun c => Cert.Reference12Ideal.Read.val_main_v28 (arg0 m c) (arg1 m c) (arg2 m c) (arg3 m c) (arg4 m c) (arg5 m c), ?_, ?_⟩
  · exact (θ_run defs _ _).mono (fun r h c =>
      ⟨(h c).1.trans (final6 m c), (h c).2.1.trans (final7 m c), (h c).2.2.1.trans (final8 m c), (h c).2.2.2⟩)
      (Value.run_blocks (F := Ideal) m ρ)
  · refine (θ_run Cert.Reference12Ideal.defs _ _).mono (fun r h c =>
      ⟨(h c).1.trans ?_, (h c).2.1.trans ?_, (h c).2.2.1.trans ?_, (h c).2.2.2⟩) (Cert.Reference12Ideal.Value.run (F := Ideal) m' ρ')
    all_goals obtain ⟨a0, a1, a2, a3, a4, a5⟩ := hargs c
    · refine (Cert.Reference12Ideal.Read.val_main_v15_eq _ _ _).trans ?_
      rw [a1, a2, a3]
    · refine (Cert.Reference12Ideal.Read.val_main_v14_eq _ _ _ _ _).trans ?_
      rw [a0, a1, a2, a3, a4]
    · refine (Cert.Reference12Ideal.Read.val_main_v28_eq _ _ _ _ _ _).trans ?_
      rw [a0, a1, a2, a3, a4, a5]

/-- The reference's frame: it declares no semaphore. -/
theorem reference_frame : Cert.quiescent_Reference12Ideal (hReference12Ideal := Cert.Reference12Ideal.Gen.facts) := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m ρ)

end Cert.Kernel12Ideal.Merge

end
-- ==== Proof.DwSmall.lean ====
/-
  The gradient of the small rows of the input projection's weight: what the kernel's two points of each block add up to.
-/
module

public import proofs.«01_k».proof.Defs
public import proofs.«01_k».proof.Proof.Gen.Kernel13
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import proofs.«01_k».proof.Proof.Gen.Reference13Ideal.Read

@[expose] public section

set_option maxRecDepth 16384
noncomputable section
open Idealize.ShloMosaic Idealize.ShloMosaic.TcCoe Idealize.SL.Sem
open Idealize.ShloMosaic.Pipeline (Dat)
namespace Cert.Kernel13Ideal.Grad
open Cert.Kernel13Ideal Cert.Kernel13Ideal.Gen

variable (m : (ℓ : Loc nD τ sig) → Buf (Elt Ideal) ℓ)

theorem fill (j) : k0_pay1 (F := Ideal) j = 0 := by pointwise [k0_pay1]

theorem add (acc x0 x1 j) : k0_pay2 (F := Ideal) acc x0 x1 j = acc j + ∑ k : Fin 2048, x0 (ix2 k (j 0)) * x1 (ix2 k (j 1)) := by
  pointwise [k0_pay2]

theorem idx : ∀ t : Fin cfg0.N, win0_0.index t = ![t.val, 0] ∧ win0_1.index t = ![t.val, 0] ∧ win0_2.index t = ![0, 0] ∧ t.val < 2 :=
  (by decide +kernel : ∀ t : Fin grid0.N, _)

theorem final (c : Dev nD) : (dats m 0 c).arrAt 2 (cfgs 0).N
    = Cert.Reference13Ideal.Read.val_main_v7 (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  have e : (outsAt0 m c t.val t.isLt).1 y = (outsAt0 m c t.val t.isLt).2 y := by
    rw [outsAt0_B m c t (by omega) hm]
    frame_out
    pointwise [k0_pay3]
  rw [after0_2]
  refine e.trans ?_
  rw [Pipeline.eq_sum_fin_of_reset_step_apply_of_flush (fun n h => (outsAt0 m c n h).2) 2 (fun _ => 0) _
    (fun t h j => by rw [outsAt0_A m c t h (by omega)]; frame_out; rw [add, fill])
    (fun t h j => by rw [outsAt0_B m c t h (by omega)]; frame_out; rw [add, read_unread_whole])
    t hm _, zero_add]
  pointwise [Cert.Reference13Ideal.Read.val_main_v7, Cert.Reference13Ideal.Read.val_main_v6, Cert.Reference13Ideal.Read.val_main_v5, Cert.Reference13Ideal.Read.val_main_v4, Cert.Reference13Ideal.Read.val_main_v1, Cert.Reference13Ideal.Read.val_main_v0]
  refine Fin.sum_mul_add_congr fun s k hl => ?_
  blk_point [iblk, V, idx t, idx ⟨_, Pipeline.run_point_lt_of_flush t hm s⟩]

/-- Kernel and reference end with the same gradient. -/
theorem agree : Cert.algebraic_Kernel13Ideal_Reference13Ideal (hKernel13Ideal := Gen.facts) (hReference13Ideal := Cert.Reference13Ideal.Gen.facts) := by
  intro m ρ m' ρ' _ hargs
  refine ⟨fun c => Cert.Reference13Ideal.Read.val_main_v7 (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m ρ)
  · refine (θ_run Cert.Reference13Ideal.defs _ _).mono (fun r h c => ⟨(h c).1.trans ?_, (h c).2⟩) (Cert.Reference13Ideal.Value.run (F := Ideal) m' ρ')
    obtain ⟨a0, a1⟩ := hargs c
    rw [Cert.Reference13Ideal.Read.val_main_v7_eq, a0, a1]

/-- The reference's frame: it declares no semaphore. -/
theorem reference_frame : Cert.quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

end Cert.Kernel13Ideal.Grad

end
-- ==== Proof.HeadsFwd.lean ====
/-
  The projections of latent attention: the queries, keys and values of each head, with the rotary embedding.
-/
module

public import proofs.«01_k».proof.Defs
public import proofs.«01_k».proof.Proof.Gen.Kernel14
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import proofs.«01_k».proof.Proof.Gen.Reference14Ideal.Read
public import proofs.«01_k».proof.Proof.Causal
public import proofs.«01_k».proof.Proof.Slices

@[expose] public section

set_option maxRecDepth 16384
noncomputable section
open Idealize.ShloMosaic Idealize.ShloMosaic.TcCoe Idealize.SL.Sem
open Idealize.ShloMosaic.Pipeline (Dat)
namespace Cert.Kernel14Ideal.Heads
open Cert.Kernel14Ideal Cert.Kernel14Ideal.Gen

variable (m : (ℓ : Loc nD τ sig) → Buf (Elt Ideal) ℓ) (c : Dev nD)

abbrev arg0 : Vec Ideal S4096x512 .f32 := m ((c : Thread nD τ).loc main_arg0)
abbrev arg1 : Vec Ideal S4096 .i32 := m ((c : Thread nD τ).loc main_arg1)
abbrev arg2 : Vec Ideal S1x256 .f32 := m ((c : Thread nD τ).loc main_arg2)
abbrev arg3 : Vec Ideal S1x128 .f32 := m ((c : Thread nD τ).loc main_arg3)
abbrev arg4 : Vec Ideal S8x192x256 .bf16 := m ((c : Thread nD τ).loc main_arg4)
abbrev arg5 : Vec Ideal S128x2048 .bf16 := m ((c : Thread nD τ).loc main_arg5)

/-- The factor by which the norm scales a row. -/
def factor {n : ℕ} (w : EReal) (x : Fin n → EReal) : EReal :=
  Ideal.rsqrt (Ideal.div (∑ k, x k * x k) w + Ideal.ofBits .f32 0x358637BD#32)

/-- A head's 64 rotated columns and the 64 columns of zeros after them: `C`, `S` are the cosines and sines of the 32 angles. -/
def turn (x : Fin 64 → EReal) (C S : Fin 32 → EReal) (l : Fin 128) : EReal :=
  if h : l.val < 32 then x ⟨l.val, by omega⟩ * C ⟨l.val, h⟩ - x ⟨32 + l.val, by omega⟩ * S ⟨l.val, h⟩
  else if h' : l.val < 64 then x ⟨l.val - 32, by omega⟩ * S ⟨l.val - 32, by omega⟩ + x ⟨l.val, h'⟩ * C ⟨l.val - 32, by omega⟩
  else 0

/-- Scaling by a real number that is not negative commutes with the rotation. -/
theorem turn_scale (x : Fin 64 → EReal) (C S : Fin 32 → EReal) (r : ℝ) (hr : 0 ≤ r) (l : Fin 128) :
    turn (fun k => x k * (r : EReal)) C S l = turn x C S l * (r : EReal) := by
  have d (a b : EReal) : (a + b) * (r : EReal) = a * r + b * r :=
    EReal.right_distrib_of_nonneg_of_ne_top (EReal.coe_nonneg.2 hr) (EReal.coe_ne_top r) a b
  unfold turn
  split
  · rw [sub_eq_add_neg, sub_eq_add_neg, d, EReal.neg_mul, mul_right_comm, mul_right_comm (x ⟨32 + l.val, _⟩) (r : EReal)]
  · split
    · rw [d, mul_right_comm, mul_right_comm (x _) (r : EReal)]
    · rw [zero_mul]

theorem scale_nonneg : 0 ≤ Causal.scale := by
  have h : (0 : EReal) ≤ Ideal.ofBits .f32 0x3D93CD3A#32 := by
    simp [Ideal.ofBits, Ideal.ieee]
    rw [← EReal.coe_mul]
    exact EReal.coe_nonneg.2 (by positivity)
  rw [Causal.scale_coe] at h
  exact EReal.coe_nonneg.1 h

theorem q_eq (x g w) (a : Fin 512) (b : Fin 2048) : k0_pay12 (F := Ideal) g (k0_pay11 x) w (ix2 a b)
    = (∑ k : Fin 256, x (ix2 a k) * factor (Ideal.ofBits .f32 0x43800000#32) (fun k : Fin 256 => x (ix2 a k)) * g (ix2 0 k) * w (ix2 b k)) * Ideal.ofBits .f32 0x3D93CD3A#32 := by
  pointwise [k0_pay12, k0_pay11, factor]

theorem kv_eq (x g w) (a : Fin 512) (b : Fin 2048) : k0_pay13 (F := Ideal) x g w (ix2 a b)
    = ∑ k : Fin 128, x (ix2 a k) * factor (Ideal.ofBits .f32 0x43000000#32) (fun k : Fin 128 => x (ix2 a k)) * g (ix2 0 k) * w (ix2 k b) := by
  pointwise [k0_pay13, factor]

/-! ### The rotary tables and the rotation -/

theorem below (n : ℕ) (x y : EReal) (l : Fin 128) (h : ∀ l : Fin 128, IntOp.cmpi CmpIPredicate.slt (BitVec.ofNat 32 l.val) (BitVec.ofNat 32 n) = if l.val < n then 1#1 else 0#1) :
    Scalar.select (IntOp.cmpi CmpIPredicate.slt (BitVec.ofNat 32 l.val) (BitVec.ofNat 32 n)) x y = if l.val < n then x else y := by
  rw [h l]
  by_cases e : l.val < n
  · rw [if_pos e, if_pos e]; rfl
  · rw [if_neg e, if_neg e]; rfl

theorem between (x y : EReal) (l : Fin 128) :
    Scalar.select (IntOp.andi (IntOp.cmpi CmpIPredicate.sge (BitVec.ofNat 32 l.val) 32#32) (IntOp.cmpi CmpIPredicate.slt (BitVec.ofNat 32 l.val) 64#32)) x y
      = if 32 ≤ l.val ∧ l.val < 64 then x else y := by
  rw [(by decide +kernel : ∀ l : Fin 128, IntOp.andi (IntOp.cmpi CmpIPredicate.sge (BitVec.ofNat 32 l.val) 32#32) (IntOp.cmpi CmpIPredicate.slt (BitVec.ofNat 32 l.val) 64#32)
    = if 32 ≤ l.val ∧ l.val < 64 then 1#1 else 0#1) l]
  by_cases e : 32 ≤ l.val ∧ l.val < 64
  · rw [if_pos e, if_pos e]; rfl
  · rw [if_neg e, if_neg e]; rfl

theorem angle_eq (p f) (a : Fin 512) (l : Fin 128) : k0_pay6 (F := Ideal) p f (ix2 a l) = FloatOps.sitofp FTy.f32 (p (ix2 a 0)) * f (ix2 0 l) := by
  pointwise [k0_pay6]

theorem cos_eq (p f) (a : Fin 512) (l : Fin 128) : k0_pay8 (F := Ideal) p f (ix2 a l) = if l.val < 64 then Ideal.cos (k0_pay6 p f (ix2 a l)) else 0 := by
  pointwise [k0_pay8]
  exact below 64 _ _ l (by decide +kernel)

theorem sin_first (p f) (a : Fin 512) (l : Fin 128) : k0_pay9 (F := Ideal) p f (ix2 a l) = if l.val < 32 then 0 - Ideal.sin (k0_pay6 p f (ix2 a l)) else 0 := by
  pointwise [k0_pay9, k0_pay7]
  exact below 32 _ _ l (by decide +kernel)

theorem sin_second (p f) (a : Fin 512) (l : Fin 128) : k0_pay10 (F := Ideal) p f (ix2 a l) = if 32 ≤ l.val ∧ l.val < 64 then Ideal.sin (k0_pay6 p f (ix2 a l)) else 0 := by
  pointwise [k0_pay10, k0_pay7]
  exact between _ _ l

theorem rot_eq (c s s' x) (a : Fin 512) (l : Fin 128) : k0_pay14 (F := Ideal) c s s' x (ix2 a l) = x (ix2 a l) * c (ix2 a l)
    + x (ix2 a ⟨(l.val + 128 - 96) % 128, by omega⟩) * s (ix2 a l) + x (ix2 a ⟨(l.val + 128 - 32) % 128, by omega⟩) * s' (ix2 a l) := by
  pointwise [k0_pay14]

/-- The two turns of the lanes with the masked tables are the rotation. -/
theorem rot_turn (p f x) (a : Fin 512) (l : Fin 128) (θ : Fin 32 → EReal) (hθ : ∀ l : Fin 128, l.val < 64 → k0_pay6 (F := Ideal) p f (ix2 a l) = θ ⟨l.val % 32, by omega⟩) :
    k0_pay14 (F := Ideal) (k0_pay8 p f) (k0_pay9 p f) (k0_pay10 p f) x (ix2 a l)
      = turn (fun k => x (ix2 a ⟨k.val, by omega⟩)) (fun k => Ideal.cos (θ k)) (fun k => Ideal.sin (θ k)) l := by
  rw [rot_eq, cos_eq, sin_first, sin_second]
  unfold turn
  by_cases h : l.val < 32
  · rw [if_pos (by omega), if_pos h, if_neg (by omega), dif_pos h, hθ l (by omega), mul_zero, add_zero, zero_sub, mul_neg, ← sub_eq_add_neg]
    have e : (⟨(l.val + 128 - 96) % 128, by omega⟩ : Fin 128) = ⟨32 + l.val, by omega⟩ := Fin.ext (by show (l.val + 128 - 96) % 128 = 32 + l.val; omega)
    have e' : (⟨l.val % 32, by omega⟩ : Fin 32) = ⟨l.val, h⟩ := Fin.ext (by show l.val % 32 = l.val; omega)
    rw [e, e']
  · rw [dif_neg h, if_neg h]
    by_cases h' : l.val < 64
    · rw [if_pos h', if_pos ⟨by omega, h'⟩, dif_pos h', hθ l h', mul_zero, add_zero]
      have e : (⟨(l.val + 128 - 32) % 128, by omega⟩ : Fin 128) = ⟨l.val - 32, by omega⟩ := Fin.ext (by show (l.val + 128 - 32) % 128 = l.val - 32; omega)
      have e' : (⟨l.val % 32, by omega⟩ : Fin 32) = ⟨l.val - 32, by omega⟩ := Fin.ext (by show l.val % 32 = l.val - 32; omega)
      rw [e, e', add_comm]
    · rw [if_neg h', if_neg (by omega), dif_neg h', mul_zero, mul_zero, mul_zero, add_zero, add_zero]

/-! ### The reference -/

open Cert.Reference14Ideal.Read in
/-- The angle of row `i` and frequency `k`. -/
abbrev angle (x1 : Vec Ideal S4096 .i32) (i : Fin 4096) (k : Fin 32) : EReal := FloatOps.sitofp (F := Ideal) FTy.f32 (x1 (ix1 i)) * val_main_v13 (F := Ideal) (ix1 k)

/-- Entry `r` of head `h` of row `i`'s queries before the rotation. -/
abbrev query (x0 : Vec Ideal S4096x512 .f32) (x2 : Vec Ideal S1x256 .f32) (x4 : Vec Ideal S8x192x256 .bf16) (i : Fin 4096) (h : Fin 8) (r : Fin 192) : EReal :=
  ∑ k : Fin 256, x0 (ix2 i ⟨k.val, by omega⟩) * factor (Ideal.ofBits .f32 0x43800000#32) (fun k : Fin 256 => x0 (ix2 i ⟨k.val, by omega⟩)) * x2 (ix2 0 k) * x4 (ix3 h r k)

/-- Entry `j` of row `i`'s keys and values before the rotation. -/
abbrev keyValue (x0 : Vec Ideal S4096x512 .f32) (x3 : Vec Ideal S1x128 .f32) (x5 : Vec Ideal S128x2048 .bf16) (i : Fin 4096) (j : Fin 2048) : EReal :=
  ∑ k : Fin 128, x0 (ix2 i ⟨256 + k.val, by omega⟩) * factor (Ideal.ofBits .f32 0x43000000#32) (fun k : Fin 128 => x0 (ix2 i ⟨256 + k.val, by omega⟩)) * x3 (ix2 0 k) * x5 (ix2 k j)

open Cert.Reference14Ideal.Read in
theorem ref_cos (x1) (i : Fin 4096) (k : Fin 32) : val_main_v20 (F := Ideal) x1 (ix2 i k) = Ideal.cos (angle x1 i k) := by
  pointwise [val_main_v20, val_main_v19, val_main_v18, val_main_v17, val_main_v16, val_main_v15, val_main_v14]

open Cert.Reference14Ideal.Read in
theorem ref_sin (x1) (i : Fin 4096) (k : Fin 32) : val_main_v21 (F := Ideal) x1 (ix2 i k) = Ideal.sin (angle x1 i k) := by
  pointwise [val_main_v21, val_main_v19, val_main_v18, val_main_v17, val_main_v16, val_main_v15, val_main_v14]

open Cert.Reference14Ideal.Read in
theorem ref_norm_q (x0 x2) (i : Fin 4096) (k : Fin 256) : val_main_v33 (F := Ideal) x0 x2 (ix2 i k)
    = x0 (ix2 i ⟨k.val, by omega⟩) * factor (Ideal.ofBits .f32 0x43800000#32) (fun k : Fin 256 => x0 (ix2 i ⟨k.val, by omega⟩)) * x2 (ix2 0 k) := by
  pointwise [val_main_v33, val_main_v32, val_main_v31, val_main_v30, val_main_v29, val_main_v28, val_main_v27, val_main_v26, val_main_v25, val_main_v24, val_main_v23, val_main_v22, val_main_v0, val_main_cst_4, val_main_cst_5, val_main_cst_6, factor]

open Cert.Reference14Ideal.Read in
theorem ref_norm_kv (x0 x3) (i : Fin 4096) (k : Fin 128) : val_main_v67 (F := Ideal) x0 x3 (ix2 i k)
    = x0 (ix2 i ⟨256 + k.val, by omega⟩) * factor (Ideal.ofBits .f32 0x43000000#32) (fun k : Fin 128 => x0 (ix2 i ⟨256 + k.val, by omega⟩)) * x3 (ix2 0 k) := by
  pointwise [val_main_v67, val_main_v66, val_main_v65, val_main_v64, val_main_v63, val_main_v62, val_main_v61, val_main_v60, val_main_v59, val_main_v58, val_main_v57, val_main_v56, val_main_v1, val_main_cst_7, val_main_cst_8, val_main_cst_9, factor]

open Cert.Reference14Ideal.Read in
theorem ref_query (x0 x2 x4) (i : Fin 4096) (h : Fin 8) (r : Fin 192) : val_main_v38 (F := Ideal) x0 x2 x4 (ix3 i h r) = query x0 x2 x4 i h r := by
  pointwise [val_main_v38, val_main_v37, val_main_v36, val_main_v35, val_main_v34]
  refine Finset.sum_congr rfl fun k _ => ?_
  rw [ref_norm_q]

open Cert.Reference14Ideal.Read in
theorem ref_kv (x0 x3 x5) (i : Fin 4096) (h : Fin 8) (r : Fin 256) : val_main_v70 (F := Ideal) x0 x3 x5 (ix3 i h r) = keyValue x0 x3 x5 i ⟨256 * h.val + r.val, by omega⟩ := by
  pointwise [val_main_v70, val_main_v69, val_main_v68]
  refine Finset.sum_congr rfl fun k _ => ?_
  rw [ref_norm_kv]
  simp only [Nat.mul_comm h.val 256]

open Cert.Reference14Ideal.Read in
theorem ref_q (x0 x1 x2 x4) (i : Fin 4096) (h : Fin 8) (r : Fin 256) : val_main_v90 (F := Ideal) x0 x1 x2 x4 (ix2 i ⟨256 * h.val + r.val, by omega⟩)
    = (if hr : r.val < 128 then val_main_v38 x0 x2 x4 (ix3 i h ⟨r.val, by omega⟩)
        else if h2 : r.val - 128 < 64 then
          if h3 : r.val - 128 < 32 then val_main_v49 x0 x1 x2 x4 (ix3 i h ⟨r.val - 128, h3⟩) else val_main_v54 x0 x1 x2 x4 (ix3 i h ⟨r.val - 128 - 32, by omega⟩)
        else (0 : EReal)) * Ideal.ofBits .f32 0x3D93CD3A#32 := by
  pointwise [val_main_v90, val_main_v89, val_main_v87, val_main_v86, val_main_v85, val_main_cst_11, val_main_v84, val_main_cst_10, val_main_v55, val_main_v39]

open Cert.Reference14Ideal.Read in
theorem ref_k (x0 x1 x3 x5) (i : Fin 4096) (h : Fin 8) (r : Fin 256) : val_main_v92 (F := Ideal) x0 x1 x3 x5 (ix2 i ⟨256 * h.val + r.val, by omega⟩)
    = if hr : r.val < 128 then val_main_v70 x0 x3 x5 (ix3 i h r)
        else if h2 : r.val - 128 < 64 then
          if h3 : r.val - 128 < 32 then val_main_v77 x0 x1 (ix2 i ⟨r.val - 128, h3⟩) else val_main_v80 x0 x1 (ix2 i ⟨r.val - 128 - 32, by omega⟩)
        else (0 : EReal) := by
  pointwise [val_main_v92, val_main_v91, val_main_v88, val_main_v84, val_main_cst_10, val_main_v83, val_main_v82, val_main_v81, val_main_v71]

open Cert.Reference14Ideal.Read in
theorem ref_q_nope (x0 x1 x2 x4) (i : Fin 4096) (h : Fin 8) (r : Fin 128) : val_main_v90 (F := Ideal) x0 x1 x2 x4 (ix2 i ⟨256 * h.val + r.val, by omega⟩)
    = query x0 x2 x4 i h ⟨r.val, by omega⟩ * Ideal.ofBits .f32 0x3D93CD3A#32 := by
  refine (ref_q x0 x1 x2 x4 i h ⟨r.val, by omega⟩).trans ?_
  rw [dif_pos r.isLt, ref_query]

open Cert.Reference14Ideal.Read in
theorem ref_q_rope (x0 x1 x2 x4) (i : Fin 4096) (h : Fin 8) (l : Fin 128) : val_main_v90 (F := Ideal) x0 x1 x2 x4 (ix2 i ⟨256 * h.val + 128 + l.val, by omega⟩)
    = turn (fun k => query x0 x2 x4 i h ⟨128 + k.val, by omega⟩) (fun k => Ideal.cos (angle x1 i k)) (fun k => Ideal.sin (angle x1 i k)) l * Ideal.ofBits .f32 0x3D93CD3A#32 := by
  have e : (⟨256 * h.val + 128 + l.val, by omega⟩ : Fin 2048) = ⟨256 * h.val + (⟨128 + l.val, by omega⟩ : Fin 256).val, by show 256 * h.val + (128 + l.val) < 2048; omega⟩ :=
    Fin.ext (Nat.add_assoc _ _ _)
  rw [e]
  refine (ref_q x0 x1 x2 x4 i h ⟨128 + l.val, by omega⟩).trans (congrArg (fun y : EReal => y * Ideal.ofBits .f32 0x3D93CD3A#32) ?_)
  unfold turn
  rw [dif_neg (by show ¬ 128 + l.val < 128; omega)]
  simp only [Nat.add_sub_cancel_left]
  by_cases h1 : l.val < 32
  · rw [dif_pos (show l.val < 64 by omega), dif_pos h1, dif_pos h1]
    pointwise [val_main_v49, val_main_v48, val_main_v47, val_main_v46, val_main_v45, val_main_v44, val_main_v43, val_main_v42, val_main_v41, val_main_v40]
    simp only [ref_query, ref_cos, ref_sin]
  · rw [dif_neg h1]
    by_cases h2 : l.val < 64
    · rw [dif_pos h2, dif_neg h1, dif_pos h2]
      pointwise [val_main_v54, val_main_v53, val_main_v52, val_main_v51, val_main_v50, val_main_v44, val_main_v43, val_main_v42, val_main_v41, val_main_v40]
      simp only [ref_query, ref_cos, ref_sin, show 32 + (l.val - 32) = l.val by omega]
    · rw [dif_neg h2, dif_neg h2]

open Cert.Reference14Ideal.Read in
theorem ref_k_nope (x0 x1 x3 x5) (i : Fin 4096) (h : Fin 8) (r : Fin 128) : val_main_v92 (F := Ideal) x0 x1 x3 x5 (ix2 i ⟨256 * h.val + r.val, by omega⟩)
    = keyValue x0 x3 x5 i ⟨256 * h.val + r.val, by omega⟩ := by
  refine (ref_k x0 x1 x3 x5 i h ⟨r.val, by omega⟩).trans ?_
  rw [dif_pos r.isLt, ref_kv]

open Cert.Reference14Ideal.Read in
theorem ref_k_rope (x0 x1 x3 x5) (i : Fin 4096) (h : Fin 8) (l : Fin 128) : val_main_v92 (F := Ideal) x0 x1 x3 x5 (ix2 i ⟨256 * h.val + 128 + l.val, by omega⟩)
    = turn (fun k => x0 (ix2 i ⟨384 + k.val, by omega⟩)) (fun k => Ideal.cos (angle x1 i k)) (fun k => Ideal.sin (angle x1 i k)) l := by
  have e : (⟨256 * h.val + 128 + l.val, by omega⟩ : Fin 2048) = ⟨256 * h.val + (⟨128 + l.val, by omega⟩ : Fin 256).val, by show 256 * h.val + (128 + l.val) < 2048; omega⟩ :=
    Fin.ext (Nat.add_assoc _ _ _)
  rw [e]
  refine (ref_k x0 x1 x3 x5 i h ⟨128 + l.val, by omega⟩).trans ?_
  unfold turn
  rw [dif_neg (by show ¬ 128 + l.val < 128; omega)]
  simp only [Nat.add_sub_cancel_left]
  by_cases h1 : l.val < 32
  · rw [dif_pos (show l.val < 64 by omega), dif_pos h1, dif_pos h1]
    pointwise [val_main_v77, val_main_v76, val_main_v75, val_main_v74, val_main_v73, val_main_v2]
    simp only [ref_cos, ref_sin]
  · rw [dif_neg h1]
    by_cases h2 : l.val < 64
    · rw [dif_pos h2, dif_neg h1, dif_pos h2]
      pointwise [val_main_v80, val_main_v79, val_main_v78, val_main_v74, val_main_v73, val_main_v2]
      simp only [ref_cos, ref_sin, show 32 + (l.val - 32) = l.val by omega]
    · rw [dif_neg h2, dif_neg h2]

open Cert.Reference14Ideal.Read in
theorem ref_v (x0 x3 x5) (i : Fin 4096) (h : Fin 8) (r : Fin 128) : val_main_v94 (F := Ideal) x0 x3 x5 (ix2 i ⟨128 * h.val + r.val, by omega⟩)
    = keyValue x0 x3 x5 i ⟨256 * h.val + 128 + r.val, by omega⟩ := by
  pointwise [val_main_v94, val_main_v93, val_main_v72]
  refine (ref_kv _ _ _ _ _ _).trans (congrArg (keyValue x0 x3 x5 i) (Fin.ext ?_))
  show 256 * h.val + (128 + r.val) = 256 * h.val + 128 + r.val
  omega

/-! ### What the windows hold -/

theorem entry13 : V m c main_v13 = shapeCast S1x128 (concatenate S128 0 [⟨S32, Cert.Reference14Ideal.Read.val_main_v13 (F := Ideal)⟩, ⟨S32, Cert.Reference14Ideal.Read.val_main_v13 (F := Ideal)⟩, ⟨S64, (broadcastInDim S64 ![] bcast_S_S64 (constant (F := Ideal) S_ .f32 0x00000000#32))⟩] concatenates_S32_S32_S64_S128_d0) shapeCasts_S128_S1x128 := by
  simp only [V, List.flatten_cons, List.flatten_nil, List.append_nil, List.cons_append, List.nil_append]
  after_results_simp
  rfl

theorem entry15 : V m c main_v15 = shapeCast S2048x256 (pad S8x256x256 ![0, 0, 0] ![0, 64, 0] ![0, 0, 0] (arg4 m c) (sitofp (F := Ideal) .bf16 (constantI S_ 32 0#32)) pads_S8x192x256_S8x256x256_000_0640_000 h_S_) shapeCasts_S8x256x256_S2048x256 := by
  simp only [V, List.flatten_cons, List.flatten_nil, List.append_nil, List.cons_append, List.nil_append]
  after_results_simp
  rfl

theorem entry16 : V m c main_v16 = shapeCast S4096x1 (arg1 m c) shapeCasts_S4096_S4096x1 := by
  simp only [V, List.flatten_cons, List.flatten_nil, List.append_nil, List.cons_append, List.nil_append]
  after_results_simp
  rfl

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ t.val < 8 :=
  (by decide +kernel : ∀ t : Fin grid0.N, _)

/-- Row `a` of point `t`'s block of rows. -/
abbrev row (t : Fin cfg0.N) (a : Fin 512) : Fin 4096 := ⟨512 * t.val + a.val, by have := (idx t).2.2.2.2.2.2.2.2.2.2; omega⟩

theorem block0 (t) (a : Fin 512) (b : Fin 512) : iblk m c 0 t (ix2 a b) = arg0 m c (ix2 (row t a) b) := by blk_point [iblk, V_main_arg0, idx t]
theorem block3 (t y) : iblk m c 3 t y = arg2 m c y := by blk_point [iblk, V_main_arg2, idx t]
theorem block4 (t y) : iblk m c 4 t y = arg3 m c y := by blk_point [iblk, V_main_arg3, idx t]
theorem block6 (t y) : iblk m c 6 t y = arg5 m c y := by blk_point [iblk, V_main_arg5, idx t]

theorem pos_at (x : Vec Ideal S4096 .i32) (a : Fin 4096) (b : Fin 1) : shapeCast S4096x1 x shapeCasts_S4096_S4096x1 (ix2 a b) = x (ix1 a) := by pointwise

theorem block1 (t) (a : Fin 512) : iblk m c 1 t (ix2 a 0) = arg1 m c (ix1 (row t a)) := by
  refine Eq.trans ?_ (pos_at (arg1 m c) (row t a) 0)
  rw [← entry16]
  blk_simp [iblk]
  blk_ext [idx t]

theorem freq_at (x : Vec Ideal S32 .f32) (a : Fin 1) (b : Fin 128) (hb : b.val < 64) : shapeCast S1x128 (concatenate S128 0 [⟨S32, x⟩, ⟨S32, x⟩, ⟨S64, (broadcastInDim S64 ![] bcast_S_S64 (constant (F := Ideal) S_ .f32 0x00000000#32))⟩] concatenates_S32_S32_S64_S128_d0) shapeCasts_S128_S1x128 (ix2 a b)
    = x (ix1 ⟨b.val % 32, by omega⟩) := by
  pointwise
  split
  · refine congrArg x ?_
    blk_ext
  · rw [dif_pos (by omega)]
    refine congrArg x ?_
    blk_ext

theorem block2 (t) (b : Fin 128) (hb : b.val < 64) : iblk m c 2 t (ix2 0 b) = Cert.Reference14Ideal.Read.val_main_v13 (F := Ideal) (ix1 ⟨b.val % 32, by omega⟩) := by
  refine Eq.trans ?_ (freq_at (Cert.Reference14Ideal.Read.val_main_v13 (F := Ideal)) 0 b hb)
  rw [← entry13 m c]
  blk_simp [iblk]
  blk_ext [idx t]

theorem weight_at (x : Vec Ideal S8x192x256 .bf16) (h : Fin 8) (r : Fin 256) (k : Fin 256) (hr : r.val < 192) :
    shapeCast S2048x256 (pad S8x256x256 ![0, 0, 0] ![0, 64, 0] ![0, 0, 0] x (sitofp (F := Ideal) .bf16 (constantI S_ 32 0#32)) pads_S8x192x256_S8x256x256_000_0640_000 h_S_) shapeCasts_S8x256x256_S2048x256 (ix2 ⟨256 * h.val + r.val, by omega⟩ k)
      = x (ix3 h ⟨r.val, hr⟩ k) := by
  pointwise
  rw [dif_pos hr]

theorem block5 (t) (h : Fin 8) (r : Fin 256) (k : Fin 256) (hr : r.val < 192) : iblk m c 5 t (ix2 ⟨256 * h.val + r.val, by omega⟩ k) = arg4 m c (ix3 h ⟨r.val, hr⟩ k) := by
  refine Eq.trans ?_ (weight_at (arg4 m c) h r k hr)
  rw [← entry15]
  blk_simp [iblk]
  blk_ext [idx t]

/-! ### The values the kernel stores -/

/-- The queries, before the rotation, and the keys and values at point `t`. -/
abbrev qAt (t : Fin cfg0.N) : FVec Ideal S512x2048 .f32 :=
  k0_pay48 (F := Ideal) (iblk m c 0 t) (iblk m c 1 t) (iblk m c 2 t) (iblk m c 3 t) (iblk m c 4 t) (iblk m c 5 t) (iblk m c 6 t)
abbrev kvAt (t : Fin cfg0.N) : FVec Ideal S512x2048 .f32 :=
  k0_pay49 (F := Ideal) (iblk m c 0 t) (iblk m c 1 t) (iblk m c 2 t) (iblk m c 3 t) (iblk m c 4 t) (iblk m c 5 t) (iblk m c 6 t)
/-- The rotation at point `t`. -/
abbrev rotAt (t : Fin cfg0.N) (x : FVec Ideal S512x128 .f32) : FVec Ideal S512x128 .bf16 :=
  k0_pay14 (F := Ideal) (k0_pay44 (F := Ideal) (iblk m c 0 t) (iblk m c 1 t) (iblk m c 2 t) (iblk m c 3 t) (iblk m c 4 t) (iblk m c 5 t) (iblk m c 6 t))
    (k0_pay45 (F := Ideal) (iblk m c 0 t) (iblk m c 1 t) (iblk m c 2 t) (iblk m c 3 t) (iblk m c 4 t) (iblk m c 5 t) (iblk m c 6 t))
    (k0_pay46 (F := Ideal) (iblk m c 0 t) (iblk m c 1 t) (iblk m c 2 t) (iblk m c 3 t) (iblk m c 4 t) (iblk m c 5 t) (iblk m c 6 t)) x

theorem ld_whole {N W : ℕ} {e : EltTy} (x : Vec Ideal ⟨2, ![N, W]⟩ e) (inb) : View.ld x (Rect.unit (s := ⟨2, ![N, W]⟩) ![0, 0] ![N, W] inb) = x := by
  funext j
  rw [← ix2_eta j]
  refine (Slices.ld_slice x inb (by omega) (by omega) (j 0) (j 1)).trans (congrArg x ?_)
  exact congrArg₂ ix2 (Fin.ext (Nat.zero_add _)) (Fin.ext (Nat.zero_add _))

theorem q_at (t) (a : Fin 512) (h : Fin 8) (r : Fin 256) (hr : r.val < 192) : qAt m c t (ix2 a ⟨256 * h.val + r.val, by omega⟩)
    = query (arg0 m c) (arg2 m c) (arg4 m c) (row t a) h ⟨r.val, hr⟩ * Ideal.ofBits .f32 0x3D93CD3A#32 := by
  unfold qAt k0_pay48 k0_pay47
  refine (q_eq _ _ _ _ _).trans (congrArg (fun y : EReal => y * Ideal.ofBits .f32 0x3D93CD3A#32) (Finset.sum_congr rfl fun k _ => ?_))
  have e (k : Fin 256) : View.ld (iblk m c 0 t) r0_2 (ix2 a k) = arg0 m c (ix2 (row t a) ⟨k.val, by omega⟩) := by
    refine (Slices.ld_slice _ _ (by omega) (by omega) a k).trans ?_
    rw [block0]
    refine congrArg (arg0 m c) ?_
    blk_ext
  simp only [e]
  rw [ld_whole, ld_whole, block3, block5 m c t h r k hr]

theorem kv_at (t) (a : Fin 512) (j : Fin 2048) : kvAt m c t (ix2 a j) = keyValue (arg0 m c) (arg3 m c) (arg5 m c) (row t a) j := by
  unfold kvAt k0_pay49
  refine (kv_eq _ _ _ _ _).trans (Finset.sum_congr rfl fun k _ => ?_)
  have e (k : Fin 128) : View.ld (iblk m c 0 t) r0_4 (ix2 a k) = arg0 m c (ix2 (row t a) ⟨256 + k.val, by omega⟩) := by
    refine (Slices.ld_slice _ _ (by omega) (by omega) a k).trans ?_
    rw [block0]
    refine congrArg (arg0 m c) ?_
    blk_ext
  simp only [e]
  rw [ld_whole, ld_whole, block4, block6]

theorem rot_at (t x) (a : Fin 512) (l : Fin 128) : rotAt m c t x (ix2 a l)
    = turn (fun k => x (ix2 a ⟨k.val, by omega⟩)) (fun k => Ideal.cos (angle (arg1 m c) (row t a) k)) (fun k => Ideal.sin (angle (arg1 m c) (row t a) k)) l := by
  unfold rotAt k0_pay44 k0_pay45 k0_pay46
  refine rot_turn _ _ x a l (angle (arg1 m c) (row t a)) fun l hl => ?_
  refine (angle_eq _ _ a l).trans ?_
  rw [ld_whole, ld_whole, block1, block2 m c t l hl]

open Cert.Reference14Ideal.Read in
theorem q_nope (t) (h : Fin 8) (o) (ho : o = 256 * h.val) (hs) (a : Fin 512) (r : Fin 128) : (extractStridedSlice S512x128 ![0, o] (qAt m c t) hs : FVec Ideal S512x128 .f32) (ix2 a r)
    = val_main_v90 (F := Ideal) (arg0 m c) (arg1 m c) (arg2 m c) (arg4 m c) (ix2 (row t a) ⟨256 * h.val + r.val, by omega⟩) := by
  subst ho
  rw [ref_q_nope]
  refine Eq.trans ?_ (q_at m c t a h ⟨r.val, by omega⟩ (by show r.val < 192; omega))
  pointwise

open Cert.Reference14Ideal.Read in
theorem q_rope (t) (h : Fin 8) (o) (ho : o = 256 * h.val + 128) (hs) (a : Fin 512) (l : Fin 128) : rotAt m c t (extractStridedSlice S512x128 ![0, o] (qAt m c t) hs) (ix2 a l)
    = val_main_v90 (F := Ideal) (arg0 m c) (arg1 m c) (arg2 m c) (arg4 m c) (ix2 (row t a) ⟨256 * h.val + 128 + l.val, by omega⟩) := by
  subst ho
  rw [ref_q_rope, rot_at, Causal.scale_coe]
  refine Eq.trans (congrArg (fun x => turn x _ _ l) (funext fun k => ?_)) (turn_scale _ _ _ Causal.scale scale_nonneg l)
  refine Eq.trans ?_ ((q_at m c t a h ⟨128 + k.val, by omega⟩ (by show 128 + k.val < 192; omega)).trans (by rw [Causal.scale_coe]))
  pointwise
  refine congrArg (qAt m c t) ?_
  blk_ext

open Cert.Reference14Ideal.Read in
theorem k_nope (t) (h : Fin 8) (o) (ho : o = 256 * h.val) (hs) (a : Fin 512) (r : Fin 128) : (extractStridedSlice S512x128 ![0, o] (kvAt m c t) hs : FVec Ideal S512x128 .f32) (ix2 a r)
    = val_main_v92 (F := Ideal) (arg0 m c) (arg1 m c) (arg3 m c) (arg5 m c) (ix2 (row t a) ⟨256 * h.val + r.val, by omega⟩) := by
  subst ho
  rw [ref_k_nope]
  refine Eq.trans ?_ (kv_at m c t a _)
  pointwise

open Cert.Reference14Ideal.Read in
theorem v_part (t) (h : Fin 8) (o) (ho : o = 256 * h.val + 128) (hs) (a : Fin 512) (r : Fin 128) : (extractStridedSlice S512x128 ![0, o] (kvAt m c t) hs : FVec Ideal S512x128 .f32) (ix2 a r)
    = val_main_v94 (F := Ideal) (arg0 m c) (arg3 m c) (arg5 m c) (ix2 (row t a) ⟨128 * h.val + r.val, by omega⟩) := by
  subst ho
  rw [ref_v]
  refine Eq.trans ?_ (kv_at m c t a _)
  pointwise

open Cert.Reference14Ideal.Read in
theorem k_rope (t) (h : Fin 8) (a : Fin 512) (l : Fin 128) : rotAt m c t (View.ld (iblk m c 0 t) r0_7) (ix2 a l)
    = val_main_v92 (F := Ideal) (arg0 m c) (arg1 m c) (arg3 m c) (arg5 m c) (ix2 (row t a) ⟨256 * h.val + 128 + l.val, by omega⟩) := by
  rw [ref_k_rope, rot_at]
  refine congrArg (fun x => turn x _ _ l) (funext fun k => ?_)
  refine (Slices.ld_slice _ _ (by omega) (by omega) a _).trans ?_
  rw [block0]
  refine congrArg (arg0 m c) ?_
  blk_ext

/-! ### The arrays after the last point -/

theorem final7 : (dats m 0 c).arrAt 7 (cfgs 0).N = Cert.Reference14Ideal.Read.val_main_v90 (F := Ideal) (arg0 m c) (arg1 m c) (arg2 m c) (arg4 m c) := by
  refine (dats m 0 c).arrAt_eq_of_covers 7 _ (by decide +kernel) fun t _ y => ?_
  blk_simp
  rw [after0_7]
  unfold out0_7
  canon_tiles x h
  all_goals idx_vars x
  · refine (q_rope m c t 7 1920 rfl slices_S512x2048_o0_1920_S512x128 x0 x1).trans ?_
    blk_point [idx t]
  · refine (q_nope m c t 7 1792 rfl slices_S512x2048_o0_1792_S512x128 x0 x1).trans ?_
    blk_point [idx t]
  · refine (q_rope m c t 6 1664 rfl slices_S512x2048_o0_1664_S512x128 x0 x1).trans ?_
    blk_point [idx t]
  · refine (q_nope m c t 6 1536 rfl slices_S512x2048_o0_1536_S512x128 x0 x1).trans ?_
    blk_point [idx t]
  · refine (q_rope m c t 5 1408 rfl slices_S512x2048_o0_1408_S512x128 x0 x1).trans ?_
    blk_point [idx t]
  · refine (q_nope m c t 5 1280 rfl slices_S512x2048_o0_1280_S512x128 x0 x1).trans ?_
    blk_point [idx t]
  · refine (q_rope m c t 4 1152 rfl slices_S512x2048_o0_1152_S512x128 x0 x1).trans ?_
    blk_point [idx t]
  · refine (q_nope m c t 4 1024 rfl slices_S512x2048_o0_1024_S512x128 x0 x1).trans ?_
    blk_point [idx t]
  · refine (q_rope m c t 3 896 rfl slices_S512x2048_o0_896_S512x128 x0 x1).trans ?_
    blk_point [idx t]
  · refine (q_nope m c t 3 768 rfl slices_S512x2048_o0_768_S512x128 x0 x1).trans ?_
    blk_point [idx t]
  · refine (q_rope m c t 2 640 rfl slices_S512x2048_o0_640_S512x128 x0 x1).trans ?_
    blk_point [idx t]
  · refine (q_nope m c t 2 512 rfl slices_S512x2048_o0_512_S512x128 x0 x1).trans ?_
    blk_point [idx t]
  · refine (q_rope m c t 1 384 rfl slices_S512x2048_o0_384_S512x128 x0 x1).trans ?_
    blk_point [idx t]
  · refine (q_nope m c t 1 256 rfl slices_S512x2048_o0_256_S512x128 x0 x1).trans ?_
    blk_point [idx t]
  · refine (q_rope m c t 0 128 rfl slices_S512x2048_o0_128_S512x128 x0 x1).trans ?_
    blk_point [idx t]
  · refine (q_nope m c t 0 0 rfl slices_S512x2048_o0_0_S512x128 x0 x1).trans ?_
    blk_point [idx t]

theorem final8 : (dats m 0 c).arrAt 8 (cfgs 0).N = Cert.Reference14Ideal.Read.val_main_v92 (F := Ideal) (arg0 m c) (arg1 m c) (arg3 m c) (arg5 m c) := by
  refine (dats m 0 c).arrAt_eq_of_covers 8 _ (by decide +kernel) fun t _ y => ?_
  blk_simp
  rw [after0_8]
  unfold out0_8
  canon_tiles x h
  all_goals idx_vars x
  · refine (k_rope m c t 7 x0 x1).trans ?_
    blk_point [idx t]
  · refine (k_nope m c t 7 1792 rfl slices_S512x2048_o0_1792_S512x128 x0 x1).trans ?_
    blk_point [idx t]
  · refine (k_rope m c t 6 x0 x1).trans ?_
    blk_point [idx t]
  · refine (k_nope m c t 6 1536 rfl slices_S512x2048_o0_1536_S512x128 x0 x1).trans ?_
    blk_point [idx t]
  · refine (k_rope m c t 5 x0 x1).trans ?_
    blk_point [idx t]
  · refine (k_nope m c t 5 1280 rfl slices_S512x2048_o0_1280_S512x128 x0 x1).trans ?_
    blk_point [idx t]
  · refine (k_rope m c t 4 x0 x1).trans ?_
    blk_point [idx t]
  · refine (k_nope m c t 4 1024 rfl slices_S512x2048_o0_1024_S512x128 x0 x1).trans ?_
    blk_point [idx t]
  · refine (k_rope m c t 3 x0 x1).trans ?_
    blk_point [idx t]
  · refine (k_nope m c t 3 768 rfl slices_S512x2048_o0_768_S512x128 x0 x1).trans ?_
    blk_point [idx t]
  · refine (k_rope m c t 2 x0 x1).trans ?_
    blk_point [idx t]
  · refine (k_nope m c t 2 512 rfl slices_S512x2048_o0_512_S512x128 x0 x1).trans ?_
    blk_point [idx t]
  · refine (k_rope m c t 1 x0 x1).trans ?_
    blk_point [idx t]
  · refine (k_nope m c t 1 256 rfl slices_S512x2048_o0_256_S512x128 x0 x1).trans ?_
    blk_point [idx t]
  · refine (k_rope m c t 0 x0 x1).trans ?_
    blk_point [idx t]
  · refine (k_nope m c t 0 0 rfl slices_S512x2048_o0_0_S512x128 x0 x1).trans ?_
    blk_point [idx t]

theorem final9 : (dats m 0 c).arrAt 9 (cfgs 0).N = Cert.Reference14Ideal.Read.val_main_v94 (F := Ideal) (arg0 m c) (arg3 m c) (arg5 m c) := by
  refine (dats m 0 c).arrAt_eq_of_covers 9 _ (by decide +kernel) fun t _ y => ?_
  blk_simp
  rw [after0_9]
  unfold out0_9
  canon_tiles x h
  all_goals idx_vars x
  · refine (v_part m c t 7 1920 rfl slices_S512x2048_o0_1920_S512x128 x0 x1).trans ?_
    blk_point [idx t]
  · refine (v_part m c t 6 1664 rfl slices_S512x2048_o0_1664_S512x128 x0 x1).trans ?_
    blk_point [idx t]
  · refine (v_part m c t 5 1408 rfl slices_S512x2048_o0_1408_S512x128 x0 x1).trans ?_
    blk_point [idx t]
  · refine (v_part m c t 4 1152 rfl slices_S512x2048_o0_1152_S512x128 x0 x1).trans ?_
    blk_point [idx t]
  · refine (v_part m c t 3 896 rfl slices_S512x2048_o0_896_S512x128 x0 x1).trans ?_
    blk_point [idx t]
  · refine (v_part m c t 2 640 rfl slices_S512x2048_o0_640_S512x128 x0 x1).trans ?_
    blk_point [idx t]
  · refine (v_part m c t 1 384 rfl slices_S512x2048_o0_384_S512x128 x0 x1).trans ?_
    blk_point [idx t]
  · refine (v_part m c t 0 128 rfl slices_S512x2048_o0_128_S512x128 x0 x1).trans ?_
    blk_point [idx t]

/-- Kernel and reference end with the same three arrays. -/
theorem agree : Cert.algebraic_Kernel14Ideal_Reference14Ideal (hKernel14Ideal := Gen.facts) (hReference14Ideal := Cert.Reference14Ideal.Gen.facts) := by
  intro m ρ m' ρ' _ hargs
  refine ⟨fun c => Cert.Reference14Ideal.Read.val_main_v90 (F := Ideal) (arg0 m c) (arg1 m c) (arg2 m c) (arg4 m c), fun c => Cert.Reference14Ideal.Read.val_main_v92 (F := Ideal) (arg0 m c) (arg1 m c) (arg3 m c) (arg5 m c), fun c => Cert.Reference14Ideal.Read.val_main_v94 (F := Ideal) (arg0 m c) (arg3 m c) (arg5 m c), ?_, ?_⟩
  · exact (θ_run defs _ _).mono (fun r h c =>
      ⟨(h c).1.trans (final7 m c), (h c).2.1.trans (final8 m c), (h c).2.2.1.trans (final9 m c), (h c).2.2.2⟩)
      (Value.run_blocks (F := Ideal) m ρ)
  · refine (θ_run Cert.Reference14Ideal.defs _ _).mono (fun r h c =>
      ⟨(h c).1.trans ?_, (h c).2.1.trans ?_, (h c).2.2.1.trans ?_, (h c).2.2.2⟩) (Cert.Reference14Ideal.Value.run (F := Ideal) m' ρ')
    all_goals obtain ⟨a0, a1, a2, a3, a4, a5⟩ := hargs c
    · refine (Cert.Reference14Ideal.Read.val_main_v90_eq m' c).trans ?_
      rw [a0, a1, a2, a4]
    · refine (Cert.Reference14Ideal.Read.val_main_v92_eq m' c).trans ?_
      rw [a0, a1, a3, a5]
    · refine (Cert.Reference14Ideal.Read.val_main_v94_eq _ _ _).trans ?_
      rw [a0, a3, a5]

/-- The reference's frame: it declares no semaphore. -/
theorem reference_frame : Cert.quiescent_Reference14Ideal (hReference14Ideal := Cert.Reference14Ideal.Gen.facts) := fun m ρ _ =>
  (θ_run Cert.Reference14Ideal.defs _ _).mono
    (fun r h => ⟨fun c => (h c).2.2.2, Idealize.ShloMosaic.sem_eq_zero_of_no_sems (by decide) r.2⟩)
    (Cert.Reference14Ideal.Value.run (F := Ideal) m ρ)

end Cert.Kernel14Ideal.Heads

end
-- ==== Proof.NormWide.lean ====
/-
  The gradient of a row's root-mean-square norm for a row of any width `w`: the form with the row's mean taken once, and the
  form the chain rule gives, agree for every row of extended reals.
-/
module

public import proofs.«01_k».proof.Proof.Norm

@[expose] public section

noncomputable section

open Idealize.ShloMosaic

namespace Cert.NormWide

open Cert.Causal
open Cert.Norm (sq_nonneg sum_mul_real real_row rsqrt_real)

/-- The mean of a row's squares over the width `w`, with the small number added. -/
def meanSq {n : ℕ} (w : EReal) (x : Fin n → EReal) : EReal := Ideal.div (∑ k, x k * x k) w + Ideal.ofBits .f32 0x358637BD#32

/-- The factor by which the norm scales a row. -/
def factor {n : ℕ} (w : EReal) (x : Fin n → EReal) : EReal := Ideal.rsqrt (meanSq w x)

variable {n : ℕ} (w : EReal) (ω : ℝ) (hω : 0 < ω) (hw : w = (ω : EReal))

include hω hw in
theorem meanSq_top (x : Fin n → EReal) (k : Fin n) (h : x k * x k = ⊤) : meanSq w x = ⊤ := by
  have e : ∑ k, x k * x k = ⊤ := top_le_iff.1 (h ▸ Finset.single_le_sum (f := fun k => x k * x k) (fun i _ => sq_nonneg (x i)) (Finset.mem_univ k))
  have t : Ideal.div ⊤ w = ⊤ := by
    rw [hw, Ideal.div_coe hω.ne']
    exact EReal.top_mul_coe_of_pos (by positivity)
  rw [meanSq, e, t, eps_bits]
  exact EReal.top_add_coe _

include hω hw in
theorem meanSq_real (x : Fin n → EReal) (f : Fin n → ℝ) (h : ∀ k, x k = f k) : ∃ e : ℝ, 0 < e ∧ meanSq w x = (e : EReal) := by
  refine ⟨(∑ k, f k * f k) / ω + eps, add_pos_of_nonneg_of_pos (div_nonneg (Finset.sum_nonneg fun k _ => mul_self_nonneg _) hω.le) eps_pos, ?_⟩
  rw [meanSq, dot_of_real f f h h, hw, eps_bits, div_of_real _ _ hω.ne', EReal.coe_add]

include hω hw in
/-- The two forms of the gradient's entry `j`: `d` the gradient of the scaled row. -/
theorem grad (x d : Fin n → EReal) (j : Fin n) :
    factor w x * (d j - x j * factor w x * Ideal.div (∑ k, d k * (x k * factor w x)) w)
      = d j * factor w x
        + Ideal.div ((∑ k, x k * d k) * (Ideal.ofBits .f32 0xBF000000#32 * Ideal.div (factor w x) (meanSq w x))) w * (Ideal.ofBits .f32 0x40000000#32 * x j) := by
  rcases real_row x with ⟨k, hk⟩ | ⟨f, hf⟩
  · have z : factor w x = 0 := by rw [factor, meanSq_top w ω hω hw x k hk]; rfl
    have q : Ideal.div 0 (⊤ : EReal) = 0 := by simp [Ideal.div]
    have q' : Ideal.div 0 w = 0 := by rw [hw, Ideal.div_coe hω.ne', zero_mul]
    rw [z, meanSq_top w ω hω hw x k hk, q]
    simp [q']
  · obtain ⟨e, he, hm⟩ := meanSq_real w ω hω hw x f hf
    have hr : factor w x = (((Real.sqrt e)⁻¹ : ℝ) : EReal) := by rw [factor, hm, rsqrt_real e he]
    have hq : (Real.sqrt e)⁻¹ * (Real.sqrt e)⁻¹ = 1 / e := by
      rw [← mul_inv, Real.mul_self_sqrt he.le, one_div]
    generalize hR : (Real.sqrt e)⁻¹ = R at hr hq
    have hR0 : 0 ≤ R := by rw [← hR]; positivity
    have s1 : ∑ k, d k * (x k * factor w x) = (∑ k, x k * d k) * (R : EReal) := by
      rw [← sum_mul_real _ _ R hR0]
      exact Finset.sum_congr rfl fun k _ => by rw [hr, ← mul_assoc, mul_comm (d k)]
    rw [s1, hr, hm, div_of_real _ _ he.ne', hw, neg_half_bits, two_bits, Ideal.div_coe hω.ne', Ideal.div_coe hω.ne', hf j]
    generalize ∑ k, x k * d k = N
    rw [sub_eq_add_neg, EReal.left_distrib_of_nonneg_of_ne_top (EReal.coe_nonneg.2 hR0) (EReal.coe_ne_top R), mul_comm (R : EReal) (d j)]
    congr 1
    rw [show (f j : EReal) * (R : EReal) * (N * (R : EReal) * ((1 / ω : ℝ) : EReal)) = N * ((f j : EReal) * (R : EReal) * (R : EReal) * ((1 / ω : ℝ) : EReal)) from by ac_rfl,
      ← mul_neg, mul_left_comm,
      show N * (((-(1 / 2) : ℝ) : EReal) * ((R / e : ℝ) : EReal)) * ((1 / ω : ℝ) : EReal) * (((2 : ℝ) : EReal) * (f j : EReal))
        = N * (((-(1 / 2) : ℝ) : EReal) * ((R / e : ℝ) : EReal) * ((1 / ω : ℝ) : EReal) * (((2 : ℝ) : EReal) * (f j : EReal))) from by ac_rfl]
    congr 1
    simp only [← EReal.coe_mul, ← EReal.coe_neg]
    congr 1
    rw [show R / e = R * (R * R) from by rw [hq]; ring]
    ring

theorem bits_256 : Ideal.ofBits .f32 0x43800000#32 = ((256 : ℝ) : EReal) := by
  simp [Ideal.ofBits, Ideal.ieee]
  rw [← EReal.coe_mul]
  norm_num

theorem bits_128 : Ideal.ofBits .f32 0x43000000#32 = ((128 : ℝ) : EReal) := by
  simp [Ideal.ofBits, Ideal.ieee]
  rw [← EReal.coe_mul]
  norm_num

/-- The same for the two widths of the low-rank rows. -/
theorem grad_256 (x d : Fin n → EReal) (j : Fin n) :
    factor (Ideal.ofBits .f32 0x43800000#32) x * (d j - x j * factor (Ideal.ofBits .f32 0x43800000#32) x * Ideal.div (∑ k, d k * (x k * factor (Ideal.ofBits .f32 0x43800000#32) x)) (Ideal.ofBits .f32 0x43800000#32))
      = d j * factor (Ideal.ofBits .f32 0x43800000#32) x
        + Ideal.div ((∑ k, x k * d k) * (Ideal.ofBits .f32 0xBF000000#32 * Ideal.div (factor (Ideal.ofBits .f32 0x43800000#32) x) (meanSq (Ideal.ofBits .f32 0x43800000#32) x))) (Ideal.ofBits .f32 0x43800000#32)
          * (Ideal.ofBits .f32 0x40000000#32 * x j) :=
  grad _ 256 (by norm_num) bits_256 x d j

theorem grad_128 (x d : Fin n → EReal) (j : Fin n) :
    factor (Ideal.ofBits .f32 0x43000000#32) x * (d j - x j * factor (Ideal.ofBits .f32 0x43000000#32) x * Ideal.div (∑ k, d k * (x k * factor (Ideal.ofBits .f32 0x43000000#32) x)) (Ideal.ofBits .f32 0x43000000#32))
      = d j * factor (Ideal.ofBits .f32 0x43000000#32) x
        + Ideal.div ((∑ k, x k * d k) * (Ideal.ofBits .f32 0xBF000000#32 * Ideal.div (factor (Ideal.ofBits .f32 0x43000000#32) x) (meanSq (Ideal.ofBits .f32 0x43000000#32) x))) (Ideal.ofBits .f32 0x43000000#32)
          * (Ideal.ofBits .f32 0x40000000#32 * x j) :=
  grad _ 128 (by norm_num) bits_128 x d j

/-- A sum over eight groups of 256 whose last 64 terms are zero is the sum over eight groups of 192. -/
theorem sum_heads (f : Fin 2048 → EReal) (g : Fin 1536 → EReal)
    (h1 : ∀ (h : Fin 8) (r : Fin 192), f ⟨256 * h.val + r.val, by omega⟩ = g ⟨192 * h.val + r.val, by omega⟩)
    (h0 : ∀ (h : Fin 8) (r : Fin 64), f ⟨256 * h.val + (192 + r.val), by omega⟩ = 0) : ∑ j, f j = ∑ j, g j := by
  have ef : ∑ j, f j = ∑ p : Fin 8 × Fin 256, f ⟨256 * p.1.val + p.2.val, by omega⟩ := by
    refine (Fintype.sum_equiv (finProdFinEquiv (m := 8) (n := 256)) _ f fun p => congrArg f (Fin.ext ?_)).symm
    exact add_comm _ _
  have eg : ∑ j, g j = ∑ p : Fin 8 × Fin 192, g ⟨192 * p.1.val + p.2.val, by omega⟩ := by
    refine (Fintype.sum_equiv (finProdFinEquiv (m := 8) (n := 192)) _ g fun p => congrArg g (Fin.ext ?_)).symm
    exact add_comm _ _
  rw [ef, eg, Fintype.sum_prod_type, Fintype.sum_prod_type]
  refine Finset.sum_congr rfl fun h _ => ?_
  refine (Fin.sum_univ_add (a := 192) (b := 64) (fun r : Fin 256 => f ⟨256 * h.val + r.val, by omega⟩)).trans ?_
  refine (congrArg₂ (fun x y : EReal => x + y) (Finset.sum_congr rfl fun r _ => h1 h r) (Finset.sum_eq_zero fun r _ => h0 h r)).trans ?_
  exact add_zero _

end Cert.NormWide

end
-- ==== Proof.HeadsBwdParts.lean ====
/-
  The gradient through the projections of latent attention: the parts: back from the gradients of each head's queries, keys and values to
  the two low-rank rows, the rotary key, the norms' gains and the two weights.
-/
module

public import proofs.«01_k».proof.Defs
public import proofs.«01_k».proof.Proof.Gen.Kernel15
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import proofs.«01_k».proof.Proof.Gen.Reference15Ideal.Read
public import proofs.«01_k».proof.Proof.NormWide
public import proofs.«01_k».proof.Proof.Slices

@[expose] public section

set_option maxRecDepth 16384
noncomputable section
open Idealize.ShloMosaic Idealize.ShloMosaic.TcCoe Idealize.SL.Sem
open Idealize.ShloMosaic.Pipeline (Dat)
namespace Cert.Kernel15Ideal.Heads
open Cert.Kernel15Ideal Cert.Kernel15Ideal.Gen

variable (m : (ℓ : Loc nD τ sig) → Buf (Elt Ideal) ℓ) (c : Dev nD)

abbrev arg0 : Vec Ideal S4096x512 .f32 := m ((c : Thread nD τ).loc main_arg0)
abbrev arg1 : Vec Ideal S4096 .i32 := m ((c : Thread nD τ).loc main_arg1)
abbrev arg2 : Vec Ideal S1x256 .f32 := m ((c : Thread nD τ).loc main_arg2)
abbrev arg3 : Vec Ideal S1x128 .f32 := m ((c : Thread nD τ).loc main_arg3)
abbrev arg4 : Vec Ideal S8x192x256 .bf16 := m ((c : Thread nD τ).loc main_arg4)
abbrev arg5 : Vec Ideal S128x2048 .bf16 := m ((c : Thread nD τ).loc main_arg5)
abbrev arg6 : Vec Ideal S4096x2048 .bf16 := m ((c : Thread nD τ).loc main_arg6)
abbrev arg7 : Vec Ideal S4096x2048 .bf16 := m ((c : Thread nD τ).loc main_arg7)
abbrev arg8 : Vec Ideal S4096x1024 .bf16 := m ((c : Thread nD τ).loc main_arg8)

/-- The widths of the two low-rank rows. -/
abbrev w256 : EReal := Ideal.ofBits .f32 0x43800000#32
abbrev w128 : EReal := Ideal.ofBits .f32 0x43000000#32

/-- The gradient back through the rotation of 64 entries, and the 64 columns of zeros after them: `C`, `S` are the cosines and sines
    of the 32 angles. -/
def back (x : Fin 64 → EReal) (C S : Fin 32 → EReal) (l : Fin 128) : EReal :=
  if h : l.val < 32 then x ⟨32 + l.val, by omega⟩ * S ⟨l.val, h⟩ + x ⟨l.val, by omega⟩ * C ⟨l.val, h⟩
  else if h' : l.val < 64 then x ⟨l.val, h'⟩ * C ⟨l.val - 32, by omega⟩ + - x ⟨l.val - 32, by omega⟩ * S ⟨l.val - 32, by omega⟩
  else 0

/-! ### The stored values, entry by entry -/

theorem below (n : ℕ) (x y : EReal) (l : Fin 128) (h : ∀ l : Fin 128, IntOp.cmpi CmpIPredicate.slt (BitVec.ofNat 32 l.val) (BitVec.ofNat 32 n) = if l.val < n then 1#1 else 0#1) :
    Scalar.select (IntOp.cmpi CmpIPredicate.slt (BitVec.ofNat 32 l.val) (BitVec.ofNat 32 n)) x y = if l.val < n then x else y := by
  rw [h l]
  by_cases e : l.val < n
  · rw [if_pos e, if_pos e]; rfl
  · rw [if_neg e, if_neg e]; rfl

theorem between (x y : EReal) (l : Fin 128) :
    Scalar.select (IntOp.andi (IntOp.cmpi CmpIPredicate.sge (BitVec.ofNat 32 l.val) 32#32) (IntOp.cmpi CmpIPredicate.slt (BitVec.ofNat 32 l.val) 64#32)) x y
      = if 32 ≤ l.val ∧ l.val < 64 then x else y := by
  rw [(by decide +kernel : ∀ l : Fin 128, IntOp.andi (IntOp.cmpi CmpIPredicate.sge (BitVec.ofNat 32 l.val) 32#32) (IntOp.cmpi CmpIPredicate.slt (BitVec.ofNat 32 l.val) 64#32)
    = if 32 ≤ l.val ∧ l.val < 64 then 1#1 else 0#1) l]
  by_cases e : 32 ≤ l.val ∧ l.val < 64
  · rw [if_pos e, if_pos e]; rfl
  · rw [if_neg e, if_neg e]; rfl

theorem angle_eq (p f) (a : Fin 512) (l : Fin 128) : k0_pay8 (F := Ideal) p f (ix2 a l) = FloatOps.sitofp FTy.f32 (p (ix2 a 0)) * f (ix2 0 l) := by
  pointwise [k0_pay8]

theorem cos_eq (p f) (a : Fin 512) (l : Fin 128) : k0_pay10 (F := Ideal) p f (ix2 a l) = if l.val < 64 then Ideal.cos (k0_pay8 p f (ix2 a l)) else 0 := by
  pointwise [k0_pay10]
  exact below 64 _ _ l (by decide +kernel)

theorem sin_first (p f) (a : Fin 512) (l : Fin 128) : k0_pay11 (F := Ideal) p f (ix2 a l) = if l.val < 32 then 0 - Ideal.sin (k0_pay8 p f (ix2 a l)) else 0 := by
  pointwise [k0_pay11, k0_pay9]
  exact below 32 _ _ l (by decide +kernel)

theorem sin_second (p f) (a : Fin 512) (l : Fin 128) : k0_pay12 (F := Ideal) p f (ix2 a l) = if 32 ≤ l.val ∧ l.val < 64 then Ideal.sin (k0_pay8 p f (ix2 a l)) else 0 := by
  pointwise [k0_pay12, k0_pay9]
  exact between _ _ l

theorem rot_eq (c s s') (x : FVec Ideal S512x128 .f32) (a : Fin 512) (l : Fin 128) : k0_pay3 (F := Ideal) c s s' x (ix2 a l) = x (ix2 a l) * c (ix2 a l)
    + x (ix2 a ⟨(l.val + 128 - 32) % 128, by omega⟩) * s (ix2 a ⟨(l.val + 128 - 32) % 128, by omega⟩)
    + x (ix2 a ⟨(l.val + 128 - 96) % 128, by omega⟩) * s' (ix2 a ⟨(l.val + 128 - 96) % 128, by omega⟩) := by
  pointwise [k0_pay3]

/-- The two turns of the masked products of the lanes are the gradient back through the rotation. -/
theorem rot_back (p f) (x : FVec Ideal S512x128 .f32) (a : Fin 512) (l : Fin 128) (θ : Fin 32 → EReal) (hθ : ∀ l : Fin 128, l.val < 64 → k0_pay8 (F := Ideal) p f (ix2 a l) = θ ⟨l.val % 32, by omega⟩) :
    k0_pay3 (F := Ideal) (k0_pay10 p f) (k0_pay11 p f) (k0_pay12 p f) x (ix2 a l)
      = back (fun k => x (ix2 a ⟨k.val, by omega⟩)) (fun k => Ideal.cos (θ k)) (fun k => Ideal.sin (θ k)) l := by
  rw [rot_eq, cos_eq, sin_first, sin_second]
  unfold back
  by_cases h : l.val < 32
  · have e : (⟨(l.val + 128 - 96) % 128, by omega⟩ : Fin 128) = ⟨32 + l.val, by omega⟩ := Fin.ext (by show (l.val + 128 - 96) % 128 = 32 + l.val; omega)
    have e1 : (⟨l.val % 32, by omega⟩ : Fin 32) = ⟨l.val, h⟩ := Fin.ext (by show l.val % 32 = l.val; omega)
    have e2 : (⟨(32 + l.val) % 32, by omega⟩ : Fin 32) = ⟨l.val, h⟩ := Fin.ext (by show (32 + l.val) % 32 = l.val; omega)
    rw [dif_pos h, e, if_pos (show l.val < 64 by omega), if_neg (show ¬ (l.val + 128 - 32) % 128 < 32 by omega), if_pos (show 32 ≤ 32 + l.val ∧ 32 + l.val < 64 by omega),
      hθ l (by omega), hθ ⟨32 + l.val, by omega⟩ (by show 32 + l.val < 64; omega), mul_zero, add_zero, e1, e2, add_comm]
  · rw [dif_neg h]
    by_cases h' : l.val < 64
    · have e : (⟨(l.val + 128 - 32) % 128, by omega⟩ : Fin 128) = ⟨l.val - 32, by omega⟩ := Fin.ext (by show (l.val + 128 - 32) % 128 = l.val - 32; omega)
      have e1 : (⟨l.val % 32, by omega⟩ : Fin 32) = ⟨l.val - 32, by omega⟩ := Fin.ext (by show l.val % 32 = l.val - 32; omega)
      have e2 : (⟨(l.val - 32) % 32, by omega⟩ : Fin 32) = ⟨l.val - 32, by omega⟩ := Fin.ext (by show (l.val - 32) % 32 = l.val - 32; omega)
      rw [dif_pos h', e, if_pos h', if_pos (show l.val - 32 < 32 by omega), if_neg (show ¬ (32 ≤ (l.val + 128 - 96) % 128 ∧ (l.val + 128 - 96) % 128 < 64) by omega),
        hθ l h', hθ ⟨l.val - 32, by omega⟩ (by show l.val - 32 < 64; omega), mul_zero, add_zero, e1, e2, zero_sub, mul_neg, EReal.neg_mul]
    · rw [dif_neg h', if_neg h', if_neg (show ¬ (l.val + 128 - 32) % 128 < 32 by omega), if_neg (show ¬ (32 ≤ (l.val + 128 - 96) % 128 ∧ (l.val + 128 - 96) % 128 < 64) by omega),
        mul_zero, mul_zero, mul_zero, add_zero, add_zero]

theorem rq_eq (x : Vec Ideal S512x256 .f32) (a : Fin 512) (b : Fin 1) : k0_pay14 (F := Ideal) (k0_pay13 x) (ix2 a b) = NormWide.factor w256 (fun k : Fin 256 => x (ix2 a k)) := by
  pointwise [k0_pay14, k0_pay13, NormWide.factor, NormWide.meanSq]
theorem xq_eq (x : Vec Ideal S512x256 .f32) (a : Fin 512) (b : Fin 256) : k0_pay15 (F := Ideal) x (k0_pay13 x) (ix2 a b) = x (ix2 a b) * NormWide.factor w256 (fun k : Fin 256 => x (ix2 a k)) := by
  pointwise [k0_pay15]
  rw [rq_eq]
theorem cq_eq (x g) (a : Fin 512) (b : Fin 256) : k0_pay16 (F := Ideal) x g (k0_pay13 x) (ix2 a b) = x (ix2 a b) * NormWide.factor w256 (fun k : Fin 256 => x (ix2 a k)) * g (ix2 0 b) := by
  pointwise [k0_pay16]
  rw [xq_eq]
theorem rkv_eq (x : Vec Ideal S512x128 .f32) (a : Fin 512) (b : Fin 1) : k0_pay17 (F := Ideal) x (ix2 a b) = NormWide.factor w128 (fun k : Fin 128 => x (ix2 a k)) := by
  pointwise [k0_pay17, NormWide.factor, NormWide.meanSq]
theorem xkv_eq (x : Vec Ideal S512x128 .f32) (a : Fin 512) (b : Fin 128) : k0_pay18 (F := Ideal) x (ix2 a b) = x (ix2 a b) * NormWide.factor w128 (fun k : Fin 128 => x (ix2 a k)) := by
  pointwise [k0_pay18]
  rw [rkv_eq]
theorem ckv_eq (x g) (a : Fin 512) (b : Fin 128) : k0_pay19 (F := Ideal) x g (ix2 a b) = x (ix2 a b) * NormWide.factor w128 (fun k : Fin 128 => x (ix2 a k)) * g (ix2 0 b) := by
  pointwise [k0_pay19]
  rw [xkv_eq]
theorem dwq_eq (x o d) (j : Fin 2048) (k : Fin 256) : k0_pay64 (F := Ideal) x o d (ix2 j k) = o (ix2 j k) + ∑ i : Fin 512, d (ix2 i j) * x (ix2 i k) := by
  pointwise [k0_pay64]
theorem dwkv_eq (x o d) (k : Fin 128) (j : Fin 2048) : k0_pay65 (F := Ideal) x o d (ix2 k j) = o (ix2 k j) + ∑ i : Fin 512, x (ix2 i k) * d (ix2 i j) := by
  pointwise [k0_pay65]
theorem dcq_eq (d w) (a : Fin 512) (k : Fin 256) : k0_pay68 (F := Ideal) d w (ix2 a k) = ∑ j : Fin 2048, d (ix2 a j) * w (ix2 j k) := by
  pointwise [k0_pay68]
theorem dckv_eq (d w) (a : Fin 512) (k : Fin 128) : k0_pay69 (F := Ideal) d w (ix2 a k) = ∑ j : Fin 2048, d (ix2 a j) * w (ix2 k j) := by
  pointwise [k0_pay69]
theorem dqg_eq (x d w o) (a : Fin 1) (k : Fin 256) : k0_pay70 (F := Ideal) x d w o (ix2 a k) = o (ix2 a k) + ∑ i : Fin 512, k0_pay68 (F := Ideal) d w (ix2 i k) * x (ix2 i k) := by
  pointwise [k0_pay70]
theorem dkvg_eq (x d w o) (a : Fin 1) (k : Fin 128) : k0_pay71 (F := Ideal) x d w o (ix2 a k) = o (ix2 a k) + ∑ i : Fin 512, k0_pay69 (F := Ideal) d w (ix2 i k) * x (ix2 i k) := by
  pointwise [k0_pay71]
theorem dxq_eq (r x d w g) (a : Fin 512) (b : Fin 256) : k0_pay1 (F := Ideal) r x (k0_pay72 d w g) (k0_pay73 x d w g) (ix2 a b)
    = r (ix2 a 0) * (k0_pay68 (F := Ideal) d w (ix2 a b) * g (ix2 0 b) - x (ix2 a b) * Ideal.div (∑ k : Fin 256, k0_pay68 (F := Ideal) d w (ix2 a k) * g (ix2 0 k) * x (ix2 a k)) w256) := by
  pointwise [k0_pay1, k0_pay72, k0_pay73]
theorem dxkv_eq (r x) (d : FVec Ideal S512x128 .f32) (g) (a : Fin 512) (b : Fin 128) : k0_pay2 (F := Ideal) r x d g (ix2 a b)
    = r (ix2 a 0) * (d (ix2 a b) * g (ix2 0 b) - x (ix2 a b) * Ideal.div (∑ k : Fin 128, d (ix2 a k) * g (ix2 0 k) * x (ix2 a k)) w128) := by
  pointwise [k0_pay2]
theorem fill4 (a : Fin 1) (b : Fin 256) : k0_pay4 (F := Ideal) (ix2 a b) = 0 := by pointwise [k0_pay4]
theorem fill5 (a : Fin 1) (b : Fin 128) : k0_pay5 (F := Ideal) (ix2 a b) = 0 := by pointwise [k0_pay5]
theorem fill6 (a : Fin 2048) (b : Fin 256) : k0_pay6 (F := Ideal) (ix2 a b) = 0 := by pointwise [k0_pay6]
theorem fill7 (a : Fin 128) (b : Fin 2048) : k0_pay7 (F := Ideal) (ix2 a b) = 0 := by pointwise [k0_pay7]
theorem fill20 (a : Fin 512) (b : Fin 128) : k0_pay20 (F := Ideal) (ix2 a b) = 0 := by pointwise [k0_pay20]
theorem kept66 (x) (a : Fin 2048) (b : Fin 256) : k0_pay66 (F := Ideal) x (ix2 a b) = x (ix2 a b) := by pointwise [k0_pay66]
theorem kept67 (x) (a : Fin 128) (b : Fin 2048) : k0_pay67 (F := Ideal) x (ix2 a b) = x (ix2 a b) := by pointwise [k0_pay67]

/-! ### The reference -/

open Cert.Reference15Ideal.Read

/-- The angle of row `i` and frequency `k`. -/
abbrev angle (x1 : Vec Ideal S4096 .i32) (i : Fin 4096) (k : Fin 32) : EReal := FloatOps.sitofp (F := Ideal) FTy.f32 (x1 (ix1 i)) * val_main_v10 (F := Ideal) (ix1 k)

/-- The two low-rank rows of row `i`. -/
abbrev rowQ (x0 : Vec Ideal S4096x512 .f32) (i : Fin 4096) (k : Fin 256) : EReal := x0 (ix2 i ⟨k.val, by omega⟩)
abbrev rowKv (x0 : Vec Ideal S4096x512 .f32) (i : Fin 4096) (k : Fin 128) : EReal := x0 (ix2 i ⟨256 + k.val, by omega⟩)

theorem ref_cos (x1) (i : Fin 4096) (k : Fin 32) : val_main_v17 (F := Ideal) x1 (ix2 i k) = Ideal.cos (angle x1 i k) := by
  pointwise [val_main_v17, val_main_v16, val_main_v15, val_main_v14, val_main_v13, val_main_v12, val_main_v11]

theorem ref_sin (x1) (i : Fin 4096) (k : Fin 32) : val_main_v18 (F := Ideal) x1 (ix2 i k) = Ideal.sin (angle x1 i k) := by
  pointwise [val_main_v18, val_main_v16, val_main_v15, val_main_v14, val_main_v13, val_main_v12, val_main_v11]

theorem ref_rq (x0) (i : Fin 4096) (b : Fin 1) : val_main_v33 (F := Ideal) x0 (ix2 i b) = NormWide.factor w256 (rowQ x0 i) := by
  pointwise [val_main_v33, val_main_v32, val_main_v31, val_main_v30, val_main_v29, val_main_v28, val_main_v27, val_main_v24, val_main_v21, val_main_cst_5, val_main_cst_6, val_main_cst_7, NormWide.factor, NormWide.meanSq]

theorem ref_xq (x0) (i : Fin 4096) (k : Fin 256) : val_main_v38 (F := Ideal) x0 (ix2 i k) = rowQ x0 i k * NormWide.factor w256 (rowQ x0 i) := by
  pointwise [val_main_v38, val_main_v37, val_main_v21]
  rw [ref_rq]

theorem ref_cq (x0 x2) (i : Fin 4096) (k : Fin 256) : val_main_v40 (F := Ideal) x0 x2 (ix2 i k) = rowQ x0 i k * NormWide.factor w256 (rowQ x0 i) * x2 (ix2 0 k) := by
  pointwise [val_main_v40, val_main_v39]
  rw [ref_xq]

theorem ref_rkv (x0) (i : Fin 4096) (b : Fin 1) : val_main_v72 (F := Ideal) x0 (ix2 i b) = NormWide.factor w128 (rowKv x0 i) := by
  pointwise [val_main_v72, val_main_v71, val_main_v70, val_main_v69, val_main_v68, val_main_v67, val_main_v66, val_main_v63, val_main_v22, val_main_cst_10, val_main_cst_11, val_main_cst_12, NormWide.factor, NormWide.meanSq]

theorem ref_xkv (x0) (i : Fin 4096) (k : Fin 128) : val_main_v77 (F := Ideal) x0 (ix2 i k) = rowKv x0 i k * NormWide.factor w128 (rowKv x0 i) := by
  pointwise [val_main_v77, val_main_v76, val_main_v22]
  rw [ref_rkv]

theorem ref_ckv (x0 x3) (i : Fin 4096) (k : Fin 128) : val_main_v79 (F := Ideal) x0 x3 (ix2 i k) = rowKv x0 i k * NormWide.factor w128 (rowKv x0 i) * x3 (ix2 0 k) := by
  pointwise [val_main_v79, val_main_v78]
  rw [ref_xkv]

theorem ref_dq_nope (x1 x6) (i : Fin 4096) (h : Fin 8) (r : Fin 128) : val_main_v158 (F := Ideal) x1 x6 (ix2 i ⟨192 * h.val + r.val, by omega⟩) = x6 (ix2 i ⟨256 * h.val + r.val, by omega⟩) := by
  pointwise [val_main_v158, val_main_v157, val_main_v141, val_main_v102, val_main_v97, val_main_v96]
  simp only [show (192 * h.val + r.val) % 192 = r.val by omega]
  rw [dif_pos r.isLt]
  simp only [Nat.mul_comm h.val 256]

theorem ref_dq_rope (x1 x6) (i : Fin 4096) (h : Fin 8) (l : Fin 64) : val_main_v158 (F := Ideal) x1 x6 (ix2 i ⟨192 * h.val + (128 + l.val), by omega⟩)
    = back (fun k => x6 (ix2 i ⟨256 * h.val + (128 + k.val), by omega⟩)) (fun k => Ideal.cos (angle x1 i k)) (fun k => Ideal.sin (angle x1 i k)) ⟨l.val, by omega⟩ := by
  pointwise [val_main_v158, val_main_v157, val_main_v156]
  simp only [show (192 * h.val + (128 + l.val)) % 192 = 128 + l.val by omega, Nat.add_sub_cancel_left]
  rw [dif_neg (by omega)]
  unfold back
  by_cases h1 : l.val < 32
  · rw [dif_pos h1, dif_pos h1]
    pointwise [val_main_v155, val_main_v154, val_main_v153, val_main_v152, val_main_v151, val_main_v150, val_main_v149, val_main_v148, val_main_v147, val_main_v146, val_main_v145, val_main_v144, val_main_v143, val_main_v142, val_main_v102, val_main_v97, val_main_v96, val_main_v48, val_main_v47]
    simp only [ref_cos, ref_sin]
    simp only [Fin.sum_univ_one, Nat.mul_comm _ 256]
  · rw [dif_neg h1, dif_neg h1, dif_pos l.isLt]
    pointwise [val_main_v155, val_main_v154, val_main_v153, val_main_v152, val_main_v151, val_main_v150, val_main_v149, val_main_v148, val_main_v147, val_main_v146, val_main_v145, val_main_v144, val_main_v143, val_main_v142, val_main_v102, val_main_v97, val_main_v96, val_main_v48, val_main_v47]
    simp only [ref_cos, ref_sin]
    simp only [Fin.sum_univ_one, Nat.mul_comm _ 256, show 32 + (l.val - 32) = l.val by omega]

theorem ref_dkv_k (x7 x8) (i : Fin 4096) (h : Fin 8) (r : Fin 128) : val_main_v120 (F := Ideal) x7 x8 (ix2 i ⟨256 * h.val + r.val, by omega⟩) = x7 (ix2 i ⟨256 * h.val + r.val, by omega⟩) := by
  pointwise [val_main_v120, val_main_v119, val_main_v104, val_main_v103, val_main_v99, val_main_v98]
  simp only [show (256 * h.val + r.val) % 256 = r.val by omega]
  rw [dif_pos r.isLt]
  simp only [Nat.mul_comm h.val 256]

theorem ref_dkv_v (x7 x8) (i : Fin 4096) (h : Fin 8) (r : Fin 128) : val_main_v120 (F := Ideal) x7 x8 (ix2 i ⟨256 * h.val + (128 + r.val), by omega⟩) = x8 (ix2 i ⟨128 * h.val + r.val, by omega⟩) := by
  pointwise [val_main_v120, val_main_v119, val_main_v101, val_main_v100]
  simp only [show (256 * h.val + (128 + r.val)) % 256 = 128 + r.val by omega, Nat.add_sub_cancel_left]
  rw [dif_neg (by omega)]
  simp only [Nat.mul_comm h.val 128]

theorem ref_dkr (x1 x7) (i : Fin 4096) (l : Fin 64) : val_main_v118 (F := Ideal) x1 x7 (ix2 i l)
    = back (fun k => ∑ h : Fin 8, x7 (ix2 i ⟨256 * h.val + (128 + k.val), by omega⟩)) (fun k => Ideal.cos (angle x1 i k)) (fun k => Ideal.sin (angle x1 i k)) ⟨l.val, by omega⟩ := by
  pointwise [val_main_v118]
  unfold back
  by_cases h1 : l.val < 32
  · rw [dif_pos h1, dif_pos h1]
    pointwise [val_main_v117, val_main_v116, val_main_v115, val_main_v114, val_main_v113, val_main_v112, val_main_v111, val_main_v110, val_main_v109, val_main_v108, val_main_v107, val_main_v106, val_main_v105, val_main_v103, val_main_v99, val_main_v98, val_main_cst_14, val_main_cst_15]
    simp only [ref_cos, ref_sin]
    simp only [Fin.sum_univ_one, Nat.mul_comm _ 256]
  · rw [dif_neg h1, dif_neg h1, dif_pos l.isLt]
    pointwise [val_main_v117, val_main_v116, val_main_v115, val_main_v114, val_main_v113, val_main_v112, val_main_v111, val_main_v110, val_main_v109, val_main_v108, val_main_v107, val_main_v106, val_main_v105, val_main_v103, val_main_v99, val_main_v98, val_main_cst_14, val_main_cst_15]
    simp only [ref_cos, ref_sin]
    simp only [Fin.sum_univ_one, Nat.mul_comm _ 256, show 32 + (l.val - 32) = l.val by omega]

theorem ref_dcq (x1 x4 x6) (i : Fin 4096) (k : Fin 256) : val_main_v161 (F := Ideal) x1 x4 x6 (ix2 i k)
    = ∑ j : Fin 1536, val_main_v158 (F := Ideal) x1 x6 (ix2 i j) * val_main_v41 (F := Ideal) x4 (ix2 j k) := by
  pointwise [val_main_v161, val_main_v42]

theorem ref_wq (x4) (h : Fin 8) (r : Fin 192) (k : Fin 256) : val_main_v41 (F := Ideal) x4 (ix2 ⟨192 * h.val + r.val, by omega⟩ k) = x4 (ix3 h r k) := by
  pointwise [val_main_v41, val_main_v19]

theorem ref_dckv (x5 x7 x8) (i : Fin 4096) (k : Fin 128) : val_main_v123 (F := Ideal) x5 x7 x8 (ix2 i k)
    = ∑ j : Fin 2048, val_main_v120 (F := Ideal) x7 x8 (ix2 i j) * x5 (ix2 k j) := by
  pointwise [val_main_v123, val_main_v20]

theorem ref_dqg (x0 x1 x4 x6) (a : Fin 1) (k : Fin 256) : val_main_v166 (F := Ideal) x0 x1 x4 x6 (ix2 a k)
    = ∑ i : Fin 4096, val_main_v161 (F := Ideal) x1 x4 x6 (ix2 i k) * val_main_v38 (F := Ideal) x0 (ix2 i k) := by
  pointwise [val_main_v166, val_main_v165, val_main_v164, val_main_cst_20]
  exact Finset.sum_congr rfl fun i _ => mul_comm _ _

theorem ref_dkvg (x0 x5 x7 x8) (a : Fin 1) (k : Fin 128) : val_main_v126 (F := Ideal) x0 x5 x7 x8 (ix2 a k)
    = ∑ i : Fin 4096, val_main_v123 (F := Ideal) x5 x7 x8 (ix2 i k) * val_main_v77 (F := Ideal) x0 (ix2 i k) := by
  pointwise [val_main_v126, val_main_v125, val_main_v124, val_main_cst_16]
  exact Finset.sum_congr rfl fun i _ => mul_comm _ _

theorem ref_dwkv (x0 x3 x7 x8) (k : Fin 128) (j : Fin 2048) : val_main_v187 (F := Ideal) x0 x3 x7 x8 (ix2 k j)
    = ∑ i : Fin 4096, val_main_v79 (F := Ideal) x0 x3 (ix2 i k) * val_main_v120 (F := Ideal) x7 x8 (ix2 i j) := by
  pointwise [val_main_v187, val_main_v122, val_main_v121]
  exact Finset.sum_congr rfl fun i _ => mul_comm _ _

theorem zero_word : FloatOps.sitofp (F := Ideal) FTy.f32 0#32 = 0 := by
  show (((0#32 : BitVec 32).toInt : ℝ) : EReal) = 0
  simp

theorem ref_dwq (x0 x1 x2 x6) (h : Fin 8) (r : Fin 256) (k : Fin 256) : val_main_v186 (F := Ideal) x0 x1 x2 x6 (ix2 ⟨256 * h.val + r.val, by omega⟩ k)
    = if hr : r.val < 192 then ∑ i : Fin 4096, val_main_v158 (F := Ideal) x1 x6 (ix2 i ⟨192 * h.val + r.val, by omega⟩) * val_main_v40 (F := Ideal) x0 x2 (ix2 i k) else 0 := by
  pointwise [val_main_v186, val_main_v184, val_main_v183, val_main_v163, val_main_v162, val_main_v160, val_main_v159, val_main_call0_v0, val_main_c]
  simp only [Nat.mul_comm h.val 192]
  by_cases hr : r.val < 192
  · rw [dif_pos hr, dif_pos hr]
  · rw [dif_neg hr, dif_neg hr]
    exact zero_word

theorem ref_dxq (x0 x1 x2 x4 x6) (i : Fin 4096) (b : Fin 256) : val_main_v180 (F := Ideal) x0 x1 x2 x4 x6 (ix2 i b)
    = val_main_v161 (F := Ideal) x1 x4 x6 (ix2 i b) * x2 (ix2 0 b) * NormWide.factor w256 (rowQ x0 i)
      + Ideal.div ((∑ k : Fin 256, rowQ x0 i k * (val_main_v161 (F := Ideal) x1 x4 x6 (ix2 i k) * x2 (ix2 0 k)))
        * (Ideal.ofBits .f32 0xBF000000#32 * Ideal.div (NormWide.factor w256 (rowQ x0 i)) (NormWide.meanSq w256 (rowQ x0 i)))) w256
          * (Ideal.ofBits .f32 0x40000000#32 * rowQ x0 i b) := by
  pointwise [val_main_v180, val_main_v179, val_main_v178, val_main_v177, val_main_v176, val_main_v175, val_main_v174, val_main_v173, val_main_v172, val_main_v171, val_main_v170, val_main_v169, val_main_v168, val_main_v167, val_main_v36, val_main_v35, val_main_v34, val_main_v33, val_main_v32, val_main_v31, val_main_v30, val_main_v29, val_main_v28, val_main_v27, val_main_v26, val_main_v25, val_main_v24, val_main_v21, val_main_cst_4, val_main_cst_5, val_main_cst_6, val_main_cst_7, val_main_cst_8, val_main_cst_21, val_main_cst_22, val_main_cst_23, NormWide.factor, NormWide.meanSq]
  rw [Fin.sum_univ_one]

theorem ref_dxkv (x0 x3 x5 x7 x8) (i : Fin 4096) (b : Fin 128) : val_main_v140 (F := Ideal) x0 x3 x5 x7 x8 (ix2 i b)
    = val_main_v123 (F := Ideal) x5 x7 x8 (ix2 i b) * x3 (ix2 0 b) * NormWide.factor w128 (rowKv x0 i)
      + Ideal.div ((∑ k : Fin 128, rowKv x0 i k * (val_main_v123 (F := Ideal) x5 x7 x8 (ix2 i k) * x3 (ix2 0 k)))
        * (Ideal.ofBits .f32 0xBF000000#32 * Ideal.div (NormWide.factor w128 (rowKv x0 i)) (NormWide.meanSq w128 (rowKv x0 i)))) w128
          * (Ideal.ofBits .f32 0x40000000#32 * rowKv x0 i b) := by
  pointwise [val_main_v140, val_main_v139, val_main_v138, val_main_v137, val_main_v136, val_main_v135, val_main_v134, val_main_v133, val_main_v132, val_main_v131, val_main_v130, val_main_v129, val_main_v128, val_main_v127, val_main_v75, val_main_v74, val_main_v73, val_main_v72, val_main_v71, val_main_v70, val_main_v69, val_main_v68, val_main_v67, val_main_v66, val_main_v65, val_main_v64, val_main_v63, val_main_v22, val_main_cst_9, val_main_cst_10, val_main_cst_11, val_main_cst_12, val_main_cst_13, val_main_cst_17, val_main_cst_18, val_main_cst_19, NormWide.factor, NormWide.meanSq]
  rw [Fin.sum_univ_one]

theorem ref_dzs (x0 x1 x2 x3 x4 x5 x6 x7 x8) (i : Fin 4096) (j : Fin 512) : val_main_v185 (F := Ideal) x0 x1 x2 x3 x4 x5 x6 x7 x8 (ix2 i j)
    = if h : j.val < 256 then val_main_v180 (F := Ideal) x0 x1 x2 x4 x6 (ix2 i ⟨j.val, h⟩)
      else if h' : j.val - 256 < 128 then val_main_v140 (F := Ideal) x0 x3 x5 x7 x8 (ix2 i ⟨j.val - 256, h'⟩)
      else if h'' : j.val - 256 - 128 < 64 then val_main_v118 (F := Ideal) x1 x7 (ix2 i ⟨j.val - 256 - 128, h''⟩) else 0 := by
  pointwise [val_main_v185, val_main_v182, val_main_v181, val_main_cst_24]

/-! ### What the windows and the two gathered rows hold -/

theorem entry13 : V m c main_v13 = shapeCast S1x128 (concatenate S128 0 [⟨S32, val_main_v10 (F := Ideal)⟩, ⟨S32, val_main_v10 (F := Ideal)⟩, ⟨S64, (broadcastInDim S64 ![] bcast_S_S64 (constant (F := Ideal) S_ .f32 0x00000000#32))⟩] concatenates_S32_S32_S64_S128_d0) shapeCasts_S128_S1x128 := by
  simp only [V, List.flatten_cons, List.flatten_nil, List.append_nil, List.cons_append, List.nil_append]
  after_results_simp
  rfl

theorem entry15 : V m c main_v15 = shapeCast S2048x256 (pad S8x256x256 ![0, 0, 0] ![0, 64, 0] ![0, 0, 0] (arg4 m c) (sitofp (F := Ideal) .bf16 (constantI S_ 32 0#32)) pads_S8x192x256_S8x256x256_000_0640_000 h_S_) shapeCasts_S8x256x256_S2048x256 := by
  simp only [V, List.flatten_cons, List.flatten_nil, List.append_nil, List.cons_append, List.nil_append]
  after_results_simp
  rfl

theorem entry16 : V m c main_v16 = shapeCast S4096x1 (arg1 m c) shapeCasts_S4096_S4096x1 := by
  simp only [V, List.flatten_cons, List.flatten_nil, List.append_nil, List.cons_append, List.nil_append]
  after_results_simp
  rfl

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] ∧ win0_13.index t = ![0, 0]
    ∧ win0_14.index t = ![0, 0] ∧ t.val < 8 :=
  (by decide +kernel : ∀ t : Fin grid0.N, _)

theorem lt8 (t : Fin cfg0.N) : t.val < 8 := (idx t).2.2.2.2.2.2.2.2.2.2.2.2.2.2.2

/-- Row `a` of point `t`'s block of rows. -/
abbrev row (t : Fin cfg0.N) (a : Fin 512) : Fin 4096 := ⟨512 * t.val + a.val, by have := lt8 t; omega⟩

theorem block0 (t) (a : Fin 512) (b : Fin 512) : iblk m c 0 t (ix2 a b) = arg0 m c (ix2 (row t a) b) := by blk_point [iblk, V_main_arg0, idx t]
theorem block3 (t y) : iblk m c 3 t y = arg2 m c y := by blk_point [iblk, V_main_arg2, idx t]
theorem block4 (t y) : iblk m c 4 t y = arg3 m c y := by blk_point [iblk, V_main_arg3, idx t]
theorem block6 (t y) : iblk m c 6 t y = arg5 m c y := by blk_point [iblk, V_main_arg5, idx t]
theorem block7 (t) (a : Fin 512) (b : Fin 2048) : iblk m c 7 t (ix2 a b) = arg6 m c (ix2 (row t a) b) := by blk_point [iblk, V_main_arg6, idx t]
theorem block8 (t) (a : Fin 512) (b : Fin 2048) : iblk m c 8 t (ix2 a b) = arg7 m c (ix2 (row t a) b) := by blk_point [iblk, V_main_arg7, idx t]
theorem block9 (t) (a : Fin 512) (b : Fin 1024) : iblk m c 9 t (ix2 a b) = arg8 m c (ix2 (row t a) b) := by blk_point [iblk, V_main_arg8, idx t]

theorem pos_at (x : Vec Ideal S4096 .i32) (a : Fin 4096) (b : Fin 1) : shapeCast S4096x1 x shapeCasts_S4096_S4096x1 (ix2 a b) = x (ix1 a) := by pointwise

theorem block1 (t) (a : Fin 512) : iblk m c 1 t (ix2 a 0) = arg1 m c (ix1 (row t a)) := by
  refine Eq.trans ?_ (pos_at (arg1 m c) (row t a) 0)
  rw [← entry16]
  blk_simp [iblk]
  blk_ext [idx t]

theorem freq_at (x : Vec Ideal S32 .f32) (a : Fin 1) (b : Fin 128) (hb : b.val < 64) : shapeCast S1x128 (concatenate S128 0 [⟨S32, x⟩, ⟨S32, x⟩, ⟨S64, (broadcastInDim S64 ![] bcast_S_S64 (constant (F := Ideal) S_ .f32 0x00000000#32))⟩] concatenates_S32_S32_S64_S128_d0) shapeCasts_S128_S1x128 (ix2 a b)
    = x (ix1 ⟨b.val % 32, by omega⟩) := by
  pointwise
  split
  · refine congrArg x ?_
    blk_ext
  · rw [dif_pos (by omega)]
    refine congrArg x ?_
    blk_ext

theorem block2 (t) (b : Fin 128) (hb : b.val < 64) : iblk m c 2 t (ix2 0 b) = val_main_v10 (F := Ideal) (ix1 ⟨b.val % 32, by omega⟩) := by
  refine Eq.trans ?_ (freq_at (val_main_v10 (F := Ideal)) 0 b hb)
  rw [← entry13 m c]
  blk_simp [iblk]
  blk_ext [idx t]

theorem weight_at (x : Vec Ideal S8x192x256 .bf16) (h : Fin 8) (r : Fin 256) (k : Fin 256) (hr : r.val < 192) :
    shapeCast S2048x256 (pad S8x256x256 ![0, 0, 0] ![0, 64, 0] ![0, 0, 0] x (sitofp (F := Ideal) .bf16 (constantI S_ 32 0#32)) pads_S8x192x256_S8x256x256_000_0640_000 h_S_) shapeCasts_S8x256x256_S2048x256 (ix2 ⟨256 * h.val + r.val, by omega⟩ k)
      = x (ix3 h ⟨r.val, hr⟩ k) := by
  pointwise
  rw [dif_pos hr]

theorem block5 (t) (h : Fin 8) (r : Fin 256) (k : Fin 256) (hr : r.val < 192) : iblk m c 5 t (ix2 ⟨256 * h.val + r.val, by omega⟩ k) = arg4 m c (ix3 h ⟨r.val, hr⟩ k) := by
  refine Eq.trans ?_ (weight_at (arg4 m c) h r k hr)
  rw [← entry15]
  blk_simp [iblk]
  blk_ext [idx t]

/-- Sixteen stores of 128 columns each, read back whole. -/
theorem tiles_read {κ : Kind} {sp : Space} (v : View sig κ sp S512x2048 .bf16) (G : Vec Ideal S512x2048 .bf16) (p15 p14 p13 p12 p11 p10 p9 p8 p7 p6 p5 p4 p3 p2 p1 p0 : Vec Ideal S512x128 .bf16)
    (e15 : ∀ (a : Fin 512) (l : Fin 128), p15 (ix2 a l) = G (ix2 a ⟨1920 + l.val, by omega⟩))
    (e14 : ∀ (a : Fin 512) (l : Fin 128), p14 (ix2 a l) = G (ix2 a ⟨1792 + l.val, by omega⟩))
    (e13 : ∀ (a : Fin 512) (l : Fin 128), p13 (ix2 a l) = G (ix2 a ⟨1664 + l.val, by omega⟩))
    (e12 : ∀ (a : Fin 512) (l : Fin 128), p12 (ix2 a l) = G (ix2 a ⟨1536 + l.val, by omega⟩))
    (e11 : ∀ (a : Fin 512) (l : Fin 128), p11 (ix2 a l) = G (ix2 a ⟨1408 + l.val, by omega⟩))
    (e10 : ∀ (a : Fin 512) (l : Fin 128), p10 (ix2 a l) = G (ix2 a ⟨1280 + l.val, by omega⟩))
    (e9 : ∀ (a : Fin 512) (l : Fin 128), p9 (ix2 a l) = G (ix2 a ⟨1152 + l.val, by omega⟩))
    (e8 : ∀ (a : Fin 512) (l : Fin 128), p8 (ix2 a l) = G (ix2 a ⟨1024 + l.val, by omega⟩))
    (e7 : ∀ (a : Fin 512) (l : Fin 128), p7 (ix2 a l) = G (ix2 a ⟨896 + l.val, by omega⟩))
    (e6 : ∀ (a : Fin 512) (l : Fin 128), p6 (ix2 a l) = G (ix2 a ⟨768 + l.val, by omega⟩))
    (e5 : ∀ (a : Fin 512) (l : Fin 128), p5 (ix2 a l) = G (ix2 a ⟨640 + l.val, by omega⟩))
    (e4 : ∀ (a : Fin 512) (l : Fin 128), p4 (ix2 a l) = G (ix2 a ⟨512 + l.val, by omega⟩))
    (e3 : ∀ (a : Fin 512) (l : Fin 128), p3 (ix2 a l) = G (ix2 a ⟨384 + l.val, by omega⟩))
    (e2 : ∀ (a : Fin 512) (l : Fin 128), p2 (ix2 a l) = G (ix2 a ⟨256 + l.val, by omega⟩))
    (e1 : ∀ (a : Fin 512) (l : Fin 128), p1 (ix2 a l) = G (ix2 a ⟨128 + l.val, by omega⟩))
    (e0 : ∀ (a : Fin 512) (l : Fin 128), p0 (ix2 a l) = G (ix2 a ⟨0 + l.val, by omega⟩)) :
    v.readCov [⟨Rect.unit (s := S512x2048) ![0, 1920] ![512, 128] inb_S512x2048_S512x128_0_1920, p15⟩, ⟨Rect.unit (s := S512x2048) ![0, 1792] ![512, 128] inb_S512x2048_S512x128_0_1792, p14⟩, ⟨Rect.unit (s := S512x2048) ![0, 1664] ![512, 128] inb_S512x2048_S512x128_0_1664, p13⟩, ⟨Rect.unit (s := S512x2048) ![0, 1536] ![512, 128] inb_S512x2048_S512x128_0_1536, p12⟩, ⟨Rect.unit (s := S512x2048) ![0, 1408] ![512, 128] inb_S512x2048_S512x128_0_1408, p11⟩, ⟨Rect.unit (s := S512x2048) ![0, 1280] ![512, 128] inb_S512x2048_S512x128_0_1280, p10⟩, ⟨Rect.unit (s := S512x2048) ![0, 1152] ![512, 128] inb_S512x2048_S512x128_0_1152, p9⟩, ⟨Rect.unit (s := S512x2048) ![0, 1024] ![512, 128] inb_S512x2048_S512x128_0_1024, p8⟩, ⟨Rect.unit (s := S512x2048) ![0, 896] ![512, 128] inb_S512x2048_S512x128_0_896, p7⟩, ⟨Rect.unit (s := S512x2048) ![0, 768] ![512, 128] inb_S512x2048_S512x128_0_768, p6⟩, ⟨Rect.unit (s := S512x2048) ![0, 640] ![512, 128] inb_S512x2048_S512x128_0_640, p5⟩, ⟨Rect.unit (s := S512x2048) ![0, 512] ![512, 128] inb_S512x2048_S512x128_0_512, p4⟩, ⟨Rect.unit (s := S512x2048) ![0, 384] ![512, 128] inb_S512x2048_S512x128_0_384, p3⟩, ⟨Rect.unit (s := S512x2048) ![0, 256] ![512, 128] inb_S512x2048_S512x128_0_256, p2⟩, ⟨Rect.unit (s := S512x2048) ![0, 128] ![512, 128] inb_S512x2048_S512x128_0_128, p1⟩, ⟨Rect.unit (s := S512x2048) ![0, 0] ![512, 128] inb_S512x2048_S512x128_0_0, p0⟩]
      (Rect.unit (s := S512x2048) ![0, 0] ![512, 2048] inb_S512x2048_S512x2048_0_0).toLoadRect = G := by
  rw [View.readCov_eq_canon']
  funext y
  have e : (Rect.unit (s := S512x2048) ![0, 0] ![512, 2048] inb_S512x2048_S512x2048_0_0).toLoadRect.idx y = y := by
    funext a
    refine Fin.ext ?_
    fin_cases a
    · exact (Nat.zero_add _).trans (Nat.one_mul _)
    · exact (Nat.zero_add _).trans (Nat.one_mul _)
  rw [e]
  clear e
  canon_tiles x h
  all_goals idx_vars x
  · refine (e15 x0 x1).trans ?_
    blk_ext
  · refine (e14 x0 x1).trans ?_
    blk_ext
  · refine (e13 x0 x1).trans ?_
    blk_ext
  · refine (e12 x0 x1).trans ?_
    blk_ext
  · refine (e11 x0 x1).trans ?_
    blk_ext
  · refine (e10 x0 x1).trans ?_
    blk_ext
  · refine (e9 x0 x1).trans ?_
    blk_ext
  · refine (e8 x0 x1).trans ?_
    blk_ext
  · refine (e7 x0 x1).trans ?_
    blk_ext
  · refine (e6 x0 x1).trans ?_
    blk_ext
  · refine (e5 x0 x1).trans ?_
    blk_ext
  · refine (e4 x0 x1).trans ?_
    blk_ext
  · refine (e3 x0 x1).trans ?_
    blk_ext
  · refine (e2 x0 x1).trans ?_
    blk_ext
  · refine (e1 x0 x1).trans ?_
    blk_ext
  · refine (e0 x0 x1).trans ?_
    blk_ext

/-- Entry `j` of row `i`'s gradient before the up-projection of the queries: 192 columns a head, then 64 of zeros. -/
def dqVal (x1 : Vec Ideal S4096 .i32) (x6 : Vec Ideal S4096x2048 .bf16) (i : Fin 4096) (j : Fin 2048) : EReal :=
  if hr : j.val % 256 < 192 then val_main_v158 (F := Ideal) x1 x6 (ix2 i ⟨192 * (j.val / 256) + j.val % 256, by omega⟩) else 0

theorem dqVal_eq (x1 x6) (i : Fin 4096) (h : Fin 8) (r : Fin 192) : dqVal x1 x6 i ⟨256 * h.val + r.val, by omega⟩ = val_main_v158 (F := Ideal) x1 x6 (ix2 i ⟨192 * h.val + r.val, by omega⟩) := by
  unfold dqVal
  simp only [show (256 * h.val + r.val) % 256 = r.val by omega, show (256 * h.val + r.val) / 256 = h.val by omega]
  exact dif_pos r.isLt

theorem dqVal_zero (x1 x6) (i : Fin 4096) (h : Fin 8) (r : Fin 64) : dqVal x1 x6 i ⟨256 * h.val + (192 + r.val), by omega⟩ = 0 := by
  unfold dqVal
  simp only [show (256 * h.val + (192 + r.val)) % 256 = 192 + r.val by omega]
  exact dif_neg (by omega)

theorem rot_at (t) (x : FVec Ideal S512x128 .f32) (a : Fin 512) (l : Fin 128) : k0_pay3 (F := Ideal) (k0_pay10 (iblk m c 1 t) (iblk m c 2 t)) (k0_pay11 (iblk m c 1 t) (iblk m c 2 t)) (k0_pay12 (iblk m c 1 t) (iblk m c 2 t)) x (ix2 a l)
    = back (fun k => x (ix2 a ⟨k.val, by omega⟩)) (fun k => Ideal.cos (angle (arg1 m c) (row t a) k)) (fun k => Ideal.sin (angle (arg1 m c) (row t a) k)) l := by
  refine rot_back _ _ x a l (angle (arg1 m c) (row t a)) fun l hl => ?_
  refine (angle_eq _ _ a l).trans ?_
  rw [block1, block2 m c t l hl]

theorem copy_eq (x) (a : Fin 512) (l : Fin 128) : k0_pay21 (F := Ideal) x (ix2 a l) = x (ix2 a l) := by pointwise [k0_pay21]
theorem rot_copy (c s s') (x : Vec Ideal S512x128 .bf16) (a : Fin 512) (l : Fin 128) : k0_pay22 (F := Ideal) c s s' x (ix2 a l) = k0_pay3 (F := Ideal) c s s' x (ix2 a l) := by
  pointwise [k0_pay22, k0_pay3]

theorem dq_nope (t) (h : Fin 8) (o : ℕ) (ho : o = 256 * h.val) (inb) (a : Fin 512) (l : Fin 128) :
    k0_pay21 (F := Ideal) (View.ld (iblk m c 7 t) (Rect.unit (s := S512x2048) ![0, o] ![512, 128] inb)) (ix2 a l) = dqVal (arg1 m c) (arg6 m c) (row t a) ⟨o + l.val, by omega⟩ := by
  subst ho
  refine Eq.trans ?_ (dqVal_eq _ _ _ h ⟨l.val, by omega⟩).symm
  rw [copy_eq]
  refine (Slices.ld_slice _ _ (by omega) (by omega) a l).trans ?_
  rw [block7]
  refine Eq.trans ?_ (ref_dq_nope _ _ _ h l).symm
  refine congrArg (arg6 m c) ?_
  blk_ext

theorem dq_rope (t) (h : Fin 8) (o : ℕ) (ho : o = 256 * h.val + 128) (inb) (a : Fin 512) (l : Fin 128) :
    k0_pay22 (F := Ideal) (k0_pay10 (iblk m c 1 t) (iblk m c 2 t)) (k0_pay11 (iblk m c 1 t) (iblk m c 2 t)) (k0_pay12 (iblk m c 1 t) (iblk m c 2 t))
      (View.ld (iblk m c 7 t) (Rect.unit (s := S512x2048) ![0, o] ![512, 128] inb)) (ix2 a l) = dqVal (arg1 m c) (arg6 m c) (row t a) ⟨o + l.val, by omega⟩ := by
  subst ho
  refine (rot_copy _ _ _ _ a l).trans ((rot_at m c t _ a l).trans ?_)
  have e (k : Fin 128) : View.ld (iblk m c 7 t) (Rect.unit (s := S512x2048) ![0, 256 * h.val + 128] ![512, 128] inb) (ix2 a k) = arg6 m c (ix2 (row t a) ⟨256 * h.val + (128 + k.val), by omega⟩) := by
    refine (Slices.ld_slice _ _ (by omega) (by omega) a k).trans ?_
    rw [block7]
    refine congrArg (arg6 m c) ?_
    blk_ext
  simp only [e]
  by_cases hl : l.val < 64
  · have q := (dqVal_eq (arg1 m c) (arg6 m c) (row t a) h ⟨128 + l.val, by omega⟩).trans (ref_dq_rope (arg1 m c) (arg6 m c) (row t a) h ⟨l.val, hl⟩)
    refine q.symm.trans (congrArg (dqVal (arg1 m c) (arg6 m c) (row t a)) (Fin.ext ?_))
    exact (Nat.add_assoc _ _ _).symm
  · have q := dqVal_zero (arg1 m c) (arg6 m c) (row t a) h ⟨l.val - 64, by omega⟩
    refine Eq.trans ?_ (q.symm.trans (congrArg (dqVal (arg1 m c) (arg6 m c) (row t a)) (Fin.ext ?_)))
    · unfold back
      rw [dif_neg (by omega), dif_neg hl]
    · show 256 * h.val + (192 + (l.val - 64)) = 256 * h.val + 128 + l.val
      omega

theorem dkv_k (t) (h : Fin 8) (o : ℕ) (ho : o = 256 * h.val) (inb) (a : Fin 512) (l : Fin 128) :
    k0_pay21 (F := Ideal) (View.ld (iblk m c 8 t) (Rect.unit (s := S512x2048) ![0, o] ![512, 128] inb)) (ix2 a l) = val_main_v120 (F := Ideal) (arg7 m c) (arg8 m c) (ix2 (row t a) ⟨o + l.val, by omega⟩) := by
  subst ho
  rw [copy_eq]
  refine (Slices.ld_slice _ _ (by omega) (by omega) a l).trans ?_
  rw [block8]
  refine Eq.trans ?_ (ref_dkv_k _ _ _ h l).symm
  refine congrArg (arg7 m c) ?_
  blk_ext

theorem dkv_v (t) (h : Fin 8) (o p : ℕ) (ho : o = 256 * h.val + 128) (hp : p = 128 * h.val) (inb) (a : Fin 512) (l : Fin 128) :
    k0_pay21 (F := Ideal) (View.ld (iblk m c 9 t) (Rect.unit (s := S512x1024) ![0, p] ![512, 128] inb)) (ix2 a l) = val_main_v120 (F := Ideal) (arg7 m c) (arg8 m c) (ix2 (row t a) ⟨o + l.val, by omega⟩) := by
  subst ho
  subst hp
  rw [copy_eq]
  refine (Slices.ld_slice _ _ (by omega) (by omega) a l).trans ?_
  rw [block9]
  refine Eq.trans ?_ ((ref_dkv_v (arg7 m c) (arg8 m c) (row t a) h l).symm.trans (congrArg (val_main_v120 (F := Ideal) (arg7 m c) (arg8 m c)) ?_))
  · refine congrArg (arg8 m c) ?_
    blk_ext
  · exact congrArg (ix2 (row t a)) (Fin.ext (Nat.add_assoc _ _ _).symm)

/-- The two rows gathered at point `t`, and the three norms' parts there. -/
abbrev dqAt (t : Fin cfg0.N) : Vec Ideal S512x2048 .bf16 := fun y => dqVal (arg1 m c) (arg6 m c) (row t (y 0)) (y 1)
abbrev dkvAt (t : Fin cfg0.N) : Vec Ideal S512x2048 .bf16 := fun y => val_main_v120 (F := Ideal) (arg7 m c) (arg8 m c) (ix2 (row t (y 0)) (y 1))
abbrev zq (t : Fin cfg0.N) : Vec Ideal S512x256 .f32 := View.ld (iblk m c 0 t) (Rect.unit (s := S512x512) ![0, 0] ![512, 256] inb_S512x512_S512x256_0_0)
abbrev zkv (t : Fin cfg0.N) : Vec Ideal S512x128 .f32 := View.ld (iblk m c 0 t) (Rect.unit (s := S512x512) ![0, 256] ![512, 128] inb_S512x512_S512x128_0_256)

theorem zq_at (t) (a : Fin 512) (k : Fin 256) : zq m c t (ix2 a k) = rowQ (arg0 m c) (row t a) k := by
  refine (Slices.ld_slice _ _ (by omega) (by omega) a k).trans ?_
  rw [block0]
  refine congrArg (arg0 m c) ?_
  blk_ext

theorem zkv_at (t) (a : Fin 512) (k : Fin 128) : zkv m c t (ix2 a k) = rowKv (arg0 m c) (row t a) k := by
  refine (Slices.ld_slice _ _ (by omega) (by omega) a k).trans ?_
  rw [block0]
  refine congrArg (arg0 m c) ?_
  blk_ext

theorem xq_at (t) (a : Fin 512) (k : Fin 256) : k0_pay15 (F := Ideal) (zq m c t) (k0_pay13 (zq m c t)) (ix2 a k) = val_main_v38 (F := Ideal) (arg0 m c) (ix2 (row t a) k) := by
  rw [xq_eq, ref_xq]
  simp only [zq_at]

theorem cq_at (t) (a : Fin 512) (k : Fin 256) : k0_pay16 (F := Ideal) (zq m c t) (iblk m c 3 t) (k0_pay13 (zq m c t)) (ix2 a k) = val_main_v40 (F := Ideal) (arg0 m c) (arg2 m c) (ix2 (row t a) k) := by
  rw [cq_eq, ref_cq]
  simp only [zq_at, block3]

theorem xkv_at (t) (a : Fin 512) (k : Fin 128) : k0_pay18 (F := Ideal) (zkv m c t) (ix2 a k) = val_main_v77 (F := Ideal) (arg0 m c) (ix2 (row t a) k) := by
  rw [xkv_eq, ref_xkv]
  simp only [zkv_at]

theorem ckv_at (t) (a : Fin 512) (k : Fin 128) : k0_pay19 (F := Ideal) (zkv m c t) (iblk m c 4 t) (ix2 a k) = val_main_v79 (F := Ideal) (arg0 m c) (arg3 m c) (ix2 (row t a) k) := by
  rw [ckv_eq, ref_ckv]
  simp only [zkv_at, block4]

theorem dcq_at (t) (a : Fin 512) (k : Fin 256) : k0_pay68 (F := Ideal) (dqAt m c t) (iblk m c 5 t) (ix2 a k) = val_main_v161 (F := Ideal) (arg1 m c) (arg4 m c) (arg6 m c) (ix2 (row t a) k) := by
  rw [dcq_eq, ref_dcq]
  refine NormWide.sum_heads _ _ (fun h r => ?_) (fun h r => ?_)
  · rw [ref_wq]
    exact congrArg₂ (fun x y : EReal => x * y) (dqVal_eq _ _ _ h r) (block5 m c t h ⟨r.val, by omega⟩ k r.isLt)
  · exact (congrArg (fun x : EReal => x * _) (dqVal_zero _ _ _ h r)).trans (zero_mul _)

theorem dckv_at (t) (a : Fin 512) (k : Fin 128) : k0_pay69 (F := Ideal) (dkvAt m c t) (iblk m c 6 t) (ix2 a k) = val_main_v123 (F := Ideal) (arg5 m c) (arg7 m c) (arg8 m c) (ix2 (row t a) k) := by
  rw [dckv_eq, ref_dckv]
  simp only [block6]
  rfl

theorem dzs_q (t) (a : Fin 512) (b : Fin 256) : k0_pay1 (F := Ideal) (k0_pay14 (k0_pay13 (zq m c t))) (k0_pay15 (zq m c t) (k0_pay13 (zq m c t))) (k0_pay72 (dqAt m c t) (iblk m c 5 t) (iblk m c 3 t))
      (k0_pay73 (k0_pay15 (zq m c t) (k0_pay13 (zq m c t))) (dqAt m c t) (iblk m c 5 t) (iblk m c 3 t)) (ix2 a b)
    = val_main_v180 (F := Ideal) (arg0 m c) (arg1 m c) (arg2 m c) (arg4 m c) (arg6 m c) (ix2 (row t a) b) := by
  rw [dxq_eq, ref_dxq, rq_eq]
  simp only [xq_at, dcq_at, block3, zq_at, ref_xq]
  exact NormWide.grad_256 (rowQ (arg0 m c) (row t a)) (fun k => val_main_v161 (F := Ideal) (arg1 m c) (arg4 m c) (arg6 m c) (ix2 (row t a) k) * arg2 m c (ix2 0 k)) b

theorem dzs_kv (t) (a : Fin 512) (b : Fin 128) : k0_pay2 (F := Ideal) (k0_pay17 (zkv m c t)) (k0_pay18 (zkv m c t)) (k0_pay69 (dkvAt m c t) (iblk m c 6 t)) (iblk m c 4 t) (ix2 a b)
    = val_main_v140 (F := Ideal) (arg0 m c) (arg3 m c) (arg5 m c) (arg7 m c) (arg8 m c) (ix2 (row t a) b) := by
  rw [dxkv_eq, ref_dxkv, rkv_eq]
  simp only [xkv_at, dckv_at, block4, zkv_at, ref_xkv]
  exact NormWide.grad_128 (rowKv (arg0 m c) (row t a)) (fun k => val_main_v123 (F := Ideal) (arg5 m c) (arg7 m c) (arg8 m c) (ix2 (row t a) k) * arg3 m c (ix2 0 k)) b

/-- What the two gathered rows hold when they are read back. -/
theorem dq_read (t : Fin cfg0.N) : (View.whole cc0_scratch0).readCov (Val := Elt Ideal) [⟨Rect.unit (s := S512x2048) ![0, 1920] ![512, 128] inb_S512x2048_S512x128_0_1920, k0_pay60 (k0_pay59 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 1920] ![512, 128] inb_S512x2048_S512x128_0_1920)))⟩,
      ⟨Rect.unit (s := S512x2048) ![0, 1792] ![512, 128] inb_S512x2048_S512x128_0_1792, k0_pay58 (View.ld (iblk m c 7 t) (Rect.unit (s := S512x2048) ![0, 1792] ![512, 128] inb_S512x2048_S512x128_0_1792))⟩,
      ⟨Rect.unit (s := S512x2048) ![0, 1664] ![512, 128] inb_S512x2048_S512x128_0_1664, k0_pay54 (k0_pay12 (iblk m c 1 t) (iblk m c 2 t)) (k0_pay51 (View.ld (iblk m c 7 t) (Rect.unit (s := S512x2048) ![0, 1664] ![512, 128] inb_S512x2048_S512x128_0_1664))) (k0_pay52 (k0_pay10 (iblk m c 1 t) (iblk m c 2 t)) (View.ld (iblk m c 7 t) (Rect.unit (s := S512x2048) ![0, 1664] ![512, 128] inb_S512x2048_S512x128_0_1664))) (k0_pay53 (k0_pay11 (iblk m c 1 t) (iblk m c 2 t)) (View.ld (iblk m c 7 t) (Rect.unit (s := S512x2048) ![0, 1664] ![512, 128] inb_S512x2048_S512x128_0_1664)))⟩,
      ⟨Rect.unit (s := S512x2048) ![0, 1536] ![512, 128] inb_S512x2048_S512x128_0_1536, k0_pay50 (View.ld (iblk m c 7 t) (Rect.unit (s := S512x2048) ![0, 1536] ![512, 128] inb_S512x2048_S512x128_0_1536))⟩,
      ⟨Rect.unit (s := S512x2048) ![0, 1408] ![512, 128] inb_S512x2048_S512x128_0_1408, k0_pay46 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 1408] ![512, 128] inb_S512x2048_S512x128_0_1408))⟩,
      ⟨Rect.unit (s := S512x2048) ![0, 1280] ![512, 128] inb_S512x2048_S512x128_0_1280, k0_pay45 (View.ld (iblk m c 7 t) (Rect.unit (s := S512x2048) ![0, 1280] ![512, 128] inb_S512x2048_S512x128_0_1280))⟩,
      ⟨Rect.unit (s := S512x2048) ![0, 1152] ![512, 128] inb_S512x2048_S512x128_0_1152, k0_pay41 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 1152] ![512, 128] inb_S512x2048_S512x128_0_1152))⟩,
      ⟨Rect.unit (s := S512x2048) ![0, 1024] ![512, 128] inb_S512x2048_S512x128_0_1024, k0_pay40 (View.ld (iblk m c 7 t) (Rect.unit (s := S512x2048) ![0, 1024] ![512, 128] inb_S512x2048_S512x128_0_1024))⟩,
      ⟨Rect.unit (s := S512x2048) ![0, 896] ![512, 128] inb_S512x2048_S512x128_0_896, k0_pay36 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 896] ![512, 128] inb_S512x2048_S512x128_0_896))⟩,
      ⟨Rect.unit (s := S512x2048) ![0, 768] ![512, 128] inb_S512x2048_S512x128_0_768, k0_pay35 (View.ld (iblk m c 7 t) (Rect.unit (s := S512x2048) ![0, 768] ![512, 128] inb_S512x2048_S512x128_0_768))⟩,
      ⟨Rect.unit (s := S512x2048) ![0, 640] ![512, 128] inb_S512x2048_S512x128_0_640, k0_pay32 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 640] ![512, 128] inb_S512x2048_S512x128_0_640))⟩,
      ⟨Rect.unit (s := S512x2048) ![0, 512] ![512, 128] inb_S512x2048_S512x128_0_512, k0_pay31 (View.ld (iblk m c 7 t) (Rect.unit (s := S512x2048) ![0, 512] ![512, 128] inb_S512x2048_S512x128_0_512))⟩,
      ⟨Rect.unit (s := S512x2048) ![0, 384] ![512, 128] inb_S512x2048_S512x128_0_384, k0_pay27 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 384] ![512, 128] inb_S512x2048_S512x128_0_384))⟩,
      ⟨Rect.unit (s := S512x2048) ![0, 256] ![512, 128] inb_S512x2048_S512x128_0_256, k0_pay26 (View.ld (iblk m c 7 t) (Rect.unit (s := S512x2048) ![0, 256] ![512, 128] inb_S512x2048_S512x128_0_256))⟩,
      ⟨Rect.unit (s := S512x2048) ![0, 128] ![512, 128] inb_S512x2048_S512x128_0_128, k0_pay22 (k0_pay10 (iblk m c 1 t) (iblk m c 2 t)) (k0_pay11 (iblk m c 1 t) (iblk m c 2 t)) (k0_pay12 (iblk m c 1 t) (iblk m c 2 t)) (View.ld (iblk m c 7 t) (Rect.unit (s := S512x2048) ![0, 128] ![512, 128] inb_S512x2048_S512x128_0_128))⟩,
      ⟨Rect.unit (s := S512x2048) ![0, 0] ![512, 128] inb_S512x2048_S512x128_0_0, k0_pay21 (View.ld (iblk m c 7 t) (Rect.unit (s := S512x2048) ![0, 0] ![512, 128] inb_S512x2048_S512x128_0_0))⟩]
      (Rect.unit (s := S512x2048) ![0, 0] ![512, 2048] inb_S512x2048_S512x2048_0_0).toLoadRect = dqAt m c t :=
  tiles_read (View.whole cc0_scratch0) (dqAt m c t) _ _ _ _ _ _ _ _ _ _ _ _ _ _ _ _
    (dq_rope m c t 7 1920 rfl _)
    (dq_nope m c t 7 1792 rfl _)
    (dq_rope m c t 6 1664 rfl _)
    (dq_nope m c t 6 1536 rfl _)
    (dq_rope m c t 5 1408 rfl _)
    (dq_nope m c t 5 1280 rfl _)
    (dq_rope m c t 4 1152 rfl _)
    (dq_nope m c t 4 1024 rfl _)
    (dq_rope m c t 3 896 rfl _)
    (dq_nope m c t 3 768 rfl _)
    (dq_rope m c t 2 640 rfl _)
    (dq_nope m c t 2 512 rfl _)
    (dq_rope m c t 1 384 rfl _)
    (dq_nope m c t 1 256 rfl _)
    (dq_rope m c t 0 128 rfl _)
    (dq_nope m c t 0 0 rfl _)

theorem dkv_read (t : Fin cfg0.N) : (View.whole cc0_scratch1).readCov (Val := Elt Ideal) [⟨Rect.unit (s := S512x2048) ![0, 1920] ![512, 128] inb_S512x2048_S512x128_0_1920, k0_pay62 (View.ld (iblk m c 9 t) (Rect.unit (s := S512x1024) ![0, 896] ![512, 128] inb_S512x1024_S512x128_0_896))⟩,
      ⟨Rect.unit (s := S512x2048) ![0, 1792] ![512, 128] inb_S512x2048_S512x128_0_1792, k0_pay61 (View.ld (iblk m c 8 t) (Rect.unit (s := S512x2048) ![0, 1792] ![512, 128] inb_S512x2048_S512x128_0_1792))⟩,
      ⟨Rect.unit (s := S512x2048) ![0, 1664] ![512, 128] inb_S512x2048_S512x128_0_1664, k0_pay56 (View.ld (iblk m c 9 t) (Rect.unit (s := S512x1024) ![0, 768] ![512, 128] inb_S512x1024_S512x128_0_768))⟩,
      ⟨Rect.unit (s := S512x2048) ![0, 1536] ![512, 128] inb_S512x2048_S512x128_0_1536, k0_pay55 (View.ld (iblk m c 8 t) (Rect.unit (s := S512x2048) ![0, 1536] ![512, 128] inb_S512x2048_S512x128_0_1536))⟩,
      ⟨Rect.unit (s := S512x2048) ![0, 1408] ![512, 128] inb_S512x2048_S512x128_0_1408, k0_pay48 (View.ld (iblk m c 9 t) (Rect.unit (s := S512x1024) ![0, 640] ![512, 128] inb_S512x1024_S512x128_0_640))⟩,
      ⟨Rect.unit (s := S512x2048) ![0, 1280] ![512, 128] inb_S512x2048_S512x128_0_1280, k0_pay47 (View.ld (iblk m c 8 t) (Rect.unit (s := S512x2048) ![0, 1280] ![512, 128] inb_S512x2048_S512x128_0_1280))⟩,
      ⟨Rect.unit (s := S512x2048) ![0, 1152] ![512, 128] inb_S512x2048_S512x128_0_1152, k0_pay43 (View.ld (iblk m c 9 t) (Rect.unit (s := S512x1024) ![0, 512] ![512, 128] inb_S512x1024_S512x128_0_512))⟩,
      ⟨Rect.unit (s := S512x2048) ![0, 1024] ![512, 128] inb_S512x2048_S512x128_0_1024, k0_pay42 (View.ld (iblk m c 8 t) (Rect.unit (s := S512x2048) ![0, 1024] ![512, 128] inb_S512x2048_S512x128_0_1024))⟩,
      ⟨Rect.unit (s := S512x2048) ![0, 896] ![512, 128] inb_S512x2048_S512x128_0_896, k0_pay38 (View.ld (iblk m c 9 t) (Rect.unit (s := S512x1024) ![0, 384] ![512, 128] inb_S512x1024_S512x128_0_384))⟩,
      ⟨Rect.unit (s := S512x2048) ![0, 768] ![512, 128] inb_S512x2048_S512x128_0_768, k0_pay37 (View.ld (iblk m c 8 t) (Rect.unit (s := S512x2048) ![0, 768] ![512, 128] inb_S512x2048_S512x128_0_768))⟩,
      ⟨Rect.unit (s := S512x2048) ![0, 640] ![512, 128] inb_S512x2048_S512x128_0_640, k0_pay34 (View.ld (iblk m c 9 t) (Rect.unit (s := S512x1024) ![0, 256] ![512, 128] inb_S512x1024_S512x128_0_256))⟩,
      ⟨Rect.unit (s := S512x2048) ![0, 512] ![512, 128] inb_S512x2048_S512x128_0_512, k0_pay33 (View.ld (iblk m c 8 t) (Rect.unit (s := S512x2048) ![0, 512] ![512, 128] inb_S512x2048_S512x128_0_512))⟩,
      ⟨Rect.unit (s := S512x2048) ![0, 384] ![512, 128] inb_S512x2048_S512x128_0_384, k0_pay29 (View.ld (iblk m c 9 t) (Rect.unit (s := S512x1024) ![0, 128] ![512, 128] inb_S512x1024_S512x128_0_128))⟩,
      ⟨Rect.unit (s := S512x2048) ![0, 256] ![512, 128] inb_S512x2048_S512x128_0_256, k0_pay28 (View.ld (iblk m c 8 t) (Rect.unit (s := S512x2048) ![0, 256] ![512, 128] inb_S512x2048_S512x128_0_256))⟩,
      ⟨Rect.unit (s := S512x2048) ![0, 128] ![512, 128] inb_S512x2048_S512x128_0_128, k0_pay24 (View.ld (iblk m c 9 t) (Rect.unit (s := S512x1024) ![0, 0] ![512, 128] inb_S512x1024_S512x128_0_0))⟩,
      ⟨Rect.unit (s := S512x2048) ![0, 0] ![512, 128] inb_S512x2048_S512x128_0_0, k0_pay23 (View.ld (iblk m c 8 t) (Rect.unit (s := S512x2048) ![0, 0] ![512, 128] inb_S512x2048_S512x128_0_0))⟩]
      (Rect.unit (s := S512x2048) ![0, 0] ![512, 2048] inb_S512x2048_S512x2048_0_0).toLoadRect = dkvAt m c t :=
  tiles_read (View.whole cc0_scratch1) (dkvAt m c t) _ _ _ _ _ _ _ _ _ _ _ _ _ _ _ _
    (dkv_v m c t 7 1920 896 rfl rfl _)
    (dkv_k m c t 7 1792 rfl _)
    (dkv_v m c t 6 1664 768 rfl rfl _)
    (dkv_k m c t 6 1536 rfl _)
    (dkv_v m c t 5 1408 640 rfl rfl _)
    (dkv_k m c t 5 1280 rfl _)
    (dkv_v m c t 4 1152 512 rfl rfl _)
    (dkv_k m c t 4 1024 rfl _)
    (dkv_v m c t 3 896 384 rfl rfl _)
    (dkv_k m c t 3 768 rfl _)
    (dkv_v m c t 2 640 256 rfl rfl _)
    (dkv_k m c t 2 512 rfl _)
    (dkv_v m c t 1 384 128 rfl rfl _)
    (dkv_k m c t 1 256 rfl _)
    (dkv_v m c t 0 128 0 rfl rfl _)
    (dkv_k m c t 0 0 rfl _)

end Cert.Kernel15Ideal.Heads

end
-- ==== Proof.HeadsBwd.lean ====
/-
  The gradient through the projections of latent attention: back from the gradients of each head's queries, keys and values to
  the two low-rank rows, the rotary key, the norms' gains and the two weights.
-/
module

public import proofs.«01_k».proof.Defs
public import proofs.«01_k».proof.Proof.Gen.Kernel15
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import proofs.«01_k».proof.Proof.Gen.Reference15Ideal.Read
public import proofs.«01_k».proof.Proof.NormWide
public import proofs.«01_k».proof.Proof.HeadsBwdParts

@[expose] public section

set_option maxRecDepth 16384
noncomputable section
open Idealize.ShloMosaic Idealize.ShloMosaic.TcCoe Idealize.SL.Sem
open Idealize.ShloMosaic.Pipeline (Dat)
namespace Cert.Kernel15Ideal.Heads
open Cert.Kernel15Ideal Cert.Kernel15Ideal.Gen

variable (m : (ℓ : Loc nD τ sig) → Buf (Elt Ideal) ℓ) (c : Dev nD)
open Cert.Reference15Ideal.Read

/-! ### What each point stores and adds -/

theorem dqg_at (t : Fin cfg0.N) (d) (hd : d = dqAt m c t) (o) (a : Fin 1) (k : Fin 256) :
    k0_pay70 (F := Ideal) (k0_pay15 (zq m c t) (k0_pay13 (zq m c t))) d (iblk m c 5 t) o (ix2 a k)
      = o (ix2 a k) + ∑ i : Fin 512, val_main_v161 (F := Ideal) (arg1 m c) (arg4 m c) (arg6 m c) (ix2 (row t i) k) * val_main_v38 (F := Ideal) (arg0 m c) (ix2 (row t i) k) := by
  subst hd
  rw [dqg_eq]
  simp only [dcq_at, xq_at]

theorem dkvg_at (t : Fin cfg0.N) (d) (hd : d = dkvAt m c t) (o) (a : Fin 1) (k : Fin 128) :
    k0_pay71 (F := Ideal) (k0_pay18 (zkv m c t)) d (iblk m c 6 t) o (ix2 a k)
      = o (ix2 a k) + ∑ i : Fin 512, val_main_v123 (F := Ideal) (arg5 m c) (arg7 m c) (arg8 m c) (ix2 (row t i) k) * val_main_v77 (F := Ideal) (arg0 m c) (ix2 (row t i) k) := by
  subst hd
  rw [dkvg_eq]
  simp only [dckv_at, xkv_at]

theorem dwq_at (t : Fin cfg0.N) (d) (hd : d = dqAt m c t) (o) (j : Fin 2048) (k : Fin 256) :
    k0_pay64 (F := Ideal) (k0_pay16 (zq m c t) (iblk m c 3 t) (k0_pay13 (zq m c t))) o d (ix2 j k)
      = o (ix2 j k) + ∑ i : Fin 512, dqVal (arg1 m c) (arg6 m c) (row t i) j * val_main_v40 (F := Ideal) (arg0 m c) (arg2 m c) (ix2 (row t i) k) := by
  subst hd
  rw [dwq_eq]
  simp only [cq_at]
  rfl

theorem dwkv_at (t : Fin cfg0.N) (d) (hd : d = dkvAt m c t) (o) (k : Fin 128) (j : Fin 2048) :
    k0_pay65 (F := Ideal) (k0_pay19 (zkv m c t) (iblk m c 4 t)) o d (ix2 k j)
      = o (ix2 k j) + ∑ i : Fin 512, val_main_v79 (F := Ideal) (arg0 m c) (arg3 m c) (ix2 (row t i) k) * val_main_v120 (F := Ideal) (arg7 m c) (arg8 m c) (ix2 (row t i) j) := by
  subst hd
  rw [dwkv_eq]
  simp only [ckv_at]
  rfl

theorem dzs_q' (t : Fin cfg0.N) (d) (hd : d = dqAt m c t) (a : Fin 512) (b : Fin 256) :
    k0_pay1 (F := Ideal) (k0_pay14 (k0_pay13 (zq m c t))) (k0_pay15 (zq m c t) (k0_pay13 (zq m c t))) (k0_pay72 d (iblk m c 5 t) (iblk m c 3 t))
      (k0_pay73 (k0_pay15 (zq m c t) (k0_pay13 (zq m c t))) d (iblk m c 5 t) (iblk m c 3 t)) (ix2 a b)
    = val_main_v180 (F := Ideal) (arg0 m c) (arg1 m c) (arg2 m c) (arg4 m c) (arg6 m c) (ix2 (row t a) b) := by
  subst hd
  exact dzs_q m c t a b

theorem dzs_kv' (t : Fin cfg0.N) (d) (hd : d = dkvAt m c t) (a : Fin 512) (b : Fin 128) :
    k0_pay2 (F := Ideal) (k0_pay17 (zkv m c t)) (k0_pay18 (zkv m c t)) (k0_pay69 d (iblk m c 6 t)) (iblk m c 4 t) (ix2 a b)
    = val_main_v140 (F := Ideal) (arg0 m c) (arg3 m c) (arg5 m c) (arg7 m c) (arg8 m c) (ix2 (row t a) b) := by
  subst hd
  exact dzs_kv m c t a b

theorem chain_eq (x0 x1 x2 x3 x4 x5 x6 x7 : Vec Ideal S512x128 .bf16) (a : Fin 512) (l : Fin 128) :
    k0_pay63 (F := Ideal) (k0_pay57 (k0_pay49 (k0_pay44 (k0_pay39 (k0_pay30 (k0_pay25 k0_pay20 x0) x1) x2 x3) x4) x5) x6) x7 (ix2 a l)
      = ∑ h : Fin 8, ![x0 (ix2 a l), x1 (ix2 a l), x2 (ix2 a l), x3 (ix2 a l), x4 (ix2 a l), x5 (ix2 a l), x6 (ix2 a l), x7 (ix2 a l)] h := by
  rw [Fin.sum_univ_eight]
  pointwise [k0_pay63, k0_pay57, k0_pay49, k0_pay44, k0_pay39, k0_pay30, k0_pay25, k0_pay20]

theorem dk_at (t) (h : Fin 8) (o : ℕ) (ho : o = 256 * h.val + 128) (inb) (a : Fin 512) (k : Fin 128) :
    View.ld (iblk m c 8 t) (Rect.unit (s := S512x2048) ![0, o] ![512, 128] inb) (ix2 a k) = arg7 m c (ix2 (row t a) ⟨256 * h.val + (128 + k.val), by omega⟩) := by
  subst ho
  refine (Slices.ld_slice _ _ (by omega) (by omega) a k).trans ?_
  rw [block8]
  refine congrArg (arg7 m c) ?_
  blk_ext

theorem chain_at (t : Fin cfg0.N) (a : Fin 512) (k : Fin 128) : (k0_pay63 (k0_pay57 (k0_pay49 (k0_pay44 (k0_pay39 (k0_pay30 (k0_pay25 k0_pay20 (View.ld (iblk m c 8 t) (Rect.unit (s := S512x2048) ![0, 128] ![512, 128] inb_S512x2048_S512x128_0_128))) (View.ld (iblk m c 8 t) (Rect.unit (s := S512x2048) ![0, 384] ![512, 128] inb_S512x2048_S512x128_0_384))) (View.ld (iblk m c 8 t) (Rect.unit (s := S512x2048) ![0, 640] ![512, 128] inb_S512x2048_S512x128_0_640)) (View.ld (iblk m c 8 t) (Rect.unit (s := S512x2048) ![0, 896] ![512, 128] inb_S512x2048_S512x128_0_896))) (View.ld (iblk m c 8 t) (Rect.unit (s := S512x2048) ![0, 1152] ![512, 128] inb_S512x2048_S512x128_0_1152))) (View.ld (iblk m c 8 t) (Rect.unit (s := S512x2048) ![0, 1408] ![512, 128] inb_S512x2048_S512x128_0_1408))) (View.ld (iblk m c 8 t) (Rect.unit (s := S512x2048) ![0, 1664] ![512, 128] inb_S512x2048_S512x128_0_1664))) (View.ld (iblk m c 8 t) (Rect.unit (s := S512x2048) ![0, 1920] ![512, 128] inb_S512x2048_S512x128_0_1920)) : FVec Ideal S512x128 .f32) (ix2 a k)
    = ∑ h : Fin 8, arg7 m c (ix2 (row t a) ⟨256 * h.val + (128 + k.val), by omega⟩) := by
  refine (chain_eq _ _ _ _ _ _ _ _ a k).trans (Finset.sum_congr rfl fun h _ => ?_)
  fin_cases h
  · exact dk_at m c t 0 128 rfl _ a k
  · exact dk_at m c t 1 384 rfl _ a k
  · exact dk_at m c t 2 640 rfl _ a k
  · exact dk_at m c t 3 896 rfl _ a k
  · exact dk_at m c t 4 1152 rfl _ a k
  · exact dk_at m c t 5 1408 rfl _ a k
  · exact dk_at m c t 6 1664 rfl _ a k
  · exact dk_at m c t 7 1920 rfl _ a k

theorem dkr_at (t : Fin cfg0.N) (a : Fin 512) (l : Fin 128) : k0_pay3 (F := Ideal) (k0_pay10 (iblk m c 1 t) (iblk m c 2 t)) (k0_pay11 (iblk m c 1 t) (iblk m c 2 t)) (k0_pay12 (iblk m c 1 t) (iblk m c 2 t))
      (k0_pay63 (k0_pay57 (k0_pay49 (k0_pay44 (k0_pay39 (k0_pay30 (k0_pay25 k0_pay20 (View.ld (iblk m c 8 t) (Rect.unit (s := S512x2048) ![0, 128] ![512, 128] inb_S512x2048_S512x128_0_128))) (View.ld (iblk m c 8 t) (Rect.unit (s := S512x2048) ![0, 384] ![512, 128] inb_S512x2048_S512x128_0_384))) (View.ld (iblk m c 8 t) (Rect.unit (s := S512x2048) ![0, 640] ![512, 128] inb_S512x2048_S512x128_0_640)) (View.ld (iblk m c 8 t) (Rect.unit (s := S512x2048) ![0, 896] ![512, 128] inb_S512x2048_S512x128_0_896))) (View.ld (iblk m c 8 t) (Rect.unit (s := S512x2048) ![0, 1152] ![512, 128] inb_S512x2048_S512x128_0_1152))) (View.ld (iblk m c 8 t) (Rect.unit (s := S512x2048) ![0, 1408] ![512, 128] inb_S512x2048_S512x128_0_1408))) (View.ld (iblk m c 8 t) (Rect.unit (s := S512x2048) ![0, 1664] ![512, 128] inb_S512x2048_S512x128_0_1664))) (View.ld (iblk m c 8 t) (Rect.unit (s := S512x2048) ![0, 1920] ![512, 128] inb_S512x2048_S512x128_0_1920))) (ix2 a l)
    = if hl : l.val < 64 then val_main_v118 (F := Ideal) (arg1 m c) (arg7 m c) (ix2 (row t a) ⟨l.val, hl⟩) else 0 := by
  refine (rot_at m c t _ a l).trans ?_
  simp only [chain_at]
  by_cases hl : l.val < 64
  · rw [dif_pos hl]
    exact (ref_dkr (arg1 m c) (arg7 m c) (row t a) ⟨l.val, hl⟩).symm
  · rw [dif_neg hl]
    unfold back
    rw [dif_neg (by omega), dif_neg hl]

theorem ref_dwq_sum (x0 x1 x2 x6) (j : Fin 2048) (k : Fin 256) : val_main_v186 (F := Ideal) x0 x1 x2 x6 (ix2 j k)
    = ∑ i : Fin 4096, dqVal x1 x6 i j * val_main_v40 (F := Ideal) x0 x2 (ix2 i k) := by
  obtain ⟨h, r, rfl⟩ : ∃ (h : Fin 8) (r : Fin 256), j = ⟨256 * h.val + r.val, by omega⟩ :=
    ⟨⟨j.val / 256, by omega⟩, ⟨j.val % 256, by omega⟩, Fin.ext (by show j.val = 256 * (j.val / 256) + j.val % 256; omega)⟩
  rw [ref_dwq]
  by_cases hr : r.val < 192
  · rw [dif_pos hr]
    exact Finset.sum_congr rfl fun i _ => congrArg (fun x : EReal => x * _) (dqVal_eq x1 x6 i h ⟨r.val, hr⟩).symm
  · rw [dif_neg hr]
    refine (Finset.sum_eq_zero fun i _ => ?_).symm
    have q : dqVal x1 x6 i ⟨256 * h.val + r.val, by omega⟩ = 0 := by
      refine (congrArg (dqVal x1 x6 i) (Fin.ext ?_)).trans (dqVal_zero x1 x6 i h ⟨r.val - 192, by omega⟩)
      show 256 * h.val + r.val = 256 * h.val + (192 + (r.val - 192))
      omega
    rw [q, zero_mul]

theorem dqg_reset (t : Fin cfg0.N) (h : t.val % 8 = 0) (a : Fin 1) (k : Fin 256) : (outsAt0 m c t.val t.isLt).2.2.2.1 (ix2 a k)
    = 0 + ∑ i : Fin 512, val_main_v161 (F := Ideal) (arg1 m c) (arg4 m c) (arg6 m c) (ix2 (row t i) k) * val_main_v38 (F := Ideal) (arg0 m c) (ix2 (row t i) k) := by
  rw [outsAt0_A m c t h (by omega)]; frame_out
  refine (dqg_at m c t _ (dq_read m c t) _ _ _).trans ?_
  rw [fill4]

theorem dqg_mid (t : Fin cfg0.N) (h : ¬t.val % 8 = 0) (h7 : ¬t.val % 8 = 7) (a : Fin 1) (k : Fin 256) : (outsAt0 m c t.val t.isLt).2.2.2.1 (ix2 a k)
    = (outsAt0 m c (t.val - 1) (Nat.lt_of_le_of_lt (Nat.sub_le _ _) t.isLt)).2.2.2.1 (ix2 a k) + ∑ i : Fin 512, val_main_v161 (F := Ideal) (arg1 m c) (arg4 m c) (arg6 m c) (ix2 (row t i) k) * val_main_v38 (F := Ideal) (arg0 m c) (ix2 (row t i) k) := by
  rw [outsAt0_B m c t h h7]; frame_out
  exact dqg_at m c t _ (dq_read m c t) _ _ _

theorem dqg_last (t : Fin cfg0.N) (h : ¬t.val % 8 = 0) (h7 : t.val % 8 = 7) (a : Fin 1) (k : Fin 256) : (outsAt0 m c t.val t.isLt).2.2.2.1 (ix2 a k)
    = (outsAt0 m c (t.val - 1) (Nat.lt_of_le_of_lt (Nat.sub_le _ _) t.isLt)).2.2.2.1 (ix2 a k) + ∑ i : Fin 512, val_main_v161 (F := Ideal) (arg1 m c) (arg4 m c) (arg6 m c) (ix2 (row t i) k) * val_main_v38 (F := Ideal) (arg0 m c) (ix2 (row t i) k) := by
  rw [outsAt0_C m c t h h7]; frame_out
  exact dqg_at m c t _ (dq_read m c t) _ _ _

theorem dqg_sum (t : Fin cfg0.N) (hm : t.val % 8 = 7) (a : Fin 1) (k : Fin 256) : (outsAt0 m c t.val t.isLt).2.2.2.1 (ix2 a k)
    = val_main_v166 (F := Ideal) (arg0 m c) (arg1 m c) (arg4 m c) (arg6 m c) (ix2 a k) := by
  rw [Pipeline.eq_sum_fin_of_reset_step_apply_of_flush (fun n h => (outsAt0 m c n h).2.2.2.1) 8 (fun _ => 0)
    (fun t j => ∑ i : Fin 512, val_main_v161 (F := Ideal) (arg1 m c) (arg4 m c) (arg6 m c) (ix2 (row t i) (j 1)) * val_main_v38 (F := Ideal) (arg0 m c) (ix2 (row t i) (j 1)))
    (fun t h j => by idx_vars j; exact dqg_reset m c t h j0 j1)
    (fun t h j => by
      idx_vars j
      by_cases h7 : t.val % 8 = 7
      · exact dqg_last m c t h h7 j0 j1
      · exact dqg_mid m c t h h7 j0 j1)
    t hm _, zero_add]
  refine Eq.trans ?_ (ref_dqg _ _ _ _ a k).symm
  refine Fin.sum_mul_add_congr fun s i hl => ?_
  have e : row ⟨_, Pipeline.run_point_lt_of_flush t hm s⟩ i = ⟨s.val * 512 + i.val, hl⟩ := Fin.ext (by
    have := lt8 t
    show 512 * (8 * (t.val / 8) + s.val) + i.val = s.val * 512 + i.val
    omega)
  rw [← e]
  rfl

theorem dkvg_reset (t : Fin cfg0.N) (h : t.val % 8 = 0) (a : Fin 1) (k : Fin 128) : (outsAt0 m c t.val t.isLt).2.2.2.2.1 (ix2 a k)
    = 0 + ∑ i : Fin 512, val_main_v123 (F := Ideal) (arg5 m c) (arg7 m c) (arg8 m c) (ix2 (row t i) k) * val_main_v77 (F := Ideal) (arg0 m c) (ix2 (row t i) k) := by
  rw [outsAt0_A m c t h (by omega)]; frame_out
  refine (dkvg_at m c t _ (dkv_read m c t) _ _ _).trans ?_
  rw [fill5]

theorem dkvg_mid (t : Fin cfg0.N) (h : ¬t.val % 8 = 0) (h7 : ¬t.val % 8 = 7) (a : Fin 1) (k : Fin 128) : (outsAt0 m c t.val t.isLt).2.2.2.2.1 (ix2 a k)
    = (outsAt0 m c (t.val - 1) (Nat.lt_of_le_of_lt (Nat.sub_le _ _) t.isLt)).2.2.2.2.1 (ix2 a k) + ∑ i : Fin 512, val_main_v123 (F := Ideal) (arg5 m c) (arg7 m c) (arg8 m c) (ix2 (row t i) k) * val_main_v77 (F := Ideal) (arg0 m c) (ix2 (row t i) k) := by
  rw [outsAt0_B m c t h h7]; frame_out
  exact dkvg_at m c t _ (dkv_read m c t) _ _ _

theorem dkvg_last (t : Fin cfg0.N) (h : ¬t.val % 8 = 0) (h7 : t.val % 8 = 7) (a : Fin 1) (k : Fin 128) : (outsAt0 m c t.val t.isLt).2.2.2.2.1 (ix2 a k)
    = (outsAt0 m c (t.val - 1) (Nat.lt_of_le_of_lt (Nat.sub_le _ _) t.isLt)).2.2.2.2.1 (ix2 a k) + ∑ i : Fin 512, val_main_v123 (F := Ideal) (arg5 m c) (arg7 m c) (arg8 m c) (ix2 (row t i) k) * val_main_v77 (F := Ideal) (arg0 m c) (ix2 (row t i) k) := by
  rw [outsAt0_C m c t h h7]; frame_out
  exact dkvg_at m c t _ (dkv_read m c t) _ _ _

theorem dkvg_sum (t : Fin cfg0.N) (hm : t.val % 8 = 7) (a : Fin 1) (k : Fin 128) : (outsAt0 m c t.val t.isLt).2.2.2.2.1 (ix2 a k)
    = val_main_v126 (F := Ideal) (arg0 m c) (arg5 m c) (arg7 m c) (arg8 m c) (ix2 a k) := by
  rw [Pipeline.eq_sum_fin_of_reset_step_apply_of_flush (fun n h => (outsAt0 m c n h).2.2.2.2.1) 8 (fun _ => 0)
    (fun t j => ∑ i : Fin 512, val_main_v123 (F := Ideal) (arg5 m c) (arg7 m c) (arg8 m c) (ix2 (row t i) (j 1)) * val_main_v77 (F := Ideal) (arg0 m c) (ix2 (row t i) (j 1)))
    (fun t h j => by idx_vars j; exact dkvg_reset m c t h j0 j1)
    (fun t h j => by
      idx_vars j
      by_cases h7 : t.val % 8 = 7
      · exact dkvg_last m c t h h7 j0 j1
      · exact dkvg_mid m c t h h7 j0 j1)
    t hm _, zero_add]
  refine Eq.trans ?_ (ref_dkvg _ _ _ _ a k).symm
  refine Fin.sum_mul_add_congr fun s i hl => ?_
  have e : row ⟨_, Pipeline.run_point_lt_of_flush t hm s⟩ i = ⟨s.val * 512 + i.val, hl⟩ := Fin.ext (by
    have := lt8 t
    show 512 * (8 * (t.val / 8) + s.val) + i.val = s.val * 512 + i.val
    omega)
  rw [← e]
  rfl

theorem dwq_reset (t : Fin cfg0.N) (h : t.val % 8 = 0) (a : Fin 2048) (k : Fin 256) : (outsAt0 m c t.val t.isLt).2.2.2.2.2.1 (ix2 a k)
    = 0 + ∑ i : Fin 512, dqVal (arg1 m c) (arg6 m c) (row t i) a * val_main_v40 (F := Ideal) (arg0 m c) (arg2 m c) (ix2 (row t i) k) := by
  rw [outsAt0_A m c t h (by omega)]; frame_out
  refine (dwq_at m c t _ (dq_read m c t) _ _ _).trans ?_
  rw [fill6]

theorem dwq_mid (t : Fin cfg0.N) (h : ¬t.val % 8 = 0) (h7 : ¬t.val % 8 = 7) (a : Fin 2048) (k : Fin 256) : (outsAt0 m c t.val t.isLt).2.2.2.2.2.1 (ix2 a k)
    = (outsAt0 m c (t.val - 1) (Nat.lt_of_le_of_lt (Nat.sub_le _ _) t.isLt)).2.2.2.2.2.1 (ix2 a k) + ∑ i : Fin 512, dqVal (arg1 m c) (arg6 m c) (row t i) a * val_main_v40 (F := Ideal) (arg0 m c) (arg2 m c) (ix2 (row t i) k) := by
  rw [outsAt0_B m c t h h7]; frame_out
  refine (dwq_at m c t _ (dq_read m c t) _ _ _).trans ?_
  rw [read_unread_whole]

theorem dwq_last (t : Fin cfg0.N) (h : ¬t.val % 8 = 0) (h7 : t.val % 8 = 7) (a : Fin 2048) (k : Fin 256) : (outsAt0 m c t.val t.isLt).2.2.2.2.2.1 (ix2 a k)
    = (outsAt0 m c (t.val - 1) (Nat.lt_of_le_of_lt (Nat.sub_le _ _) t.isLt)).2.2.2.2.2.1 (ix2 a k) + ∑ i : Fin 512, dqVal (arg1 m c) (arg6 m c) (row t i) a * val_main_v40 (F := Ideal) (arg0 m c) (arg2 m c) (ix2 (row t i) k) := by
  rw [outsAt0_C m c t h h7]; frame_out
  refine (dwq_at m c t _ (dq_read m c t) _ _ _).trans ?_
  rw [read_unread_whole]

theorem dwq_sum (t : Fin cfg0.N) (hm : t.val % 8 = 7) (a : Fin 2048) (k : Fin 256) : (outsAt0 m c t.val t.isLt).2.2.2.2.2.1 (ix2 a k)
    = val_main_v186 (F := Ideal) (arg0 m c) (arg1 m c) (arg2 m c) (arg6 m c) (ix2 a k) := by
  rw [Pipeline.eq_sum_fin_of_reset_step_apply_of_flush (fun n h => (outsAt0 m c n h).2.2.2.2.2.1) 8 (fun _ => 0)
    (fun t j => ∑ i : Fin 512, dqVal (arg1 m c) (arg6 m c) (row t i) (j 0) * val_main_v40 (F := Ideal) (arg0 m c) (arg2 m c) (ix2 (row t i) (j 1)))
    (fun t h j => by idx_vars j; exact dwq_reset m c t h j0 j1)
    (fun t h j => by
      idx_vars j
      by_cases h7 : t.val % 8 = 7
      · exact dwq_last m c t h h7 j0 j1
      · exact dwq_mid m c t h h7 j0 j1)
    t hm _, zero_add]
  refine Eq.trans ?_ (ref_dwq_sum _ _ _ _ a k).symm
  refine Fin.sum_mul_add_congr fun s i hl => ?_
  have e : row ⟨_, Pipeline.run_point_lt_of_flush t hm s⟩ i = ⟨s.val * 512 + i.val, hl⟩ := Fin.ext (by
    have := lt8 t
    show 512 * (8 * (t.val / 8) + s.val) + i.val = s.val * 512 + i.val
    omega)
  rw [← e]
  rfl

theorem dwkv_reset (t : Fin cfg0.N) (h : t.val % 8 = 0) (a : Fin 128) (k : Fin 2048) : (outsAt0 m c t.val t.isLt).2.2.2.2.2.2 (ix2 a k)
    = 0 + ∑ i : Fin 512, val_main_v79 (F := Ideal) (arg0 m c) (arg3 m c) (ix2 (row t i) a) * val_main_v120 (F := Ideal) (arg7 m c) (arg8 m c) (ix2 (row t i) k) := by
  rw [outsAt0_A m c t h (by omega)]; frame_out
  refine (dwkv_at m c t _ (dkv_read m c t) _ _ _).trans ?_
  rw [fill7]

theorem dwkv_mid (t : Fin cfg0.N) (h : ¬t.val % 8 = 0) (h7 : ¬t.val % 8 = 7) (a : Fin 128) (k : Fin 2048) : (outsAt0 m c t.val t.isLt).2.2.2.2.2.2 (ix2 a k)
    = (outsAt0 m c (t.val - 1) (Nat.lt_of_le_of_lt (Nat.sub_le _ _) t.isLt)).2.2.2.2.2.2 (ix2 a k) + ∑ i : Fin 512, val_main_v79 (F := Ideal) (arg0 m c) (arg3 m c) (ix2 (row t i) a) * val_main_v120 (F := Ideal) (arg7 m c) (arg8 m c) (ix2 (row t i) k) := by
  rw [outsAt0_B m c t h h7]; frame_out
  refine (dwkv_at m c t _ (dkv_read m c t) _ _ _).trans ?_
  rw [read_unread_whole]

theorem dwkv_last (t : Fin cfg0.N) (h : ¬t.val % 8 = 0) (h7 : t.val % 8 = 7) (a : Fin 128) (k : Fin 2048) : (outsAt0 m c t.val t.isLt).2.2.2.2.2.2 (ix2 a k)
    = (outsAt0 m c (t.val - 1) (Nat.lt_of_le_of_lt (Nat.sub_le _ _) t.isLt)).2.2.2.2.2.2 (ix2 a k) + ∑ i : Fin 512, val_main_v79 (F := Ideal) (arg0 m c) (arg3 m c) (ix2 (row t i) a) * val_main_v120 (F := Ideal) (arg7 m c) (arg8 m c) (ix2 (row t i) k) := by
  rw [outsAt0_C m c t h h7]; frame_out
  refine (dwkv_at m c t _ (dkv_read m c t) _ _ _).trans ?_
  rw [read_unread_whole]

theorem dwkv_sum (t : Fin cfg0.N) (hm : t.val % 8 = 7) (a : Fin 128) (k : Fin 2048) : (outsAt0 m c t.val t.isLt).2.2.2.2.2.2 (ix2 a k)
    = val_main_v187 (F := Ideal) (arg0 m c) (arg3 m c) (arg7 m c) (arg8 m c) (ix2 a k) := by
  rw [Pipeline.eq_sum_fin_of_reset_step_apply_of_flush (fun n h => (outsAt0 m c n h).2.2.2.2.2.2) 8 (fun _ => 0)
    (fun t j => ∑ i : Fin 512, val_main_v79 (F := Ideal) (arg0 m c) (arg3 m c) (ix2 (row t i) (j 0)) * val_main_v120 (F := Ideal) (arg7 m c) (arg8 m c) (ix2 (row t i) (j 1)))
    (fun t h j => by idx_vars j; exact dwkv_reset m c t h j0 j1)
    (fun t h j => by
      idx_vars j
      by_cases h7 : t.val % 8 = 7
      · exact dwkv_last m c t h h7 j0 j1
      · exact dwkv_mid m c t h h7 j0 j1)
    t hm _, zero_add]
  refine Eq.trans ?_ (ref_dwkv _ _ _ _ a k).symm
  refine Fin.sum_mul_add_congr fun s i hl => ?_
  have e : row ⟨_, Pipeline.run_point_lt_of_flush t hm s⟩ i = ⟨s.val * 512 + i.val, hl⟩ := Fin.ext (by
    have := lt8 t
    show 512 * (8 * (t.val / 8) + s.val) + i.val = s.val * 512 + i.val
    omega)
  rw [← e]
  rfl

theorem ref_dzs_q (x0 x1 x2 x3 x4 x5 x6 x7 x8) (i : Fin 4096) (j : Fin 256) : val_main_v185 (F := Ideal) x0 x1 x2 x3 x4 x5 x6 x7 x8 (ix2 i ⟨j.val, by omega⟩) = val_main_v180 (F := Ideal) x0 x1 x2 x4 x6 (ix2 i j) := by
  rw [ref_dzs, dif_pos (show j.val < 256 by omega)]

theorem ref_dzs_kv (x0 x1 x2 x3 x4 x5 x6 x7 x8) (i : Fin 4096) (j : Fin 128) : val_main_v185 (F := Ideal) x0 x1 x2 x3 x4 x5 x6 x7 x8 (ix2 i ⟨256 + j.val, by omega⟩) = val_main_v140 (F := Ideal) x0 x3 x5 x7 x8 (ix2 i j) := by
  rw [ref_dzs, dif_neg (show ¬256 + j.val < 256 by omega), dif_pos (show 256 + j.val - 256 < 128 by omega)]
  refine congrArg (val_main_v140 (F := Ideal) x0 x3 x5 x7 x8) (congrArg (ix2 i) (Fin.ext ?_))
  show 256 + j.val - 256 = j.val
  omega

theorem ref_dzs_r (x0 x1 x2 x3 x4 x5 x6 x7 x8) (i : Fin 4096) (j : Fin 128) : val_main_v185 (F := Ideal) x0 x1 x2 x3 x4 x5 x6 x7 x8 (ix2 i ⟨384 + j.val, by omega⟩)
    = if hl : j.val < 64 then val_main_v118 (F := Ideal) x1 x7 (ix2 i ⟨j.val, hl⟩) else 0 := by
  rw [ref_dzs, dif_neg (show ¬384 + j.val < 256 by omega), dif_neg (show ¬384 + j.val - 256 < 128 by omega)]
  simp only [show 384 + j.val - 256 - 128 = j.val by omega]

/-- Three stores side by side fill the block. -/
theorem three (v : Vec Ideal S512x512 .bf16) (p1 : Vec Ideal S512x256 .bf16) (p2 p3 : Vec Ideal S512x128 .bf16)
    (e1 : ∀ a b, p1 (ix2 a b) = v (ix2 a ⟨b.val, by omega⟩)) (e2 : ∀ a b, p2 (ix2 a b) = v (ix2 a ⟨256 + b.val, by omega⟩)) (e3 : ∀ a b, p3 (ix2 a b) = v (ix2 a ⟨384 + b.val, by omega⟩)) (y) :
    View.canon [⟨Rect.unit (s := S512x512) ![0, 384] ![512, 128] inb_S512x512_S512x128_0_384, p3⟩, ⟨Rect.unit (s := S512x512) ![0, 256] ![512, 128] inb_S512x512_S512x128_0_256, p2⟩, ⟨Rect.unit (s := S512x512) ![0, 0] ![512, 256] inb_S512x512_S512x256_0_0, p1⟩] y = v y := by
  have side : (y 1).val < 512 := (y 1).isLt
  have top : (y 0).val < 512 := (y 0).isLt
  canon_tiles x h using (by
    simp only [List.mem_cons, List.not_mem_nil, or_false, exists_eq_or_imp, exists_eq_left, Rect.mem_set_unit]
    by_cases c1 : (y 1).val < 256
    · refine .inr (.inr fun a => ?_)
      fin_cases a
      · exact ⟨Nat.zero_le _, show (y 0).val < 0 + 512 by omega⟩
      · exact ⟨Nat.zero_le _, show (y 1).val < 0 + 256 by omega⟩
    · by_cases c2 : (y 1).val < 384
      · refine .inr (.inl fun a => ?_)
        fin_cases a
        · exact ⟨Nat.zero_le _, show (y 0).val < 0 + 512 by omega⟩
        · exact ⟨show 256 ≤ (y 1).val by omega, show (y 1).val < 256 + 128 by omega⟩
      · refine .inl fun a => ?_
        fin_cases a
        · exact ⟨Nat.zero_le _, show (y 0).val < 0 + 512 by omega⟩
        · exact ⟨show 384 ≤ (y 1).val by omega, show (y 1).val < 384 + 128 by omega⟩)
  all_goals idx_vars x
  · refine (e3 x0 x1).trans (congrArg v ?_)
    blk_ext
  · refine (e2 x0 x1).trans (congrArg v ?_)
    blk_ext
  · refine (e1 x0 x1).trans (congrArg v ?_)
    blk_ext

theorem dzs_first (t : Fin cfg0.N) (h : t.val % 8 = 0) (y) : (outsAt0 m c t.val t.isLt).1 y
    = val_main_v185 (F := Ideal) (arg0 m c) (arg1 m c) (arg2 m c) (arg3 m c) (arg4 m c) (arg5 m c) (arg6 m c) (arg7 m c) (arg8 m c) (ix2 (row t (y 0)) (y 1)) := by
  rw [outsAt0_A m c t h (by omega)]; frame_out
  exact three (fun z => val_main_v185 (F := Ideal) (arg0 m c) (arg1 m c) (arg2 m c) (arg3 m c) (arg4 m c) (arg5 m c) (arg6 m c) (arg7 m c) (arg8 m c) (ix2 (row t (z 0)) (z 1))) _ _ _
    (fun a b => (dzs_q' m c t _ (dq_read m c t) a b).trans (ref_dzs_q _ _ _ _ _ _ _ _ _ (row t a) b).symm)
    (fun a b => (dzs_kv' m c t _ (dkv_read m c t) a b).trans (ref_dzs_kv _ _ _ _ _ _ _ _ _ (row t a) b).symm)
    (fun a b => (dkr_at m c t a b).trans (ref_dzs_r _ _ _ _ _ _ _ _ _ (row t a) b).symm) y

theorem dzs_mid (t : Fin cfg0.N) (h : ¬t.val % 8 = 0) (h7 : ¬t.val % 8 = 7) (y) : (outsAt0 m c t.val t.isLt).1 y
    = val_main_v185 (F := Ideal) (arg0 m c) (arg1 m c) (arg2 m c) (arg3 m c) (arg4 m c) (arg5 m c) (arg6 m c) (arg7 m c) (arg8 m c) (ix2 (row t (y 0)) (y 1)) := by
  rw [outsAt0_B m c t h h7]; frame_out
  exact three (fun z => val_main_v185 (F := Ideal) (arg0 m c) (arg1 m c) (arg2 m c) (arg3 m c) (arg4 m c) (arg5 m c) (arg6 m c) (arg7 m c) (arg8 m c) (ix2 (row t (z 0)) (z 1))) _ _ _
    (fun a b => (dzs_q' m c t _ (dq_read m c t) a b).trans (ref_dzs_q _ _ _ _ _ _ _ _ _ (row t a) b).symm)
    (fun a b => (dzs_kv' m c t _ (dkv_read m c t) a b).trans (ref_dzs_kv _ _ _ _ _ _ _ _ _ (row t a) b).symm)
    (fun a b => (dkr_at m c t a b).trans (ref_dzs_r _ _ _ _ _ _ _ _ _ (row t a) b).symm) y

theorem dzs_last (t : Fin cfg0.N) (h : ¬t.val % 8 = 0) (h7 : t.val % 8 = 7) (y) : (outsAt0 m c t.val t.isLt).1 y
    = val_main_v185 (F := Ideal) (arg0 m c) (arg1 m c) (arg2 m c) (arg3 m c) (arg4 m c) (arg5 m c) (arg6 m c) (arg7 m c) (arg8 m c) (ix2 (row t (y 0)) (y 1)) := by
  rw [outsAt0_C m c t h h7]; frame_out
  exact three (fun z => val_main_v185 (F := Ideal) (arg0 m c) (arg1 m c) (arg2 m c) (arg3 m c) (arg4 m c) (arg5 m c) (arg6 m c) (arg7 m c) (arg8 m c) (ix2 (row t (z 0)) (z 1))) _ _ _
    (fun a b => (dzs_q' m c t _ (dq_read m c t) a b).trans (ref_dzs_q _ _ _ _ _ _ _ _ _ (row t a) b).symm)
    (fun a b => (dzs_kv' m c t _ (dkv_read m c t) a b).trans (ref_dzs_kv _ _ _ _ _ _ _ _ _ (row t a) b).symm)
    (fun a b => (dkr_at m c t a b).trans (ref_dzs_r _ _ _ _ _ _ _ _ _ (row t a) b).symm) y

theorem dzs_point (t : Fin cfg0.N) (y) : (outsAt0 m c t.val t.isLt).1 y
    = val_main_v185 (F := Ideal) (arg0 m c) (arg1 m c) (arg2 m c) (arg3 m c) (arg4 m c) (arg5 m c) (arg6 m c) (arg7 m c) (arg8 m c) (ix2 (row t (y 0)) (y 1)) := by
  by_cases h : t.val % 8 = 0
  · exact dzs_first m c t h y
  · by_cases h7 : t.val % 8 = 7
    · exact dzs_last m c t h h7 y
    · exact dzs_mid m c t h h7 y

/-! ### The arrays after the last point -/

theorem final10 : (dats m 0 c).arrAt 10 (cfgs 0).N = val_main_v185 (F := Ideal) (arg0 m c) (arg1 m c) (arg2 m c) (arg3 m c) (arg4 m c) (arg5 m c) (arg6 m c) (arg7 m c) (arg8 m c) := by
  refine (dats m 0 c).arrAt_eq_of_covers 10 _ (by decide +kernel) fun t _ y => ?_
  blk_simp
  rw [after0_10]
  refine (dzs_point m c t y).trans (congrArg (val_main_v185 (F := Ideal) (arg0 m c) (arg1 m c) (arg2 m c) (arg3 m c) (arg4 m c) (arg5 m c) (arg6 m c) (arg7 m c) (arg8 m c)) ?_)
  blk_ext [idx t]

/-- At the last point what is stored is the accumulated sum. -/
theorem dwq_kept (t : Fin cfg0.N) (hm : t.val % 8 = 7) (a : Fin 2048) (k : Fin 256) : (outsAt0 m c t.val t.isLt).2.1 (ix2 a k) = (outsAt0 m c t.val t.isLt).2.2.2.2.2.1 (ix2 a k) := by
  rw [outsAt0_C m c t (by omega) hm]; frame_out
  exact kept66 _ a k

theorem dwkv_kept (t : Fin cfg0.N) (hm : t.val % 8 = 7) (a : Fin 128) (k : Fin 2048) : (outsAt0 m c t.val t.isLt).2.2.1 (ix2 a k) = (outsAt0 m c t.val t.isLt).2.2.2.2.2.2 (ix2 a k) := by
  rw [outsAt0_C m c t (by omega) hm]; frame_out
  exact kept67 _ a k

theorem final11 : (dats m 0 c).arrAt 11 (cfgs 0).N = val_main_v186 (F := Ideal) (arg0 m c) (arg1 m c) (arg2 m c) (arg6 m c) := by
  refine (dats m 0 c).arrAt_eq_of_covers 11 _ (by decide +kernel) fun t hf y => ?_
  blk_simp
  have hm : t.val % 8 = 7 := (flush0_11 t).mp hf
  rw [after0_11]
  idx_vars y
  refine ((dwq_kept m c t hm y0 y1).trans (dwq_sum m c t hm y0 y1)).trans (congrArg (val_main_v186 (F := Ideal) (arg0 m c) (arg1 m c) (arg2 m c) (arg6 m c)) ?_)
  blk_ext [idx t]

theorem final12 : (dats m 0 c).arrAt 12 (cfgs 0).N = val_main_v187 (F := Ideal) (arg0 m c) (arg3 m c) (arg7 m c) (arg8 m c) := by
  refine (dats m 0 c).arrAt_eq_of_covers 12 _ (by decide +kernel) fun t hf y => ?_
  blk_simp
  have hm : t.val % 8 = 7 := (flush0_12 t).mp hf
  rw [after0_12]
  idx_vars y
  refine ((dwkv_kept m c t hm y0 y1).trans (dwkv_sum m c t hm y0 y1)).trans (congrArg (val_main_v187 (F := Ideal) (arg0 m c) (arg3 m c) (arg7 m c) (arg8 m c)) ?_)
  blk_ext [idx t]

theorem final13 : (dats m 0 c).arrAt 13 (cfgs 0).N = val_main_v166 (F := Ideal) (arg0 m c) (arg1 m c) (arg4 m c) (arg6 m c) := by
  refine (dats m 0 c).arrAt_eq_of_covers 13 _ (by decide +kernel) fun t hf y => ?_
  blk_simp
  have hm : t.val % 8 = 7 := (flush0_13 t).mp hf
  rw [after0_13]
  idx_vars y
  refine ((dqg_sum m c t hm y0 y1)).trans (congrArg (val_main_v166 (F := Ideal) (arg0 m c) (arg1 m c) (arg4 m c) (arg6 m c)) ?_)
  blk_ext [idx t]

theorem final14 : (dats m 0 c).arrAt 14 (cfgs 0).N = val_main_v126 (F := Ideal) (arg0 m c) (arg5 m c) (arg7 m c) (arg8 m c) := by
  refine (dats m 0 c).arrAt_eq_of_covers 14 _ (by decide +kernel) fun t hf y => ?_
  blk_simp
  have hm : t.val % 8 = 7 := (flush0_14 t).mp hf
  rw [after0_14]
  idx_vars y
  refine ((dkvg_sum m c t hm y0 y1)).trans (congrArg (val_main_v126 (F := Ideal) (arg0 m c) (arg5 m c) (arg7 m c) (arg8 m c)) ?_)
  blk_ext [idx t]

/-- Kernel and reference end with the same five gradients. -/
theorem agree : Cert.algebraic_Kernel15Ideal_Reference15Ideal (hKernel15Ideal := Gen.facts) (hReference15Ideal := Cert.Reference15Ideal.Gen.facts) := by
  intro m ρ m' ρ' _ hargs
  refine ⟨fun c => val_main_v185 (F := Ideal) (arg0 m c) (arg1 m c) (arg2 m c) (arg3 m c) (arg4 m c) (arg5 m c) (arg6 m c) (arg7 m c) (arg8 m c),
    fun c => val_main_v186 (F := Ideal) (arg0 m c) (arg1 m c) (arg2 m c) (arg6 m c),
    fun c => val_main_v187 (F := Ideal) (arg0 m c) (arg3 m c) (arg7 m c) (arg8 m c),
    fun c => val_main_v166 (F := Ideal) (arg0 m c) (arg1 m c) (arg4 m c) (arg6 m c),
    fun c => val_main_v126 (F := Ideal) (arg0 m c) (arg5 m c) (arg7 m c) (arg8 m c), ?_, ?_⟩
  · exact (θ_run defs _ _).mono (fun r h c =>
      ⟨(h c).1.trans (final10 m c), (h c).2.1.trans (final11 m c), (h c).2.2.1.trans (final12 m c), (h c).2.2.2.1.trans (final13 m c), (h c).2.2.2.2.1.trans (final14 m c), (h c).2.2.2.2.2⟩)
      (Value.run_blocks (F := Ideal) m ρ)
  · refine (θ_run Cert.Reference15Ideal.defs _ _).mono (fun r h c =>
      ⟨(h c).1.trans ?_, (h c).2.1.trans ?_, (h c).2.2.1.trans ?_, (h c).2.2.2.1.trans ?_, (h c).2.2.2.2.1.trans ?_, (h c).2.2.2.2.2⟩) (Cert.Reference15Ideal.Value.run (F := Ideal) m' ρ')
    all_goals obtain ⟨a0, a1, a2, a3, a4, a5, a6, a7, a8⟩ := hargs c
    · exact (Cert.Reference15Ideal.Read.val_main_v185_eq _).trans (congr (congr (congr (congr (congr (congr (congr (congr (congrArg (val_main_v185 (F := Ideal)) a0) a1) a2) a3) a4) a5) a6) a7) a8)
    · exact (Cert.Reference15Ideal.Read.val_main_v186_eq _).trans (congr (congr (congr (congrArg (val_main_v186 (F := Ideal)) a0) a1) a2) a6)
    · exact (Cert.Reference15Ideal.Read.val_main_v187_eq _).trans (congr (congr (congr (congrArg (val_main_v187 (F := Ideal)) a0) a3) a7) a8)
    · exact (Cert.Reference15Ideal.Read.val_main_v166_eq _).trans (congr (congr (congr (congrArg (val_main_v166 (F := Ideal)) a0) a1) a4) a6)
    · exact (Cert.Reference15Ideal.Read.val_main_v126_eq _).trans (congr (congr (congr (congrArg (val_main_v126 (F := Ideal)) a0) a5) a7) a8)

/-- The reference's frame: it declares no semaphore. -/
theorem reference_frame : Cert.quiescent_Reference15Ideal (hReference15Ideal := Cert.Reference15Ideal.Gen.facts) := fun m ρ _ =>
  (θ_run Cert.Reference15Ideal.defs _ _).mono
    (fun r h => ⟨fun c => (h c).2.2.2.2.2, Idealize.ShloMosaic.sem_eq_zero_of_no_sems (by decide) r.2⟩)
    (Cert.Reference15Ideal.Value.run (F := Ideal) m ρ)

end Cert.Kernel15Ideal.Heads

end
-- ==== Proof.lean ====
/-
  The certificate. Each frame is by the run shown for its program; the named mask by the rule that names it; the value claim of
  the attention by both programs computing the attention of `Spec` and its three gradients from real arguments; the value
  claims of the other calls by their own modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite
public import proofs.«01_k».proof.Proof.KernelRun
public import proofs.«01_k».proof.Proof.KernelEnd
public import proofs.«01_k».proof.Proof.Reference
public import proofs.«01_k».proof.Proof.Pre
public import Idealize.ShloMosaic.Adequacy
public import Idealize.ShloMosaic.Init
public import proofs.«01_k».proof.Proof.UpBwd
public import proofs.«01_k».proof.Proof.InBwd
public import proofs.«01_k».proof.Proof.DwDown
public import proofs.«01_k».proof.Proof.DwUpGate
public import proofs.«01_k».proof.Proof.DwIn
public import proofs.«01_k».proof.Proof.DwOut
public import proofs.«01_k».proof.Proof.InFwd
public import proofs.«01_k».proof.Proof.DwUpVal
public import proofs.«01_k».proof.Proof.DownLoss
public import proofs.«01_k».proof.Proof.UpAct
public import proofs.«01_k».proof.Proof.MergeFwd
public import proofs.«01_k».proof.Proof.DwSmall
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.HeadsFwd
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.HeadsBwd

@[expose] public section

noncomputable section

namespace Cert.Proof

open Idealize.ShloMosaic Idealize.SL.Sem Cert.Causal

/-- The numbers behind an array of real numbers. -/
abbrev reals {n0 n1 n2 n3 : ℕ} (x : (⟨4, ![n0, n1, n2, n3]⟩ : Shape).Idx → EReal) (b : Fin n0) (i : Fin n1) (h : Fin n2) (d : Fin n3) : ℝ :=
  (x (ix4 b i h d)).toReal

/-- Kernel and reference end with the same four results. -/
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  have hr := fun c => Cert.Pre_finite.real_args _ _ _ _ (hpre c)
  let q := fun c : Dev Cert.KernelIdeal.nD => reals (m ((c.tc : Thread Cert.KernelIdeal.nD Cert.KernelIdeal.τ).loc Cert.KernelIdeal.main_arg0))
  let k := fun c : Dev Cert.KernelIdeal.nD => reals (m ((c.tc : Thread Cert.KernelIdeal.nD Cert.KernelIdeal.τ).loc Cert.KernelIdeal.main_arg1))
  let v := fun c : Dev Cert.KernelIdeal.nD => reals (m ((c.tc : Thread Cert.KernelIdeal.nD Cert.KernelIdeal.τ).loc Cert.KernelIdeal.main_arg2))
  let g := fun c : Dev Cert.KernelIdeal.nD => reals (m ((c.tc : Thread Cert.KernelIdeal.nD Cert.KernelIdeal.τ).loc Cert.KernelIdeal.main_arg3))
  have hq := fun (c : Dev Cert.KernelIdeal.nD) b i h d => (hr c).1 (ix4 b i h d)
  have hk := fun (c : Dev Cert.KernelIdeal.nD) b i h d => (hr c).2.1 (ix4 b i h d)
  have hv := fun (c : Dev Cert.KernelIdeal.nD) b i h d => (hr c).2.2.1 (ix4 b i h d)
  have hg := fun (c : Dev Cert.KernelIdeal.nD) b i h d => (hr c).2.2.2 (ix4 b i h d)
  refine ⟨fun c => fun j : Cert.KernelIdeal.S4096x1024.Idx => resO (q c) (k c) (v c) (j 0) (j 1),
    fun c => fun j : Cert.KernelIdeal.S4096x2048.Idx => resDq (q c) (k c) (v c) (g c) (j 0) (j 1),
    fun c => fun j : Cert.KernelIdeal.S4096x2048.Idx => resDk (q c) (k c) (v c) (g c) (j 0) (j 1),
    fun c => fun j : Cert.KernelIdeal.S4096x1024.Idx => resDv (q c) (k c) (g c) (j 0) (j 1), ?_, ?_⟩
  · refine (θ_run Cert.KernelIdeal.defs _ _).mono (fun r h c => ?_) (Cert.KernelIdeal.Gen.run_ends (F := Ideal) m ρ)
    obtain ⟨h0, h1, h2, h3, h4⟩ := h c
    exact ⟨h0.trans (Cert.KernelIdeal.Value.end_o m ρ (q c) (k c) (v c) c (hq c) (hk c) (hv c)),
      h1.trans (Cert.KernelIdeal.Value.end_dq m ρ (q c) (k c) (v c) (g c) c (hq c) (hk c) (hv c) (hg c)),
      h2.trans (Cert.KernelIdeal.Value.end_dk m ρ (q c) (k c) (v c) (g c) c (hq c) (hk c) (hv c) (hg c)),
      h3.trans (Cert.KernelIdeal.Value.end_dv m ρ (q c) (k c) (g c) c (hq c) (hk c) (hg c)), h4⟩
  · refine (θ_run Cert.ReferenceIdeal.defs _ _).mono (fun r h c => ?_) (Cert.ReferenceIdeal.Value.run (F := Ideal) m' ρ')
    obtain ⟨h0, h1, h2, h3, h4⟩ := h c
    obtain ⟨a0, a1, a2, a3⟩ := hargs c
    refine ⟨h0.trans ?_, h1.trans ?_, h2.trans ?_, h3.trans ?_, h4⟩
    · rw [Cert.ReferenceIdeal.Read.val_main_v64_eq, a0, a1, a2]
      exact Cert.ReferenceIdeal.Read.out_o _ _ _ (q c) (k c) (v c) (hq c) (hk c) (hv c)
    · rw [Cert.ReferenceIdeal.Read.val_main_v67_eq, a0, a1, a2, a3]
      exact Cert.ReferenceIdeal.Read.out_dq _ _ _ _ (q c) (k c) (v c) (g c) (hq c) (hk c) (hv c) (hg c)
    · rw [Cert.ReferenceIdeal.Read.val_main_v70_eq, a0, a1, a2, a3]
      exact Cert.ReferenceIdeal.Read.out_dk _ _ _ _ (q c) (k c) (v c) (g c) (hq c) (hk c) (hv c) (hg c)
    · rw [Cert.ReferenceIdeal.Read.val_main_v72_eq, a0, a1, a3]
      exact Cert.ReferenceIdeal.Read.out_dv _ _ _ (q c) (k c) (g c) (hq c) (hk c) (hg c)

/-- The reference's frame: it declares no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.Kernel2Ideal.Grad.reference_frame,
  fun m ρ _ => Cert.Kernel3.Gen.frame m ρ, fun m ρ _ => Cert.Kernel3Ideal.Gen.frame m ρ, Cert.Kernel3Ideal.Grad.reference_frame,
  fun m ρ _ => Cert.Kernel4.Gen.frame m ρ, fun m ρ _ => Cert.Kernel4Ideal.Gen.frame m ρ, Cert.Kernel4Ideal.Grad.reference_frame,
  fun m ρ _ => Cert.Kernel5.Gen.frame m ρ, fun m ρ _ => Cert.Kernel5Ideal.Gen.frame m ρ, Cert.Kernel5Ideal.Grad.reference_frame,
  fun m ρ _ => Cert.Kernel6.Gen.frame m ρ, fun m ρ _ => Cert.Kernel6Ideal.Gen.frame m ρ, Cert.Kernel6Ideal.Grad.reference_frame,
  fun m ρ _ => Cert.Kernel7.Gen.frame m ρ, fun m ρ _ => Cert.Kernel7Ideal.Gen.frame m ρ, Cert.Kernel7Ideal.Grad.reference_frame,
  fun m ρ _ => Cert.Kernel8.Gen.frame m ρ, fun m ρ _ => Cert.Kernel8Ideal.Gen.frame m ρ, Cert.Kernel8Ideal.Project.reference_frame,
  fun m ρ _ => Cert.Kernel9.Gen.frame m ρ, fun m ρ _ => Cert.Kernel9Ideal.Gen.frame m ρ, Cert.Kernel9Ideal.Grad.reference_frame,
  fun m ρ _ => Cert.Kernel10.Gen.frame m ρ, fun m ρ _ => Cert.Kernel10Ideal.Gen.frame m ρ, Cert.Kernel10Ideal.Loss.reference_frame,
  fun m ρ _ => Cert.Kernel11.Gen.frame m ρ, fun m ρ _ => Cert.Kernel11Ideal.Gen.frame m ρ, Cert.Kernel11Ideal.Activate.reference_frame,
  fun m ρ _ => Cert.Kernel12.Gen.frame m ρ, fun m ρ _ => Cert.Kernel12Ideal.Gen.frame m ρ, Cert.Kernel12Ideal.Merge.reference_frame,
  fun m ρ _ => Cert.Kernel13.Gen.frame m ρ, fun m ρ _ => Cert.Kernel13Ideal.Gen.frame m ρ, Cert.Kernel13Ideal.Grad.reference_frame,
  fun m ρ _ => Cert.Kernel14.Gen.frame m ρ, fun m ρ _ => Cert.Kernel14Ideal.Gen.frame m ρ, Cert.Kernel14Ideal.Heads.reference_frame,
  fun m ρ _ => Cert.Kernel15.Gen.frame m ρ, fun m ρ _ => Cert.Kernel15Ideal.Gen.frame m ρ, Cert.Kernel15Ideal.Heads.reference_frame,
  IdealRules.named_const.statement Cert.KernelIdeal.κ "mask" .f32 0xF149F2CA#32 ⊥ rfl, agree,
  trivial, Cert.Kernel2Ideal.Grad.agree,
  trivial, Cert.Kernel3Ideal.Grad.agree,
  trivial, Cert.Kernel4Ideal.Grad.agree,
  trivial, Cert.Kernel5Ideal.Grad.agree,
  trivial, Cert.Kernel6Ideal.Grad.agree,
  trivial, Cert.Kernel7Ideal.Grad.agree,
  trivial, Cert.Kernel8Ideal.Project.agree,
  trivial, Cert.Kernel9Ideal.Grad.agree,
  trivial, Cert.Kernel10Ideal.Loss.agree,
  trivial, Cert.Kernel11Ideal.Activate.agree,
  trivial, Cert.Kernel12Ideal.Merge.agree,
  trivial, Cert.Kernel13Ideal.Grad.agree,
  trivial, Cert.Kernel14Ideal.Heads.agree,
  trivial, Cert.Kernel15Ideal.Heads.agree⟩

end Cert.Proof

end
